-- ==== Defs.lean ====
def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Signal (m : (ℓ : Loc Cert.Signal.nD Cert.Signal.τ Cert.Signal.sig) → Buf (Elt Bits) ℓ) : Prop :=
  True

def Pre_SignalIdeal (m : (ℓ : Loc Cert.SignalIdeal.nD Cert.SignalIdeal.τ Cert.SignalIdeal.sig) → Buf (Elt Ideal) ℓ) : Prop :=
  True

def Pre_SignalRefIdeal (m : (ℓ : Loc Cert.SignalRefIdeal.nD Cert.SignalRefIdeal.τ Cert.SignalRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Realdft (m : (ℓ : Loc Cert.Realdft.nD Cert.Realdft.τ Cert.Realdft.sig) → Buf (Elt Bits) ℓ) : Prop :=
  True

def Pre_RealdftIdeal (m : (ℓ : Loc Cert.RealdftIdeal.nD Cert.RealdftIdeal.τ Cert.RealdftIdeal.sig) → Buf (Elt Ideal) ℓ) : Prop :=
  True

def Pre_RealdftRefIdeal (m : (ℓ : Loc Cert.RealdftRefIdeal.nD Cert.RealdftRefIdeal.τ Cert.RealdftRefIdeal.sig) → Buf (Elt Ideal) ℓ) : Prop :=
  True

def Pre_Tapdft (m : (ℓ : Loc Cert.Tapdft.nD Cert.Tapdft.τ Cert.Tapdft.sig) → Buf (Elt Bits) ℓ) : Prop :=
  True

def Pre_TapdftIdeal (m : (ℓ : Loc Cert.TapdftIdeal.nD Cert.TapdftIdeal.τ Cert.TapdftIdeal.sig) → Buf (Elt Ideal) ℓ) : Prop :=
  True

def Pre_TapdftRefIdeal (m : (ℓ : Loc Cert.TapdftRefIdeal.nD Cert.TapdftRefIdeal.τ Cert.TapdftRefIdeal.sig) → Buf (Elt Ideal) ℓ) : Prop :=
  True

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Posdft (m : (ℓ : Loc Cert.Posdft.nD Cert.Posdft.τ Cert.Posdft.sig) → Buf (Elt Bits) ℓ) : Prop :=
  True

def Pre_PosdftIdeal (m : (ℓ : Loc Cert.PosdftIdeal.nD Cert.PosdftIdeal.τ Cert.PosdftIdeal.sig) → Buf (Elt Ideal) ℓ) : Prop :=
  True

def Pre_PosdftRefIdeal (m : (ℓ : Loc Cert.PosdftRefIdeal.nD Cert.PosdftRefIdeal.τ Cert.PosdftRefIdeal.sig) → Buf (Elt Ideal) ℓ) : Prop :=
  True

def Pre_Filtspec (m : (ℓ : Loc Cert.Filtspec.nD Cert.Filtspec.τ Cert.Filtspec.sig) → Buf (Elt Bits) ℓ) : Prop :=
  True

def Pre_FiltspecIdeal (m : (ℓ : Loc Cert.FiltspecIdeal.nD Cert.FiltspecIdeal.τ Cert.FiltspecIdeal.sig) → Buf (Elt Ideal) ℓ) : Prop :=
  True

def Pre_FiltspecRefIdeal (m : (ℓ : Loc Cert.FiltspecRefIdeal.nD Cert.FiltspecRefIdeal.τ Cert.FiltspecRefIdeal.sig) → Buf (Elt Ideal) ℓ) : Prop :=
  True

def Pre_Spectrum (m : (ℓ : Loc Cert.Spectrum.nD Cert.Spectrum.τ Cert.Spectrum.sig) → Buf (Elt Bits) ℓ) : Prop :=
  True

def Pre_SpectrumIdeal (m : (ℓ : Loc Cert.SpectrumIdeal.nD Cert.SpectrumIdeal.τ Cert.SpectrumIdeal.sig) → Buf (Elt Ideal) ℓ) : Prop :=
  True

def Pre_SpectrumRefIdeal (m : (ℓ : Loc Cert.SpectrumRefIdeal.nD Cert.SpectrumRefIdeal.τ Cert.SpectrumRefIdeal.sig) → Buf (Elt Ideal) ℓ) : Prop :=
  True

def Pre_Chandft (m : (ℓ : Loc Cert.Chandft.nD Cert.Chandft.τ Cert.Chandft.sig) → Buf (Elt Bits) ℓ) : Prop :=
  True

def Pre_ChandftIdeal (m : (ℓ : Loc Cert.ChandftIdeal.nD Cert.ChandftIdeal.τ Cert.ChandftIdeal.sig) → Buf (Elt Ideal) ℓ) : Prop :=
  True

def Pre_ChandftRefIdeal (m : (ℓ : Loc Cert.ChandftRefIdeal.nD Cert.ChandftRefIdeal.τ Cert.ChandftRefIdeal.sig) → Buf (Elt Ideal) ℓ) : Prop :=
  True

def Pre_Ftaps (m : (ℓ : Loc Cert.Ftaps.nD Cert.Ftaps.τ Cert.Ftaps.sig) → Buf (Elt Bits) ℓ) : Prop :=
  True

def Pre_FtapsIdeal (m : (ℓ : Loc Cert.FtapsIdeal.nD Cert.FtapsIdeal.τ Cert.FtapsIdeal.sig) → Buf (Elt Ideal) ℓ) : Prop :=
  True

def Pre_FtapsRefIdeal (m : (ℓ : Loc Cert.FtapsRefIdeal.nD Cert.FtapsRefIdeal.τ Cert.FtapsRefIdeal.sig) → Buf (Elt Ideal) ℓ) : Prop :=
  True

def Pre_Shortconv (m : (ℓ : Loc Cert.Shortconv.nD Cert.Shortconv.τ Cert.Shortconv.sig) → Buf (Elt Bits) ℓ) : Prop :=
  True

def Pre_ShortconvIdeal (m : (ℓ : Loc Cert.ShortconvIdeal.nD Cert.ShortconvIdeal.τ Cert.ShortconvIdeal.sig) → Buf (Elt Ideal) ℓ) : Prop :=
  True

def Pre_ShortconvRefIdeal (m : (ℓ : Loc Cert.ShortconvRefIdeal.nD Cert.ShortconvRefIdeal.τ Cert.ShortconvRefIdeal.sig) → Buf (Elt Ideal) ℓ) : Prop :=
  True

def Pre_Spectrum2 (m : (ℓ : Loc Cert.Spectrum2.nD Cert.Spectrum2.τ Cert.Spectrum2.sig) → Buf (Elt Bits) ℓ) : Prop :=
  True

def Pre_Spectrum2Ideal (m : (ℓ : Loc Cert.Spectrum2Ideal.nD Cert.Spectrum2Ideal.τ Cert.Spectrum2Ideal.sig) → Buf (Elt Ideal) ℓ) : Prop :=
  True

def Pre_Spectrum2RefIdeal (m : (ℓ : Loc Cert.Spectrum2RefIdeal.nD Cert.Spectrum2RefIdeal.τ Cert.Spectrum2RefIdeal.sig) → Buf (Elt Ideal) ℓ) : Prop :=
  True

def Pre_Signal2 (m : (ℓ : Loc Cert.Signal2.nD Cert.Signal2.τ Cert.Signal2.sig) → Buf (Elt Bits) ℓ) : Prop :=
  True

def Pre_Signal2Ideal (m : (ℓ : Loc Cert.Signal2Ideal.nD Cert.Signal2Ideal.τ Cert.Signal2Ideal.sig) → Buf (Elt Ideal) ℓ) : Prop :=
  True

def Pre_Signal2RefIdeal (m : (ℓ : Loc Cert.Signal2RefIdeal.nD Cert.Signal2RefIdeal.τ Cert.Signal2RefIdeal.sig) → Buf (Elt Ideal) ℓ) : Prop :=
  True

def Pre_Gated2 (m : (ℓ : Loc Cert.Gated2.nD Cert.Gated2.τ Cert.Gated2.sig) → Buf (Elt Bits) ℓ) : Prop :=
  True

def Pre_Gated2Ideal (m : (ℓ : Loc Cert.Gated2Ideal.nD Cert.Gated2Ideal.τ Cert.Gated2Ideal.sig) → Buf (Elt Ideal) ℓ) : Prop :=
  True

def Pre_Gated2RefIdeal (m : (ℓ : Loc Cert.Gated2RefIdeal.nD Cert.Gated2RefIdeal.τ Cert.Gated2RefIdeal.sig) → Buf (Elt Ideal) ℓ) : Prop :=
  True

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Signal [hSignal : Cert.Signal.Facts] : Prop :=
  ∀ (m : (ℓ : Loc Cert.Signal.nD Cert.Signal.τ Cert.Signal.sig) → Buf (Elt Bits) ℓ) (g : Dev Cert.Signal.nD → PrngReg), Pre_Signal m →
    θ_run (Cert.Signal.defs (F := Bits)) (onTc (τ := Cert.Signal.τ) (Cert.Signal.main (F := Bits))) ⟨m, fun _ => 0, g⟩ (fun r => (∀ c : Dev Cert.Signal.nD,
      r.2.mem ((c.tc : Thread Cert.Signal.nD Cert.Signal.τ).loc Cert.Signal.main_arg0) = m ((c.tc : Thread Cert.Signal.nD Cert.Signal.τ).loc Cert.Signal.main_arg0)
      ∧ r.2.mem ((c.tc : Thread Cert.Signal.nD Cert.Signal.τ).loc Cert.Signal.main_arg1) = m ((c.tc : Thread Cert.Signal.nD Cert.Signal.τ).loc Cert.Signal.main_arg1)
      ∧ r.2.mem ((c.tc : Thread Cert.Signal.nD Cert.Signal.τ).loc Cert.Signal.main_arg2) = m ((c.tc : Thread Cert.Signal.nD Cert.Signal.τ).loc Cert.Signal.main_arg2))
      ∧ r.2.sem = fun _ => 0)

def quiescent_SignalIdeal [hSignalIdeal : Cert.SignalIdeal.Facts] : Prop :=
  ∀ (m : (ℓ : Loc Cert.SignalIdeal.nD Cert.SignalIdeal.τ Cert.SignalIdeal.sig) → Buf (Elt Ideal) ℓ) (g : Dev Cert.SignalIdeal.nD → PrngReg), Pre_SignalIdeal m →
    θ_run (Cert.SignalIdeal.defs (F := Ideal)) (onTc (τ := Cert.SignalIdeal.τ) (Cert.SignalIdeal.main (F := Ideal))) ⟨m, fun _ => 0, g⟩ (fun r => (∀ c : Dev Cert.SignalIdeal.nD,
      r.2.mem ((c.tc : Thread Cert.SignalIdeal.nD Cert.SignalIdeal.τ).loc Cert.SignalIdeal.main_arg0) = m ((c.tc : Thread Cert.SignalIdeal.nD Cert.SignalIdeal.τ).loc Cert.SignalIdeal.main_arg0)
      ∧ r.2.mem ((c.tc : Thread Cert.SignalIdeal.nD Cert.SignalIdeal.τ).loc Cert.SignalIdeal.main_arg1) = m ((c.tc : Thread Cert.SignalIdeal.nD Cert.SignalIdeal.τ).loc Cert.SignalIdeal.main_arg1)
      ∧ r.2.mem ((c.tc : Thread Cert.SignalIdeal.nD Cert.SignalIdeal.τ).loc Cert.SignalIdeal.main_arg2) = m ((c.tc : Thread Cert.SignalIdeal.nD Cert.SignalIdeal.τ).loc Cert.SignalIdeal.main_arg2))
      ∧ r.2.sem = fun _ => 0)

def quiescent_SignalRefIdeal [hSignalRefIdeal : Cert.SignalRefIdeal.Facts] : Prop :=
  ∀ (m : (ℓ : Loc Cert.SignalRefIdeal.nD Cert.SignalRefIdeal.τ Cert.SignalRefIdeal.sig) → Buf (Elt Ideal) ℓ) (g : Dev Cert.SignalRefIdeal.nD → PrngReg), Pre_SignalRefIdeal m →
    θ_run (Cert.SignalRefIdeal.defs (F := Ideal)) (onTc (τ := Cert.SignalRefIdeal.τ) (Cert.SignalRefIdeal.main (F := Ideal))) ⟨m, fun _ => 0, g⟩ (fun r => (∀ c : Dev Cert.SignalRefIdeal.nD,
      r.2.mem ((c.tc : Thread Cert.SignalRefIdeal.nD Cert.SignalRefIdeal.τ).loc Cert.SignalRefIdeal.main_arg0) = m ((c.tc : Thread Cert.SignalRefIdeal.nD Cert.SignalRefIdeal.τ).loc Cert.SignalRefIdeal.main_arg0)
      ∧ r.2.mem ((c.tc : Thread Cert.SignalRefIdeal.nD Cert.SignalRefIdeal.τ).loc Cert.SignalRefIdeal.main_arg1) = m ((c.tc : Thread Cert.SignalRefIdeal.nD Cert.SignalRefIdeal.τ).loc Cert.SignalRefIdeal.main_arg1)
      ∧ r.2.mem ((c.tc : Thread Cert.SignalRefIdeal.nD Cert.SignalRefIdeal.τ).loc Cert.SignalRefIdeal.main_arg2) = m ((c.tc : Thread Cert.SignalRefIdeal.nD Cert.SignalRefIdeal.τ).loc Cert.SignalRefIdeal.main_arg2))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4))
      ∧ r.2.sem = fun _ => 0)

def quiescent_Realdft [hRealdft : Cert.Realdft.Facts] : Prop :=
  ∀ (m : (ℓ : Loc Cert.Realdft.nD Cert.Realdft.τ Cert.Realdft.sig) → Buf (Elt Bits) ℓ) (g : Dev Cert.Realdft.nD → PrngReg), Pre_Realdft m →
    θ_run (Cert.Realdft.defs (F := Bits)) (onTc (τ := Cert.Realdft.τ) (Cert.Realdft.main (F := Bits))) ⟨m, fun _ => 0, g⟩ (fun r => (∀ c : Dev Cert.Realdft.nD,
      r.2.mem ((c.tc : Thread Cert.Realdft.nD Cert.Realdft.τ).loc Cert.Realdft.main_arg0) = m ((c.tc : Thread Cert.Realdft.nD Cert.Realdft.τ).loc Cert.Realdft.main_arg0)
      ∧ r.2.mem ((c.tc : Thread Cert.Realdft.nD Cert.Realdft.τ).loc Cert.Realdft.main_arg1) = m ((c.tc : Thread Cert.Realdft.nD Cert.Realdft.τ).loc Cert.Realdft.main_arg1)
      ∧ r.2.mem ((c.tc : Thread Cert.Realdft.nD Cert.Realdft.τ).loc Cert.Realdft.main_arg2) = m ((c.tc : Thread Cert.Realdft.nD Cert.Realdft.τ).loc Cert.Realdft.main_arg2))
      ∧ r.2.sem = fun _ => 0)

def quiescent_RealdftIdeal [hRealdftIdeal : Cert.RealdftIdeal.Facts] : Prop :=
  ∀ (m : (ℓ : Loc Cert.RealdftIdeal.nD Cert.RealdftIdeal.τ Cert.RealdftIdeal.sig) → Buf (Elt Ideal) ℓ) (g : Dev Cert.RealdftIdeal.nD → PrngReg), Pre_RealdftIdeal m →
    θ_run (Cert.RealdftIdeal.defs (F := Ideal)) (onTc (τ := Cert.RealdftIdeal.τ) (Cert.RealdftIdeal.main (F := Ideal))) ⟨m, fun _ => 0, g⟩ (fun r => (∀ c : Dev Cert.RealdftIdeal.nD,
      r.2.mem ((c.tc : Thread Cert.RealdftIdeal.nD Cert.RealdftIdeal.τ).loc Cert.RealdftIdeal.main_arg0) = m ((c.tc : Thread Cert.RealdftIdeal.nD Cert.RealdftIdeal.τ).loc Cert.RealdftIdeal.main_arg0)
      ∧ r.2.mem ((c.tc : Thread Cert.RealdftIdeal.nD Cert.RealdftIdeal.τ).loc Cert.RealdftIdeal.main_arg1) = m ((c.tc : Thread Cert.RealdftIdeal.nD Cert.RealdftIdeal.τ).loc Cert.RealdftIdeal.main_arg1)
      ∧ r.2.mem ((c.tc : Thread Cert.RealdftIdeal.nD Cert.RealdftIdeal.τ).loc Cert.RealdftIdeal.main_arg2) = m ((c.tc : Thread Cert.RealdftIdeal.nD Cert.RealdftIdeal.τ).loc Cert.RealdftIdeal.main_arg2))
      ∧ r.2.sem = fun _ => 0)

def quiescent_RealdftRefIdeal [hRealdftRefIdeal : Cert.RealdftRefIdeal.Facts] : Prop :=
  ∀ (m : (ℓ : Loc Cert.RealdftRefIdeal.nD Cert.RealdftRefIdeal.τ Cert.RealdftRefIdeal.sig) → Buf (Elt Ideal) ℓ) (g : Dev Cert.RealdftRefIdeal.nD → PrngReg), Pre_RealdftRefIdeal m →
    θ_run (Cert.RealdftRefIdeal.defs (F := Ideal)) (onTc (τ := Cert.RealdftRefIdeal.τ) (Cert.RealdftRefIdeal.main (F := Ideal))) ⟨m, fun _ => 0, g⟩ (fun r => (∀ c : Dev Cert.RealdftRefIdeal.nD,
      r.2.mem ((c.tc : Thread Cert.RealdftRefIdeal.nD Cert.RealdftRefIdeal.τ).loc Cert.RealdftRefIdeal.main_arg0) = m ((c.tc : Thread Cert.RealdftRefIdeal.nD Cert.RealdftRefIdeal.τ).loc Cert.RealdftRefIdeal.main_arg0)
      ∧ r.2.mem ((c.tc : Thread Cert.RealdftRefIdeal.nD Cert.RealdftRefIdeal.τ).loc Cert.RealdftRefIdeal.main_arg1) = m ((c.tc : Thread Cert.RealdftRefIdeal.nD Cert.RealdftRefIdeal.τ).loc Cert.RealdftRefIdeal.main_arg1)
      ∧ r.2.mem ((c.tc : Thread Cert.RealdftRefIdeal.nD Cert.RealdftRefIdeal.τ).loc Cert.RealdftRefIdeal.main_arg2) = m ((c.tc : Thread Cert.RealdftRefIdeal.nD Cert.RealdftRefIdeal.τ).loc Cert.RealdftRefIdeal.main_arg2))
      ∧ r.2.sem = fun _ => 0)

def quiescent_Tapdft [hTapdft : Cert.Tapdft.Facts] : Prop :=
  ∀ (m : (ℓ : Loc Cert.Tapdft.nD Cert.Tapdft.τ Cert.Tapdft.sig) → Buf (Elt Bits) ℓ) (g : Dev Cert.Tapdft.nD → PrngReg), Pre_Tapdft m →
    θ_run (Cert.Tapdft.defs (F := Bits)) (onTc (τ := Cert.Tapdft.τ) (Cert.Tapdft.main (F := Bits))) ⟨m, fun _ => 0, g⟩ (fun r => (∀ c : Dev Cert.Tapdft.nD,
      r.2.mem ((c.tc : Thread Cert.Tapdft.nD Cert.Tapdft.τ).loc Cert.Tapdft.main_arg0) = m ((c.tc : Thread Cert.Tapdft.nD Cert.Tapdft.τ).loc Cert.Tapdft.main_arg0)
      ∧ r.2.mem ((c.tc : Thread Cert.Tapdft.nD Cert.Tapdft.τ).loc Cert.Tapdft.main_arg1) = m ((c.tc : Thread Cert.Tapdft.nD Cert.Tapdft.τ).loc Cert.Tapdft.main_arg1)
      ∧ r.2.mem ((c.tc : Thread Cert.Tapdft.nD Cert.Tapdft.τ).loc Cert.Tapdft.main_arg2) = m ((c.tc : Thread Cert.Tapdft.nD Cert.Tapdft.τ).loc Cert.Tapdft.main_arg2))
      ∧ r.2.sem = fun _ => 0)

def quiescent_TapdftIdeal [hTapdftIdeal : Cert.TapdftIdeal.Facts] : Prop :=
  ∀ (m : (ℓ : Loc Cert.TapdftIdeal.nD Cert.TapdftIdeal.τ Cert.TapdftIdeal.sig) → Buf (Elt Ideal) ℓ) (g : Dev Cert.TapdftIdeal.nD → PrngReg), Pre_TapdftIdeal m →
    θ_run (Cert.TapdftIdeal.defs (F := Ideal)) (onTc (τ := Cert.TapdftIdeal.τ) (Cert.TapdftIdeal.main (F := Ideal))) ⟨m, fun _ => 0, g⟩ (fun r => (∀ c : Dev Cert.TapdftIdeal.nD,
      r.2.mem ((c.tc : Thread Cert.TapdftIdeal.nD Cert.TapdftIdeal.τ).loc Cert.TapdftIdeal.main_arg0) = m ((c.tc : Thread Cert.TapdftIdeal.nD Cert.TapdftIdeal.τ).loc Cert.TapdftIdeal.main_arg0)
      ∧ r.2.mem ((c.tc : Thread Cert.TapdftIdeal.nD Cert.TapdftIdeal.τ).loc Cert.TapdftIdeal.main_arg1) = m ((c.tc : Thread Cert.TapdftIdeal.nD Cert.TapdftIdeal.τ).loc Cert.TapdftIdeal.main_arg1)
      ∧ r.2.mem ((c.tc : Thread Cert.TapdftIdeal.nD Cert.TapdftIdeal.τ).loc Cert.TapdftIdeal.main_arg2) = m ((c.tc : Thread Cert.TapdftIdeal.nD Cert.TapdftIdeal.τ).loc Cert.TapdftIdeal.main_arg2))
      ∧ r.2.sem = fun _ => 0)

def quiescent_TapdftRefIdeal [hTapdftRefIdeal : Cert.TapdftRefIdeal.Facts] : Prop :=
  ∀ (m : (ℓ : Loc Cert.TapdftRefIdeal.nD Cert.TapdftRefIdeal.τ Cert.TapdftRefIdeal.sig) → Buf (Elt Ideal) ℓ) (g : Dev Cert.TapdftRefIdeal.nD → PrngReg), Pre_TapdftRefIdeal m →
    θ_run (Cert.TapdftRefIdeal.defs (F := Ideal)) (onTc (τ := Cert.TapdftRefIdeal.τ) (Cert.TapdftRefIdeal.main (F := Ideal))) ⟨m, fun _ => 0, g⟩ (fun r => (∀ c : Dev Cert.TapdftRefIdeal.nD,
      r.2.mem ((c.tc : Thread Cert.TapdftRefIdeal.nD Cert.TapdftRefIdeal.τ).loc Cert.TapdftRefIdeal.main_arg0) = m ((c.tc : Thread Cert.TapdftRefIdeal.nD Cert.TapdftRefIdeal.τ).loc Cert.TapdftRefIdeal.main_arg0)
      ∧ r.2.mem ((c.tc : Thread Cert.TapdftRefIdeal.nD Cert.TapdftRefIdeal.τ).loc Cert.TapdftRefIdeal.main_arg1) = m ((c.tc : Thread Cert.TapdftRefIdeal.nD Cert.TapdftRefIdeal.τ).loc Cert.TapdftRefIdeal.main_arg1)
      ∧ r.2.mem ((c.tc : Thread Cert.TapdftRefIdeal.nD Cert.TapdftRefIdeal.τ).loc Cert.TapdftRefIdeal.main_arg2) = m ((c.tc : Thread Cert.TapdftRefIdeal.nD Cert.TapdftRefIdeal.τ).loc Cert.TapdftRefIdeal.main_arg2))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0))
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      r.2.mem ((c.tc : Thread Cert.TableRefIdeal.nD Cert.TableRefIdeal.τ).loc Cert.TableRefIdeal.main_arg0) = m ((c.tc : Thread Cert.TableRefIdeal.nD Cert.TableRefIdeal.τ).loc Cert.TableRefIdeal.main_arg0))
      ∧ r.2.sem = fun _ => 0)

def quiescent_Posdft [hPosdft : Cert.Posdft.Facts] : Prop :=
  ∀ (m : (ℓ : Loc Cert.Posdft.nD Cert.Posdft.τ Cert.Posdft.sig) → Buf (Elt Bits) ℓ) (g : Dev Cert.Posdft.nD → PrngReg), Pre_Posdft m →
    θ_run (Cert.Posdft.defs (F := Bits)) (onTc (τ := Cert.Posdft.τ) (Cert.Posdft.main (F := Bits))) ⟨m, fun _ => 0, g⟩ (fun r => (∀ c : Dev Cert.Posdft.nD,
      r.2.mem ((c.tc : Thread Cert.Posdft.nD Cert.Posdft.τ).loc Cert.Posdft.main_arg0) = m ((c.tc : Thread Cert.Posdft.nD Cert.Posdft.τ).loc Cert.Posdft.main_arg0)
      ∧ r.2.mem ((c.tc : Thread Cert.Posdft.nD Cert.Posdft.τ).loc Cert.Posdft.main_arg1) = m ((c.tc : Thread Cert.Posdft.nD Cert.Posdft.τ).loc Cert.Posdft.main_arg1)
      ∧ r.2.mem ((c.tc : Thread Cert.Posdft.nD Cert.Posdft.τ).loc Cert.Posdft.main_arg2) = m ((c.tc : Thread Cert.Posdft.nD Cert.Posdft.τ).loc Cert.Posdft.main_arg2))
      ∧ r.2.sem = fun _ => 0)

def quiescent_PosdftIdeal [hPosdftIdeal : Cert.PosdftIdeal.Facts] : Prop :=
  ∀ (m : (ℓ : Loc Cert.PosdftIdeal.nD Cert.PosdftIdeal.τ Cert.PosdftIdeal.sig) → Buf (Elt Ideal) ℓ) (g : Dev Cert.PosdftIdeal.nD → PrngReg), Pre_PosdftIdeal m →
    θ_run (Cert.PosdftIdeal.defs (F := Ideal)) (onTc (τ := Cert.PosdftIdeal.τ) (Cert.PosdftIdeal.main (F := Ideal))) ⟨m, fun _ => 0, g⟩ (fun r => (∀ c : Dev Cert.PosdftIdeal.nD,
      r.2.mem ((c.tc : Thread Cert.PosdftIdeal.nD Cert.PosdftIdeal.τ).loc Cert.PosdftIdeal.main_arg0) = m ((c.tc : Thread Cert.PosdftIdeal.nD Cert.PosdftIdeal.τ).loc Cert.PosdftIdeal.main_arg0)
      ∧ r.2.mem ((c.tc : Thread Cert.PosdftIdeal.nD Cert.PosdftIdeal.τ).loc Cert.PosdftIdeal.main_arg1) = m ((c.tc : Thread Cert.PosdftIdeal.nD Cert.PosdftIdeal.τ).loc Cert.PosdftIdeal.main_arg1)
      ∧ r.2.mem ((c.tc : Thread Cert.PosdftIdeal.nD Cert.PosdftIdeal.τ).loc Cert.PosdftIdeal.main_arg2) = m ((c.tc : Thread Cert.PosdftIdeal.nD Cert.PosdftIdeal.τ).loc Cert.PosdftIdeal.main_arg2))
      ∧ r.2.sem = fun _ => 0)

def quiescent_PosdftRefIdeal [hPosdftRefIdeal : Cert.PosdftRefIdeal.Facts] : Prop :=
  ∀ (m : (ℓ : Loc Cert.PosdftRefIdeal.nD Cert.PosdftRefIdeal.τ Cert.PosdftRefIdeal.sig) → Buf (Elt Ideal) ℓ) (g : Dev Cert.PosdftRefIdeal.nD → PrngReg), Pre_PosdftRefIdeal m →
    θ_run (Cert.PosdftRefIdeal.defs (F := Ideal)) (onTc (τ := Cert.PosdftRefIdeal.τ) (Cert.PosdftRefIdeal.main (F := Ideal))) ⟨m, fun _ => 0, g⟩ (fun r => (∀ c : Dev Cert.PosdftRefIdeal.nD,
      r.2.mem ((c.tc : Thread Cert.PosdftRefIdeal.nD Cert.PosdftRefIdeal.τ).loc Cert.PosdftRefIdeal.main_arg0) = m ((c.tc : Thread Cert.PosdftRefIdeal.nD Cert.PosdftRefIdeal.τ).loc Cert.PosdftRefIdeal.main_arg0)
      ∧ r.2.mem ((c.tc : Thread Cert.PosdftRefIdeal.nD Cert.PosdftRefIdeal.τ).loc Cert.PosdftRefIdeal.main_arg1) = m ((c.tc : Thread Cert.PosdftRefIdeal.nD Cert.PosdftRefIdeal.τ).loc Cert.PosdftRefIdeal.main_arg1)
      ∧ r.2.mem ((c.tc : Thread Cert.PosdftRefIdeal.nD Cert.PosdftRefIdeal.τ).loc Cert.PosdftRefIdeal.main_arg2) = m ((c.tc : Thread Cert.PosdftRefIdeal.nD Cert.PosdftRefIdeal.τ).loc Cert.PosdftRefIdeal.main_arg2))
      ∧ r.2.sem = fun _ => 0)

def quiescent_Filtspec [hFiltspec : Cert.Filtspec.Facts] : Prop :=
  ∀ (m : (ℓ : Loc Cert.Filtspec.nD Cert.Filtspec.τ Cert.Filtspec.sig) → Buf (Elt Bits) ℓ) (g : Dev Cert.Filtspec.nD → PrngReg), Pre_Filtspec m →
    θ_run (Cert.Filtspec.defs (F := Bits)) (onTc (τ := Cert.Filtspec.τ) (Cert.Filtspec.main (F := Bits))) ⟨m, fun _ => 0, g⟩ (fun r => (∀ c : Dev Cert.Filtspec.nD,
      r.2.mem ((c.tc : Thread Cert.Filtspec.nD Cert.Filtspec.τ).loc Cert.Filtspec.main_arg0) = m ((c.tc : Thread Cert.Filtspec.nD Cert.Filtspec.τ).loc Cert.Filtspec.main_arg0)
      ∧ r.2.mem ((c.tc : Thread Cert.Filtspec.nD Cert.Filtspec.τ).loc Cert.Filtspec.main_arg1) = m ((c.tc : Thread Cert.Filtspec.nD Cert.Filtspec.τ).loc Cert.Filtspec.main_arg1)
      ∧ r.2.mem ((c.tc : Thread Cert.Filtspec.nD Cert.Filtspec.τ).loc Cert.Filtspec.main_arg2) = m ((c.tc : Thread Cert.Filtspec.nD Cert.Filtspec.τ).loc Cert.Filtspec.main_arg2)
      ∧ r.2.mem ((c.tc : Thread Cert.Filtspec.nD Cert.Filtspec.τ).loc Cert.Filtspec.main_arg3) = m ((c.tc : Thread Cert.Filtspec.nD Cert.Filtspec.τ).loc Cert.Filtspec.main_arg3))
      ∧ r.2.sem = fun _ => 0)

def quiescent_FiltspecIdeal [hFiltspecIdeal : Cert.FiltspecIdeal.Facts] : Prop :=
  ∀ (m : (ℓ : Loc Cert.FiltspecIdeal.nD Cert.FiltspecIdeal.τ Cert.FiltspecIdeal.sig) → Buf (Elt Ideal) ℓ) (g : Dev Cert.FiltspecIdeal.nD → PrngReg), Pre_FiltspecIdeal m →
    θ_run (Cert.FiltspecIdeal.defs (F := Ideal)) (onTc (τ := Cert.FiltspecIdeal.τ) (Cert.FiltspecIdeal.main (F := Ideal))) ⟨m, fun _ => 0, g⟩ (fun r => (∀ c : Dev Cert.FiltspecIdeal.nD,
      r.2.mem ((c.tc : Thread Cert.FiltspecIdeal.nD Cert.FiltspecIdeal.τ).loc Cert.FiltspecIdeal.main_arg0) = m ((c.tc : Thread Cert.FiltspecIdeal.nD Cert.FiltspecIdeal.τ).loc Cert.FiltspecIdeal.main_arg0)
      ∧ r.2.mem ((c.tc : Thread Cert.FiltspecIdeal.nD Cert.FiltspecIdeal.τ).loc Cert.FiltspecIdeal.main_arg1) = m ((c.tc : Thread Cert.FiltspecIdeal.nD Cert.FiltspecIdeal.τ).loc Cert.FiltspecIdeal.main_arg1)
      ∧ r.2.mem ((c.tc : Thread Cert.FiltspecIdeal.nD Cert.FiltspecIdeal.τ).loc Cert.FiltspecIdeal.main_arg2) = m ((c.tc : Thread Cert.FiltspecIdeal.nD Cert.FiltspecIdeal.τ).loc Cert.FiltspecIdeal.main_arg2)
      ∧ r.2.mem ((c.tc : Thread Cert.FiltspecIdeal.nD Cert.FiltspecIdeal.τ).loc Cert.FiltspecIdeal.main_arg3) = m ((c.tc : Thread Cert.FiltspecIdeal.nD Cert.FiltspecIdeal.τ).loc Cert.FiltspecIdeal.main_arg3))
      ∧ r.2.sem = fun _ => 0)

def quiescent_FiltspecRefIdeal [hFiltspecRefIdeal : Cert.FiltspecRefIdeal.Facts] : Prop :=
  ∀ (m : (ℓ : Loc Cert.FiltspecRefIdeal.nD Cert.FiltspecRefIdeal.τ Cert.FiltspecRefIdeal.sig) → Buf (Elt Ideal) ℓ) (g : Dev Cert.FiltspecRefIdeal.nD → PrngReg), Pre_FiltspecRefIdeal m →
    θ_run (Cert.FiltspecRefIdeal.defs (F := Ideal)) (onTc (τ := Cert.FiltspecRefIdeal.τ) (Cert.FiltspecRefIdeal.main (F := Ideal))) ⟨m, fun _ => 0, g⟩ (fun r => (∀ c : Dev Cert.FiltspecRefIdeal.nD,
      r.2.mem ((c.tc : Thread Cert.FiltspecRefIdeal.nD Cert.FiltspecRefIdeal.τ).loc Cert.FiltspecRefIdeal.main_arg0) = m ((c.tc : Thread Cert.FiltspecRefIdeal.nD Cert.FiltspecRefIdeal.τ).loc Cert.FiltspecRefIdeal.main_arg0)
      ∧ r.2.mem ((c.tc : Thread Cert.FiltspecRefIdeal.nD Cert.FiltspecRefIdeal.τ).loc Cert.FiltspecRefIdeal.main_arg1) = m ((c.tc : Thread Cert.FiltspecRefIdeal.nD Cert.FiltspecRefIdeal.τ).loc Cert.FiltspecRefIdeal.main_arg1)
      ∧ r.2.mem ((c.tc : Thread Cert.FiltspecRefIdeal.nD Cert.FiltspecRefIdeal.τ).loc Cert.FiltspecRefIdeal.main_arg2) = m ((c.tc : Thread Cert.FiltspecRefIdeal.nD Cert.FiltspecRefIdeal.τ).loc Cert.FiltspecRefIdeal.main_arg2)
      ∧ r.2.mem ((c.tc : Thread Cert.FiltspecRefIdeal.nD Cert.FiltspecRefIdeal.τ).loc Cert.FiltspecRefIdeal.main_arg3) = m ((c.tc : Thread Cert.FiltspecRefIdeal.nD Cert.FiltspecRefIdeal.τ).loc Cert.FiltspecRefIdeal.main_arg3))
      ∧ r.2.sem = fun _ => 0)

def quiescent_Spectrum [hSpectrum : Cert.Spectrum.Facts] : Prop :=
  ∀ (m : (ℓ : Loc Cert.Spectrum.nD Cert.Spectrum.τ Cert.Spectrum.sig) → Buf (Elt Bits) ℓ) (g : Dev Cert.Spectrum.nD → PrngReg), Pre_Spectrum m →
    θ_run (Cert.Spectrum.defs (F := Bits)) (onTc (τ := Cert.Spectrum.τ) (Cert.Spectrum.main (F := Bits))) ⟨m, fun _ => 0, g⟩ (fun r => (∀ c : Dev Cert.Spectrum.nD,
      r.2.mem ((c.tc : Thread Cert.Spectrum.nD Cert.Spectrum.τ).loc Cert.Spectrum.main_arg0) = m ((c.tc : Thread Cert.Spectrum.nD Cert.Spectrum.τ).loc Cert.Spectrum.main_arg0)
      ∧ r.2.mem ((c.tc : Thread Cert.Spectrum.nD Cert.Spectrum.τ).loc Cert.Spectrum.main_arg1) = m ((c.tc : Thread Cert.Spectrum.nD Cert.Spectrum.τ).loc Cert.Spectrum.main_arg1)
      ∧ r.2.mem ((c.tc : Thread Cert.Spectrum.nD Cert.Spectrum.τ).loc Cert.Spectrum.main_arg2) = m ((c.tc : Thread Cert.Spectrum.nD Cert.Spectrum.τ).loc Cert.Spectrum.main_arg2)
      ∧ r.2.mem ((c.tc : Thread Cert.Spectrum.nD Cert.Spectrum.τ).loc Cert.Spectrum.main_arg3) = m ((c.tc : Thread Cert.Spectrum.nD Cert.Spectrum.τ).loc Cert.Spectrum.main_arg3))
      ∧ r.2.sem = fun _ => 0)

def quiescent_SpectrumIdeal [hSpectrumIdeal : Cert.SpectrumIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg), Pre_SpectrumIdeal m →
    θ_run (Cert.SpectrumIdeal.defs (F := Ideal)) (onTc (τ := Cert.SpectrumIdeal.τ) (Cert.SpectrumIdeal.main (F := Ideal))) ⟨m, fun _ => 0, g⟩ (fun r => (∀ c : Dev Cert.SpectrumIdeal.nD,
      r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
      ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
      ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2)
      ∧ r.2.mem ((c.tc : Thread Cert.SpectrumIdeal.nD Cert.SpectrumIdeal.τ).loc Cert.SpectrumIdeal.main_arg3) = m ((c.tc : Thread Cert.SpectrumIdeal.nD Cert.SpectrumIdeal.τ).loc Cert.SpectrumIdeal.main_arg3))
      ∧ r.2.sem = fun _ => 0)

def quiescent_SpectrumRefIdeal [hSpectrumRefIdeal : Cert.SpectrumRefIdeal.Facts] : Prop :=
  ∀ (m : (ℓ : Loc Cert.SpectrumRefIdeal.nD Cert.SpectrumRefIdeal.τ Cert.SpectrumRefIdeal.sig) → Buf (Elt Ideal) ℓ) (g : Dev Cert.SpectrumRefIdeal.nD → PrngReg), Pre_SpectrumRefIdeal m →
    θ_run (Cert.SpectrumRefIdeal.defs (F := Ideal)) (onTc (τ := Cert.SpectrumRefIdeal.τ) (Cert.SpectrumRefIdeal.main (F := Ideal))) ⟨m, fun _ => 0, g⟩ (fun r => (∀ c : Dev Cert.SpectrumRefIdeal.nD,
      r.2.mem ((c.tc : Thread Cert.SpectrumRefIdeal.nD Cert.SpectrumRefIdeal.τ).loc Cert.SpectrumRefIdeal.main_arg0) = m ((c.tc : Thread Cert.SpectrumRefIdeal.nD Cert.SpectrumRefIdeal.τ).loc Cert.SpectrumRefIdeal.main_arg0)
      ∧ r.2.mem ((c.tc : Thread Cert.SpectrumRefIdeal.nD Cert.SpectrumRefIdeal.τ).loc Cert.SpectrumRefIdeal.main_arg1) = m ((c.tc : Thread Cert.SpectrumRefIdeal.nD Cert.SpectrumRefIdeal.τ).loc Cert.SpectrumRefIdeal.main_arg1)
      ∧ r.2.mem ((c.tc : Thread Cert.SpectrumRefIdeal.nD Cert.SpectrumRefIdeal.τ).loc Cert.SpectrumRefIdeal.main_arg2) = m ((c.tc : Thread Cert.SpectrumRefIdeal.nD Cert.SpectrumRefIdeal.τ).loc Cert.SpectrumRefIdeal.main_arg2)
      ∧ r.2.mem ((c.tc : Thread Cert.SpectrumRefIdeal.nD Cert.SpectrumRefIdeal.τ).loc Cert.SpectrumRefIdeal.main_arg3) = m ((c.tc : Thread Cert.SpectrumRefIdeal.nD Cert.SpectrumRefIdeal.τ).loc Cert.SpectrumRefIdeal.main_arg3))
      ∧ r.2.sem = fun _ => 0)

def quiescent_Chandft [hChandft : Cert.Chandft.Facts] : Prop :=
  ∀ (m : (ℓ : Loc Cert.Chandft.nD Cert.Chandft.τ Cert.Chandft.sig) → Buf (Elt Bits) ℓ) (g : Dev Cert.Chandft.nD → PrngReg), Pre_Chandft m →
    θ_run (Cert.Chandft.defs (F := Bits)) (onTc (τ := Cert.Chandft.τ) (Cert.Chandft.main (F := Bits))) ⟨m, fun _ => 0, g⟩ (fun r => (∀ c : Dev Cert.Chandft.nD,
      r.2.mem ((c.tc : Thread Cert.Chandft.nD Cert.Chandft.τ).loc Cert.Chandft.main_arg0) = m ((c.tc : Thread Cert.Chandft.nD Cert.Chandft.τ).loc Cert.Chandft.main_arg0)
      ∧ r.2.mem ((c.tc : Thread Cert.Chandft.nD Cert.Chandft.τ).loc Cert.Chandft.main_arg1) = m ((c.tc : Thread Cert.Chandft.nD Cert.Chandft.τ).loc Cert.Chandft.main_arg1)
      ∧ r.2.mem ((c.tc : Thread Cert.Chandft.nD Cert.Chandft.τ).loc Cert.Chandft.main_arg2) = m ((c.tc : Thread Cert.Chandft.nD Cert.Chandft.τ).loc Cert.Chandft.main_arg2))
      ∧ r.2.sem = fun _ => 0)

def quiescent_ChandftIdeal [hChandftIdeal : Cert.ChandftIdeal.Facts] : Prop :=
  ∀ (m : (ℓ : Loc Cert.ChandftIdeal.nD Cert.ChandftIdeal.τ Cert.ChandftIdeal.sig) → Buf (Elt Ideal) ℓ) (g : Dev Cert.ChandftIdeal.nD → PrngReg), Pre_ChandftIdeal m →
    θ_run (Cert.ChandftIdeal.defs (F := Ideal)) (onTc (τ := Cert.ChandftIdeal.τ) (Cert.ChandftIdeal.main (F := Ideal))) ⟨m, fun _ => 0, g⟩ (fun r => (∀ c : Dev Cert.ChandftIdeal.nD,
      r.2.mem ((c.tc : Thread Cert.ChandftIdeal.nD Cert.ChandftIdeal.τ).loc Cert.ChandftIdeal.main_arg0) = m ((c.tc : Thread Cert.ChandftIdeal.nD Cert.ChandftIdeal.τ).loc Cert.ChandftIdeal.main_arg0)
      ∧ r.2.mem ((c.tc : Thread Cert.ChandftIdeal.nD Cert.ChandftIdeal.τ).loc Cert.ChandftIdeal.main_arg1) = m ((c.tc : Thread Cert.ChandftIdeal.nD Cert.ChandftIdeal.τ).loc Cert.ChandftIdeal.main_arg1)
      ∧ r.2.mem ((c.tc : Thread Cert.ChandftIdeal.nD Cert.ChandftIdeal.τ).loc Cert.ChandftIdeal.main_arg2) = m ((c.tc : Thread Cert.ChandftIdeal.nD Cert.ChandftIdeal.τ).loc Cert.ChandftIdeal.main_arg2))
      ∧ r.2.sem = fun _ => 0)

def quiescent_ChandftRefIdeal [hChandftRefIdeal : Cert.ChandftRefIdeal.Facts] : Prop :=
  ∀ (m : (ℓ : Loc Cert.ChandftRefIdeal.nD Cert.ChandftRefIdeal.τ Cert.ChandftRefIdeal.sig) → Buf (Elt Ideal) ℓ) (g : Dev Cert.ChandftRefIdeal.nD → PrngReg), Pre_ChandftRefIdeal m →
    θ_run (Cert.ChandftRefIdeal.defs (F := Ideal)) (onTc (τ := Cert.ChandftRefIdeal.τ) (Cert.ChandftRefIdeal.main (F := Ideal))) ⟨m, fun _ => 0, g⟩ (fun r => (∀ c : Dev Cert.ChandftRefIdeal.nD,
      r.2.mem ((c.tc : Thread Cert.ChandftRefIdeal.nD Cert.ChandftRefIdeal.τ).loc Cert.ChandftRefIdeal.main_arg0) = m ((c.tc : Thread Cert.ChandftRefIdeal.nD Cert.ChandftRefIdeal.τ).loc Cert.ChandftRefIdeal.main_arg0)
      ∧ r.2.mem ((c.tc : Thread Cert.ChandftRefIdeal.nD Cert.ChandftRefIdeal.τ).loc Cert.ChandftRefIdeal.main_arg1) = m ((c.tc : Thread Cert.ChandftRefIdeal.nD Cert.ChandftRefIdeal.τ).loc Cert.ChandftRefIdeal.main_arg1)
      ∧ r.2.mem ((c.tc : Thread Cert.ChandftRefIdeal.nD Cert.ChandftRefIdeal.τ).loc Cert.ChandftRefIdeal.main_arg2) = m ((c.tc : Thread Cert.ChandftRefIdeal.nD Cert.ChandftRefIdeal.τ).loc Cert.ChandftRefIdeal.main_arg2))
      ∧ r.2.sem = fun _ => 0)

def quiescent_Ftaps [hFtaps : Cert.Ftaps.Facts] : Prop :=
  ∀ (m : (ℓ : Loc Cert.Ftaps.nD Cert.Ftaps.τ Cert.Ftaps.sig) → Buf (Elt Bits) ℓ) (g : Dev Cert.Ftaps.nD → PrngReg), Pre_Ftaps m →
    θ_run (Cert.Ftaps.defs (F := Bits)) (onTc (τ := Cert.Ftaps.τ) (Cert.Ftaps.main (F := Bits))) ⟨m, fun _ => 0, g⟩ (fun r => (∀ c : Dev Cert.Ftaps.nD,
      r.2.mem ((c.tc : Thread Cert.Ftaps.nD Cert.Ftaps.τ).loc Cert.Ftaps.main_arg0) = m ((c.tc : Thread Cert.Ftaps.nD Cert.Ftaps.τ).loc Cert.Ftaps.main_arg0)
      ∧ r.2.mem ((c.tc : Thread Cert.Ftaps.nD Cert.Ftaps.τ).loc Cert.Ftaps.main_arg1) = m ((c.tc : Thread Cert.Ftaps.nD Cert.Ftaps.τ).loc Cert.Ftaps.main_arg1)
      ∧ r.2.mem ((c.tc : Thread Cert.Ftaps.nD Cert.Ftaps.τ).loc Cert.Ftaps.main_arg2) = m ((c.tc : Thread Cert.Ftaps.nD Cert.Ftaps.τ).loc Cert.Ftaps.main_arg2)
      ∧ r.2.mem ((c.tc : Thread Cert.Ftaps.nD Cert.Ftaps.τ).loc Cert.Ftaps.main_arg3) = m ((c.tc : Thread Cert.Ftaps.nD Cert.Ftaps.τ).loc Cert.Ftaps.main_arg3)
      ∧ r.2.mem ((c.tc : Thread Cert.Ftaps.nD Cert.Ftaps.τ).loc Cert.Ftaps.main_arg4) = m ((c.tc : Thread Cert.Ftaps.nD Cert.Ftaps.τ).loc Cert.Ftaps.main_arg4)
      ∧ r.2.mem ((c.tc : Thread Cert.Ftaps.nD Cert.Ftaps.τ).loc Cert.Ftaps.main_arg5) = m ((c.tc : Thread Cert.Ftaps.nD Cert.Ftaps.τ).loc Cert.Ftaps.main_arg5)
      ∧ r.2.mem ((c.tc : Thread Cert.Ftaps.nD Cert.Ftaps.τ).loc Cert.Ftaps.main_arg6) = m ((c.tc : Thread Cert.Ftaps.nD Cert.Ftaps.τ).loc Cert.Ftaps.main_arg6))
      ∧ r.2.sem = fun _ => 0)

def quiescent_FtapsIdeal [hFtapsIdeal : Cert.FtapsIdeal.Facts] : Prop :=
  ∀ (m : (ℓ : Loc Cert.FtapsIdeal.nD Cert.FtapsIdeal.τ Cert.FtapsIdeal.sig) → Buf (Elt Ideal) ℓ) (g : Dev Cert.FtapsIdeal.nD → PrngReg), Pre_FtapsIdeal m →
    θ_run (Cert.FtapsIdeal.defs (F := Ideal)) (onTc (τ := Cert.FtapsIdeal.τ) (Cert.FtapsIdeal.main (F := Ideal))) ⟨m, fun _ => 0, g⟩ (fun r => (∀ c : Dev Cert.FtapsIdeal.nD,
      r.2.mem ((c.tc : Thread Cert.FtapsIdeal.nD Cert.FtapsIdeal.τ).loc Cert.FtapsIdeal.main_arg0) = m ((c.tc : Thread Cert.FtapsIdeal.nD Cert.FtapsIdeal.τ).loc Cert.FtapsIdeal.main_arg0)
      ∧ r.2.mem ((c.tc : Thread Cert.FtapsIdeal.nD Cert.FtapsIdeal.τ).loc Cert.FtapsIdeal.main_arg1) = m ((c.tc : Thread Cert.FtapsIdeal.nD Cert.FtapsIdeal.τ).loc Cert.FtapsIdeal.main_arg1)
      ∧ r.2.mem ((c.tc : Thread Cert.FtapsIdeal.nD Cert.FtapsIdeal.τ).loc Cert.FtapsIdeal.main_arg2) = m ((c.tc : Thread Cert.FtapsIdeal.nD Cert.FtapsIdeal.τ).loc Cert.FtapsIdeal.main_arg2)
      ∧ r.2.mem ((c.tc : Thread Cert.FtapsIdeal.nD Cert.FtapsIdeal.τ).loc Cert.FtapsIdeal.main_arg3) = m ((c.tc : Thread Cert.FtapsIdeal.nD Cert.FtapsIdeal.τ).loc Cert.FtapsIdeal.main_arg3)
      ∧ r.2.mem ((c.tc : Thread Cert.FtapsIdeal.nD Cert.FtapsIdeal.τ).loc Cert.FtapsIdeal.main_arg4) = m ((c.tc : Thread Cert.FtapsIdeal.nD Cert.FtapsIdeal.τ).loc Cert.FtapsIdeal.main_arg4)
      ∧ r.2.mem ((c.tc : Thread Cert.FtapsIdeal.nD Cert.FtapsIdeal.τ).loc Cert.FtapsIdeal.main_arg5) = m ((c.tc : Thread Cert.FtapsIdeal.nD Cert.FtapsIdeal.τ).loc Cert.FtapsIdeal.main_arg5)
      ∧ r.2.mem ((c.tc : Thread Cert.FtapsIdeal.nD Cert.FtapsIdeal.τ).loc Cert.FtapsIdeal.main_arg6) = m ((c.tc : Thread Cert.FtapsIdeal.nD Cert.FtapsIdeal.τ).loc Cert.FtapsIdeal.main_arg6))
      ∧ r.2.sem = fun _ => 0)

def quiescent_FtapsRefIdeal [hFtapsRefIdeal : Cert.FtapsRefIdeal.Facts] : Prop :=
  ∀ (m : (ℓ : Loc Cert.FtapsRefIdeal.nD Cert.FtapsRefIdeal.τ Cert.FtapsRefIdeal.sig) → Buf (Elt Ideal) ℓ) (g : Dev Cert.FtapsRefIdeal.nD → PrngReg), Pre_FtapsRefIdeal m →
    θ_run (Cert.FtapsRefIdeal.defs (F := Ideal)) (onTc (τ := Cert.FtapsRefIdeal.τ) (Cert.FtapsRefIdeal.main (F := Ideal))) ⟨m, fun _ => 0, g⟩ (fun r => (∀ c : Dev Cert.FtapsRefIdeal.nD,
      r.2.mem ((c.tc : Thread Cert.FtapsRefIdeal.nD Cert.FtapsRefIdeal.τ).loc Cert.FtapsRefIdeal.main_arg0) = m ((c.tc : Thread Cert.FtapsRefIdeal.nD Cert.FtapsRefIdeal.τ).loc Cert.FtapsRefIdeal.main_arg0)
      ∧ r.2.mem ((c.tc : Thread Cert.FtapsRefIdeal.nD Cert.FtapsRefIdeal.τ).loc Cert.FtapsRefIdeal.main_arg1) = m ((c.tc : Thread Cert.FtapsRefIdeal.nD Cert.FtapsRefIdeal.τ).loc Cert.FtapsRefIdeal.main_arg1)
      ∧ r.2.mem ((c.tc : Thread Cert.FtapsRefIdeal.nD Cert.FtapsRefIdeal.τ).loc Cert.FtapsRefIdeal.main_arg2) = m ((c.tc : Thread Cert.FtapsRefIdeal.nD Cert.FtapsRefIdeal.τ).loc Cert.FtapsRefIdeal.main_arg2)
      ∧ r.2.mem ((c.tc : Thread Cert.FtapsRefIdeal.nD Cert.FtapsRefIdeal.τ).loc Cert.FtapsRefIdeal.main_arg3) = m ((c.tc : Thread Cert.FtapsRefIdeal.nD Cert.FtapsRefIdeal.τ).loc Cert.FtapsRefIdeal.main_arg3)
      ∧ r.2.mem ((c.tc : Thread Cert.FtapsRefIdeal.nD Cert.FtapsRefIdeal.τ).loc Cert.FtapsRefIdeal.main_arg4) = m ((c.tc : Thread Cert.FtapsRefIdeal.nD Cert.FtapsRefIdeal.τ).loc Cert.FtapsRefIdeal.main_arg4)
      ∧ r.2.mem ((c.tc : Thread Cert.FtapsRefIdeal.nD Cert.FtapsRefIdeal.τ).loc Cert.FtapsRefIdeal.main_arg5) = m ((c.tc : Thread Cert.FtapsRefIdeal.nD Cert.FtapsRefIdeal.τ).loc Cert.FtapsRefIdeal.main_arg5)
      ∧ r.2.mem ((c.tc : Thread Cert.FtapsRefIdeal.nD Cert.FtapsRefIdeal.τ).loc Cert.FtapsRefIdeal.main_arg6) = m ((c.tc : Thread Cert.FtapsRefIdeal.nD Cert.FtapsRefIdeal.τ).loc Cert.FtapsRefIdeal.main_arg6))
      ∧ r.2.sem = fun _ => 0)

def quiescent_Shortconv [hShortconv : Cert.Shortconv.Facts] : Prop :=
  ∀ (m : (ℓ : Loc Cert.Shortconv.nD Cert.Shortconv.τ Cert.Shortconv.sig) → Buf (Elt Bits) ℓ) (g : Dev Cert.Shortconv.nD → PrngReg), Pre_Shortconv m →
    θ_run (Cert.Shortconv.defs (F := Bits)) (onTc (τ := Cert.Shortconv.τ) (Cert.Shortconv.main (F := Bits))) ⟨m, fun _ => 0, g⟩ (fun r => (∀ c : Dev Cert.Shortconv.nD,
      r.2.mem ((c.tc : Thread Cert.Shortconv.nD Cert.Shortconv.τ).loc Cert.Shortconv.main_arg0) = m ((c.tc : Thread Cert.Shortconv.nD Cert.Shortconv.τ).loc Cert.Shortconv.main_arg0)
      ∧ r.2.mem ((c.tc : Thread Cert.Shortconv.nD Cert.Shortconv.τ).loc Cert.Shortconv.main_arg1) = m ((c.tc : Thread Cert.Shortconv.nD Cert.Shortconv.τ).loc Cert.Shortconv.main_arg1)
      ∧ r.2.mem ((c.tc : Thread Cert.Shortconv.nD Cert.Shortconv.τ).loc Cert.Shortconv.main_arg2) = m ((c.tc : Thread Cert.Shortconv.nD Cert.Shortconv.τ).loc Cert.Shortconv.main_arg2))
      ∧ r.2.sem = fun _ => 0)

def quiescent_ShortconvIdeal [hShortconvIdeal : Cert.ShortconvIdeal.Facts] : Prop :=
  ∀ (m : (ℓ : Loc Cert.ShortconvIdeal.nD Cert.ShortconvIdeal.τ Cert.ShortconvIdeal.sig) → Buf (Elt Ideal) ℓ) (g : Dev Cert.ShortconvIdeal.nD → PrngReg), Pre_ShortconvIdeal m →
    θ_run (Cert.ShortconvIdeal.defs (F := Ideal)) (onTc (τ := Cert.ShortconvIdeal.τ) (Cert.ShortconvIdeal.main (F := Ideal))) ⟨m, fun _ => 0, g⟩ (fun r => (∀ c : Dev Cert.ShortconvIdeal.nD,
      r.2.mem ((c.tc : Thread Cert.ShortconvIdeal.nD Cert.ShortconvIdeal.τ).loc Cert.ShortconvIdeal.main_arg0) = m ((c.tc : Thread Cert.ShortconvIdeal.nD Cert.ShortconvIdeal.τ).loc Cert.ShortconvIdeal.main_arg0)
      ∧ r.2.mem ((c.tc : Thread Cert.ShortconvIdeal.nD Cert.ShortconvIdeal.τ).loc Cert.ShortconvIdeal.main_arg1) = m ((c.tc : Thread Cert.ShortconvIdeal.nD Cert.ShortconvIdeal.τ).loc Cert.ShortconvIdeal.main_arg1)
      ∧ r.2.mem ((c.tc : Thread Cert.ShortconvIdeal.nD Cert.ShortconvIdeal.τ).loc Cert.ShortconvIdeal.main_arg2) = m ((c.tc : Thread Cert.ShortconvIdeal.nD Cert.ShortconvIdeal.τ).loc Cert.ShortconvIdeal.main_arg2))
      ∧ r.2.sem = fun _ => 0)

def quiescent_ShortconvRefIdeal [hShortconvRefIdeal : Cert.ShortconvRefIdeal.Facts] : Prop :=
  ∀ (m : (ℓ : Loc Cert.ShortconvRefIdeal.nD Cert.ShortconvRefIdeal.τ Cert.ShortconvRefIdeal.sig) → Buf (Elt Ideal) ℓ) (g : Dev Cert.ShortconvRefIdeal.nD → PrngReg), Pre_ShortconvRefIdeal m →
    θ_run (Cert.ShortconvRefIdeal.defs (F := Ideal)) (onTc (τ := Cert.ShortconvRefIdeal.τ) (Cert.ShortconvRefIdeal.main (F := Ideal))) ⟨m, fun _ => 0, g⟩ (fun r => (∀ c : Dev Cert.ShortconvRefIdeal.nD,
      r.2.mem ((c.tc : Thread Cert.ShortconvRefIdeal.nD Cert.ShortconvRefIdeal.τ).loc Cert.ShortconvRefIdeal.main_arg0) = m ((c.tc : Thread Cert.ShortconvRefIdeal.nD Cert.ShortconvRefIdeal.τ).loc Cert.ShortconvRefIdeal.main_arg0)
      ∧ r.2.mem ((c.tc : Thread Cert.ShortconvRefIdeal.nD Cert.ShortconvRefIdeal.τ).loc Cert.ShortconvRefIdeal.main_arg1) = m ((c.tc : Thread Cert.ShortconvRefIdeal.nD Cert.ShortconvRefIdeal.τ).loc Cert.ShortconvRefIdeal.main_arg1)
      ∧ r.2.mem ((c.tc : Thread Cert.ShortconvRefIdeal.nD Cert.ShortconvRefIdeal.τ).loc Cert.ShortconvRefIdeal.main_arg2) = m ((c.tc : Thread Cert.ShortconvRefIdeal.nD Cert.ShortconvRefIdeal.τ).loc Cert.ShortconvRefIdeal.main_arg2))
      ∧ r.2.sem = fun _ => 0)

def quiescent_Spectrum2 [hSpectrum2 : Cert.Spectrum2.Facts] : Prop :=
  ∀ (m : (ℓ : Loc Cert.Spectrum2.nD Cert.Spectrum2.τ Cert.Spectrum2.sig) → Buf (Elt Bits) ℓ) (g : Dev Cert.Spectrum2.nD → PrngReg), Pre_Spectrum2 m →
    θ_run (Cert.Spectrum2.defs (F := Bits)) (onTc (τ := Cert.Spectrum2.τ) (Cert.Spectrum2.main (F := Bits))) ⟨m, fun _ => 0, g⟩ (fun r => (∀ c : Dev Cert.Spectrum2.nD,
      r.2.mem ((c.tc : Thread Cert.Spectrum2.nD Cert.Spectrum2.τ).loc Cert.Spectrum2.main_arg0) = m ((c.tc : Thread Cert.Spectrum2.nD Cert.Spectrum2.τ).loc Cert.Spectrum2.main_arg0)
      ∧ r.2.mem ((c.tc : Thread Cert.Spectrum2.nD Cert.Spectrum2.τ).loc Cert.Spectrum2.main_arg1) = m ((c.tc : Thread Cert.Spectrum2.nD Cert.Spectrum2.τ).loc Cert.Spectrum2.main_arg1)
      ∧ r.2.mem ((c.tc : Thread Cert.Spectrum2.nD Cert.Spectrum2.τ).loc Cert.Spectrum2.main_arg2) = m ((c.tc : Thread Cert.Spectrum2.nD Cert.Spectrum2.τ).loc Cert.Spectrum2.main_arg2)
      ∧ r.2.mem ((c.tc : Thread Cert.Spectrum2.nD Cert.Spectrum2.τ).loc Cert.Spectrum2.main_arg3) = m ((c.tc : Thread Cert.Spectrum2.nD Cert.Spectrum2.τ).loc Cert.Spectrum2.main_arg3))
      ∧ r.2.sem = fun _ => 0)

def quiescent_Spectrum2Ideal [hSpectrum2Ideal : Cert.Spectrum2Ideal.Facts] : Prop :=
  ∀ (m : (ℓ : Loc Cert.Spectrum2Ideal.nD Cert.Spectrum2Ideal.τ Cert.Spectrum2Ideal.sig) → Buf (Elt Ideal) ℓ) (g : Dev Cert.Spectrum2Ideal.nD → PrngReg), Pre_Spectrum2Ideal m →
    θ_run (Cert.Spectrum2Ideal.defs (F := Ideal)) (onTc (τ := Cert.Spectrum2Ideal.τ) (Cert.Spectrum2Ideal.main (F := Ideal))) ⟨m, fun _ => 0, g⟩ (fun r => (∀ c : Dev Cert.Spectrum2Ideal.nD,
      r.2.mem ((c.tc : Thread Cert.Spectrum2Ideal.nD Cert.Spectrum2Ideal.τ).loc Cert.Spectrum2Ideal.main_arg0) = m ((c.tc : Thread Cert.Spectrum2Ideal.nD Cert.Spectrum2Ideal.τ).loc Cert.Spectrum2Ideal.main_arg0)
      ∧ r.2.mem ((c.tc : Thread Cert.Spectrum2Ideal.nD Cert.Spectrum2Ideal.τ).loc Cert.Spectrum2Ideal.main_arg1) = m ((c.tc : Thread Cert.Spectrum2Ideal.nD Cert.Spectrum2Ideal.τ).loc Cert.Spectrum2Ideal.main_arg1)
      ∧ r.2.mem ((c.tc : Thread Cert.Spectrum2Ideal.nD Cert.Spectrum2Ideal.τ).loc Cert.Spectrum2Ideal.main_arg2) = m ((c.tc : Thread Cert.Spectrum2Ideal.nD Cert.Spectrum2Ideal.τ).loc Cert.Spectrum2Ideal.main_arg2)
      ∧ r.2.mem ((c.tc : Thread Cert.Spectrum2Ideal.nD Cert.Spectrum2Ideal.τ).loc Cert.Spectrum2Ideal.main_arg3) = m ((c.tc : Thread Cert.Spectrum2Ideal.nD Cert.Spectrum2Ideal.τ).loc Cert.Spectrum2Ideal.main_arg3))
      ∧ r.2.sem = fun _ => 0)

def quiescent_Spectrum2RefIdeal [hSpectrum2RefIdeal : Cert.Spectrum2RefIdeal.Facts] : Prop :=
  ∀ (m : (ℓ : Loc Cert.Spectrum2RefIdeal.nD Cert.Spectrum2RefIdeal.τ Cert.Spectrum2RefIdeal.sig) → Buf (Elt Ideal) ℓ) (g : Dev Cert.Spectrum2RefIdeal.nD → PrngReg), Pre_Spectrum2RefIdeal m →
    θ_run (Cert.Spectrum2RefIdeal.defs (F := Ideal)) (onTc (τ := Cert.Spectrum2RefIdeal.τ) (Cert.Spectrum2RefIdeal.main (F := Ideal))) ⟨m, fun _ => 0, g⟩ (fun r => (∀ c : Dev Cert.Spectrum2RefIdeal.nD,
      r.2.mem ((c.tc : Thread Cert.Spectrum2RefIdeal.nD Cert.Spectrum2RefIdeal.τ).loc Cert.Spectrum2RefIdeal.main_arg0) = m ((c.tc : Thread Cert.Spectrum2RefIdeal.nD Cert.Spectrum2RefIdeal.τ).loc Cert.Spectrum2RefIdeal.main_arg0)
      ∧ r.2.mem ((c.tc : Thread Cert.Spectrum2RefIdeal.nD Cert.Spectrum2RefIdeal.τ).loc Cert.Spectrum2RefIdeal.main_arg1) = m ((c.tc : Thread Cert.Spectrum2RefIdeal.nD Cert.Spectrum2RefIdeal.τ).loc Cert.Spectrum2RefIdeal.main_arg1)
      ∧ r.2.mem ((c.tc : Thread Cert.Spectrum2RefIdeal.nD Cert.Spectrum2RefIdeal.τ).loc Cert.Spectrum2RefIdeal.main_arg2) = m ((c.tc : Thread Cert.Spectrum2RefIdeal.nD Cert.Spectrum2RefIdeal.τ).loc Cert.Spectrum2RefIdeal.main_arg2)
      ∧ r.2.mem ((c.tc : Thread Cert.Spectrum2RefIdeal.nD Cert.Spectrum2RefIdeal.τ).loc Cert.Spectrum2RefIdeal.main_arg3) = m ((c.tc : Thread Cert.Spectrum2RefIdeal.nD Cert.Spectrum2RefIdeal.τ).loc Cert.Spectrum2RefIdeal.main_arg3))
      ∧ r.2.sem = fun _ => 0)

def quiescent_Signal2 [hSignal2 : Cert.Signal2.Facts] : Prop :=
  ∀ (m : (ℓ : Loc Cert.Signal2.nD Cert.Signal2.τ Cert.Signal2.sig) → Buf (Elt Bits) ℓ) (g : Dev Cert.Signal2.nD → PrngReg), Pre_Signal2 m →
    θ_run (Cert.Signal2.defs (F := Bits)) (onTc (τ := Cert.Signal2.τ) (Cert.Signal2.main (F := Bits))) ⟨m, fun _ => 0, g⟩ (fun r => (∀ c : Dev Cert.Signal2.nD,
      r.2.mem ((c.tc : Thread Cert.Signal2.nD Cert.Signal2.τ).loc Cert.Signal2.main_arg0) = m ((c.tc : Thread Cert.Signal2.nD Cert.Signal2.τ).loc Cert.Signal2.main_arg0)
      ∧ r.2.mem ((c.tc : Thread Cert.Signal2.nD Cert.Signal2.τ).loc Cert.Signal2.main_arg1) = m ((c.tc : Thread Cert.Signal2.nD Cert.Signal2.τ).loc Cert.Signal2.main_arg1)
      ∧ r.2.mem ((c.tc : Thread Cert.Signal2.nD Cert.Signal2.τ).loc Cert.Signal2.main_arg2) = m ((c.tc : Thread Cert.Signal2.nD Cert.Signal2.τ).loc Cert.Signal2.main_arg2))
      ∧ r.2.sem = fun _ => 0)

def quiescent_Signal2Ideal [hSignal2Ideal : Cert.Signal2Ideal.Facts] : Prop :=
  ∀ (m : (ℓ : Loc Cert.Signal2Ideal.nD Cert.Signal2Ideal.τ Cert.Signal2Ideal.sig) → Buf (Elt Ideal) ℓ) (g : Dev Cert.Signal2Ideal.nD → PrngReg), Pre_Signal2Ideal m →
    θ_run (Cert.Signal2Ideal.defs (F := Ideal)) (onTc (τ := Cert.Signal2Ideal.τ) (Cert.Signal2Ideal.main (F := Ideal))) ⟨m, fun _ => 0, g⟩ (fun r => (∀ c : Dev Cert.Signal2Ideal.nD,
      r.2.mem ((c.tc : Thread Cert.Signal2Ideal.nD Cert.Signal2Ideal.τ).loc Cert.Signal2Ideal.main_arg0) = m ((c.tc : Thread Cert.Signal2Ideal.nD Cert.Signal2Ideal.τ).loc Cert.Signal2Ideal.main_arg0)
      ∧ r.2.mem ((c.tc : Thread Cert.Signal2Ideal.nD Cert.Signal2Ideal.τ).loc Cert.Signal2Ideal.main_arg1) = m ((c.tc : Thread Cert.Signal2Ideal.nD Cert.Signal2Ideal.τ).loc Cert.Signal2Ideal.main_arg1)
      ∧ r.2.mem ((c.tc : Thread Cert.Signal2Ideal.nD Cert.Signal2Ideal.τ).loc Cert.Signal2Ideal.main_arg2) = m ((c.tc : Thread Cert.Signal2Ideal.nD Cert.Signal2Ideal.τ).loc Cert.Signal2Ideal.main_arg2))
      ∧ r.2.sem = fun _ => 0)

def quiescent_Signal2RefIdeal [hSignal2RefIdeal : Cert.Signal2RefIdeal.Facts] : Prop :=
  ∀ (m : (ℓ : Loc Cert.Signal2RefIdeal.nD Cert.Signal2RefIdeal.τ Cert.Signal2RefIdeal.sig) → Buf (Elt Ideal) ℓ) (g : Dev Cert.Signal2RefIdeal.nD → PrngReg), Pre_Signal2RefIdeal m →
    θ_run (Cert.Signal2RefIdeal.defs (F := Ideal)) (onTc (τ := Cert.Signal2RefIdeal.τ) (Cert.Signal2RefIdeal.main (F := Ideal))) ⟨m, fun _ => 0, g⟩ (fun r => (∀ c : Dev Cert.Signal2RefIdeal.nD,
      r.2.mem ((c.tc : Thread Cert.Signal2RefIdeal.nD Cert.Signal2RefIdeal.τ).loc Cert.Signal2RefIdeal.main_arg0) = m ((c.tc : Thread Cert.Signal2RefIdeal.nD Cert.Signal2RefIdeal.τ).loc Cert.Signal2RefIdeal.main_arg0)
      ∧ r.2.mem ((c.tc : Thread Cert.Signal2RefIdeal.nD Cert.Signal2RefIdeal.τ).loc Cert.Signal2RefIdeal.main_arg1) = m ((c.tc : Thread Cert.Signal2RefIdeal.nD Cert.Signal2RefIdeal.τ).loc Cert.Signal2RefIdeal.main_arg1)
      ∧ r.2.mem ((c.tc : Thread Cert.Signal2RefIdeal.nD Cert.Signal2RefIdeal.τ).loc Cert.Signal2RefIdeal.main_arg2) = m ((c.tc : Thread Cert.Signal2RefIdeal.nD Cert.Signal2RefIdeal.τ).loc Cert.Signal2RefIdeal.main_arg2))
      ∧ r.2.sem = fun _ => 0)

def quiescent_Gated2 [hGated2 : Cert.Gated2.Facts] : Prop :=
  ∀ (m : (ℓ : Loc Cert.Gated2.nD Cert.Gated2.τ Cert.Gated2.sig) → Buf (Elt Bits) ℓ) (g : Dev Cert.Gated2.nD → PrngReg), Pre_Gated2 m →
    θ_run (Cert.Gated2.defs (F := Bits)) (onTc (τ := Cert.Gated2.τ) (Cert.Gated2.main (F := Bits))) ⟨m, fun _ => 0, g⟩ (fun r => (∀ c : Dev Cert.Gated2.nD,
      r.2.mem ((c.tc : Thread Cert.Gated2.nD Cert.Gated2.τ).loc Cert.Gated2.main_arg0) = m ((c.tc : Thread Cert.Gated2.nD Cert.Gated2.τ).loc Cert.Gated2.main_arg0)
      ∧ r.2.mem ((c.tc : Thread Cert.Gated2.nD Cert.Gated2.τ).loc Cert.Gated2.main_arg1) = m ((c.tc : Thread Cert.Gated2.nD Cert.Gated2.τ).loc Cert.Gated2.main_arg1)
      ∧ r.2.mem ((c.tc : Thread Cert.Gated2.nD Cert.Gated2.τ).loc Cert.Gated2.main_arg2) = m ((c.tc : Thread Cert.Gated2.nD Cert.Gated2.τ).loc Cert.Gated2.main_arg2)
      ∧ r.2.mem ((c.tc : Thread Cert.Gated2.nD Cert.Gated2.τ).loc Cert.Gated2.main_arg3) = m ((c.tc : Thread Cert.Gated2.nD Cert.Gated2.τ).loc Cert.Gated2.main_arg3)
      ∧ r.2.mem ((c.tc : Thread Cert.Gated2.nD Cert.Gated2.τ).loc Cert.Gated2.main_arg4) = m ((c.tc : Thread Cert.Gated2.nD Cert.Gated2.τ).loc Cert.Gated2.main_arg4)
      ∧ r.2.mem ((c.tc : Thread Cert.Gated2.nD Cert.Gated2.τ).loc Cert.Gated2.main_arg5) = m ((c.tc : Thread Cert.Gated2.nD Cert.Gated2.τ).loc Cert.Gated2.main_arg5))
      ∧ r.2.sem = fun _ => 0)

def quiescent_Gated2Ideal [hGated2Ideal : Cert.Gated2Ideal.Facts] : Prop :=
  ∀ (m : (ℓ : Loc Cert.Gated2Ideal.nD Cert.Gated2Ideal.τ Cert.Gated2Ideal.sig) → Buf (Elt Ideal) ℓ) (g : Dev Cert.Gated2Ideal.nD → PrngReg), Pre_Gated2Ideal m →
    θ_run (Cert.Gated2Ideal.defs (F := Ideal)) (onTc (τ := Cert.Gated2Ideal.τ) (Cert.Gated2Ideal.main (F := Ideal))) ⟨m, fun _ => 0, g⟩ (fun r => (∀ c : Dev Cert.Gated2Ideal.nD,
      r.2.mem ((c.tc : Thread Cert.Gated2Ideal.nD Cert.Gated2Ideal.τ).loc Cert.Gated2Ideal.main_arg0) = m ((c.tc : Thread Cert.Gated2Ideal.nD Cert.Gated2Ideal.τ).loc Cert.Gated2Ideal.main_arg0)
      ∧ r.2.mem ((c.tc : Thread Cert.Gated2Ideal.nD Cert.Gated2Ideal.τ).loc Cert.Gated2Ideal.main_arg1) = m ((c.tc : Thread Cert.Gated2Ideal.nD Cert.Gated2Ideal.τ).loc Cert.Gated2Ideal.main_arg1)
      ∧ r.2.mem ((c.tc : Thread Cert.Gated2Ideal.nD Cert.Gated2Ideal.τ).loc Cert.Gated2Ideal.main_arg2) = m ((c.tc : Thread Cert.Gated2Ideal.nD Cert.Gated2Ideal.τ).loc Cert.Gated2Ideal.main_arg2)
      ∧ r.2.mem ((c.tc : Thread Cert.Gated2Ideal.nD Cert.Gated2Ideal.τ).loc Cert.Gated2Ideal.main_arg3) = m ((c.tc : Thread Cert.Gated2Ideal.nD Cert.Gated2Ideal.τ).loc Cert.Gated2Ideal.main_arg3)
      ∧ r.2.mem ((c.tc : Thread Cert.Gated2Ideal.nD Cert.Gated2Ideal.τ).loc Cert.Gated2Ideal.main_arg4) = m ((c.tc : Thread Cert.Gated2Ideal.nD Cert.Gated2Ideal.τ).loc Cert.Gated2Ideal.main_arg4)
      ∧ r.2.mem ((c.tc : Thread Cert.Gated2Ideal.nD Cert.Gated2Ideal.τ).loc Cert.Gated2Ideal.main_arg5) = m ((c.tc : Thread Cert.Gated2Ideal.nD Cert.Gated2Ideal.τ).loc Cert.Gated2Ideal.main_arg5))
      ∧ r.2.sem = fun _ => 0)

def quiescent_Gated2RefIdeal [hGated2RefIdeal : Cert.Gated2RefIdeal.Facts] : Prop :=
  ∀ (m : (ℓ : Loc Cert.Gated2RefIdeal.nD Cert.Gated2RefIdeal.τ Cert.Gated2RefIdeal.sig) → Buf (Elt Ideal) ℓ) (g : Dev Cert.Gated2RefIdeal.nD → PrngReg), Pre_Gated2RefIdeal m →
    θ_run (Cert.Gated2RefIdeal.defs (F := Ideal)) (onTc (τ := Cert.Gated2RefIdeal.τ) (Cert.Gated2RefIdeal.main (F := Ideal))) ⟨m, fun _ => 0, g⟩ (fun r => (∀ c : Dev Cert.Gated2RefIdeal.nD,
      r.2.mem ((c.tc : Thread Cert.Gated2RefIdeal.nD Cert.Gated2RefIdeal.τ).loc Cert.Gated2RefIdeal.main_arg0) = m ((c.tc : Thread Cert.Gated2RefIdeal.nD Cert.Gated2RefIdeal.τ).loc Cert.Gated2RefIdeal.main_arg0)
      ∧ r.2.mem ((c.tc : Thread Cert.Gated2RefIdeal.nD Cert.Gated2RefIdeal.τ).loc Cert.Gated2RefIdeal.main_arg1) = m ((c.tc : Thread Cert.Gated2RefIdeal.nD Cert.Gated2RefIdeal.τ).loc Cert.Gated2RefIdeal.main_arg1)
      ∧ r.2.mem ((c.tc : Thread Cert.Gated2RefIdeal.nD Cert.Gated2RefIdeal.τ).loc Cert.Gated2RefIdeal.main_arg2) = m ((c.tc : Thread Cert.Gated2RefIdeal.nD Cert.Gated2RefIdeal.τ).loc Cert.Gated2RefIdeal.main_arg2)
      ∧ r.2.mem ((c.tc : Thread Cert.Gated2RefIdeal.nD Cert.Gated2RefIdeal.τ).loc Cert.Gated2RefIdeal.main_arg3) = m ((c.tc : Thread Cert.Gated2RefIdeal.nD Cert.Gated2RefIdeal.τ).loc Cert.Gated2RefIdeal.main_arg3)
      ∧ r.2.mem ((c.tc : Thread Cert.Gated2RefIdeal.nD Cert.Gated2RefIdeal.τ).loc Cert.Gated2RefIdeal.main_arg4) = m ((c.tc : Thread Cert.Gated2RefIdeal.nD Cert.Gated2RefIdeal.τ).loc Cert.Gated2RefIdeal.main_arg4)
      ∧ r.2.mem ((c.tc : Thread Cert.Gated2RefIdeal.nD Cert.Gated2RefIdeal.τ).loc Cert.Gated2RefIdeal.main_arg5) = m ((c.tc : Thread Cert.Gated2RefIdeal.nD Cert.Gated2RefIdeal.τ).loc Cert.Gated2RefIdeal.main_arg5))
      ∧ r.2.sem = fun _ => 0)

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v7_0)) (v1 : (c : Dev Cert.InprojIdeal.nD) → Buf (Elt Ideal) ((c.tc : Thread Cert.InprojIdeal.nD Cert.InprojIdeal.τ).loc Cert.InprojIdeal.main_v7_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7_0) = v0 c
          ∧ r.2.mem ((c.tc : Thread Cert.InprojIdeal.nD Cert.InprojIdeal.τ).loc Cert.InprojIdeal.main_v7_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v22) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)) (v2 : (c : Dev Cert.MergeIdeal.nD) → Buf (Elt Ideal) ((c.tc : Thread Cert.MergeIdeal.nD Cert.MergeIdeal.τ).loc Cert.MergeIdeal.main_v13_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_v13_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_v46) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Signal_SignalIdeal : Prop :=
  True

def algebraic_SignalIdeal_SignalRefIdeal [hSignalIdeal : Cert.SignalIdeal.Facts] [hSignalRefIdeal : Cert.SignalRefIdeal.Facts] : Prop :=
  ∀ (m : (ℓ : Loc Cert.SignalIdeal.nD Cert.SignalIdeal.τ Cert.SignalIdeal.sig) → Buf (Elt Ideal) ℓ) (g : Dev Cert.SignalIdeal.nD → PrngReg)
    (m' : (ℓ : Loc Cert.SignalRefIdeal.nD Cert.SignalRefIdeal.τ Cert.SignalRefIdeal.sig) → Buf (Elt Ideal) ℓ) (g' : Dev Cert.SignalRefIdeal.nD → PrngReg), Pre_SignalIdeal m →
    (∀ c : Dev Cert.SignalIdeal.nD,
      m' ((c.tc : Thread Cert.SignalRefIdeal.nD Cert.SignalRefIdeal.τ).loc Cert.SignalRefIdeal.main_arg0) = m ((c.tc : Thread Cert.SignalIdeal.nD Cert.SignalIdeal.τ).loc Cert.SignalIdeal.main_arg0)
      ∧ m' ((c.tc : Thread Cert.SignalRefIdeal.nD Cert.SignalRefIdeal.τ).loc Cert.SignalRefIdeal.main_arg1) = m ((c.tc : Thread Cert.SignalIdeal.nD Cert.SignalIdeal.τ).loc Cert.SignalIdeal.main_arg1)
      ∧ m' ((c.tc : Thread Cert.SignalRefIdeal.nD Cert.SignalRefIdeal.τ).loc Cert.SignalRefIdeal.main_arg2) = m ((c.tc : Thread Cert.SignalIdeal.nD Cert.SignalIdeal.τ).loc Cert.SignalIdeal.main_arg2)) →
    ∃ (v0 : (c : Dev Cert.SignalIdeal.nD) → Buf (Elt Ideal) ((c.tc : Thread Cert.SignalIdeal.nD Cert.SignalIdeal.τ).loc Cert.SignalIdeal.main_v5)),
      θ_run (Cert.SignalIdeal.defs (F := Ideal)) (onTc (τ := Cert.SignalIdeal.τ) (Cert.SignalIdeal.main (F := Ideal))) ⟨m, fun _ => 0, g⟩ (fun r => ∀ c : Dev Cert.SignalIdeal.nD,
          r.2.mem ((c.tc : Thread Cert.SignalIdeal.nD Cert.SignalIdeal.τ).loc Cert.SignalIdeal.main_v5) = v0 c
          ∧ r.2.mem ((c.tc : Thread Cert.SignalIdeal.nD Cert.SignalIdeal.τ).loc Cert.SignalIdeal.main_arg0) = m ((c.tc : Thread Cert.SignalIdeal.nD Cert.SignalIdeal.τ).loc Cert.SignalIdeal.main_arg0)
          ∧ r.2.mem ((c.tc : Thread Cert.SignalIdeal.nD Cert.SignalIdeal.τ).loc Cert.SignalIdeal.main_arg1) = m ((c.tc : Thread Cert.SignalIdeal.nD Cert.SignalIdeal.τ).loc Cert.SignalIdeal.main_arg1)
          ∧ r.2.mem ((c.tc : Thread Cert.SignalIdeal.nD Cert.SignalIdeal.τ).loc Cert.SignalIdeal.main_arg2) = m ((c.tc : Thread Cert.SignalIdeal.nD Cert.SignalIdeal.τ).loc Cert.SignalIdeal.main_arg2))
      ∧ θ_run (Cert.SignalRefIdeal.defs (F := Ideal)) (onTc (τ := Cert.SignalRefIdeal.τ) (Cert.SignalRefIdeal.main (F := Ideal))) ⟨m', fun _ => 0, g'⟩ (fun r => ∀ c : Dev Cert.SignalRefIdeal.nD,
          r.2.mem ((c.tc : Thread Cert.SignalRefIdeal.nD Cert.SignalRefIdeal.τ).loc Cert.SignalRefIdeal.main_v15) = v0 c
          ∧ r.2.mem ((c.tc : Thread Cert.SignalRefIdeal.nD Cert.SignalRefIdeal.τ).loc Cert.SignalRefIdeal.main_arg0) = m' ((c.tc : Thread Cert.SignalRefIdeal.nD Cert.SignalRefIdeal.τ).loc Cert.SignalRefIdeal.main_arg0)
          ∧ r.2.mem ((c.tc : Thread Cert.SignalRefIdeal.nD Cert.SignalRefIdeal.τ).loc Cert.SignalRefIdeal.main_arg1) = m' ((c.tc : Thread Cert.SignalRefIdeal.nD Cert.SignalRefIdeal.τ).loc Cert.SignalRefIdeal.main_arg1)
          ∧ r.2.mem ((c.tc : Thread Cert.SignalRefIdeal.nD Cert.SignalRefIdeal.τ).loc Cert.SignalRefIdeal.main_arg2) = m' ((c.tc : Thread Cert.SignalRefIdeal.nD Cert.SignalRefIdeal.τ).loc Cert.SignalRefIdeal.main_arg2))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)) →
    ∃ (v0 : (c : Dev Cert.GatedIdeal.nD) → Buf (Elt Ideal) ((c.tc : Thread Cert.GatedIdeal.nD Cert.GatedIdeal.τ).loc Cert.GatedIdeal.main_v5)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v5) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v24) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4))

def preserves_Realdft_RealdftIdeal : Prop :=
  True

def algebraic_RealdftIdeal_RealdftRefIdeal [hRealdftIdeal : Cert.RealdftIdeal.Facts] [hRealdftRefIdeal : Cert.RealdftRefIdeal.Facts] : Prop :=
  ∀ (m : (ℓ : Loc Cert.RealdftIdeal.nD Cert.RealdftIdeal.τ Cert.RealdftIdeal.sig) → Buf (Elt Ideal) ℓ) (g : Dev Cert.RealdftIdeal.nD → PrngReg)
    (m' : (ℓ : Loc Cert.RealdftRefIdeal.nD Cert.RealdftRefIdeal.τ Cert.RealdftRefIdeal.sig) → Buf (Elt Ideal) ℓ) (g' : Dev Cert.RealdftRefIdeal.nD → PrngReg), Pre_RealdftIdeal m →
    (∀ c : Dev Cert.RealdftIdeal.nD,
      m' ((c.tc : Thread Cert.RealdftRefIdeal.nD Cert.RealdftRefIdeal.τ).loc Cert.RealdftRefIdeal.main_arg0) = m ((c.tc : Thread Cert.RealdftIdeal.nD Cert.RealdftIdeal.τ).loc Cert.RealdftIdeal.main_arg0)
      ∧ m' ((c.tc : Thread Cert.RealdftRefIdeal.nD Cert.RealdftRefIdeal.τ).loc Cert.RealdftRefIdeal.main_arg1) = m ((c.tc : Thread Cert.RealdftIdeal.nD Cert.RealdftIdeal.τ).loc Cert.RealdftIdeal.main_arg1)
      ∧ m' ((c.tc : Thread Cert.RealdftRefIdeal.nD Cert.RealdftRefIdeal.τ).loc Cert.RealdftRefIdeal.main_arg2) = m ((c.tc : Thread Cert.RealdftIdeal.nD Cert.RealdftIdeal.τ).loc Cert.RealdftIdeal.main_arg2)) →
    ∃ (v0 : (c : Dev Cert.RealdftIdeal.nD) → Buf (Elt Ideal) ((c.tc : Thread Cert.RealdftIdeal.nD Cert.RealdftIdeal.τ).loc Cert.RealdftIdeal.main_v2)),
      θ_run (Cert.RealdftIdeal.defs (F := Ideal)) (onTc (τ := Cert.RealdftIdeal.τ) (Cert.RealdftIdeal.main (F := Ideal))) ⟨m, fun _ => 0, g⟩ (fun r => ∀ c : Dev Cert.RealdftIdeal.nD,
          r.2.mem ((c.tc : Thread Cert.RealdftIdeal.nD Cert.RealdftIdeal.τ).loc Cert.RealdftIdeal.main_v2) = v0 c
          ∧ r.2.mem ((c.tc : Thread Cert.RealdftIdeal.nD Cert.RealdftIdeal.τ).loc Cert.RealdftIdeal.main_arg0) = m ((c.tc : Thread Cert.RealdftIdeal.nD Cert.RealdftIdeal.τ).loc Cert.RealdftIdeal.main_arg0)
          ∧ r.2.mem ((c.tc : Thread Cert.RealdftIdeal.nD Cert.RealdftIdeal.τ).loc Cert.RealdftIdeal.main_arg1) = m ((c.tc : Thread Cert.RealdftIdeal.nD Cert.RealdftIdeal.τ).loc Cert.RealdftIdeal.main_arg1)
          ∧ r.2.mem ((c.tc : Thread Cert.RealdftIdeal.nD Cert.RealdftIdeal.τ).loc Cert.RealdftIdeal.main_arg2) = m ((c.tc : Thread Cert.RealdftIdeal.nD Cert.RealdftIdeal.τ).loc Cert.RealdftIdeal.main_arg2))
      ∧ θ_run (Cert.RealdftRefIdeal.defs (F := Ideal)) (onTc (τ := Cert.RealdftRefIdeal.τ) (Cert.RealdftRefIdeal.main (F := Ideal))) ⟨m', fun _ => 0, g'⟩ (fun r => ∀ c : Dev Cert.RealdftRefIdeal.nD,
          r.2.mem ((c.tc : Thread Cert.RealdftRefIdeal.nD Cert.RealdftRefIdeal.τ).loc Cert.RealdftRefIdeal.main_v9) = v0 c
          ∧ r.2.mem ((c.tc : Thread Cert.RealdftRefIdeal.nD Cert.RealdftRefIdeal.τ).loc Cert.RealdftRefIdeal.main_arg0) = m' ((c.tc : Thread Cert.RealdftRefIdeal.nD Cert.RealdftRefIdeal.τ).loc Cert.RealdftRefIdeal.main_arg0)
          ∧ r.2.mem ((c.tc : Thread Cert.RealdftRefIdeal.nD Cert.RealdftRefIdeal.τ).loc Cert.RealdftRefIdeal.main_arg1) = m' ((c.tc : Thread Cert.RealdftRefIdeal.nD Cert.RealdftRefIdeal.τ).loc Cert.RealdftRefIdeal.main_arg1)
          ∧ r.2.mem ((c.tc : Thread Cert.RealdftRefIdeal.nD Cert.RealdftRefIdeal.τ).loc Cert.RealdftRefIdeal.main_arg2) = m' ((c.tc : Thread Cert.RealdftRefIdeal.nD Cert.RealdftRefIdeal.τ).loc Cert.RealdftRefIdeal.main_arg2))

def preserves_Tapdft_TapdftIdeal : Prop :=
  True

def algebraic_TapdftIdeal_TapdftRefIdeal [hTapdftIdeal : Cert.TapdftIdeal.Facts] [hTapdftRefIdeal : Cert.TapdftRefIdeal.Facts] : Prop :=
  ∀ (m : (ℓ : Loc Cert.TapdftIdeal.nD Cert.TapdftIdeal.τ Cert.TapdftIdeal.sig) → Buf (Elt Ideal) ℓ) (g : Dev Cert.TapdftIdeal.nD → PrngReg)
    (m' : (ℓ : Loc Cert.TapdftRefIdeal.nD Cert.TapdftRefIdeal.τ Cert.TapdftRefIdeal.sig) → Buf (Elt Ideal) ℓ) (g' : Dev Cert.TapdftRefIdeal.nD → PrngReg), Pre_TapdftIdeal m →
    (∀ c : Dev Cert.TapdftIdeal.nD,
      m' ((c.tc : Thread Cert.TapdftRefIdeal.nD Cert.TapdftRefIdeal.τ).loc Cert.TapdftRefIdeal.main_arg0) = m ((c.tc : Thread Cert.TapdftIdeal.nD Cert.TapdftIdeal.τ).loc Cert.TapdftIdeal.main_arg0)
      ∧ m' ((c.tc : Thread Cert.TapdftRefIdeal.nD Cert.TapdftRefIdeal.τ).loc Cert.TapdftRefIdeal.main_arg1) = m ((c.tc : Thread Cert.TapdftIdeal.nD Cert.TapdftIdeal.τ).loc Cert.TapdftIdeal.main_arg1)
      ∧ m' ((c.tc : Thread Cert.TapdftRefIdeal.nD Cert.TapdftRefIdeal.τ).loc Cert.TapdftRefIdeal.main_arg2) = m ((c.tc : Thread Cert.TapdftIdeal.nD Cert.TapdftIdeal.τ).loc Cert.TapdftIdeal.main_arg2)) →
    ∃ (v0 : (c : Dev Cert.TapdftIdeal.nD) → Buf (Elt Ideal) ((c.tc : Thread Cert.TapdftIdeal.nD Cert.TapdftIdeal.τ).loc Cert.TapdftIdeal.main_v3)),
      θ_run (Cert.TapdftIdeal.defs (F := Ideal)) (onTc (τ := Cert.TapdftIdeal.τ) (Cert.TapdftIdeal.main (F := Ideal))) ⟨m, fun _ => 0, g⟩ (fun r => ∀ c : Dev Cert.TapdftIdeal.nD,
          r.2.mem ((c.tc : Thread Cert.TapdftIdeal.nD Cert.TapdftIdeal.τ).loc Cert.TapdftIdeal.main_v3) = v0 c
          ∧ r.2.mem ((c.tc : Thread Cert.TapdftIdeal.nD Cert.TapdftIdeal.τ).loc Cert.TapdftIdeal.main_arg0) = m ((c.tc : Thread Cert.TapdftIdeal.nD Cert.TapdftIdeal.τ).loc Cert.TapdftIdeal.main_arg0)
          ∧ r.2.mem ((c.tc : Thread Cert.TapdftIdeal.nD Cert.TapdftIdeal.τ).loc Cert.TapdftIdeal.main_arg1) = m ((c.tc : Thread Cert.TapdftIdeal.nD Cert.TapdftIdeal.τ).loc Cert.TapdftIdeal.main_arg1)
          ∧ r.2.mem ((c.tc : Thread Cert.TapdftIdeal.nD Cert.TapdftIdeal.τ).loc Cert.TapdftIdeal.main_arg2) = m ((c.tc : Thread Cert.TapdftIdeal.nD Cert.TapdftIdeal.τ).loc Cert.TapdftIdeal.main_arg2))
      ∧ θ_run (Cert.TapdftRefIdeal.defs (F := Ideal)) (onTc (τ := Cert.TapdftRefIdeal.τ) (Cert.TapdftRefIdeal.main (F := Ideal))) ⟨m', fun _ => 0, g'⟩ (fun r => ∀ c : Dev Cert.TapdftRefIdeal.nD,
          r.2.mem ((c.tc : Thread Cert.TapdftRefIdeal.nD Cert.TapdftRefIdeal.τ).loc Cert.TapdftRefIdeal.main_v7) = v0 c
          ∧ r.2.mem ((c.tc : Thread Cert.TapdftRefIdeal.nD Cert.TapdftRefIdeal.τ).loc Cert.TapdftRefIdeal.main_arg0) = m' ((c.tc : Thread Cert.TapdftRefIdeal.nD Cert.TapdftRefIdeal.τ).loc Cert.TapdftRefIdeal.main_arg0)
          ∧ r.2.mem ((c.tc : Thread Cert.TapdftRefIdeal.nD Cert.TapdftRefIdeal.τ).loc Cert.TapdftRefIdeal.main_arg1) = m' ((c.tc : Thread Cert.TapdftRefIdeal.nD Cert.TapdftRefIdeal.τ).loc Cert.TapdftRefIdeal.main_arg1)
          ∧ r.2.mem ((c.tc : Thread Cert.TapdftRefIdeal.nD Cert.TapdftRefIdeal.τ).loc Cert.TapdftRefIdeal.main_arg2) = m' ((c.tc : Thread Cert.TapdftRefIdeal.nD Cert.TapdftRefIdeal.τ).loc Cert.TapdftRefIdeal.main_arg2))

def preserves_Table_TableIdeal : Prop :=
  True

def algebraic_TableIdeal_TableRefIdeal [hTableIdeal : Cert.TableIdeal.Facts] [hTableRefIdeal : Cert.TableRefIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableRefIdeal.nD Cert.TableRefIdeal.τ Cert.TableRefIdeal.sig) → Buf (Elt Ideal) ℓ) (g' : Dev Cert.TableRefIdeal.nD → PrngReg), Pre_TableIdeal m →
    (∀ c : Dev Cert.TableIdeal.nD,
      m' ((c.tc : Thread Cert.TableRefIdeal.nD Cert.TableRefIdeal.τ).loc Cert.TableRefIdeal.main_arg0) = m ((c.tc : Thread Cert.TableIdeal.nD Cert.TableIdeal.τ).loc Cert.TableIdeal.main_arg0)) →
    ∃ (v0 : (c : Dev Cert.TableIdeal.nD) → Buf (Elt Ideal) ((c.tc : Thread Cert.TableIdeal.nD Cert.TableIdeal.τ).loc Cert.TableIdeal.main_v1)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v1) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0))
      ∧ θ_run (Cert.TableRefIdeal.defs (F := Ideal)) (onTc (τ := Cert.TableRefIdeal.τ) (Cert.TableRefIdeal.main (F := Ideal))) ⟨m', fun _ => 0, g'⟩ (fun r => ∀ c : Dev Cert.TableRefIdeal.nD,
          r.2.mem ((c.tc : Thread Cert.TableRefIdeal.nD Cert.TableRefIdeal.τ).loc Cert.TableRefIdeal.main_v2) = v0 c
          ∧ r.2.mem ((c.tc : Thread Cert.TableRefIdeal.nD Cert.TableRefIdeal.τ).loc Cert.TableRefIdeal.main_arg0) = m' ((c.tc : Thread Cert.TableRefIdeal.nD Cert.TableRefIdeal.τ).loc Cert.TableRefIdeal.main_arg0))

def preserves_Posdft_PosdftIdeal : Prop :=
  True

def algebraic_PosdftIdeal_PosdftRefIdeal [hPosdftIdeal : Cert.PosdftIdeal.Facts] [hPosdftRefIdeal : Cert.PosdftRefIdeal.Facts] : Prop :=
  ∀ (m : (ℓ : Loc Cert.PosdftIdeal.nD Cert.PosdftIdeal.τ Cert.PosdftIdeal.sig) → Buf (Elt Ideal) ℓ) (g : Dev Cert.PosdftIdeal.nD → PrngReg)
    (m' : (ℓ : Loc Cert.PosdftRefIdeal.nD Cert.PosdftRefIdeal.τ Cert.PosdftRefIdeal.sig) → Buf (Elt Ideal) ℓ) (g' : Dev Cert.PosdftRefIdeal.nD → PrngReg), Pre_PosdftIdeal m →
    (∀ c : Dev Cert.PosdftIdeal.nD,
      m' ((c.tc : Thread Cert.PosdftRefIdeal.nD Cert.PosdftRefIdeal.τ).loc Cert.PosdftRefIdeal.main_arg0) = m ((c.tc : Thread Cert.PosdftIdeal.nD Cert.PosdftIdeal.τ).loc Cert.PosdftIdeal.main_arg0)
      ∧ m' ((c.tc : Thread Cert.PosdftRefIdeal.nD Cert.PosdftRefIdeal.τ).loc Cert.PosdftRefIdeal.main_arg1) = m ((c.tc : Thread Cert.PosdftIdeal.nD Cert.PosdftIdeal.τ).loc Cert.PosdftIdeal.main_arg1)
      ∧ m' ((c.tc : Thread Cert.PosdftRefIdeal.nD Cert.PosdftRefIdeal.τ).loc Cert.PosdftRefIdeal.main_arg2) = m ((c.tc : Thread Cert.PosdftIdeal.nD Cert.PosdftIdeal.τ).loc Cert.PosdftIdeal.main_arg2)) →
    ∃ (v0 : (c : Dev Cert.PosdftIdeal.nD) → Buf (Elt Ideal) ((c.tc : Thread Cert.PosdftIdeal.nD Cert.PosdftIdeal.τ).loc Cert.PosdftIdeal.main_v5)),
      θ_run (Cert.PosdftIdeal.defs (F := Ideal)) (onTc (τ := Cert.PosdftIdeal.τ) (Cert.PosdftIdeal.main (F := Ideal))) ⟨m, fun _ => 0, g⟩ (fun r => ∀ c : Dev Cert.PosdftIdeal.nD,
          r.2.mem ((c.tc : Thread Cert.PosdftIdeal.nD Cert.PosdftIdeal.τ).loc Cert.PosdftIdeal.main_v5) = v0 c
          ∧ r.2.mem ((c.tc : Thread Cert.PosdftIdeal.nD Cert.PosdftIdeal.τ).loc Cert.PosdftIdeal.main_arg0) = m ((c.tc : Thread Cert.PosdftIdeal.nD Cert.PosdftIdeal.τ).loc Cert.PosdftIdeal.main_arg0)
          ∧ r.2.mem ((c.tc : Thread Cert.PosdftIdeal.nD Cert.PosdftIdeal.τ).loc Cert.PosdftIdeal.main_arg1) = m ((c.tc : Thread Cert.PosdftIdeal.nD Cert.PosdftIdeal.τ).loc Cert.PosdftIdeal.main_arg1)
          ∧ r.2.mem ((c.tc : Thread Cert.PosdftIdeal.nD Cert.PosdftIdeal.τ).loc Cert.PosdftIdeal.main_arg2) = m ((c.tc : Thread Cert.PosdftIdeal.nD Cert.PosdftIdeal.τ).loc Cert.PosdftIdeal.main_arg2))
      ∧ θ_run (Cert.PosdftRefIdeal.defs (F := Ideal)) (onTc (τ := Cert.PosdftRefIdeal.τ) (Cert.PosdftRefIdeal.main (F := Ideal))) ⟨m', fun _ => 0, g'⟩ (fun r => ∀ c : Dev Cert.PosdftRefIdeal.nD,
          r.2.mem ((c.tc : Thread Cert.PosdftRefIdeal.nD Cert.PosdftRefIdeal.τ).loc Cert.PosdftRefIdeal.main_v20) = v0 c
          ∧ r.2.mem ((c.tc : Thread Cert.PosdftRefIdeal.nD Cert.PosdftRefIdeal.τ).loc Cert.PosdftRefIdeal.main_arg0) = m' ((c.tc : Thread Cert.PosdftRefIdeal.nD Cert.PosdftRefIdeal.τ).loc Cert.PosdftRefIdeal.main_arg0)
          ∧ r.2.mem ((c.tc : Thread Cert.PosdftRefIdeal.nD Cert.PosdftRefIdeal.τ).loc Cert.PosdftRefIdeal.main_arg1) = m' ((c.tc : Thread Cert.PosdftRefIdeal.nD Cert.PosdftRefIdeal.τ).loc Cert.PosdftRefIdeal.main_arg1)
          ∧ r.2.mem ((c.tc : Thread Cert.PosdftRefIdeal.nD Cert.PosdftRefIdeal.τ).loc Cert.PosdftRefIdeal.main_arg2) = m' ((c.tc : Thread Cert.PosdftRefIdeal.nD Cert.PosdftRefIdeal.τ).loc Cert.PosdftRefIdeal.main_arg2))

def preserves_Filtspec_FiltspecIdeal : Prop :=
  True

def algebraic_FiltspecIdeal_FiltspecRefIdeal [hFiltspecIdeal : Cert.FiltspecIdeal.Facts] [hFiltspecRefIdeal : Cert.FiltspecRefIdeal.Facts] : Prop :=
  ∀ (m : (ℓ : Loc Cert.FiltspecIdeal.nD Cert.FiltspecIdeal.τ Cert.FiltspecIdeal.sig) → Buf (Elt Ideal) ℓ) (g : Dev Cert.FiltspecIdeal.nD → PrngReg)
    (m' : (ℓ : Loc Cert.FiltspecRefIdeal.nD Cert.FiltspecRefIdeal.τ Cert.FiltspecRefIdeal.sig) → Buf (Elt Ideal) ℓ) (g' : Dev Cert.FiltspecRefIdeal.nD → PrngReg), Pre_FiltspecIdeal m →
    (∀ c : Dev Cert.FiltspecIdeal.nD,
      m' ((c.tc : Thread Cert.FiltspecRefIdeal.nD Cert.FiltspecRefIdeal.τ).loc Cert.FiltspecRefIdeal.main_arg0) = m ((c.tc : Thread Cert.FiltspecIdeal.nD Cert.FiltspecIdeal.τ).loc Cert.FiltspecIdeal.main_arg0)
      ∧ m' ((c.tc : Thread Cert.FiltspecRefIdeal.nD Cert.FiltspecRefIdeal.τ).loc Cert.FiltspecRefIdeal.main_arg1) = m ((c.tc : Thread Cert.FiltspecIdeal.nD Cert.FiltspecIdeal.τ).loc Cert.FiltspecIdeal.main_arg1)
      ∧ m' ((c.tc : Thread Cert.FiltspecRefIdeal.nD Cert.FiltspecRefIdeal.τ).loc Cert.FiltspecRefIdeal.main_arg2) = m ((c.tc : Thread Cert.FiltspecIdeal.nD Cert.FiltspecIdeal.τ).loc Cert.FiltspecIdeal.main_arg2)
      ∧ m' ((c.tc : Thread Cert.FiltspecRefIdeal.nD Cert.FiltspecRefIdeal.τ).loc Cert.FiltspecRefIdeal.main_arg3) = m ((c.tc : Thread Cert.FiltspecIdeal.nD Cert.FiltspecIdeal.τ).loc Cert.FiltspecIdeal.main_arg3)) →
    ∃ (v0 : (c : Dev Cert.FiltspecIdeal.nD) → Buf (Elt Ideal) ((c.tc : Thread Cert.FiltspecIdeal.nD Cert.FiltspecIdeal.τ).loc Cert.FiltspecIdeal.main_v5)),
      θ_run (Cert.FiltspecIdeal.defs (F := Ideal)) (onTc (τ := Cert.FiltspecIdeal.τ) (Cert.FiltspecIdeal.main (F := Ideal))) ⟨m, fun _ => 0, g⟩ (fun r => ∀ c : Dev Cert.FiltspecIdeal.nD,
          r.2.mem ((c.tc : Thread Cert.FiltspecIdeal.nD Cert.FiltspecIdeal.τ).loc Cert.FiltspecIdeal.main_v5) = v0 c
          ∧ r.2.mem ((c.tc : Thread Cert.FiltspecIdeal.nD Cert.FiltspecIdeal.τ).loc Cert.FiltspecIdeal.main_arg0) = m ((c.tc : Thread Cert.FiltspecIdeal.nD Cert.FiltspecIdeal.τ).loc Cert.FiltspecIdeal.main_arg0)
          ∧ r.2.mem ((c.tc : Thread Cert.FiltspecIdeal.nD Cert.FiltspecIdeal.τ).loc Cert.FiltspecIdeal.main_arg1) = m ((c.tc : Thread Cert.FiltspecIdeal.nD Cert.FiltspecIdeal.τ).loc Cert.FiltspecIdeal.main_arg1)
          ∧ r.2.mem ((c.tc : Thread Cert.FiltspecIdeal.nD Cert.FiltspecIdeal.τ).loc Cert.FiltspecIdeal.main_arg2) = m ((c.tc : Thread Cert.FiltspecIdeal.nD Cert.FiltspecIdeal.τ).loc Cert.FiltspecIdeal.main_arg2)
          ∧ r.2.mem ((c.tc : Thread Cert.FiltspecIdeal.nD Cert.FiltspecIdeal.τ).loc Cert.FiltspecIdeal.main_arg3) = m ((c.tc : Thread Cert.FiltspecIdeal.nD Cert.FiltspecIdeal.τ).loc Cert.FiltspecIdeal.main_arg3))
      ∧ θ_run (Cert.FiltspecRefIdeal.defs (F := Ideal)) (onTc (τ := Cert.FiltspecRefIdeal.τ) (Cert.FiltspecRefIdeal.main (F := Ideal))) ⟨m', fun _ => 0, g'⟩ (fun r => ∀ c : Dev Cert.FiltspecRefIdeal.nD,
          r.2.mem ((c.tc : Thread Cert.FiltspecRefIdeal.nD Cert.FiltspecRefIdeal.τ).loc Cert.FiltspecRefIdeal.main_v24) = v0 c
          ∧ r.2.mem ((c.tc : Thread Cert.FiltspecRefIdeal.nD Cert.FiltspecRefIdeal.τ).loc Cert.FiltspecRefIdeal.main_arg0) = m' ((c.tc : Thread Cert.FiltspecRefIdeal.nD Cert.FiltspecRefIdeal.τ).loc Cert.FiltspecRefIdeal.main_arg0)
          ∧ r.2.mem ((c.tc : Thread Cert.FiltspecRefIdeal.nD Cert.FiltspecRefIdeal.τ).loc Cert.FiltspecRefIdeal.main_arg1) = m' ((c.tc : Thread Cert.FiltspecRefIdeal.nD Cert.FiltspecRefIdeal.τ).loc Cert.FiltspecRefIdeal.main_arg1)
          ∧ r.2.mem ((c.tc : Thread Cert.FiltspecRefIdeal.nD Cert.FiltspecRefIdeal.τ).loc Cert.FiltspecRefIdeal.main_arg2) = m' ((c.tc : Thread Cert.FiltspecRefIdeal.nD Cert.FiltspecRefIdeal.τ).loc Cert.FiltspecRefIdeal.main_arg2)
          ∧ r.2.mem ((c.tc : Thread Cert.FiltspecRefIdeal.nD Cert.FiltspecRefIdeal.τ).loc Cert.FiltspecRefIdeal.main_arg3) = m' ((c.tc : Thread Cert.FiltspecRefIdeal.nD Cert.FiltspecRefIdeal.τ).loc Cert.FiltspecRefIdeal.main_arg3))

def preserves_Spectrum_SpectrumIdeal : Prop :=
  True

def algebraic_SpectrumIdeal_SpectrumRefIdeal [hSpectrumIdeal : Cert.SpectrumIdeal.Facts] [hSpectrumRefIdeal : Cert.SpectrumRefIdeal.Facts] : Prop :=
  ∀ (m : (ℓ : Loc Cert.SpectrumIdeal.nD Cert.SpectrumIdeal.τ Cert.SpectrumIdeal.sig) → Buf (Elt Ideal) ℓ) (g : Dev Cert.SpectrumIdeal.nD → PrngReg)
    (m' : (ℓ : Loc Cert.SpectrumRefIdeal.nD Cert.SpectrumRefIdeal.τ Cert.SpectrumRefIdeal.sig) → Buf (Elt Ideal) ℓ) (g' : Dev Cert.SpectrumRefIdeal.nD → PrngReg), Pre_SpectrumIdeal m →
    (∀ c : Dev Cert.SpectrumIdeal.nD,
      m' ((c.tc : Thread Cert.SpectrumRefIdeal.nD Cert.SpectrumRefIdeal.τ).loc Cert.SpectrumRefIdeal.main_arg0) = m ((c.tc : Thread Cert.SpectrumIdeal.nD Cert.SpectrumIdeal.τ).loc Cert.SpectrumIdeal.main_arg0)
      ∧ m' ((c.tc : Thread Cert.SpectrumRefIdeal.nD Cert.SpectrumRefIdeal.τ).loc Cert.SpectrumRefIdeal.main_arg1) = m ((c.tc : Thread Cert.SpectrumIdeal.nD Cert.SpectrumIdeal.τ).loc Cert.SpectrumIdeal.main_arg1)
      ∧ m' ((c.tc : Thread Cert.SpectrumRefIdeal.nD Cert.SpectrumRefIdeal.τ).loc Cert.SpectrumRefIdeal.main_arg2) = m ((c.tc : Thread Cert.SpectrumIdeal.nD Cert.SpectrumIdeal.τ).loc Cert.SpectrumIdeal.main_arg2)
      ∧ m' ((c.tc : Thread Cert.SpectrumRefIdeal.nD Cert.SpectrumRefIdeal.τ).loc Cert.SpectrumRefIdeal.main_arg3) = m ((c.tc : Thread Cert.SpectrumIdeal.nD Cert.SpectrumIdeal.τ).loc Cert.SpectrumIdeal.main_arg3)) →
    ∃ (v0 : (c : Dev Cert.SpectrumIdeal.nD) → Buf (Elt Ideal) ((c.tc : Thread Cert.SpectrumIdeal.nD Cert.SpectrumIdeal.τ).loc Cert.SpectrumIdeal.main_v7)),
      θ_run (Cert.SpectrumIdeal.defs (F := Ideal)) (onTc (τ := Cert.SpectrumIdeal.τ) (Cert.SpectrumIdeal.main (F := Ideal))) ⟨m, fun _ => 0, g⟩ (fun r => ∀ c : Dev Cert.SpectrumIdeal.nD,
          r.2.mem ((c.tc : Thread Cert.SpectrumIdeal.nD Cert.SpectrumIdeal.τ).loc Cert.SpectrumIdeal.main_v7) = v0 c
          ∧ r.2.mem ((c.tc : Thread Cert.SpectrumIdeal.nD Cert.SpectrumIdeal.τ).loc Cert.SpectrumIdeal.main_arg0) = m ((c.tc : Thread Cert.SpectrumIdeal.nD Cert.SpectrumIdeal.τ).loc Cert.SpectrumIdeal.main_arg0)
          ∧ r.2.mem ((c.tc : Thread Cert.SpectrumIdeal.nD Cert.SpectrumIdeal.τ).loc Cert.SpectrumIdeal.main_arg1) = m ((c.tc : Thread Cert.SpectrumIdeal.nD Cert.SpectrumIdeal.τ).loc Cert.SpectrumIdeal.main_arg1)
          ∧ r.2.mem ((c.tc : Thread Cert.SpectrumIdeal.nD Cert.SpectrumIdeal.τ).loc Cert.SpectrumIdeal.main_arg2) = m ((c.tc : Thread Cert.SpectrumIdeal.nD Cert.SpectrumIdeal.τ).loc Cert.SpectrumIdeal.main_arg2)
          ∧ r.2.mem ((c.tc : Thread Cert.SpectrumIdeal.nD Cert.SpectrumIdeal.τ).loc Cert.SpectrumIdeal.main_arg3) = m ((c.tc : Thread Cert.SpectrumIdeal.nD Cert.SpectrumIdeal.τ).loc Cert.SpectrumIdeal.main_arg3))
      ∧ θ_run (Cert.SpectrumRefIdeal.defs (F := Ideal)) (onTc (τ := Cert.SpectrumRefIdeal.τ) (Cert.SpectrumRefIdeal.main (F := Ideal))) ⟨m', fun _ => 0, g'⟩ (fun r => ∀ c : Dev Cert.SpectrumRefIdeal.nD,
          r.2.mem ((c.tc : Thread Cert.SpectrumRefIdeal.nD Cert.SpectrumRefIdeal.τ).loc Cert.SpectrumRefIdeal.main_v37) = v0 c
          ∧ r.2.mem ((c.tc : Thread Cert.SpectrumRefIdeal.nD Cert.SpectrumRefIdeal.τ).loc Cert.SpectrumRefIdeal.main_arg0) = m' ((c.tc : Thread Cert.SpectrumRefIdeal.nD Cert.SpectrumRefIdeal.τ).loc Cert.SpectrumRefIdeal.main_arg0)
          ∧ r.2.mem ((c.tc : Thread Cert.SpectrumRefIdeal.nD Cert.SpectrumRefIdeal.τ).loc Cert.SpectrumRefIdeal.main_arg1) = m' ((c.tc : Thread Cert.SpectrumRefIdeal.nD Cert.SpectrumRefIdeal.τ).loc Cert.SpectrumRefIdeal.main_arg1)
          ∧ r.2.mem ((c.tc : Thread Cert.SpectrumRefIdeal.nD Cert.SpectrumRefIdeal.τ).loc Cert.SpectrumRefIdeal.main_arg2) = m' ((c.tc : Thread Cert.SpectrumRefIdeal.nD Cert.SpectrumRefIdeal.τ).loc Cert.SpectrumRefIdeal.main_arg2)
          ∧ r.2.mem ((c.tc : Thread Cert.SpectrumRefIdeal.nD Cert.SpectrumRefIdeal.τ).loc Cert.SpectrumRefIdeal.main_arg3) = m' ((c.tc : Thread Cert.SpectrumRefIdeal.nD Cert.SpectrumRefIdeal.τ).loc Cert.SpectrumRefIdeal.main_arg3))

def preserves_Chandft_ChandftIdeal : Prop :=
  True

def algebraic_ChandftIdeal_ChandftRefIdeal [hChandftIdeal : Cert.ChandftIdeal.Facts] [hChandftRefIdeal : Cert.ChandftRefIdeal.Facts] : Prop :=
  ∀ (m : (ℓ : Loc Cert.ChandftIdeal.nD Cert.ChandftIdeal.τ Cert.ChandftIdeal.sig) → Buf (Elt Ideal) ℓ) (g : Dev Cert.ChandftIdeal.nD → PrngReg)
    (m' : (ℓ : Loc Cert.ChandftRefIdeal.nD Cert.ChandftRefIdeal.τ Cert.ChandftRefIdeal.sig) → Buf (Elt Ideal) ℓ) (g' : Dev Cert.ChandftRefIdeal.nD → PrngReg), Pre_ChandftIdeal m →
    (∀ c : Dev Cert.ChandftIdeal.nD,
      m' ((c.tc : Thread Cert.ChandftRefIdeal.nD Cert.ChandftRefIdeal.τ).loc Cert.ChandftRefIdeal.main_arg0) = m ((c.tc : Thread Cert.ChandftIdeal.nD Cert.ChandftIdeal.τ).loc Cert.ChandftIdeal.main_arg0)
      ∧ m' ((c.tc : Thread Cert.ChandftRefIdeal.nD Cert.ChandftRefIdeal.τ).loc Cert.ChandftRefIdeal.main_arg1) = m ((c.tc : Thread Cert.ChandftIdeal.nD Cert.ChandftIdeal.τ).loc Cert.ChandftIdeal.main_arg1)
      ∧ m' ((c.tc : Thread Cert.ChandftRefIdeal.nD Cert.ChandftRefIdeal.τ).loc Cert.ChandftRefIdeal.main_arg2) = m ((c.tc : Thread Cert.ChandftIdeal.nD Cert.ChandftIdeal.τ).loc Cert.ChandftIdeal.main_arg2)) →
    ∃ (v0 : (c : Dev Cert.ChandftIdeal.nD) → Buf (Elt Ideal) ((c.tc : Thread Cert.ChandftIdeal.nD Cert.ChandftIdeal.τ).loc Cert.ChandftIdeal.main_v3)),
      θ_run (Cert.ChandftIdeal.defs (F := Ideal)) (onTc (τ := Cert.ChandftIdeal.τ) (Cert.ChandftIdeal.main (F := Ideal))) ⟨m, fun _ => 0, g⟩ (fun r => ∀ c : Dev Cert.ChandftIdeal.nD,
          r.2.mem ((c.tc : Thread Cert.ChandftIdeal.nD Cert.ChandftIdeal.τ).loc Cert.ChandftIdeal.main_v3) = v0 c
          ∧ r.2.mem ((c.tc : Thread Cert.ChandftIdeal.nD Cert.ChandftIdeal.τ).loc Cert.ChandftIdeal.main_arg0) = m ((c.tc : Thread Cert.ChandftIdeal.nD Cert.ChandftIdeal.τ).loc Cert.ChandftIdeal.main_arg0)
          ∧ r.2.mem ((c.tc : Thread Cert.ChandftIdeal.nD Cert.ChandftIdeal.τ).loc Cert.ChandftIdeal.main_arg1) = m ((c.tc : Thread Cert.ChandftIdeal.nD Cert.ChandftIdeal.τ).loc Cert.ChandftIdeal.main_arg1)
          ∧ r.2.mem ((c.tc : Thread Cert.ChandftIdeal.nD Cert.ChandftIdeal.τ).loc Cert.ChandftIdeal.main_arg2) = m ((c.tc : Thread Cert.ChandftIdeal.nD Cert.ChandftIdeal.τ).loc Cert.ChandftIdeal.main_arg2))
      ∧ θ_run (Cert.ChandftRefIdeal.defs (F := Ideal)) (onTc (τ := Cert.ChandftRefIdeal.τ) (Cert.ChandftRefIdeal.main (F := Ideal))) ⟨m', fun _ => 0, g'⟩ (fun r => ∀ c : Dev Cert.ChandftRefIdeal.nD,
          r.2.mem ((c.tc : Thread Cert.ChandftRefIdeal.nD Cert.ChandftRefIdeal.τ).loc Cert.ChandftRefIdeal.main_v11) = v0 c
          ∧ r.2.mem ((c.tc : Thread Cert.ChandftRefIdeal.nD Cert.ChandftRefIdeal.τ).loc Cert.ChandftRefIdeal.main_arg0) = m' ((c.tc : Thread Cert.ChandftRefIdeal.nD Cert.ChandftRefIdeal.τ).loc Cert.ChandftRefIdeal.main_arg0)
          ∧ r.2.mem ((c.tc : Thread Cert.ChandftRefIdeal.nD Cert.ChandftRefIdeal.τ).loc Cert.ChandftRefIdeal.main_arg1) = m' ((c.tc : Thread Cert.ChandftRefIdeal.nD Cert.ChandftRefIdeal.τ).loc Cert.ChandftRefIdeal.main_arg1)
          ∧ r.2.mem ((c.tc : Thread Cert.ChandftRefIdeal.nD Cert.ChandftRefIdeal.τ).loc Cert.ChandftRefIdeal.main_arg2) = m' ((c.tc : Thread Cert.ChandftRefIdeal.nD Cert.ChandftRefIdeal.τ).loc Cert.ChandftRefIdeal.main_arg2))

def preserves_Ftaps_FtapsIdeal : Prop :=
  True

def algebraic_FtapsIdeal_FtapsRefIdeal [hFtapsIdeal : Cert.FtapsIdeal.Facts] [hFtapsRefIdeal : Cert.FtapsRefIdeal.Facts] : Prop :=
  ∀ (m : (ℓ : Loc Cert.FtapsIdeal.nD Cert.FtapsIdeal.τ Cert.FtapsIdeal.sig) → Buf (Elt Ideal) ℓ) (g : Dev Cert.FtapsIdeal.nD → PrngReg)
    (m' : (ℓ : Loc Cert.FtapsRefIdeal.nD Cert.FtapsRefIdeal.τ Cert.FtapsRefIdeal.sig) → Buf (Elt Ideal) ℓ) (g' : Dev Cert.FtapsRefIdeal.nD → PrngReg), Pre_FtapsIdeal m →
    (∀ c : Dev Cert.FtapsIdeal.nD,
      m' ((c.tc : Thread Cert.FtapsRefIdeal.nD Cert.FtapsRefIdeal.τ).loc Cert.FtapsRefIdeal.main_arg0) = m ((c.tc : Thread Cert.FtapsIdeal.nD Cert.FtapsIdeal.τ).loc Cert.FtapsIdeal.main_arg0)
      ∧ m' ((c.tc : Thread Cert.FtapsRefIdeal.nD Cert.FtapsRefIdeal.τ).loc Cert.FtapsRefIdeal.main_arg1) = m ((c.tc : Thread Cert.FtapsIdeal.nD Cert.FtapsIdeal.τ).loc Cert.FtapsIdeal.main_arg1)
      ∧ m' ((c.tc : Thread Cert.FtapsRefIdeal.nD Cert.FtapsRefIdeal.τ).loc Cert.FtapsRefIdeal.main_arg2) = m ((c.tc : Thread Cert.FtapsIdeal.nD Cert.FtapsIdeal.τ).loc Cert.FtapsIdeal.main_arg2)
      ∧ m' ((c.tc : Thread Cert.FtapsRefIdeal.nD Cert.FtapsRefIdeal.τ).loc Cert.FtapsRefIdeal.main_arg3) = m ((c.tc : Thread Cert.FtapsIdeal.nD Cert.FtapsIdeal.τ).loc Cert.FtapsIdeal.main_arg3)
      ∧ m' ((c.tc : Thread Cert.FtapsRefIdeal.nD Cert.FtapsRefIdeal.τ).loc Cert.FtapsRefIdeal.main_arg4) = m ((c.tc : Thread Cert.FtapsIdeal.nD Cert.FtapsIdeal.τ).loc Cert.FtapsIdeal.main_arg4)
      ∧ m' ((c.tc : Thread Cert.FtapsRefIdeal.nD Cert.FtapsRefIdeal.τ).loc Cert.FtapsRefIdeal.main_arg5) = m ((c.tc : Thread Cert.FtapsIdeal.nD Cert.FtapsIdeal.τ).loc Cert.FtapsIdeal.main_arg5)
      ∧ m' ((c.tc : Thread Cert.FtapsRefIdeal.nD Cert.FtapsRefIdeal.τ).loc Cert.FtapsRefIdeal.main_arg6) = m ((c.tc : Thread Cert.FtapsIdeal.nD Cert.FtapsIdeal.τ).loc Cert.FtapsIdeal.main_arg6)) →
    ∃ (v0 : (c : Dev Cert.FtapsIdeal.nD) → Buf (Elt Ideal) ((c.tc : Thread Cert.FtapsIdeal.nD Cert.FtapsIdeal.τ).loc Cert.FtapsIdeal.main_v40_0)) (v1 : (c : Dev Cert.FtapsIdeal.nD) → Buf (Elt Ideal) ((c.tc : Thread Cert.FtapsIdeal.nD Cert.FtapsIdeal.τ).loc Cert.FtapsIdeal.main_v40_1)),
      θ_run (Cert.FtapsIdeal.defs (F := Ideal)) (onTc (τ := Cert.FtapsIdeal.τ) (Cert.FtapsIdeal.main (F := Ideal))) ⟨m, fun _ => 0, g⟩ (fun r => ∀ c : Dev Cert.FtapsIdeal.nD,
          r.2.mem ((c.tc : Thread Cert.FtapsIdeal.nD Cert.FtapsIdeal.τ).loc Cert.FtapsIdeal.main_v40_0) = v0 c
          ∧ r.2.mem ((c.tc : Thread Cert.FtapsIdeal.nD Cert.FtapsIdeal.τ).loc Cert.FtapsIdeal.main_v40_1) = v1 c
          ∧ r.2.mem ((c.tc : Thread Cert.FtapsIdeal.nD Cert.FtapsIdeal.τ).loc Cert.FtapsIdeal.main_arg0) = m ((c.tc : Thread Cert.FtapsIdeal.nD Cert.FtapsIdeal.τ).loc Cert.FtapsIdeal.main_arg0)
          ∧ r.2.mem ((c.tc : Thread Cert.FtapsIdeal.nD Cert.FtapsIdeal.τ).loc Cert.FtapsIdeal.main_arg1) = m ((c.tc : Thread Cert.FtapsIdeal.nD Cert.FtapsIdeal.τ).loc Cert.FtapsIdeal.main_arg1)
          ∧ r.2.mem ((c.tc : Thread Cert.FtapsIdeal.nD Cert.FtapsIdeal.τ).loc Cert.FtapsIdeal.main_arg2) = m ((c.tc : Thread Cert.FtapsIdeal.nD Cert.FtapsIdeal.τ).loc Cert.FtapsIdeal.main_arg2)
          ∧ r.2.mem ((c.tc : Thread Cert.FtapsIdeal.nD Cert.FtapsIdeal.τ).loc Cert.FtapsIdeal.main_arg3) = m ((c.tc : Thread Cert.FtapsIdeal.nD Cert.FtapsIdeal.τ).loc Cert.FtapsIdeal.main_arg3)
          ∧ r.2.mem ((c.tc : Thread Cert.FtapsIdeal.nD Cert.FtapsIdeal.τ).loc Cert.FtapsIdeal.main_arg4) = m ((c.tc : Thread Cert.FtapsIdeal.nD Cert.FtapsIdeal.τ).loc Cert.FtapsIdeal.main_arg4)
          ∧ r.2.mem ((c.tc : Thread Cert.FtapsIdeal.nD Cert.FtapsIdeal.τ).loc Cert.FtapsIdeal.main_arg5) = m ((c.tc : Thread Cert.FtapsIdeal.nD Cert.FtapsIdeal.τ).loc Cert.FtapsIdeal.main_arg5)
          ∧ r.2.mem ((c.tc : Thread Cert.FtapsIdeal.nD Cert.FtapsIdeal.τ).loc Cert.FtapsIdeal.main_arg6) = m ((c.tc : Thread Cert.FtapsIdeal.nD Cert.FtapsIdeal.τ).loc Cert.FtapsIdeal.main_arg6))
      ∧ θ_run (Cert.FtapsRefIdeal.defs (F := Ideal)) (onTc (τ := Cert.FtapsRefIdeal.τ) (Cert.FtapsRefIdeal.main (F := Ideal))) ⟨m', fun _ => 0, g'⟩ (fun r => ∀ c : Dev Cert.FtapsRefIdeal.nD,
          r.2.mem ((c.tc : Thread Cert.FtapsRefIdeal.nD Cert.FtapsRefIdeal.τ).loc Cert.FtapsRefIdeal.main_v34) = v0 c
          ∧ r.2.mem ((c.tc : Thread Cert.FtapsRefIdeal.nD Cert.FtapsRefIdeal.τ).loc Cert.FtapsRefIdeal.main_v36) = v1 c
          ∧ r.2.mem ((c.tc : Thread Cert.FtapsRefIdeal.nD Cert.FtapsRefIdeal.τ).loc Cert.FtapsRefIdeal.main_arg0) = m' ((c.tc : Thread Cert.FtapsRefIdeal.nD Cert.FtapsRefIdeal.τ).loc Cert.FtapsRefIdeal.main_arg0)
          ∧ r.2.mem ((c.tc : Thread Cert.FtapsRefIdeal.nD Cert.FtapsRefIdeal.τ).loc Cert.FtapsRefIdeal.main_arg1) = m' ((c.tc : Thread Cert.FtapsRefIdeal.nD Cert.FtapsRefIdeal.τ).loc Cert.FtapsRefIdeal.main_arg1)
          ∧ r.2.mem ((c.tc : Thread Cert.FtapsRefIdeal.nD Cert.FtapsRefIdeal.τ).loc Cert.FtapsRefIdeal.main_arg2) = m' ((c.tc : Thread Cert.FtapsRefIdeal.nD Cert.FtapsRefIdeal.τ).loc Cert.FtapsRefIdeal.main_arg2)
          ∧ r.2.mem ((c.tc : Thread Cert.FtapsRefIdeal.nD Cert.FtapsRefIdeal.τ).loc Cert.FtapsRefIdeal.main_arg3) = m' ((c.tc : Thread Cert.FtapsRefIdeal.nD Cert.FtapsRefIdeal.τ).loc Cert.FtapsRefIdeal.main_arg3)
          ∧ r.2.mem ((c.tc : Thread Cert.FtapsRefIdeal.nD Cert.FtapsRefIdeal.τ).loc Cert.FtapsRefIdeal.main_arg4) = m' ((c.tc : Thread Cert.FtapsRefIdeal.nD Cert.FtapsRefIdeal.τ).loc Cert.FtapsRefIdeal.main_arg4)
          ∧ r.2.mem ((c.tc : Thread Cert.FtapsRefIdeal.nD Cert.FtapsRefIdeal.τ).loc Cert.FtapsRefIdeal.main_arg5) = m' ((c.tc : Thread Cert.FtapsRefIdeal.nD Cert.FtapsRefIdeal.τ).loc Cert.FtapsRefIdeal.main_arg5)
          ∧ r.2.mem ((c.tc : Thread Cert.FtapsRefIdeal.nD Cert.FtapsRefIdeal.τ).loc Cert.FtapsRefIdeal.main_arg6) = m' ((c.tc : Thread Cert.FtapsRefIdeal.nD Cert.FtapsRefIdeal.τ).loc Cert.FtapsRefIdeal.main_arg6))

def preserves_Shortconv_ShortconvIdeal : Prop :=
  True

def algebraic_ShortconvIdeal_ShortconvRefIdeal [hShortconvIdeal : Cert.ShortconvIdeal.Facts] [hShortconvRefIdeal : Cert.ShortconvRefIdeal.Facts] : Prop :=
  ∀ (m : (ℓ : Loc Cert.ShortconvIdeal.nD Cert.ShortconvIdeal.τ Cert.ShortconvIdeal.sig) → Buf (Elt Ideal) ℓ) (g : Dev Cert.ShortconvIdeal.nD → PrngReg)
    (m' : (ℓ : Loc Cert.ShortconvRefIdeal.nD Cert.ShortconvRefIdeal.τ Cert.ShortconvRefIdeal.sig) → Buf (Elt Ideal) ℓ) (g' : Dev Cert.ShortconvRefIdeal.nD → PrngReg), Pre_ShortconvIdeal m →
    (∀ c : Dev Cert.ShortconvIdeal.nD,
      m' ((c.tc : Thread Cert.ShortconvRefIdeal.nD Cert.ShortconvRefIdeal.τ).loc Cert.ShortconvRefIdeal.main_arg0) = m ((c.tc : Thread Cert.ShortconvIdeal.nD Cert.ShortconvIdeal.τ).loc Cert.ShortconvIdeal.main_arg0)
      ∧ m' ((c.tc : Thread Cert.ShortconvRefIdeal.nD Cert.ShortconvRefIdeal.τ).loc Cert.ShortconvRefIdeal.main_arg1) = m ((c.tc : Thread Cert.ShortconvIdeal.nD Cert.ShortconvIdeal.τ).loc Cert.ShortconvIdeal.main_arg1)
      ∧ m' ((c.tc : Thread Cert.ShortconvRefIdeal.nD Cert.ShortconvRefIdeal.τ).loc Cert.ShortconvRefIdeal.main_arg2) = m ((c.tc : Thread Cert.ShortconvIdeal.nD Cert.ShortconvIdeal.τ).loc Cert.ShortconvIdeal.main_arg2)) →
    ∃ (v0 : (c : Dev Cert.ShortconvIdeal.nD) → Buf (Elt Ideal) ((c.tc : Thread Cert.ShortconvIdeal.nD Cert.ShortconvIdeal.τ).loc Cert.ShortconvIdeal.main_v3)),
      θ_run (Cert.ShortconvIdeal.defs (F := Ideal)) (onTc (τ := Cert.ShortconvIdeal.τ) (Cert.ShortconvIdeal.main (F := Ideal))) ⟨m, fun _ => 0, g⟩ (fun r => ∀ c : Dev Cert.ShortconvIdeal.nD,
          r.2.mem ((c.tc : Thread Cert.ShortconvIdeal.nD Cert.ShortconvIdeal.τ).loc Cert.ShortconvIdeal.main_v3) = v0 c
          ∧ r.2.mem ((c.tc : Thread Cert.ShortconvIdeal.nD Cert.ShortconvIdeal.τ).loc Cert.ShortconvIdeal.main_arg0) = m ((c.tc : Thread Cert.ShortconvIdeal.nD Cert.ShortconvIdeal.τ).loc Cert.ShortconvIdeal.main_arg0)
          ∧ r.2.mem ((c.tc : Thread Cert.ShortconvIdeal.nD Cert.ShortconvIdeal.τ).loc Cert.ShortconvIdeal.main_arg1) = m ((c.tc : Thread Cert.ShortconvIdeal.nD Cert.ShortconvIdeal.τ).loc Cert.ShortconvIdeal.main_arg1)
          ∧ r.2.mem ((c.tc : Thread Cert.ShortconvIdeal.nD Cert.ShortconvIdeal.τ).loc Cert.ShortconvIdeal.main_arg2) = m ((c.tc : Thread Cert.ShortconvIdeal.nD Cert.ShortconvIdeal.τ).loc Cert.ShortconvIdeal.main_arg2))
      ∧ θ_run (Cert.ShortconvRefIdeal.defs (F := Ideal)) (onTc (τ := Cert.ShortconvRefIdeal.τ) (Cert.ShortconvRefIdeal.main (F := Ideal))) ⟨m', fun _ => 0, g'⟩ (fun r => ∀ c : Dev Cert.ShortconvRefIdeal.nD,
          r.2.mem ((c.tc : Thread Cert.ShortconvRefIdeal.nD Cert.ShortconvRefIdeal.τ).loc Cert.ShortconvRefIdeal.main_v35) = v0 c
          ∧ r.2.mem ((c.tc : Thread Cert.ShortconvRefIdeal.nD Cert.ShortconvRefIdeal.τ).loc Cert.ShortconvRefIdeal.main_arg0) = m' ((c.tc : Thread Cert.ShortconvRefIdeal.nD Cert.ShortconvRefIdeal.τ).loc Cert.ShortconvRefIdeal.main_arg0)
          ∧ r.2.mem ((c.tc : Thread Cert.ShortconvRefIdeal.nD Cert.ShortconvRefIdeal.τ).loc Cert.ShortconvRefIdeal.main_arg1) = m' ((c.tc : Thread Cert.ShortconvRefIdeal.nD Cert.ShortconvRefIdeal.τ).loc Cert.ShortconvRefIdeal.main_arg1)
          ∧ r.2.mem ((c.tc : Thread Cert.ShortconvRefIdeal.nD Cert.ShortconvRefIdeal.τ).loc Cert.ShortconvRefIdeal.main_arg2) = m' ((c.tc : Thread Cert.ShortconvRefIdeal.nD Cert.ShortconvRefIdeal.τ).loc Cert.ShortconvRefIdeal.main_arg2))

def preserves_Spectrum2_Spectrum2Ideal : Prop :=
  True

def algebraic_Spectrum2Ideal_Spectrum2RefIdeal [hSpectrum2Ideal : Cert.Spectrum2Ideal.Facts] [hSpectrum2RefIdeal : Cert.Spectrum2RefIdeal.Facts] : Prop :=
  ∀ (m : (ℓ : Loc Cert.Spectrum2Ideal.nD Cert.Spectrum2Ideal.τ Cert.Spectrum2Ideal.sig) → Buf (Elt Ideal) ℓ) (g : Dev Cert.Spectrum2Ideal.nD → PrngReg)
    (m' : (ℓ : Loc Cert.Spectrum2RefIdeal.nD Cert.Spectrum2RefIdeal.τ Cert.Spectrum2RefIdeal.sig) → Buf (Elt Ideal) ℓ) (g' : Dev Cert.Spectrum2RefIdeal.nD → PrngReg), Pre_Spectrum2Ideal m →
    (∀ c : Dev Cert.Spectrum2Ideal.nD,
      m' ((c.tc : Thread Cert.Spectrum2RefIdeal.nD Cert.Spectrum2RefIdeal.τ).loc Cert.Spectrum2RefIdeal.main_arg0) = m ((c.tc : Thread Cert.Spectrum2Ideal.nD Cert.Spectrum2Ideal.τ).loc Cert.Spectrum2Ideal.main_arg0)
      ∧ m' ((c.tc : Thread Cert.Spectrum2RefIdeal.nD Cert.Spectrum2RefIdeal.τ).loc Cert.Spectrum2RefIdeal.main_arg1) = m ((c.tc : Thread Cert.Spectrum2Ideal.nD Cert.Spectrum2Ideal.τ).loc Cert.Spectrum2Ideal.main_arg1)
      ∧ m' ((c.tc : Thread Cert.Spectrum2RefIdeal.nD Cert.Spectrum2RefIdeal.τ).loc Cert.Spectrum2RefIdeal.main_arg2) = m ((c.tc : Thread Cert.Spectrum2Ideal.nD Cert.Spectrum2Ideal.τ).loc Cert.Spectrum2Ideal.main_arg2)
      ∧ m' ((c.tc : Thread Cert.Spectrum2RefIdeal.nD Cert.Spectrum2RefIdeal.τ).loc Cert.Spectrum2RefIdeal.main_arg3) = m ((c.tc : Thread Cert.Spectrum2Ideal.nD Cert.Spectrum2Ideal.τ).loc Cert.Spectrum2Ideal.main_arg3)) →
    ∃ (v0 : (c : Dev Cert.Spectrum2Ideal.nD) → Buf (Elt Ideal) ((c.tc : Thread Cert.Spectrum2Ideal.nD Cert.Spectrum2Ideal.τ).loc Cert.Spectrum2Ideal.main_v7)),
      θ_run (Cert.Spectrum2Ideal.defs (F := Ideal)) (onTc (τ := Cert.Spectrum2Ideal.τ) (Cert.Spectrum2Ideal.main (F := Ideal))) ⟨m, fun _ => 0, g⟩ (fun r => ∀ c : Dev Cert.Spectrum2Ideal.nD,
          r.2.mem ((c.tc : Thread Cert.Spectrum2Ideal.nD Cert.Spectrum2Ideal.τ).loc Cert.Spectrum2Ideal.main_v7) = v0 c
          ∧ r.2.mem ((c.tc : Thread Cert.Spectrum2Ideal.nD Cert.Spectrum2Ideal.τ).loc Cert.Spectrum2Ideal.main_arg0) = m ((c.tc : Thread Cert.Spectrum2Ideal.nD Cert.Spectrum2Ideal.τ).loc Cert.Spectrum2Ideal.main_arg0)
          ∧ r.2.mem ((c.tc : Thread Cert.Spectrum2Ideal.nD Cert.Spectrum2Ideal.τ).loc Cert.Spectrum2Ideal.main_arg1) = m ((c.tc : Thread Cert.Spectrum2Ideal.nD Cert.Spectrum2Ideal.τ).loc Cert.Spectrum2Ideal.main_arg1)
          ∧ r.2.mem ((c.tc : Thread Cert.Spectrum2Ideal.nD Cert.Spectrum2Ideal.τ).loc Cert.Spectrum2Ideal.main_arg2) = m ((c.tc : Thread Cert.Spectrum2Ideal.nD Cert.Spectrum2Ideal.τ).loc Cert.Spectrum2Ideal.main_arg2)
          ∧ r.2.mem ((c.tc : Thread Cert.Spectrum2Ideal.nD Cert.Spectrum2Ideal.τ).loc Cert.Spectrum2Ideal.main_arg3) = m ((c.tc : Thread Cert.Spectrum2Ideal.nD Cert.Spectrum2Ideal.τ).loc Cert.Spectrum2Ideal.main_arg3))
      ∧ θ_run (Cert.Spectrum2RefIdeal.defs (F := Ideal)) (onTc (τ := Cert.Spectrum2RefIdeal.τ) (Cert.Spectrum2RefIdeal.main (F := Ideal))) ⟨m', fun _ => 0, g'⟩ (fun r => ∀ c : Dev Cert.Spectrum2RefIdeal.nD,
          r.2.mem ((c.tc : Thread Cert.Spectrum2RefIdeal.nD Cert.Spectrum2RefIdeal.τ).loc Cert.Spectrum2RefIdeal.main_v37) = v0 c
          ∧ r.2.mem ((c.tc : Thread Cert.Spectrum2RefIdeal.nD Cert.Spectrum2RefIdeal.τ).loc Cert.Spectrum2RefIdeal.main_arg0) = m' ((c.tc : Thread Cert.Spectrum2RefIdeal.nD Cert.Spectrum2RefIdeal.τ).loc Cert.Spectrum2RefIdeal.main_arg0)
          ∧ r.2.mem ((c.tc : Thread Cert.Spectrum2RefIdeal.nD Cert.Spectrum2RefIdeal.τ).loc Cert.Spectrum2RefIdeal.main_arg1) = m' ((c.tc : Thread Cert.Spectrum2RefIdeal.nD Cert.Spectrum2RefIdeal.τ).loc Cert.Spectrum2RefIdeal.main_arg1)
          ∧ r.2.mem ((c.tc : Thread Cert.Spectrum2RefIdeal.nD Cert.Spectrum2RefIdeal.τ).loc Cert.Spectrum2RefIdeal.main_arg2) = m' ((c.tc : Thread Cert.Spectrum2RefIdeal.nD Cert.Spectrum2RefIdeal.τ).loc Cert.Spectrum2RefIdeal.main_arg2)
          ∧ r.2.mem ((c.tc : Thread Cert.Spectrum2RefIdeal.nD Cert.Spectrum2RefIdeal.τ).loc Cert.Spectrum2RefIdeal.main_arg3) = m' ((c.tc : Thread Cert.Spectrum2RefIdeal.nD Cert.Spectrum2RefIdeal.τ).loc Cert.Spectrum2RefIdeal.main_arg3))

def preserves_Signal2_Signal2Ideal : Prop :=
  True

def algebraic_Signal2Ideal_Signal2RefIdeal [hSignal2Ideal : Cert.Signal2Ideal.Facts] [hSignal2RefIdeal : Cert.Signal2RefIdeal.Facts] : Prop :=
  ∀ (m : (ℓ : Loc Cert.Signal2Ideal.nD Cert.Signal2Ideal.τ Cert.Signal2Ideal.sig) → Buf (Elt Ideal) ℓ) (g : Dev Cert.Signal2Ideal.nD → PrngReg)
    (m' : (ℓ : Loc Cert.Signal2RefIdeal.nD Cert.Signal2RefIdeal.τ Cert.Signal2RefIdeal.sig) → Buf (Elt Ideal) ℓ) (g' : Dev Cert.Signal2RefIdeal.nD → PrngReg), Pre_Signal2Ideal m →
    (∀ c : Dev Cert.Signal2Ideal.nD,
      m' ((c.tc : Thread Cert.Signal2RefIdeal.nD Cert.Signal2RefIdeal.τ).loc Cert.Signal2RefIdeal.main_arg0) = m ((c.tc : Thread Cert.Signal2Ideal.nD Cert.Signal2Ideal.τ).loc Cert.Signal2Ideal.main_arg0)
      ∧ m' ((c.tc : Thread Cert.Signal2RefIdeal.nD Cert.Signal2RefIdeal.τ).loc Cert.Signal2RefIdeal.main_arg1) = m ((c.tc : Thread Cert.Signal2Ideal.nD Cert.Signal2Ideal.τ).loc Cert.Signal2Ideal.main_arg1)
      ∧ m' ((c.tc : Thread Cert.Signal2RefIdeal.nD Cert.Signal2RefIdeal.τ).loc Cert.Signal2RefIdeal.main_arg2) = m ((c.tc : Thread Cert.Signal2Ideal.nD Cert.Signal2Ideal.τ).loc Cert.Signal2Ideal.main_arg2)) →
    ∃ (v0 : (c : Dev Cert.Signal2Ideal.nD) → Buf (Elt Ideal) ((c.tc : Thread Cert.Signal2Ideal.nD Cert.Signal2Ideal.τ).loc Cert.Signal2Ideal.main_v6)),
      θ_run (Cert.Signal2Ideal.defs (F := Ideal)) (onTc (τ := Cert.Signal2Ideal.τ) (Cert.Signal2Ideal.main (F := Ideal))) ⟨m, fun _ => 0, g⟩ (fun r => ∀ c : Dev Cert.Signal2Ideal.nD,
          r.2.mem ((c.tc : Thread Cert.Signal2Ideal.nD Cert.Signal2Ideal.τ).loc Cert.Signal2Ideal.main_v6) = v0 c
          ∧ r.2.mem ((c.tc : Thread Cert.Signal2Ideal.nD Cert.Signal2Ideal.τ).loc Cert.Signal2Ideal.main_arg0) = m ((c.tc : Thread Cert.Signal2Ideal.nD Cert.Signal2Ideal.τ).loc Cert.Signal2Ideal.main_arg0)
          ∧ r.2.mem ((c.tc : Thread Cert.Signal2Ideal.nD Cert.Signal2Ideal.τ).loc Cert.Signal2Ideal.main_arg1) = m ((c.tc : Thread Cert.Signal2Ideal.nD Cert.Signal2Ideal.τ).loc Cert.Signal2Ideal.main_arg1)
          ∧ r.2.mem ((c.tc : Thread Cert.Signal2Ideal.nD Cert.Signal2Ideal.τ).loc Cert.Signal2Ideal.main_arg2) = m ((c.tc : Thread Cert.Signal2Ideal.nD Cert.Signal2Ideal.τ).loc Cert.Signal2Ideal.main_arg2))
      ∧ θ_run (Cert.Signal2RefIdeal.defs (F := Ideal)) (onTc (τ := Cert.Signal2RefIdeal.τ) (Cert.Signal2RefIdeal.main (F := Ideal))) ⟨m', fun _ => 0, g'⟩ (fun r => ∀ c : Dev Cert.Signal2RefIdeal.nD,
          r.2.mem ((c.tc : Thread Cert.Signal2RefIdeal.nD Cert.Signal2RefIdeal.τ).loc Cert.Signal2RefIdeal.main_v13) = v0 c
          ∧ r.2.mem ((c.tc : Thread Cert.Signal2RefIdeal.nD Cert.Signal2RefIdeal.τ).loc Cert.Signal2RefIdeal.main_arg0) = m' ((c.tc : Thread Cert.Signal2RefIdeal.nD Cert.Signal2RefIdeal.τ).loc Cert.Signal2RefIdeal.main_arg0)
          ∧ r.2.mem ((c.tc : Thread Cert.Signal2RefIdeal.nD Cert.Signal2RefIdeal.τ).loc Cert.Signal2RefIdeal.main_arg1) = m' ((c.tc : Thread Cert.Signal2RefIdeal.nD Cert.Signal2RefIdeal.τ).loc Cert.Signal2RefIdeal.main_arg1)
          ∧ r.2.mem ((c.tc : Thread Cert.Signal2RefIdeal.nD Cert.Signal2RefIdeal.τ).loc Cert.Signal2RefIdeal.main_arg2) = m' ((c.tc : Thread Cert.Signal2RefIdeal.nD Cert.Signal2RefIdeal.τ).loc Cert.Signal2RefIdeal.main_arg2))

def preserves_Gated2_Gated2Ideal : Prop :=
  True

def algebraic_Gated2Ideal_Gated2RefIdeal [hGated2Ideal : Cert.Gated2Ideal.Facts] [hGated2RefIdeal : Cert.Gated2RefIdeal.Facts] : Prop :=
  ∀ (m : (ℓ : Loc Cert.Gated2Ideal.nD Cert.Gated2Ideal.τ Cert.Gated2Ideal.sig) → Buf (Elt Ideal) ℓ) (g : Dev Cert.Gated2Ideal.nD → PrngReg)
    (m' : (ℓ : Loc Cert.Gated2RefIdeal.nD Cert.Gated2RefIdeal.τ Cert.Gated2RefIdeal.sig) → Buf (Elt Ideal) ℓ) (g' : Dev Cert.Gated2RefIdeal.nD → PrngReg), Pre_Gated2Ideal m →
    (∀ c : Dev Cert.Gated2Ideal.nD,
      m' ((c.tc : Thread Cert.Gated2RefIdeal.nD Cert.Gated2RefIdeal.τ).loc Cert.Gated2RefIdeal.main_arg0) = m ((c.tc : Thread Cert.Gated2Ideal.nD Cert.Gated2Ideal.τ).loc Cert.Gated2Ideal.main_arg0)
      ∧ m' ((c.tc : Thread Cert.Gated2RefIdeal.nD Cert.Gated2RefIdeal.τ).loc Cert.Gated2RefIdeal.main_arg1) = m ((c.tc : Thread Cert.Gated2Ideal.nD Cert.Gated2Ideal.τ).loc Cert.Gated2Ideal.main_arg1)
      ∧ m' ((c.tc : Thread Cert.Gated2RefIdeal.nD Cert.Gated2RefIdeal.τ).loc Cert.Gated2RefIdeal.main_arg2) = m ((c.tc : Thread Cert.Gated2Ideal.nD Cert.Gated2Ideal.τ).loc Cert.Gated2Ideal.main_arg2)
      ∧ m' ((c.tc : Thread Cert.Gated2RefIdeal.nD Cert.Gated2RefIdeal.τ).loc Cert.Gated2RefIdeal.main_arg3) = m ((c.tc : Thread Cert.Gated2Ideal.nD Cert.Gated2Ideal.τ).loc Cert.Gated2Ideal.main_arg3)
      ∧ m' ((c.tc : Thread Cert.Gated2RefIdeal.nD Cert.Gated2RefIdeal.τ).loc Cert.Gated2RefIdeal.main_arg4) = m ((c.tc : Thread Cert.Gated2Ideal.nD Cert.Gated2Ideal.τ).loc Cert.Gated2Ideal.main_arg4)
      ∧ m' ((c.tc : Thread Cert.Gated2RefIdeal.nD Cert.Gated2RefIdeal.τ).loc Cert.Gated2RefIdeal.main_arg5) = m ((c.tc : Thread Cert.Gated2Ideal.nD Cert.Gated2Ideal.τ).loc Cert.Gated2Ideal.main_arg5)) →
    ∃ (v0 : (c : Dev Cert.Gated2Ideal.nD) → Buf (Elt Ideal) ((c.tc : Thread Cert.Gated2Ideal.nD Cert.Gated2Ideal.τ).loc Cert.Gated2Ideal.main_v6)),
      θ_run (Cert.Gated2Ideal.defs (F := Ideal)) (onTc (τ := Cert.Gated2Ideal.τ) (Cert.Gated2Ideal.main (F := Ideal))) ⟨m, fun _ => 0, g⟩ (fun r => ∀ c : Dev Cert.Gated2Ideal.nD,
          r.2.mem ((c.tc : Thread Cert.Gated2Ideal.nD Cert.Gated2Ideal.τ).loc Cert.Gated2Ideal.main_v6) = v0 c
          ∧ r.2.mem ((c.tc : Thread Cert.Gated2Ideal.nD Cert.Gated2Ideal.τ).loc Cert.Gated2Ideal.main_arg0) = m ((c.tc : Thread Cert.Gated2Ideal.nD Cert.Gated2Ideal.τ).loc Cert.Gated2Ideal.main_arg0)
          ∧ r.2.mem ((c.tc : Thread Cert.Gated2Ideal.nD Cert.Gated2Ideal.τ).loc Cert.Gated2Ideal.main_arg1) = m ((c.tc : Thread Cert.Gated2Ideal.nD Cert.Gated2Ideal.τ).loc Cert.Gated2Ideal.main_arg1)
          ∧ r.2.mem ((c.tc : Thread Cert.Gated2Ideal.nD Cert.Gated2Ideal.τ).loc Cert.Gated2Ideal.main_arg2) = m ((c.tc : Thread Cert.Gated2Ideal.nD Cert.Gated2Ideal.τ).loc Cert.Gated2Ideal.main_arg2)
          ∧ r.2.mem ((c.tc : Thread Cert.Gated2Ideal.nD Cert.Gated2Ideal.τ).loc Cert.Gated2Ideal.main_arg3) = m ((c.tc : Thread Cert.Gated2Ideal.nD Cert.Gated2Ideal.τ).loc Cert.Gated2Ideal.main_arg3)
          ∧ r.2.mem ((c.tc : Thread Cert.Gated2Ideal.nD Cert.Gated2Ideal.τ).loc Cert.Gated2Ideal.main_arg4) = m ((c.tc : Thread Cert.Gated2Ideal.nD Cert.Gated2Ideal.τ).loc Cert.Gated2Ideal.main_arg4)
          ∧ r.2.mem ((c.tc : Thread Cert.Gated2Ideal.nD Cert.Gated2Ideal.τ).loc Cert.Gated2Ideal.main_arg5) = m ((c.tc : Thread Cert.Gated2Ideal.nD Cert.Gated2Ideal.τ).loc Cert.Gated2Ideal.main_arg5))
      ∧ θ_run (Cert.Gated2RefIdeal.defs (F := Ideal)) (onTc (τ := Cert.Gated2RefIdeal.τ) (Cert.Gated2RefIdeal.main (F := Ideal))) ⟨m', fun _ => 0, g'⟩ (fun r => ∀ c : Dev Cert.Gated2RefIdeal.nD,
          r.2.mem ((c.tc : Thread Cert.Gated2RefIdeal.nD Cert.Gated2RefIdeal.τ).loc Cert.Gated2RefIdeal.main_v22) = v0 c
          ∧ r.2.mem ((c.tc : Thread Cert.Gated2RefIdeal.nD Cert.Gated2RefIdeal.τ).loc Cert.Gated2RefIdeal.main_arg0) = m' ((c.tc : Thread Cert.Gated2RefIdeal.nD Cert.Gated2RefIdeal.τ).loc Cert.Gated2RefIdeal.main_arg0)
          ∧ r.2.mem ((c.tc : Thread Cert.Gated2RefIdeal.nD Cert.Gated2RefIdeal.τ).loc Cert.Gated2RefIdeal.main_arg1) = m' ((c.tc : Thread Cert.Gated2RefIdeal.nD Cert.Gated2RefIdeal.τ).loc Cert.Gated2RefIdeal.main_arg1)
          ∧ r.2.mem ((c.tc : Thread Cert.Gated2RefIdeal.nD Cert.Gated2RefIdeal.τ).loc Cert.Gated2RefIdeal.main_arg2) = m' ((c.tc : Thread Cert.Gated2RefIdeal.nD Cert.Gated2RefIdeal.τ).loc Cert.Gated2RefIdeal.main_arg2)
          ∧ r.2.mem ((c.tc : Thread Cert.Gated2RefIdeal.nD Cert.Gated2RefIdeal.τ).loc Cert.Gated2RefIdeal.main_arg3) = m' ((c.tc : Thread Cert.Gated2RefIdeal.nD Cert.Gated2RefIdeal.τ).loc Cert.Gated2RefIdeal.main_arg3)
          ∧ r.2.mem ((c.tc : Thread Cert.Gated2RefIdeal.nD Cert.Gated2RefIdeal.τ).loc Cert.Gated2RefIdeal.main_arg4) = m' ((c.tc : Thread Cert.Gated2RefIdeal.nD Cert.Gated2RefIdeal.τ).loc Cert.Gated2RefIdeal.main_arg4)
          ∧ r.2.mem ((c.tc : Thread Cert.Gated2RefIdeal.nD Cert.Gated2RefIdeal.τ).loc Cert.Gated2RefIdeal.main_arg5) = m' ((c.tc : Thread Cert.Gated2RefIdeal.nD Cert.Gated2RefIdeal.τ).loc Cert.Gated2RefIdeal.main_arg5))

def Claim : Prop :=
  ∃ (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hSignal : Cert.Signal.Facts) (hSignalIdeal : Cert.SignalIdeal.Facts) (hSignalRefIdeal : Cert.SignalRefIdeal.Facts) (hGated : Cert.Gated.Facts) (hGatedIdeal : Cert.GatedIdeal.Facts) (hGatedRefIdeal : Cert.GatedRefIdeal.Facts) (hRealdft : Cert.Realdft.Facts) (hRealdftIdeal : Cert.RealdftIdeal.Facts) (hRealdftRefIdeal : Cert.RealdftRefIdeal.Facts) (hTapdft : Cert.Tapdft.Facts) (hTapdftIdeal : Cert.TapdftIdeal.Facts) (hTapdftRefIdeal : Cert.TapdftRefIdeal.Facts) (hTable : Cert.Table.Facts) (hTableIdeal : Cert.TableIdeal.Facts) (hTableRefIdeal : Cert.TableRefIdeal.Facts) (hPosdft : Cert.Posdft.Facts) (hPosdftIdeal : Cert.PosdftIdeal.Facts) (hPosdftRefIdeal : Cert.PosdftRefIdeal.Facts) (hFiltspec : Cert.Filtspec.Facts) (hFiltspecIdeal : Cert.FiltspecIdeal.Facts) (hFiltspecRefIdeal : Cert.FiltspecRefIdeal.Facts) (hSpectrum : Cert.Spectrum.Facts) (hSpectrumIdeal : Cert.SpectrumIdeal.Facts) (hSpectrumRefIdeal : Cert.SpectrumRefIdeal.Facts) (hChandft : Cert.Chandft.Facts) (hChandftIdeal : Cert.ChandftIdeal.Facts) (hChandftRefIdeal : Cert.ChandftRefIdeal.Facts) (hFtaps : Cert.Ftaps.Facts) (hFtapsIdeal : Cert.FtapsIdeal.Facts) (hFtapsRefIdeal : Cert.FtapsRefIdeal.Facts) (hShortconv : Cert.Shortconv.Facts) (hShortconvIdeal : Cert.ShortconvIdeal.Facts) (hShortconvRefIdeal : Cert.ShortconvRefIdeal.Facts) (hSpectrum2 : Cert.Spectrum2.Facts) (hSpectrum2Ideal : Cert.Spectrum2Ideal.Facts) (hSpectrum2RefIdeal : Cert.Spectrum2RefIdeal.Facts) (hSignal2 : Cert.Signal2.Facts) (hSignal2Ideal : Cert.Signal2Ideal.Facts) (hSignal2RefIdeal : Cert.Signal2RefIdeal.Facts) (hGated2 : Cert.Gated2.Facts) (hGated2Ideal : Cert.Gated2Ideal.Facts) (hGated2RefIdeal : Cert.Gated2RefIdeal.Facts),
    quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Signal (hSignal := hSignal)
    ∧ quiescent_SignalIdeal (hSignalIdeal := hSignalIdeal)
    ∧ quiescent_SignalRefIdeal (hSignalRefIdeal := hSignalRefIdeal)
    ∧ quiescent_Gated (hGated := hGated)
    ∧ quiescent_GatedIdeal (hGatedIdeal := hGatedIdeal)
    ∧ quiescent_GatedRefIdeal (hGatedRefIdeal := hGatedRefIdeal)
    ∧ quiescent_Realdft (hRealdft := hRealdft)
    ∧ quiescent_RealdftIdeal (hRealdftIdeal := hRealdftIdeal)
    ∧ quiescent_RealdftRefIdeal (hRealdftRefIdeal := hRealdftRefIdeal)
    ∧ quiescent_Tapdft (hTapdft := hTapdft)
    ∧ quiescent_TapdftIdeal (hTapdftIdeal := hTapdftIdeal)
    ∧ quiescent_TapdftRefIdeal (hTapdftRefIdeal := hTapdftRefIdeal)
    ∧ quiescent_Table (hTable := hTable)
    ∧ quiescent_TableIdeal (hTableIdeal := hTableIdeal)
    ∧ quiescent_TableRefIdeal (hTableRefIdeal := hTableRefIdeal)
    ∧ quiescent_Posdft (hPosdft := hPosdft)
    ∧ quiescent_PosdftIdeal (hPosdftIdeal := hPosdftIdeal)
    ∧ quiescent_PosdftRefIdeal (hPosdftRefIdeal := hPosdftRefIdeal)
    ∧ quiescent_Filtspec (hFiltspec := hFiltspec)
    ∧ quiescent_FiltspecIdeal (hFiltspecIdeal := hFiltspecIdeal)
    ∧ quiescent_FiltspecRefIdeal (hFiltspecRefIdeal := hFiltspecRefIdeal)
    ∧ quiescent_Spectrum (hSpectrum := hSpectrum)
    ∧ quiescent_SpectrumIdeal (hSpectrumIdeal := hSpectrumIdeal)
    ∧ quiescent_SpectrumRefIdeal (hSpectrumRefIdeal := hSpectrumRefIdeal)
    ∧ quiescent_Chandft (hChandft := hChandft)
    ∧ quiescent_ChandftIdeal (hChandftIdeal := hChandftIdeal)
    ∧ quiescent_ChandftRefIdeal (hChandftRefIdeal := hChandftRefIdeal)
    ∧ quiescent_Ftaps (hFtaps := hFtaps)
    ∧ quiescent_FtapsIdeal (hFtapsIdeal := hFtapsIdeal)
    ∧ quiescent_FtapsRefIdeal (hFtapsRefIdeal := hFtapsRefIdeal)
    ∧ quiescent_Shortconv (hShortconv := hShortconv)
    ∧ quiescent_ShortconvIdeal (hShortconvIdeal := hShortconvIdeal)
    ∧ quiescent_ShortconvRefIdeal (hShortconvRefIdeal := hShortconvRefIdeal)
    ∧ quiescent_Spectrum2 (hSpectrum2 := hSpectrum2)
    ∧ quiescent_Spectrum2Ideal (hSpectrum2Ideal := hSpectrum2Ideal)
    ∧ quiescent_Spectrum2RefIdeal (hSpectrum2RefIdeal := hSpectrum2RefIdeal)
    ∧ quiescent_Signal2 (hSignal2 := hSignal2)
    ∧ quiescent_Signal2Ideal (hSignal2Ideal := hSignal2Ideal)
    ∧ quiescent_Signal2RefIdeal (hSignal2RefIdeal := hSignal2RefIdeal)
    ∧ quiescent_Gated2 (hGated2 := hGated2)
    ∧ quiescent_Gated2Ideal (hGated2Ideal := hGated2Ideal)
    ∧ quiescent_Gated2RefIdeal (hGated2RefIdeal := hGated2RefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Signal_SignalIdeal
    ∧ algebraic_SignalIdeal_SignalRefIdeal (hSignalIdeal := hSignalIdeal) (hSignalRefIdeal := hSignalRefIdeal)
    ∧ preserves_Gated_GatedIdeal
    ∧ algebraic_GatedIdeal_GatedRefIdeal (hGatedIdeal := hGatedIdeal) (hGatedRefIdeal := hGatedRefIdeal)
    ∧ preserves_Realdft_RealdftIdeal
    ∧ algebraic_RealdftIdeal_RealdftRefIdeal (hRealdftIdeal := hRealdftIdeal) (hRealdftRefIdeal := hRealdftRefIdeal)
    ∧ preserves_Tapdft_TapdftIdeal
    ∧ algebraic_TapdftIdeal_TapdftRefIdeal (hTapdftIdeal := hTapdftIdeal) (hTapdftRefIdeal := hTapdftRefIdeal)
    ∧ preserves_Table_TableIdeal
    ∧ algebraic_TableIdeal_TableRefIdeal (hTableIdeal := hTableIdeal) (hTableRefIdeal := hTableRefIdeal)
    ∧ preserves_Posdft_PosdftIdeal
    ∧ algebraic_PosdftIdeal_PosdftRefIdeal (hPosdftIdeal := hPosdftIdeal) (hPosdftRefIdeal := hPosdftRefIdeal)
    ∧ preserves_Filtspec_FiltspecIdeal
    ∧ algebraic_FiltspecIdeal_FiltspecRefIdeal (hFiltspecIdeal := hFiltspecIdeal) (hFiltspecRefIdeal := hFiltspecRefIdeal)
    ∧ preserves_Spectrum_SpectrumIdeal
    ∧ algebraic_SpectrumIdeal_SpectrumRefIdeal (hSpectrumIdeal := hSpectrumIdeal) (hSpectrumRefIdeal := hSpectrumRefIdeal)
    ∧ preserves_Chandft_ChandftIdeal
    ∧ algebraic_ChandftIdeal_ChandftRefIdeal (hChandftIdeal := hChandftIdeal) (hChandftRefIdeal := hChandftRefIdeal)
    ∧ preserves_Ftaps_FtapsIdeal
    ∧ algebraic_FtapsIdeal_FtapsRefIdeal (hFtapsIdeal := hFtapsIdeal) (hFtapsRefIdeal := hFtapsRefIdeal)
    ∧ preserves_Shortconv_ShortconvIdeal
    ∧ algebraic_ShortconvIdeal_ShortconvRefIdeal (hShortconvIdeal := hShortconvIdeal) (hShortconvRefIdeal := hShortconvRefIdeal)
    ∧ preserves_Spectrum2_Spectrum2Ideal
    ∧ algebraic_Spectrum2Ideal_Spectrum2RefIdeal (hSpectrum2Ideal := hSpectrum2Ideal) (hSpectrum2RefIdeal := hSpectrum2RefIdeal)
    ∧ preserves_Signal2_Signal2Ideal
    ∧ algebraic_Signal2Ideal_Signal2RefIdeal (hSignal2Ideal := hSignal2Ideal) (hSignal2RefIdeal := hSignal2RefIdeal)
    ∧ preserves_Gated2_Gated2Ideal
    ∧ algebraic_Gated2Ideal_Gated2RefIdeal (hGated2Ideal := hGated2Ideal) (hGated2RefIdeal := hGated2RefIdeal)
-- ==== Inproj.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096 : Shape := ⟨2, ![1, 4096]⟩
abbrev S16384x1024 : Shape := ⟨2, ![16384, 1024]⟩
abbrev S1024 : Shape := ⟨1, ![1024]⟩
abbrev S1024x4096 : Shape := ⟨2, ![1024, 4096]⟩
abbrev S4096 : Shape := ⟨1, ![4096]⟩
abbrev S16384x2048 : Shape := ⟨2, ![16384, 2048]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 13
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S16384x1024, .f32⟩
  | .hbm, ⟨5, _⟩ => ⟨S1024, .f32⟩
  | .hbm, ⟨6, _⟩ => ⟨S1x1024, .f32⟩
  | .hbm, ⟨7, _⟩ => ⟨S1024x4096, .f32⟩
  | .hbm, ⟨8, _⟩ => ⟨S1024x4096, .bf16⟩
  | .hbm, ⟨9, _⟩ => ⟨S4096, .f32⟩
  | .hbm, ⟨10, _⟩ => ⟨S1x4096, .f32⟩
  | .hbm, ⟨11, _⟩ => ⟨S16384x2048, .bf16⟩
  | .hbm, ⟨12, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096 : Shape := ⟨2, ![1, 4096]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096 : Shape := ⟨1, ![4096]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x4096, .f32⟩
  | .hbm, ⟨23, _⟩ => ⟨S16384x4096, .f32⟩
  | .hbm, ⟨24, _⟩ => ⟨S4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S16384x2048, .f32⟩
  | .hbm, ⟨29, _⟩ => ⟨S16384x2048, .bf16⟩
  | .hbm, ⟨30, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Merge.lean ====
abbrev S16384x512 : Shape := ⟨2, ![16384, 512]⟩
abbrev S16384x2048 : Shape := ⟨2, ![16384, 2048]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024x2048 : Shape := ⟨2, ![1024, 2048]⟩
abbrev S1024x8x2x128 : Shape := ⟨4, ![1024, 8, 2, 128]⟩
abbrev S1024x2x8x128 : Shape := ⟨4, ![1024, 2, 8, 128]⟩
abbrev S512x1024 : Shape := ⟨2, ![512, 1024]⟩
abbrev S1024x1024 : Shape := ⟨2, ![1024, 1024]⟩
abbrev S1024 : Shape := ⟨1, ![1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .f32⟩
  | .hbm, ⟨3, _⟩ => ⟨S16384x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S1024x2048, .f32⟩
  | .hbm, ⟨10, _⟩ => ⟨S1024x8x2x128, .f32⟩
  | .hbm, ⟨11, _⟩ => ⟨S1024x2x8x128, .f32⟩
  | .hbm, ⟨12, _⟩ => ⟨S1024x2048, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x2048, .bf16⟩
  | .hbm, ⟨22, _⟩ => ⟨S16384x1024, .f32⟩
  | .hbm, ⟨23, _⟩ => ⟨S16384x1024, .bf16⟩
  | .hbm, ⟨24, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x512 : Shape := ⟨2, ![16384, 512]⟩
abbrev S16384x2048 : Shape := ⟨2, ![16384, 2048]⟩
abbrev S16384x1024 : Shape := ⟨2, ![16384, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1024x2048 : Shape := ⟨2, ![1024, 2048]⟩
abbrev S16384x8x2x128 : Shape := ⟨4, ![16384, 8, 2, 128]⟩
abbrev S16384x2x8x128 : Shape := ⟨4, ![16384, 2, 8, 128]⟩

abbrev nBuf : Space → Nat
  | .hbm => 63
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x2048, .f32⟩
  | .hbm, ⟨3, _⟩ => ⟨S16384x1024, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S16384x512, .f32⟩
  | .hbm, ⟨10, _⟩ => ⟨S512x1024, .f32⟩
  | .hbm, ⟨11, _⟩ => ⟨S16384x1024, .f32⟩
  | .hbm, ⟨12, _⟩ => ⟨S16384x512, .f32⟩
  | .hbm, ⟨13, _⟩ => ⟨S512x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S16384x1024, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024x2048, .f32⟩
  | .hbm, ⟨57, _⟩ => ⟨S16384x2048, .f32⟩
  | .hbm, ⟨58, _⟩ => ⟨S16384x8x2x128, .f32⟩
  | .hbm, ⟨59, _⟩ => ⟨S16384x1024, .bf16⟩
  | .hbm, ⟨60, _⟩ => ⟨S16384x2x8x128, .f32⟩
  | .hbm, ⟨61, _⟩ => ⟨S16384x2048, .f32⟩
  | .hbm, ⟨62, _⟩ => ⟨S16384x2048, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Signal.lean ====
abbrev S3x128x128x512 : Shape := ⟨4, ![3, 128, 128, 512]⟩
abbrev S128x64 : Shape := ⟨2, ![128, 64]⟩
abbrev S128x128 : Shape := ⟨2, ![128, 128]⟩
abbrev S256x128 : Shape := ⟨2, ![256, 128]⟩
abbrev S1x256x128x512 : Shape := ⟨4, ![1, 256, 128, 512]⟩
abbrev S1x128x16x512 : Shape := ⟨4, ![1, 128, 16, 512]⟩
abbrev S1x256x16x512 : Shape := ⟨4, ![1, 256, 16, 512]⟩
abbrev S128x16x512 : Shape := ⟨3, ![128, 16, 512]⟩
abbrev S128x8192 : Shape := ⟨2, ![128, 8192]⟩
abbrev S256x8192 : Shape := ⟨2, ![256, 8192]⟩
abbrev S256x16x512 : Shape := ⟨3, ![256, 16, 512]⟩

abbrev nBuf : Space → Nat
  | .hbm => 9
  | .vmem => 5
  | .smem => 0
  | _ => 0

abbrev bufTy : (tb : Table) → Fin (tcTables nBuf tb) → BufTy
  | .hbm, ⟨0, _⟩ => ⟨S3x128x128x512, .bf16⟩
  | .hbm, ⟨1, _⟩ => ⟨S128x64, .f32⟩
  | .hbm, ⟨2, _⟩ => ⟨S128x64, .f32⟩
  | .hbm, ⟨3, _⟩ => ⟨S128x128, .f32⟩
  | .hbm, ⟨4, _⟩ => ⟨S128x64, .f32⟩
  | .hbm, ⟨5, _⟩ => ⟨S128x128, .f32⟩
  | .hbm, ⟨6, _⟩ => ⟨S256x128, .f32⟩
  | .hbm, ⟨7, _⟩ => ⟨S256x128, .bf16⟩
  | .hbm, ⟨8, _⟩ => ⟨S1x256x128x512, .bf16⟩
  | .local _ .vmem, ⟨0, _⟩ => ⟨S256x128, .bf16⟩
  | .local _ .vmem, ⟨1, _⟩ => ⟨S1x128x16x512, .bf16⟩
  | .local _ .vmem, ⟨2, _⟩ => ⟨S1x128x16x512, .bf16⟩
  | .local _ .vmem, ⟨3, _⟩ => ⟨S1x256x16x512, .bf16⟩
  | .local _ .vmem, ⟨4, _⟩ => ⟨S1x256x16x512, .bf16⟩
  | _, _ => ⟨S3x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SignalRefIdeal.lean ====
abbrev S3x128x128x512 : Shape := ⟨4, ![3, 128, 128, 512]⟩
abbrev S128x64 : Shape := ⟨2, ![128, 64]⟩
abbrev S1x64x128x512 : Shape := ⟨4, ![1, 64, 128, 512]⟩
abbrev S64x128x512 : Shape := ⟨3, ![64, 128, 512]⟩
abbrev S128x128x512 : Shape := ⟨3, ![128, 128, 512]⟩
abbrev S256x128x512 : Shape := ⟨3, ![256, 128, 512]⟩
abbrev S1x256x128x512 : Shape := ⟨4, ![1, 256, 128, 512]⟩

abbrev nBuf : Space → Nat
  | .hbm => 19
  | .vmem => 0
  | .smem => 0
  | _ => 0

abbrev bufTy : (tb : Table) → Fin (tcTables nBuf tb) → BufTy
  | .hbm, ⟨0, _⟩ => ⟨S3x128x128x512, .bf16⟩
  | .hbm, ⟨1, _⟩ => ⟨S128x64, .f32⟩
  | .hbm, ⟨2, _⟩ => ⟨S128x64, .f32⟩
  | .hbm, ⟨3, _⟩ => ⟨S1x64x128x512, .bf16⟩
  | .hbm, ⟨4, _⟩ => ⟨S64x128x512, .bf16⟩
  | .hbm, ⟨5, _⟩ => ⟨S64x128x512, .f32⟩
  | .hbm, ⟨6, _⟩ => ⟨S1x64x128x512, .bf16⟩
  | .hbm, ⟨7, _⟩ => ⟨S64x128x512, .bf16⟩
  | .hbm, ⟨8, _⟩ => ⟨S64x128x512, .f32⟩
  | .hbm, ⟨9, _⟩ => ⟨S128x128x512, .f32⟩
  | .hbm, ⟨10, _⟩ => ⟨S128x128x512, .f32⟩
  | .hbm, ⟨11, _⟩ => ⟨S128x128x512, .f32⟩
  | .hbm, ⟨12, _⟩ => ⟨S128x64, .f32⟩
  | .hbm, ⟨13, _⟩ => ⟨S128x128x512, .f32⟩
  | .hbm, ⟨14, _⟩ => ⟨S128x128x512, .f32⟩
  | .hbm, ⟨15, _⟩ => ⟨S128x128x512, .f32⟩
  | .hbm, ⟨16, _⟩ => ⟨S256x128x512, .f32⟩
  | .hbm, ⟨17, _⟩ => ⟨S1x256x128x512, .f32⟩
  | .hbm, ⟨18, _⟩ => ⟨S1x256x128x512, .bf16⟩
  | _, _ => ⟨S3x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Gated.lean ====
abbrev S256x128x512 : Shape := ⟨3, ![256, 128, 512]⟩
abbrev S3x128x128x512 : Shape := ⟨4, ![3, 128, 128, 512]⟩
abbrev S64x128 : Shape := ⟨2, ![64, 128]⟩
abbrev S1x512 : Shape := ⟨2, ![1, 512]⟩
abbrev S64x256 : Shape := ⟨2, ![64, 256]⟩
abbrev S128x256 : Shape := ⟨2, ![128, 256]⟩
abbrev S128x128x512 : Shape := ⟨3, ![128, 128, 512]⟩
abbrev S256x16x512 : Shape := ⟨3, ![256, 16, 512]⟩
abbrev S1x128x16x512 : Shape := ⟨4, ![1, 128, 16, 512]⟩
abbrev S128x16x512 : Shape := ⟨3, ![128, 16, 512]⟩
abbrev S256x8192 : Shape := ⟨2, ![256, 8192]⟩
abbrev S128x8192 : Shape := ⟨2, ![128, 8192]⟩
abbrev S1x1x512 : Shape := ⟨3, ![1, 1, 512]⟩

abbrev nBuf : Space → Nat
  | .hbm => 11
  | .vmem => 10
  | .smem => 0
  | _ => 0

abbrev bufTy : (tb : Table) → Fin (tcTables nBuf tb) → BufTy
  | .hbm, ⟨0, _⟩ => ⟨S256x128x512, .bf16⟩
  | .hbm, ⟨1, _⟩ => ⟨S3x128x128x512, .bf16⟩
  | .hbm, ⟨2, _⟩ => ⟨S64x128, .f32⟩
  | .hbm, ⟨3, _⟩ => ⟨S64x128, .f32⟩
  | .hbm, ⟨4, _⟩ => ⟨S1x512, .f32⟩
  | .hbm, ⟨5, _⟩ => ⟨S64x128, .f32⟩
  | .hbm, ⟨6, _⟩ => ⟨S64x256, .f32⟩
  | .hbm, ⟨7, _⟩ => ⟨S64x256, .f32⟩
  | .hbm, ⟨8, _⟩ => ⟨S128x256, .f32⟩
  | .hbm, ⟨9, _⟩ => ⟨S128x256, .bf16⟩
  | .hbm, ⟨10, _⟩ => ⟨S128x128x512, .bf16⟩
  | .local _ .vmem, ⟨0, _⟩ => ⟨S128x256, .bf16⟩
  | .local _ .vmem, ⟨1, _⟩ => ⟨S256x16x512, .bf16⟩
  | .local _ .vmem, ⟨2, _⟩ => ⟨S256x16x512, .bf16⟩
  | .local _ .vmem, ⟨3, _⟩ => ⟨S1x128x16x512, .bf16⟩
  | .local _ .vmem, ⟨4, _⟩ => ⟨S1x128x16x512, .bf16⟩
  | .local _ .vmem, ⟨5, _⟩ => ⟨S1x128x16x512, .bf16⟩
  | .local _ .vmem, ⟨6, _⟩ => ⟨S1x128x16x512, .bf16⟩
  | .local _ .vmem, ⟨7, _⟩ => ⟨S1x512, .f32⟩
  | .local _ .vmem, ⟨8, _⟩ => ⟨S128x16x512, .bf16⟩
  | .local _ .vmem, ⟨9, _⟩ => ⟨S128x16x512, .bf16⟩
  | _, _ => ⟨S256x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatedRefIdeal.lean ====
abbrev S256x128x512 : Shape := ⟨3, ![256, 128, 512]⟩
abbrev S3x128x128x512 : Shape := ⟨4, ![3, 128, 128, 512]⟩
abbrev S64x128 : Shape := ⟨2, ![64, 128]⟩
abbrev S1x512 : Shape := ⟨2, ![1, 512]⟩
abbrev S128x128x512 : Shape := ⟨3, ![128, 128, 512]⟩
abbrev S64x128x512 : Shape := ⟨3, ![64, 128, 512]⟩
abbrev S1x128x128x512 : Shape := ⟨4, ![1, 128, 128, 512]⟩
abbrev S512 : Shape := ⟨1, ![512]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S256x128x512, .bf16⟩
  | .hbm, ⟨1, _⟩ => ⟨S3x128x128x512, .bf16⟩
  | .hbm, ⟨2, _⟩ => ⟨S64x128, .f32⟩
  | .hbm, ⟨3, _⟩ => ⟨S64x128, .f32⟩
  | .hbm, ⟨4, _⟩ => ⟨S1x512, .f32⟩
  | .hbm, ⟨5, _⟩ => ⟨S128x128x512, .bf16⟩
  | .hbm, ⟨6, _⟩ => ⟨S128x128x512, .f32⟩
  | .hbm, ⟨7, _⟩ => ⟨S128x128x512, .bf16⟩
  | .hbm, ⟨8, _⟩ => ⟨S128x128x512, .f32⟩
  | .hbm, ⟨9, _⟩ => ⟨S64x128x512, .f32⟩
  | .hbm, ⟨10, _⟩ => ⟨S64x128, .f32⟩
  | .hbm, ⟨11, _⟩ => ⟨S64x128x512, .f32⟩
  | .hbm, ⟨12, _⟩ => ⟨S64x128x512, .f32⟩
  | .hbm, ⟨13, _⟩ => ⟨S64x128x512, .f32⟩
  | .hbm, ⟨14, _⟩ => ⟨S64x128x512, .f32⟩
  | .hbm, ⟨15, _⟩ => ⟨S64x128x512, .f32⟩
  | .hbm, ⟨16, _⟩ => ⟨S128x128x512, .f32⟩
  | .hbm, ⟨17, _⟩ => ⟨S1x128x128x512, .bf16⟩
  | .hbm, ⟨18, _⟩ => ⟨S128x128x512, .bf16⟩
  | .hbm, ⟨19, _⟩ => ⟨S128x128x512, .f32⟩
  | .hbm, ⟨20, _⟩ => ⟨S1x128x128x512, .bf16⟩
  | .hbm, ⟨21, _⟩ => ⟨S128x128x512, .bf16⟩
  | .hbm, ⟨22, _⟩ => ⟨S128x128x512, .f32⟩
  | .hbm, ⟨23, _⟩ => ⟨S512, .f32⟩
  | .hbm, ⟨24, _⟩ => ⟨S1x1x512, .f32⟩
  | .hbm, ⟨25, _⟩ => ⟨S128x128x512, .f32⟩
  | .hbm, ⟨26, _⟩ => ⟨S128x128x512, .f32⟩
  | .hbm, ⟨27, _⟩ => ⟨S128x128x512, .f32⟩
  | .hbm, ⟨28, _⟩ => ⟨S128x128x512, .f32⟩
  | .hbm, ⟨29, _⟩ => ⟨S128x128x512, .bf16⟩
  | _, _ => ⟨S256x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Realdft.lean ====
abbrev S2x128x128x512 : Shape := ⟨4, ![2, 128, 128, 512]⟩
abbrev S64x64 : Shape := ⟨2, ![64, 64]⟩
abbrev S64x128 : Shape := ⟨2, ![64, 128]⟩
abbrev S2x64x128x512 : Shape := ⟨4, ![2, 64, 128, 512]⟩
abbrev S1x128x16x512 : Shape := ⟨4, ![1, 128, 16, 512]⟩
abbrev S1x64x16x512 : Shape := ⟨4, ![1, 64, 16, 512]⟩
abbrev S128x16x512 : Shape := ⟨3, ![128, 16, 512]⟩
abbrev S128x8192 : Shape := ⟨2, ![128, 8192]⟩
abbrev S64x8192 : Shape := ⟨2, ![64, 8192]⟩
abbrev S64x16x512 : Shape := ⟨3, ![64, 16, 512]⟩

abbrev nBuf : Space → Nat
  | .hbm => 6
  | .vmem => 5
  | .smem => 0
  | _ => 0

abbrev bufTy : (tb : Table) → Fin (tcTables nBuf tb) → BufTy
  | .hbm, ⟨0, _⟩ => ⟨S2x128x128x512, .bf16⟩
  | .hbm, ⟨1, _⟩ => ⟨S64x64, .f32⟩
  | .hbm, ⟨2, _⟩ => ⟨S64x64, .f32⟩
  | .hbm, ⟨3, _⟩ => ⟨S64x128, .f32⟩
  | .hbm, ⟨4, _⟩ => ⟨S64x128, .bf16⟩
  | .hbm, ⟨5, _⟩ => ⟨S2x64x128x512, .bf16⟩
  | .local _ .vmem, ⟨0, _⟩ => ⟨S64x128, .bf16⟩
  | .local _ .vmem, ⟨1, _⟩ => ⟨S1x128x16x512, .bf16⟩
  | .local _ .vmem, ⟨2, _⟩ => ⟨S1x128x16x512, .bf16⟩
  | .local _ .vmem, ⟨3, _⟩ => ⟨S1x64x16x512, .bf16⟩
  | .local _ .vmem, ⟨4, _⟩ => ⟨S1x64x16x512, .bf16⟩
  | _, _ => ⟨S2x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S64x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RealdftRefIdeal.lean ====
abbrev S2x128x128x512 : Shape := ⟨4, ![2, 128, 128, 512]⟩
abbrev S64x64 : Shape := ⟨2, ![64, 64]⟩
abbrev S2x64x128x512 : Shape := ⟨4, ![2, 64, 128, 512]⟩
abbrev S2x128x512x64 : Shape := ⟨4, ![2, 128, 512, 64]⟩

abbrev nBuf : Space → Nat
  | .hbm => 13
  | .vmem => 0
  | .smem => 0
  | _ => 0

abbrev bufTy : (tb : Table) → Fin (tcTables nBuf tb) → BufTy
  | .hbm, ⟨0, _⟩ => ⟨S2x128x128x512, .bf16⟩
  | .hbm, ⟨1, _⟩ => ⟨S64x64, .f32⟩
  | .hbm, ⟨2, _⟩ => ⟨S64x64, .f32⟩
  | .hbm, ⟨3, _⟩ => ⟨S2x64x128x512, .bf16⟩
  | .hbm, ⟨4, _⟩ => ⟨S2x64x128x512, .f32⟩
  | .hbm, ⟨5, _⟩ => ⟨S2x64x128x512, .bf16⟩
  | .hbm, ⟨6, _⟩ => ⟨S2x64x128x512, .f32⟩
  | .hbm, ⟨7, _⟩ => ⟨S2x128x512x64, .f32⟩
  | .hbm, ⟨8, _⟩ => ⟨S2x64x128x512, .f32⟩
  | .hbm, ⟨9, _⟩ => ⟨S2x128x512x64, .f32⟩
  | .hbm, ⟨10, _⟩ => ⟨S2x64x128x512, .f32⟩
  | .hbm, ⟨11, _⟩ => ⟨S2x64x128x512, .f32⟩
  | .hbm, ⟨12, _⟩ => ⟨S2x64x128x512, .bf16⟩
  | _, _ => ⟨S2x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Tapdft.lean ====
abbrev S2x128x128x512 : Shape := ⟨4, ![2, 128, 128, 512]⟩
abbrev S128x128 : Shape := ⟨2, ![128, 128]⟩
abbrev S256x128 : Shape := ⟨2, ![256, 128]⟩
abbrev S2x256x128x512 : Shape := ⟨4, ![2, 256, 128, 512]⟩
abbrev S1x128x16x512 : Shape := ⟨4, ![1, 128, 16, 512]⟩
abbrev S1x256x16x512 : Shape := ⟨4, ![1, 256, 16, 512]⟩
abbrev S128x16x512 : Shape := ⟨3, ![128, 16, 512]⟩
abbrev S128x8192 : Shape := ⟨2, ![128, 8192]⟩
abbrev S256x8192 : Shape := ⟨2, ![256, 8192]⟩
abbrev S256x16x512 : Shape := ⟨3, ![256, 16, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x128x128x512, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S256x128, .f32⟩
  | .hbm, ⟨5, _⟩ => ⟨S256x128, .bf16⟩
  | .hbm, ⟨6, _⟩ => ⟨S2x256x128x512, .bf16⟩
  | .local _ .vmem, ⟨0, _⟩ => ⟨S256x128, .bf16⟩
  | .local _ .vmem, ⟨1, _⟩ => ⟨S1x128x16x512, .bf16⟩
  | .local _ .vmem, ⟨2, _⟩ => ⟨S1x128x16x512, .bf16⟩
  | .local _ .vmem, ⟨3, _⟩ => ⟨S1x256x16x512, .bf16⟩
  | .local _ .vmem, ⟨4, _⟩ => ⟨S1x256x16x512, .bf16⟩
  | _, _ => ⟨S2x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TapdftRefIdeal.lean ====
abbrev S2x128x128x512 : Shape := ⟨4, ![2, 128, 128, 512]⟩
abbrev S128x128 : Shape := ⟨2, ![128, 128]⟩
abbrev S2x128x512x128 : Shape := ⟨4, ![2, 128, 512, 128]⟩
abbrev S2x256x128x512 : Shape := ⟨4, ![2, 256, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S2x128x128x512, .bf16⟩
  | .hbm, ⟨1, _⟩ => ⟨S128x128, .f32⟩
  | .hbm, ⟨2, _⟩ => ⟨S128x128, .f32⟩
  | .hbm, ⟨3, _⟩ => ⟨S2x128x128x512, .f32⟩
  | .hbm, ⟨4, _⟩ => ⟨S2x128x512x128, .f32⟩
  | .hbm, ⟨5, _⟩ => ⟨S2x128x128x512, .f32⟩
  | .hbm, ⟨6, _⟩ => ⟨S128x128, .f32⟩
  | .hbm, ⟨7, _⟩ => ⟨S2x128x512x128, .f32⟩
  | .hbm, ⟨8, _⟩ => ⟨S2x128x128x512, .f32⟩
  | .hbm, ⟨9, _⟩ => ⟨S2x256x128x512, .f32⟩
  | .hbm, ⟨10, _⟩ => ⟨S2x256x128x512, .bf16⟩
  | _, _ => ⟨S2x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Table.lean ====
abbrev S1x16384x1024 : Shape := ⟨3, ![1, 16384, 1024]⟩
abbrev S16384x1024 : Shape := ⟨2, ![16384, 1024]⟩
abbrev S1024x16384 : Shape := ⟨2, ![1024, 16384]⟩
abbrev S512x1024 : Shape := ⟨2, ![512, 1024]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== TableRefIdeal.lean ====
abbrev S1x16384x1024 : Shape := ⟨3, ![1, 16384, 1024]⟩
abbrev S16384x1024 : Shape := ⟨2, ![16384, 1024]⟩
abbrev S1024x16384 : Shape := ⟨2, ![1024, 16384]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1024x16384, .f32⟩
  | .hbm, ⟨3, _⟩ => ⟨S1024x16384, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Posdft.lean ====
abbrev S2x2x64x128x512 : Shape := ⟨5, ![2, 2, 64, 128, 512]⟩
abbrev S64x128x128 : Shape := ⟨3, ![64, 128, 128]⟩
abbrev S64x128x256 : Shape := ⟨3, ![64, 128, 256]⟩
abbrev S64x256x256 : Shape := ⟨3, ![64, 256, 256]⟩
abbrev S1x2x8x128x512 : Shape := ⟨5, ![1, 2, 8, 128, 512]⟩
abbrev S8x256x256 : Shape := ⟨3, ![8, 256, 256]⟩
abbrev S1x256x256 : Shape := ⟨3, ![1, 256, 256]⟩
abbrev S256x256 : Shape := ⟨2, ![256, 256]⟩
abbrev S1x1x1x128x512 : Shape := ⟨5, ![1, 1, 1, 128, 512]⟩
abbrev S128x512 : Shape := ⟨2, ![128, 512]⟩
abbrev S256x512 : Shape := ⟨2, ![256, 512]⟩

abbrev nBuf : Space → Nat
  | .hbm => 9
  | .vmem => 6
  | .smem => 0
  | _ => 0

abbrev bufTy : (tb : Table) → Fin (tcTables nBuf tb) → BufTy
  | .hbm, ⟨0, _⟩ => ⟨S2x2x64x128x512, .bf16⟩
  | .hbm, ⟨1, _⟩ => ⟨S64x128x128, .f32⟩
  | .hbm, ⟨2, _⟩ => ⟨S64x128x128, .f32⟩
  | .hbm, ⟨3, _⟩ => ⟨S64x128x256, .f32⟩
  | .hbm, ⟨4, _⟩ => ⟨S64x128x128, .f32⟩
  | .hbm, ⟨5, _⟩ => ⟨S64x128x256, .f32⟩
  | .hbm, ⟨6, _⟩ => ⟨S64x256x256, .f32⟩
  | .hbm, ⟨7, _⟩ => ⟨S64x256x256, .bf16⟩
  | .hbm, ⟨8, _⟩ => ⟨S2x2x64x128x512, .bf16⟩
  | .local _ .vmem, ⟨0, _⟩ => ⟨S1x2x8x128x512, .bf16⟩
  | .local _ .vmem, ⟨1, _⟩ => ⟨S1x2x8x128x512, .bf16⟩
  | .local _ .vmem, ⟨2, _⟩ => ⟨S8x256x256, .bf16⟩
  | .local _ .vmem, ⟨3, _⟩ => ⟨S8x256x256, .bf16⟩
  | .local _ .vmem, ⟨4, _⟩ => ⟨S1x2x8x128x512, .bf16⟩
  | .local _ .vmem, ⟨5, _⟩ => ⟨S1x2x8x128x512, .bf16⟩
  | _, _ => ⟨S2x2x64x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x2x8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PosdftRefIdeal.lean ====
abbrev S2x2x64x128x512 : Shape := ⟨5, ![2, 2, 64, 128, 512]⟩
abbrev S64x128x128 : Shape := ⟨3, ![64, 128, 128]⟩
abbrev S2x1x64x128x512 : Shape := ⟨5, ![2, 1, 64, 128, 512]⟩
abbrev S2x64x128x512 : Shape := ⟨4, ![2, 64, 128, 512]⟩
abbrev S64x2x512x128 : Shape := ⟨4, ![64, 2, 512, 128]⟩

abbrev nBuf : Space → Nat
  | .hbm => 24
  | .vmem => 0
  | .smem => 0
  | _ => 0

abbrev bufTy : (tb : Table) → Fin (tcTables nBuf tb) → BufTy
  | .hbm, ⟨0, _⟩ => ⟨S2x2x64x128x512, .bf16⟩
  | .hbm, ⟨1, _⟩ => ⟨S64x128x128, .f32⟩
  | .hbm, ⟨2, _⟩ => ⟨S64x128x128, .f32⟩
  | .hbm, ⟨3, _⟩ => ⟨S2x1x64x128x512, .bf16⟩
  | .hbm, ⟨4, _⟩ => ⟨S2x64x128x512, .bf16⟩
  | .hbm, ⟨5, _⟩ => ⟨S2x64x128x512, .f32⟩
  | .hbm, ⟨6, _⟩ => ⟨S2x1x64x128x512, .bf16⟩
  | .hbm, ⟨7, _⟩ => ⟨S2x64x128x512, .bf16⟩
  | .hbm, ⟨8, _⟩ => ⟨S2x64x128x512, .f32⟩
  | .hbm, ⟨9, _⟩ => ⟨S64x2x512x128, .f32⟩
  | .hbm, ⟨10, _⟩ => ⟨S2x64x128x512, .f32⟩
  | .hbm, ⟨11, _⟩ => ⟨S64x2x512x128, .f32⟩
  | .hbm, ⟨12, _⟩ => ⟨S2x64x128x512, .f32⟩
  | .hbm, ⟨13, _⟩ => ⟨S2x64x128x512, .f32⟩
  | .hbm, ⟨14, _⟩ => ⟨S64x128x128, .f32⟩
  | .hbm, ⟨15, _⟩ => ⟨S64x2x512x128, .f32⟩
  | .hbm, ⟨16, _⟩ => ⟨S2x64x128x512, .f32⟩
  | .hbm, ⟨17, _⟩ => ⟨S64x2x512x128, .f32⟩
  | .hbm, ⟨18, _⟩ => ⟨S2x64x128x512, .f32⟩
  | .hbm, ⟨19, _⟩ => ⟨S2x64x128x512, .f32⟩
  | .hbm, ⟨20, _⟩ => ⟨S2x1x64x128x512, .f32⟩
  | .hbm, ⟨21, _⟩ => ⟨S2x1x64x128x512, .f32⟩
  | .hbm, ⟨22, _⟩ => ⟨S2x2x64x128x512, .f32⟩
  | .hbm, ⟨23, _⟩ => ⟨S2x2x64x128x512, .bf16⟩
  | _, _ => ⟨S2x2x64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Filtspec.lean ====
abbrev S2x2x128x128x512 : Shape := ⟨5, ![2, 2, 128, 128, 512]⟩
abbrev S128x128x128 : Shape := ⟨3, ![128, 128, 128]⟩
abbrev S2x1x512 : Shape := ⟨3, ![2, 1, 512]⟩
abbrev S128x128x256 : Shape := ⟨3, ![128, 128, 256]⟩
abbrev S128x256x256 : Shape := ⟨3, ![128, 256, 256]⟩
abbrev S2x128x256x512 : Shape := ⟨4, ![2, 128, 256, 512]⟩
abbrev S1x2x16x128x512 : Shape := ⟨5, ![1, 2, 16, 128, 512]⟩
abbrev S16x256x256 : Shape := ⟨3, ![16, 256, 256]⟩
abbrev S1x1x512 : Shape := ⟨3, ![1, 1, 512]⟩
abbrev S1x16x256x512 : Shape := ⟨4, ![1, 16, 256, 512]⟩
abbrev S1x256x256 : Shape := ⟨3, ![1, 256, 256]⟩
abbrev S256x256 : Shape := ⟨2, ![256, 256]⟩
abbrev S1x1x1x128x512 : Shape := ⟨5, ![1, 1, 1, 128, 512]⟩
abbrev S128x512 : Shape := ⟨2, ![128, 512]⟩
abbrev S256x512 : Shape := ⟨2, ![256, 512]⟩
abbrev S1x512 : Shape := ⟨2, ![1, 512]⟩
abbrev S1x1x256x512 : Shape := ⟨4, ![1, 1, 256, 512]⟩

abbrev nBuf : Space → Nat
  | .hbm => 10
  | .vmem => 8
  | .smem => 0
  | _ => 0

abbrev bufTy : (tb : Table) → Fin (tcTables nBuf tb) → BufTy
  | .hbm, ⟨0, _⟩ => ⟨S2x2x128x128x512, .bf16⟩
  | .hbm, ⟨1, _⟩ => ⟨S128x128x128, .f32⟩
  | .hbm, ⟨2, _⟩ => ⟨S128x128x128, .f32⟩
  | .hbm, ⟨3, _⟩ => ⟨S2x1x512, .f32⟩
  | .hbm, ⟨4, _⟩ => ⟨S128x128x256, .f32⟩
  | .hbm, ⟨5, _⟩ => ⟨S128x128x128, .f32⟩
  | .hbm, ⟨6, _⟩ => ⟨S128x128x256, .f32⟩
  | .hbm, ⟨7, _⟩ => ⟨S128x256x256, .f32⟩
  | .hbm, ⟨8, _⟩ => ⟨S128x256x256, .bf16⟩
  | .hbm, ⟨9, _⟩ => ⟨S2x128x256x512, .bf16⟩
  | .local _ .vmem, ⟨0, _⟩ => ⟨S1x2x16x128x512, .bf16⟩
  | .local _ .vmem, ⟨1, _⟩ => ⟨S1x2x16x128x512, .bf16⟩
  | .local _ .vmem, ⟨2, _⟩ => ⟨S16x256x256, .bf16⟩
  | .local _ .vmem, ⟨3, _⟩ => ⟨S16x256x256, .bf16⟩
  | .local _ .vmem, ⟨4, _⟩ => ⟨S1x1x512, .f32⟩
  | .local _ .vmem, ⟨5, _⟩ => ⟨S1x1x512, .f32⟩
  | .local _ .vmem, ⟨6, _⟩ => ⟨S1x16x256x512, .bf16⟩
  | .local _ .vmem, ⟨7, _⟩ => ⟨S1x16x256x512, .bf16⟩
  | _, _ => ⟨S2x2x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FiltspecRefIdeal.lean ====
abbrev S2x2x128x128x512 : Shape := ⟨5, ![2, 2, 128, 128, 512]⟩
abbrev S128x128x128 : Shape := ⟨3, ![128, 128, 128]⟩
abbrev S2x1x512 : Shape := ⟨3, ![2, 1, 512]⟩
abbrev S2x1x128x128x512 : Shape := ⟨5, ![2, 1, 128, 128, 512]⟩
abbrev S2x128x128x512 : Shape := ⟨4, ![2, 128, 128, 512]⟩
abbrev S128x2x512x128 : Shape := ⟨4, ![128, 2, 512, 128]⟩
abbrev S2x1x1x512 : Shape := ⟨4, ![2, 1, 1, 512]⟩
abbrev S2x128x256x512 : Shape := ⟨4, ![2, 128, 256, 512]⟩

abbrev nBuf : Space → Nat
  | .hbm => 29
  | .vmem => 0
  | .smem => 0
  | _ => 0

abbrev bufTy : (tb : Table) → Fin (tcTables nBuf tb) → BufTy
  | .hbm, ⟨0, _⟩ => ⟨S2x2x128x128x512, .bf16⟩
  | .hbm, ⟨1, _⟩ => ⟨S128x128x128, .f32⟩
  | .hbm, ⟨2, _⟩ => ⟨S128x128x128, .f32⟩
  | .hbm, ⟨3, _⟩ => ⟨S2x1x512, .f32⟩
  | .hbm, ⟨4, _⟩ => ⟨S2x1x128x128x512, .bf16⟩
  | .hbm, ⟨5, _⟩ => ⟨S2x128x128x512, .bf16⟩
  | .hbm, ⟨6, _⟩ => ⟨S2x128x128x512, .f32⟩
  | .hbm, ⟨7, _⟩ => ⟨S2x1x128x128x512, .bf16⟩
  | .hbm, ⟨8, _⟩ => ⟨S2x128x128x512, .bf16⟩
  | .hbm, ⟨9, _⟩ => ⟨S2x128x128x512, .f32⟩
  | .hbm, ⟨10, _⟩ => ⟨S128x2x512x128, .f32⟩
  | .hbm, ⟨11, _⟩ => ⟨S2x128x128x512, .f32⟩
  | .hbm, ⟨12, _⟩ => ⟨S128x2x512x128, .f32⟩
  | .hbm, ⟨13, _⟩ => ⟨S2x128x128x512, .f32⟩
  | .hbm, ⟨14, _⟩ => ⟨S2x128x128x512, .f32⟩
  | .hbm, ⟨15, _⟩ => ⟨S2x1x1x512, .f32⟩
  | .hbm, ⟨16, _⟩ => ⟨S2x128x128x512, .f32⟩
  | .hbm, ⟨17, _⟩ => ⟨S2x128x128x512, .f32⟩
  | .hbm, ⟨18, _⟩ => ⟨S128x128x128, .f32⟩
  | .hbm, ⟨19, _⟩ => ⟨S128x2x512x128, .f32⟩
  | .hbm, ⟨20, _⟩ => ⟨S2x128x128x512, .f32⟩
  | .hbm, ⟨21, _⟩ => ⟨S128x2x512x128, .f32⟩
  | .hbm, ⟨22, _⟩ => ⟨S2x128x128x512, .f32⟩
  | .hbm, ⟨23, _⟩ => ⟨S2x128x128x512, .f32⟩
  | .hbm, ⟨24, _⟩ => ⟨S2x1x1x512, .f32⟩
  | .hbm, ⟨25, _⟩ => ⟨S2x128x128x512, .f32⟩
  | .hbm, ⟨26, _⟩ => ⟨S2x128x128x512, .f32⟩
  | .hbm, ⟨27, _⟩ => ⟨S2x128x256x512, .f32⟩
  | .hbm, ⟨28, _⟩ => ⟨S2x128x256x512, .bf16⟩
  | _, _ => ⟨S2x2x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Spectrum.lean ====
abbrev S2x128x128x512 : Shape := ⟨4, ![2, 128, 128, 512]⟩
abbrev S128x128x128 : Shape := ⟨3, ![128, 128, 128]⟩
abbrev S2x128x256x512 : Shape := ⟨4, ![2, 128, 256, 512]⟩
abbrev S128x128x256 : Shape := ⟨3, ![128, 128, 256]⟩
abbrev S128x256x256 : Shape := ⟨3, ![128, 256, 256]⟩
abbrev S2x16x128x512 : Shape := ⟨4, ![2, 16, 128, 512]⟩
abbrev S16x256x256 : Shape := ⟨3, ![16, 256, 256]⟩
abbrev S1x16x256x512 : Shape := ⟨4, ![1, 16, 256, 512]⟩
abbrev S1x256x256 : Shape := ⟨3, ![1, 256, 256]⟩
abbrev S256x256 : Shape := ⟨2, ![256, 256]⟩
abbrev S1x1x128x512 : Shape := ⟨4, ![1, 1, 128, 512]⟩
abbrev S128x512 : Shape := ⟨2, ![128, 512]⟩
abbrev S256x512 : Shape := ⟨2, ![256, 512]⟩
abbrev S1x1x256x512 : Shape := ⟨4, ![1, 1, 256, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x128x128x512, .bf16⟩
  | .hbm, ⟨1, _⟩ => ⟨S128x128x128, .f32⟩
  | .hbm, ⟨2, _⟩ => ⟨S128x128x128, .f32⟩
  | .hbm, ⟨3, _⟩ => ⟨S2x128x256x512, .bf16⟩
  | .hbm, ⟨4, _⟩ => ⟨S128x128x256, .f32⟩
  | .hbm, ⟨5, _⟩ => ⟨S128x128x128, .f32⟩
  | .hbm, ⟨6, _⟩ => ⟨S128x128x256, .f32⟩
  | .hbm, ⟨7, _⟩ => ⟨S128x256x256, .f32⟩
  | .hbm, ⟨8, _⟩ => ⟨S128x256x256, .f32⟩
  | .hbm, ⟨9, _⟩ => ⟨S128x256x256, .bf16⟩
  | .hbm, ⟨10, _⟩ => ⟨S128x256x256, .bf16⟩
  | .hbm, ⟨11, _⟩ => ⟨S2x128x128x512, .bf16⟩
  | .local _ .vmem, ⟨0, _⟩ => ⟨S2x16x128x512, .bf16⟩
  | .local _ .vmem, ⟨1, _⟩ => ⟨S2x16x128x512, .bf16⟩
  | .local _ .vmem, ⟨2, _⟩ => ⟨S16x256x256, .bf16⟩
  | .local _ .vmem, ⟨3, _⟩ => ⟨S16x256x256, .bf16⟩
  | .local _ .vmem, ⟨4, _⟩ => ⟨S16x256x256, .bf16⟩
  | .local _ .vmem, ⟨5, _⟩ => ⟨S16x256x256, .bf16⟩
  | .local _ .vmem, ⟨6, _⟩ => ⟨S1x16x256x512, .bf16⟩
  | .local _ .vmem, ⟨7, _⟩ => ⟨S1x16x256x512, .bf16⟩
  | .local _ .vmem, ⟨8, _⟩ => ⟨S2x16x128x512, .bf16⟩
  | .local _ .vmem, ⟨9, _⟩ => ⟨S2x16x128x512, .bf16⟩
  | _, _ => ⟨S2x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SpectrumRefIdeal.lean ====
abbrev S2x128x128x512 : Shape := ⟨4, ![2, 128, 128, 512]⟩
abbrev S128x128x128 : Shape := ⟨3, ![128, 128, 128]⟩
abbrev S2x128x256x512 : Shape := ⟨4, ![2, 128, 256, 512]⟩
abbrev S1x128x128x512 : Shape := ⟨4, ![1, 128, 128, 512]⟩
abbrev S128x128x512 : Shape := ⟨3, ![128, 128, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x128x128x512, .bf16⟩
  | .hbm, ⟨1, _⟩ => ⟨S128x128x128, .f32⟩
  | .hbm, ⟨2, _⟩ => ⟨S128x128x128, .f32⟩
  | .hbm, ⟨3, _⟩ => ⟨S2x128x256x512, .bf16⟩
  | .hbm, ⟨4, _⟩ => ⟨S1x128x128x512, .bf16⟩
  | .hbm, ⟨5, _⟩ => ⟨S128x128x512, .bf16⟩
  | .hbm, ⟨6, _⟩ => ⟨S128x128x512, .f32⟩
  | .hbm, ⟨7, _⟩ => ⟨S1x128x128x512, .bf16⟩
  | .hbm, ⟨8, _⟩ => ⟨S128x128x512, .bf16⟩
  | .hbm, ⟨9, _⟩ => ⟨S128x128x512, .f32⟩
  | .hbm, ⟨10, _⟩ => ⟨S1x128x128x512, .bf16⟩
  | .hbm, ⟨11, _⟩ => ⟨S128x128x512, .bf16⟩
  | .hbm, ⟨12, _⟩ => ⟨S128x128x512, .f32⟩
  | .hbm, ⟨13, _⟩ => ⟨S1x128x128x512, .bf16⟩
  | .hbm, ⟨14, _⟩ => ⟨S128x128x512, .bf16⟩
  | .hbm, ⟨15, _⟩ => ⟨S128x128x512, .f32⟩
  | .hbm, ⟨16, _⟩ => ⟨S128x128x512, .f32⟩
  | .hbm, ⟨17, _⟩ => ⟨S128x128x512, .f32⟩
  | .hbm, ⟨18, _⟩ => ⟨S128x128x512, .f32⟩
  | .hbm, ⟨19, _⟩ => ⟨S128x128x128, .f32⟩
  | .hbm, ⟨20, _⟩ => ⟨S128x128x512, .f32⟩
  | .hbm, ⟨21, _⟩ => ⟨S128x128x512, .f32⟩
  | .hbm, ⟨22, _⟩ => ⟨S128x128x512, .f32⟩
  | .hbm, ⟨23, _⟩ => ⟨S128x128x512, .f32⟩
  | .hbm, ⟨24, _⟩ => ⟨S128x128x512, .f32⟩
  | .hbm, ⟨25, _⟩ => ⟨S128x128x512, .f32⟩
  | .hbm, ⟨26, _⟩ => ⟨S128x128x512, .f32⟩
  | .hbm, ⟨27, _⟩ => ⟨S128x128x512, .f32⟩
  | .hbm, ⟨28, _⟩ => ⟨S128x128x512, .f32⟩
  | .hbm, ⟨29, _⟩ => ⟨S128x128x128, .f32⟩
  | .hbm, ⟨30, _⟩ => ⟨S128x128x128, .f32⟩
  | .hbm, ⟨31, _⟩ => ⟨S128x128x512, .f32⟩
  | .hbm, ⟨32, _⟩ => ⟨S128x128x128, .f32⟩
  | .hbm, ⟨33, _⟩ => ⟨S128x128x512, .f32⟩
  | .hbm, ⟨34, _⟩ => ⟨S128x128x512, .f32⟩
  | .hbm, ⟨35, _⟩ => ⟨S128x128x512, .f32⟩
  | .hbm, ⟨36, _⟩ => ⟨S128x128x512, .f32⟩
  | .hbm, ⟨37, _⟩ => ⟨S128x128x512, .f32⟩
  | .hbm, ⟨38, _⟩ => ⟨S1x128x128x512, .f32⟩
  | .hbm, ⟨39, _⟩ => ⟨S1x128x128x512, .f32⟩
  | .hbm, ⟨40, _⟩ => ⟨S2x128x128x512, .f32⟩
  | .hbm, ⟨41, _⟩ => ⟨S2x128x128x512, .bf16⟩
  | _, _ => ⟨S2x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩

abbrev nD : Nat := 1
abbrev τ : Topo := Topo.v7x

variable {F : FTy → Type} [FloatOps F]
-- ==== Chandft.lean ====
abbrev S2x8192x2048 : Shape := ⟨3, ![2, 8192, 2048]⟩
abbrev S128x128 : Shape := ⟨2, ![128, 128]⟩
abbrev S128x256 : Shape := ⟨2, ![128, 256]⟩
abbrev S2x2x64x128x512 : Shape := ⟨5, ![2, 2, 64, 128, 512]⟩
abbrev S1x1024x512 : Shape := ⟨3, ![1, 1024, 512]⟩
abbrev S1x2x64x16x512 : Shape := ⟨5, ![1, 2, 64, 16, 512]⟩
abbrev S1024x512 : Shape := ⟨2, ![1024, 512]⟩
abbrev S1024x128 : Shape := ⟨2, ![1024, 128]⟩
abbrev S1024x256 : Shape := ⟨2, ![1024, 256]⟩
abbrev S16x64x128 : Shape := ⟨3, ![16, 64, 128]⟩
abbrev S64x16x128 : Shape := ⟨3, ![64, 16, 128]⟩
abbrev S1x1x64x16x128 : Shape := ⟨5, ![1, 1, 64, 16, 128]⟩

abbrev nBuf : Space → Nat
  | .hbm => 7
  | .vmem => 5
  | .smem => 0
  | _ => 0

abbrev bufTy : (tb : Table) → Fin (tcTables nBuf tb) → BufTy
  | .hbm, ⟨0, _⟩ => ⟨S2x8192x2048, .bf16⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x256, .f32⟩
  | .hbm, ⟨5, _⟩ => ⟨S128x256, .bf16⟩
  | .hbm, ⟨6, _⟩ => ⟨S2x2x64x128x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S128x256, .bf16⟩
  | .local _ .vmem, ⟨3, _⟩ => ⟨S1x2x64x16x512, .bf16⟩
  | .local _ .vmem, ⟨4, _⟩ => ⟨S1x2x64x16x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x64x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChandftRefIdeal.lean ====
abbrev S2x8192x2048 : Shape := ⟨3, ![2, 8192, 2048]⟩
abbrev S128x128 : Shape := ⟨2, ![128, 128]⟩
abbrev S2x8192x512 : Shape := ⟨3, ![2, 8192, 512]⟩
abbrev S2x128x64x4x128 : Shape := ⟨5, ![2, 128, 64, 4, 128]⟩
abbrev S2x1x128x64x4x128 : Shape := ⟨6, ![2, 1, 128, 64, 4, 128]⟩
abbrev S2x2x128x64x4x128 : Shape := ⟨6, ![2, 2, 128, 64, 4, 128]⟩
abbrev S2x2x64x128x4x128 : Shape := ⟨6, ![2, 2, 64, 128, 4, 128]⟩
abbrev S2x2x64x128x512 : Shape := ⟨5, ![2, 2, 64, 128, 512]⟩

abbrev nBuf : Space → Nat
  | .hbm => 15
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S128x128, .f32⟩
  | .hbm, ⟨2, _⟩ => ⟨S128x128, .f32⟩
  | .hbm, ⟨3, _⟩ => ⟨S2x8192x512, .bf16⟩
  | .hbm, ⟨4, _⟩ => ⟨S2x8192x512, .f32⟩
  | .hbm, ⟨5, _⟩ => ⟨S2x128x64x4x128, .f32⟩
  | .hbm, ⟨6, _⟩ => ⟨S2x128x64x4x128, .f32⟩
  | .hbm, ⟨7, _⟩ => ⟨S128x128, .f32⟩
  | .hbm, ⟨8, _⟩ => ⟨S2x128x64x4x128, .f32⟩
  | .hbm, ⟨9, _⟩ => ⟨S2x1x128x64x4x128, .f32⟩
  | .hbm, ⟨10, _⟩ => ⟨S2x1x128x64x4x128, .f32⟩
  | .hbm, ⟨11, _⟩ => ⟨S2x2x128x64x4x128, .f32⟩
  | .hbm, ⟨12, _⟩ => ⟨S2x2x64x128x4x128, .f32⟩
  | .hbm, ⟨13, _⟩ => ⟨S2x2x64x128x512, .f32⟩
  | .hbm, ⟨14, _⟩ => ⟨S2x2x64x128x512, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Ftaps.lean ====
abbrev S16384x33 : Shape := ⟨2, ![16384, 33]⟩
abbrev S1x512 : Shape := ⟨2, ![1, 512]⟩
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S_ : Shape := ⟨0, ![]⟩
abbrev S16384x128 : Shape := ⟨2, ![16384, 128]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S128x64 : Shape := ⟨2, ![128, 64]⟩
abbrev S1 : Shape := ⟨1, ![1]⟩
abbrev S256x128 : Shape := ⟨2, ![256, 128]⟩
abbrev S2 : Shape := ⟨1, ![2]⟩
abbrev S64x128 : Shape := ⟨2, ![64, 128]⟩
abbrev S128x128 : Shape := ⟨2, ![128, 128]⟩
abbrev S64x2x2x512 : Shape := ⟨4, ![64, 2, 2, 512]⟩
abbrev S2x64x2x512 : Shape := ⟨4, ![2, 64, 2, 512]⟩
abbrev S2x64x1024 : Shape := ⟨3, ![2, 64, 1024]⟩
abbrev S2x128x1024 : Shape := ⟨3, ![2, 128, 1024]⟩
abbrev S2x1x128x1024 : Shape := ⟨4, ![2, 1, 128, 1024]⟩
abbrev S2x2x128x1024 : Shape := ⟨4, ![2, 2, 128, 1024]⟩
abbrev S2x64 : Shape := ⟨2, ![2, 64]⟩
abbrev S128 : Shape := ⟨1, ![128]⟩
abbrev S1x128 : Shape := ⟨2, ![1, 128]⟩
abbrev S2x16384x512 : Shape := ⟨3, ![2, 16384, 512]⟩
abbrev S2x512 : Shape := ⟨2, ![2, 512]⟩
abbrev S2048x128 : Shape := ⟨2, ![2048, 128]⟩
abbrev S1x2x128x1024 : Shape := ⟨4, ![1, 2, 128, 1024]⟩
abbrev S2x2048x512 : Shape := ⟨3, ![2, 2048, 512]⟩
abbrev S1024x128 : Shape := ⟨2, ![1024, 128]⟩
abbrev S1024x256 : Shape := ⟨2, ![1024, 256]⟩
abbrev S1x1x128x1024 : Shape := ⟨4, ![1, 1, 128, 1024]⟩
abbrev S128x1024 : Shape := ⟨2, ![128, 1024]⟩
abbrev S1024x1024 : Shape := ⟨2, ![1024, 1024]⟩
abbrev S1024x1 : Shape := ⟨2, ![1024, 1]⟩
abbrev S1024x512 : Shape := ⟨2, ![1024, 512]⟩
abbrev S1x1024x512 : Shape := ⟨3, ![1, 1024, 512]⟩
abbrev S512 : Shape := ⟨1, ![512]⟩

abbrev nBuf : Space → Nat
  | .hbm => 62
  | .vmem => 12
  | .smem => 0
  | _ => 0

abbrev bufTy : (tb : Table) → Fin (tcTables nBuf tb) → BufTy
  | .hbm, ⟨0, _⟩ => ⟨S16384x33, .f32⟩
  | .hbm, ⟨1, _⟩ => ⟨S1x512, .f32⟩
  | .hbm, ⟨2, _⟩ => ⟨S1x33x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64x2048, .f32⟩
  | .hbm, ⟨7, _⟩ => ⟨S_, .i32⟩
  | .hbm, ⟨8, _⟩ => ⟨S_, .f32⟩
  | .hbm, ⟨9, _⟩ => ⟨S16384x128, .f32⟩
  | .hbm, ⟨10, _⟩ => ⟨S33x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x2048, .f32⟩
  | .hbm, ⟨15, _⟩ => ⟨S_, .f32⟩
  | .hbm, ⟨16, _⟩ => ⟨S64x64, .f32⟩
  | .hbm, ⟨17, _⟩ => ⟨S_, .f32⟩
  | .hbm, ⟨18, _⟩ => ⟨S128x64, .f32⟩
  | .hbm, ⟨19, _⟩ => ⟨S_, .i32⟩
  | .hbm, ⟨20, _⟩ => ⟨S1, .i32⟩
  | .hbm, ⟨21, _⟩ => ⟨S128x64, .f32⟩
  | .hbm, ⟨22, _⟩ => ⟨S_, .f32⟩
  | .hbm, ⟨23, _⟩ => ⟨S256x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S256x128, .f32⟩
  | .hbm, ⟨36, _⟩ => ⟨S256x128, .bf16⟩
  | .hbm, ⟨37, _⟩ => ⟨S64x128, .f32⟩
  | .hbm, ⟨38, _⟩ => ⟨S64x128, .f32⟩
  | .hbm, ⟨39, _⟩ => ⟨S128x128, .f32⟩
  | .hbm, ⟨40, _⟩ => ⟨S128x128, .bf16⟩
  | .hbm, ⟨41, _⟩ => ⟨S64x2x2x512, .f32⟩
  | .hbm, ⟨42, _⟩ => ⟨S2x64x2x512, .f32⟩
  | .hbm, ⟨43, _⟩ => ⟨S2x64x1024, .f32⟩
  | .hbm, ⟨44, _⟩ => ⟨S_, .f32⟩
  | .hbm, ⟨45, _⟩ => ⟨S2x64x1024, .f32⟩
  | .hbm, ⟨46, _⟩ => ⟨S2x128x1024, .f32⟩
  | .hbm, ⟨47, _⟩ => ⟨S2x128x1024, .f32⟩
  | .hbm, ⟨48, _⟩ => ⟨S2x1x128x1024, .f32⟩
  | .hbm, ⟨49, _⟩ => ⟨S2x1x128x1024, .f32⟩
  | .hbm, ⟨50, _⟩ => ⟨S2x2x128x1024, .f32⟩
  | .hbm, ⟨51, _⟩ => ⟨S2x2x128x1024, .bf16⟩
  | .hbm, ⟨52, _⟩ => ⟨S1x64, .f32⟩
  | .hbm, ⟨53, _⟩ => ⟨S2x64, .f32⟩
  | .hbm, ⟨54, _⟩ => ⟨S128, .f32⟩
  | .hbm, ⟨55, _⟩ => ⟨S1x128, .f32⟩
  | .hbm, ⟨56, _⟩ => ⟨S1x64, .f32⟩
  | .hbm, ⟨57, _⟩ => ⟨S2x64, .f32⟩
  | .hbm, ⟨58, _⟩ => ⟨S128, .f32⟩
  | .hbm, ⟨59, _⟩ => ⟨S1x128, .f32⟩
  | .hbm, ⟨60, _⟩ => ⟨S2x16384x512, .bf16⟩
  | .hbm, ⟨61, _⟩ => ⟨S2x512, .f32⟩
  | .local _ .vmem, ⟨0, _⟩ => ⟨S2048x128, .f32⟩
  | .local _ .vmem, ⟨1, _⟩ => ⟨S2048x128, .f32⟩
  | .local _ .vmem, ⟨2, _⟩ => ⟨S256x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S1x2x128x1024, .bf16⟩
  | .local _ .vmem, ⟨7, _⟩ => ⟨S1x2x128x1024, .bf16⟩
  | .local _ .vmem, ⟨8, _⟩ => ⟨S1x512, .f32⟩
  | .local _ .vmem, ⟨9, _⟩ => ⟨S2x2048x512, .bf16⟩
  | .local _ .vmem, ⟨10, _⟩ => ⟨S2x2048x512, .bf16⟩
  | .local _ .vmem, ⟨11, _⟩ => ⟨S2x512, .f32⟩
  | _, _ => ⟨S16384x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_c_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FtapsRefIdeal.lean ====
abbrev S16384x33 : Shape := ⟨2, ![16384, 33]⟩
abbrev S1x512 : Shape := ⟨2, ![1, 512]⟩
abbrev S1x33x64 : Shape := ⟨3, ![1, 33, 64]⟩
abbrev S1x64 : Shape := ⟨2, ![1, 64]⟩
abbrev S1x64x64 : Shape := ⟨3, ![1, 64, 64]⟩
abbrev S1x64x2048 : Shape := ⟨3, ![1, 64, 2048]⟩
abbrev S33x64 : Shape := ⟨2, ![33, 64]⟩
abbrev S16384x64 : Shape := ⟨2, ![16384, 64]⟩
abbrev S64 : Shape := ⟨1, ![64]⟩
abbrev S64x64 : Shape := ⟨2, ![64, 64]⟩
abbrev S64x2048 : Shape := ⟨2, ![64, 2048]⟩
abbrev S16384x2048 : Shape := ⟨2, ![16384, 2048]⟩
abbrev S16384x2x2x512 : Shape := ⟨4, ![16384, 2, 2, 512]⟩
abbrev S8192x2x1x512 : Shape := ⟨4, ![8192, 2, 1, 512]⟩
abbrev S8192x2x512 : Shape := ⟨3, ![8192, 2, 512]⟩
abbrev S_ : Shape := ⟨0, ![]⟩
abbrev S1x2x512 : Shape := ⟨3, ![1, 2, 512]⟩
abbrev S8191x2x1x512 : Shape := ⟨4, ![8191, 2, 1, 512]⟩
abbrev S8191x2x512 : Shape := ⟨3, ![8191, 2, 512]⟩
abbrev S16384x2x512 : Shape := ⟨3, ![16384, 2, 512]⟩
abbrev S16384x1 : Shape := ⟨2, ![16384, 1]⟩
abbrev S16384x1x1 : Shape := ⟨3, ![16384, 1, 1]⟩
abbrev S1x1x512 : Shape := ⟨3, ![1, 1, 512]⟩
abbrev S16384x1x512 : Shape := ⟨3, ![16384, 1, 512]⟩
abbrev S2x16384x512 : Shape := ⟨3, ![2, 16384, 512]⟩
abbrev S2x512 : Shape := ⟨2, ![2, 512]⟩

abbrev nBuf : Space → Nat
  | .hbm => 46
  | .vmem => 0
  | .smem => 0
  | _ => 0

abbrev bufTy : (tb : Table) → Fin (tcTables nBuf tb) → BufTy
  | .hbm, ⟨0, _⟩ => ⟨S16384x33, .f32⟩
  | .hbm, ⟨1, _⟩ => ⟨S1x512, .f32⟩
  | .hbm, ⟨2, _⟩ => ⟨S1x33x64, .f32⟩
  | .hbm, ⟨3, _⟩ => ⟨S1x64, .f32⟩
  | .hbm, ⟨4, _⟩ => ⟨S1x64x64, .f32⟩
  | .hbm, ⟨5, _⟩ => ⟨S1x64, .f32⟩
  | .hbm, ⟨6, _⟩ => ⟨S1x64x2048, .f32⟩
  | .hbm, ⟨7, _⟩ => ⟨S33x64, .f32⟩
  | .hbm, ⟨8, _⟩ => ⟨S16384x64, .f32⟩
  | .hbm, ⟨9, _⟩ => ⟨S64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S64x64, .f32⟩
  | .hbm, ⟨15, _⟩ => ⟨S16384x64, .f32⟩
  | .hbm, ⟨16, _⟩ => ⟨S64, .f32⟩
  | .hbm, ⟨17, _⟩ => ⟨S1x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S64x2048, .f32⟩
  | .hbm, ⟨22, _⟩ => ⟨S16384x2048, .f32⟩
  | .hbm, ⟨23, _⟩ => ⟨S16384x2x2x512, .f32⟩
  | .hbm, ⟨24, _⟩ => ⟨S8192x2x1x512, .f32⟩
  | .hbm, ⟨25, _⟩ => ⟨S8192x2x512, .f32⟩
  | .hbm, ⟨26, _⟩ => ⟨S_, .f32⟩
  | .hbm, ⟨27, _⟩ => ⟨S1x2x512, .f32⟩
  | .hbm, ⟨28, _⟩ => ⟨S8191x2x1x512, .f32⟩
  | .hbm, ⟨29, _⟩ => ⟨S8191x2x512, .f32⟩
  | .hbm, ⟨30, _⟩ => ⟨S16384x2x512, .f32⟩
  | .hbm, ⟨31, _⟩ => ⟨S16384x1, .f32⟩
  | .hbm, ⟨32, _⟩ => ⟨S16384x1x1, .f32⟩
  | .hbm, ⟨33, _⟩ => ⟨S16384x1x1, .f32⟩
  | .hbm, ⟨34, _⟩ => ⟨S1x1x512, .f32⟩
  | .hbm, ⟨35, _⟩ => ⟨S16384x1x512, .f32⟩
  | .hbm, ⟨36, _⟩ => ⟨S16384x1x512, .f32⟩
  | .hbm, ⟨37, _⟩ => ⟨S16384x1x512, .f32⟩
  | .hbm, ⟨38, _⟩ => ⟨S16384x1x512, .f32⟩
  | .hbm, ⟨39, _⟩ => ⟨S16384x2x512, .f32⟩
  | .hbm, ⟨40, _⟩ => ⟨S16384x2x512, .f32⟩
  | .hbm, ⟨41, _⟩ => ⟨S2x16384x512, .f32⟩
  | .hbm, ⟨42, _⟩ => ⟨S2x16384x512, .bf16⟩
  | .hbm, ⟨43, _⟩ => ⟨S2x16384x512, .f32⟩
  | .hbm, ⟨44, _⟩ => ⟨S_, .f32⟩
  | .hbm, ⟨45, _⟩ => ⟨S2x512, .f32⟩
  | _, _ => ⟨S16384x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_0 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Shortconv.lean ====
abbrev S2x8192x2048 : Shape := ⟨3, ![2, 8192, 2048]⟩
abbrev S1x3x1536 : Shape := ⟨3, ![1, 3, 1536]⟩
abbrev S1x1536 : Shape := ⟨2, ![1, 1536]⟩
abbrev S3x1536 : Shape := ⟨2, ![3, 1536]⟩
abbrev S1536 : Shape := ⟨1, ![1536]⟩
abbrev S3x2x8192x512 : Shape := ⟨4, ![3, 2, 8192, 512]⟩
abbrev S1x8192x128 : Shape := ⟨3, ![1, 8192, 128]⟩
abbrev S3x128 : Shape := ⟨2, ![3, 128]⟩
abbrev S1x128 : Shape := ⟨2, ![1, 128]⟩
abbrev S1x1x8192x128 : Shape := ⟨4, ![1, 1, 8192, 128]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S1x1x256x128 : Shape := ⟨4, ![1, 1, 256, 128]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x2048, .bf16⟩
  | .hbm, ⟨1, _⟩ => ⟨S1x3x1536, .f32⟩
  | .hbm, ⟨2, _⟩ => ⟨S1x1536, .f32⟩
  | .hbm, ⟨3, _⟩ => ⟨S3x1536, .f32⟩
  | .hbm, ⟨4, _⟩ => ⟨S1536, .f32⟩
  | .hbm, ⟨5, _⟩ => ⟨S1x1536, .f32⟩
  | .hbm, ⟨6, _⟩ => ⟨S3x2x8192x512, .bf16⟩
  | .local _ .vmem, ⟨0, _⟩ => ⟨S1x8192x128, .bf16⟩
  | .local _ .vmem, ⟨1, _⟩ => ⟨S1x8192x128, .bf16⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x1x8192x128, .bf16⟩
  | .local _ .vmem, ⟨7, _⟩ => ⟨S1x1x8192x128, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

@[reducible] def k0_t1_loop : Scf.Loop 32 :=
  let c0_i32 : BitVec 32 := 0#32
  let c32_i32 : BitVec 32 := 32#32
  let v5 : BitVec 32 := Scalar.addi c0_i32 c32_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  v6
def k0_off1 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let v8 : Index := Scalar.indexCast v7
  let c0_5 : Index := 0#32
  ![0, v8.toNat, 0]
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let c16_i32 : BitVec 32 := 16#32
  let v12 : BitVec 32 := Scalar.subi v7 c16_i32
  let c0_i32_6 : BitVec 32 := 0#32
  let v13 : BitVec 32 := Scalar.maxsi v12 c0_i32_6
  v13
def k0_off2 (k0_t1 : Fin k0_t1_loop.trips) : Fin 3 → Nat :=
  let c0_7 : Index := 0#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let c16_i32 : BitVec 32 := 16#32
  let v12 : BitVec 32 := Scalar.subi v7 c16_i32
  let c0_i32_6 : BitVec 32 := 0#32
  let v13 : BitVec 32 := Scalar.maxsi v12 c0_i32_6
  let v14 : BitVec 32 := v13
  let v15 : Index := Scalar.indexCast v14
  let c0_8 : Index := 0#32
  ![0, v15.toNat, 0]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let c256_i32_9 : BitVec 32 := 256#32
  let v19 : BitVec 32 := Scalar.addi v7 c256_i32_9
  let c8176_i32 : BitVec 32 := 8176#32
  let v20 : BitVec 32 := Scalar.minsi v19 c8176_i32
  v20
def k0_off3 (k0_t1 : Fin k0_t1_loop.trips) : Fin 3 → Nat :=
  let c0_10 : Index := 0#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let c256_i32_9 : BitVec 32 := 256#32
  let v19 : BitVec 32 := Scalar.addi v7 c256_i32_9
  let c8176_i32 : BitVec 32 := 8176#32
  let v20 : BitVec 32 := Scalar.minsi v19 c8176_i32
  let v21 : BitVec 32 := v20
  let v22 : Index := Scalar.indexCast v21
  let c0_11 : Index := 0#32
  ![0, v22.toNat, 0]
def k0_off4 (k0_t1 : Fin k0_t1_loop.trips) : Fin 4 → Nat :=
  let c0_17 : Index := 0#32
  let c0_18 : Index := 0#32
  let c0_i32 : BitVec 32 := 0#32
  let c1_i32 : BitVec 32 := 1#32
  let arg6 : BitVec 32 := Scf.iv c0_i32 c1_i32 k0_t1
  let c256_i32 : BitVec 32 := 256#32
  let v6 : BitVec 32 := Scalar.muli arg6 c256_i32
  let v7 : BitVec 32 := v6
  let v60 : Index := Scalar.indexCast v7
  let c0_19 : Index := 0#32
  ![0, 0, v60.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ShortconvRefIdeal.lean ====
abbrev S2x8192x2048 : Shape := ⟨3, ![2, 8192, 2048]⟩
abbrev S1x3x1536 : Shape := ⟨3, ![1, 3, 1536]⟩
abbrev S1x1536 : Shape := ⟨2, ![1, 1536]⟩
abbrev S2x8192x1536 : Shape := ⟨3, ![2, 8192, 1536]⟩
abbrev S3x1536 : Shape := ⟨2, ![3, 1536]⟩
abbrev S1536 : Shape := ⟨1, ![1536]⟩
abbrev S_ : Shape := ⟨0, ![]⟩
abbrev S2x8194x1536 : Shape := ⟨3, ![2, 8194, 1536]⟩
abbrev S1x1x1536 : Shape := ⟨3, ![1, 1, 1536]⟩
abbrev S2x8192x512 : Shape := ⟨3, ![2, 8192, 512]⟩
abbrev S1x2x8192x512 : Shape := ⟨4, ![1, 2, 8192, 512]⟩
abbrev S3x2x8192x512 : Shape := ⟨4, ![3, 2, 8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S1x3x1536, .f32⟩
  | .hbm, ⟨2, _⟩ => ⟨S1x1536, .f32⟩
  | .hbm, ⟨3, _⟩ => ⟨S2x8192x1536, .bf16⟩
  | .hbm, ⟨4, _⟩ => ⟨S2x8192x1536, .f32⟩
  | .hbm, ⟨5, _⟩ => ⟨S3x1536, .f32⟩
  | .hbm, ⟨6, _⟩ => ⟨S1536, .f32⟩
  | .hbm, ⟨7, _⟩ => ⟨S_, .i32⟩
  | .hbm, ⟨8, _⟩ => ⟨S_, .f32⟩
  | .hbm, ⟨9, _⟩ => ⟨S2x8194x1536, .f32⟩
  | .hbm, ⟨10, _⟩ => ⟨S2x8192x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S2x8192x1536, .f32⟩
  | .hbm, ⟨15, _⟩ => ⟨S2x8192x1536, .f32⟩
  | .hbm, ⟨16, _⟩ => ⟨S2x8192x1536, .f32⟩
  | .hbm, ⟨17, _⟩ => ⟨S1x1536, .f32⟩
  | .hbm, ⟨18, _⟩ => ⟨S1536, .f32⟩
  | .hbm, ⟨19, _⟩ => ⟨S1x1x1536, .f32⟩
  | .hbm, ⟨20, _⟩ => ⟨S2x8192x1536, .f32⟩
  | .hbm, ⟨21, _⟩ => ⟨S2x8192x1536, .f32⟩
  | .hbm, ⟨22, _⟩ => ⟨S2x8192x1536, .f32⟩
  | .hbm, ⟨23, _⟩ => ⟨S2x8192x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S2x8192x1536, .f32⟩
  | .hbm, ⟨28, _⟩ => ⟨S2x8192x1536, .f32⟩
  | .hbm, ⟨29, _⟩ => ⟨S2x8192x1536, .f32⟩
  | .hbm, ⟨30, _⟩ => ⟨S1x1x1536, .f32⟩
  | .hbm, ⟨31, _⟩ => ⟨S2x8192x1536, .f32⟩
  | .hbm, ⟨32, _⟩ => ⟨S2x8192x1536, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S1x2x8192x512, .f32⟩
  | .hbm, ⟨37, _⟩ => ⟨S1x2x8192x512, .f32⟩
  | .hbm, ⟨38, _⟩ => ⟨S1x2x8192x512, .f32⟩
  | .hbm, ⟨39, _⟩ => ⟨S3x2x8192x512, .f32⟩
  | .hbm, ⟨40, _⟩ => ⟨S3x2x8192x512, .bf16⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Spectrum2.lean ====
abbrev S2x128x128x512 : Shape := ⟨4, ![2, 128, 128, 512]⟩
abbrev S128x128x128 : Shape := ⟨3, ![128, 128, 128]⟩
abbrev S2x128x256x512 : Shape := ⟨4, ![2, 128, 256, 512]⟩
abbrev S128x128x256 : Shape := ⟨3, ![128, 128, 256]⟩
abbrev S128x256x256 : Shape := ⟨3, ![128, 256, 256]⟩
abbrev S2x16x128x512 : Shape := ⟨4, ![2, 16, 128, 512]⟩
abbrev S16x256x256 : Shape := ⟨3, ![16, 256, 256]⟩
abbrev S1x16x256x512 : Shape := ⟨4, ![1, 16, 256, 512]⟩
abbrev S1x256x256 : Shape := ⟨3, ![1, 256, 256]⟩
abbrev S256x256 : Shape := ⟨2, ![256, 256]⟩
abbrev S1x1x128x512 : Shape := ⟨4, ![1, 1, 128, 512]⟩
abbrev S128x512 : Shape := ⟨2, ![128, 512]⟩
abbrev S256x512 : Shape := ⟨2, ![256, 512]⟩
abbrev S1x1x256x512 : Shape := ⟨4, ![1, 1, 256, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x128x128x512, .bf16⟩
  | .hbm, ⟨1, _⟩ => ⟨S128x128x128, .f32⟩
  | .hbm, ⟨2, _⟩ => ⟨S128x128x128, .f32⟩
  | .hbm, ⟨3, _⟩ => ⟨S2x128x256x512, .bf16⟩
  | .hbm, ⟨4, _⟩ => ⟨S128x128x256, .f32⟩
  | .hbm, ⟨5, _⟩ => ⟨S128x128x128, .f32⟩
  | .hbm, ⟨6, _⟩ => ⟨S128x128x256, .f32⟩
  | .hbm, ⟨7, _⟩ => ⟨S128x256x256, .f32⟩
  | .hbm, ⟨8, _⟩ => ⟨S128x256x256, .f32⟩
  | .hbm, ⟨9, _⟩ => ⟨S128x256x256, .bf16⟩
  | .hbm, ⟨10, _⟩ => ⟨S128x256x256, .bf16⟩
  | .hbm, ⟨11, _⟩ => ⟨S2x128x128x512, .bf16⟩
  | .local _ .vmem, ⟨0, _⟩ => ⟨S2x16x128x512, .bf16⟩
  | .local _ .vmem, ⟨1, _⟩ => ⟨S2x16x128x512, .bf16⟩
  | .local _ .vmem, ⟨2, _⟩ => ⟨S16x256x256, .bf16⟩
  | .local _ .vmem, ⟨3, _⟩ => ⟨S16x256x256, .bf16⟩
  | .local _ .vmem, ⟨4, _⟩ => ⟨S16x256x256, .bf16⟩
  | .local _ .vmem, ⟨5, _⟩ => ⟨S16x256x256, .bf16⟩
  | .local _ .vmem, ⟨6, _⟩ => ⟨S1x16x256x512, .bf16⟩
  | .local _ .vmem, ⟨7, _⟩ => ⟨S1x16x256x512, .bf16⟩
  | .local _ .vmem, ⟨8, _⟩ => ⟨S2x16x128x512, .bf16⟩
  | .local _ .vmem, ⟨9, _⟩ => ⟨S2x16x128x512, .bf16⟩
  | _, _ => ⟨S2x128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x16x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x16x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Spectrum2RefIdeal.lean ====
abbrev S2x128x128x512 : Shape := ⟨4, ![2, 128, 128, 512]⟩
abbrev S128x128x128 : Shape := ⟨3, ![128, 128, 128]⟩
abbrev S2x128x256x512 : Shape := ⟨4, ![2, 128, 256, 512]⟩
abbrev S1x128x128x512 : Shape := ⟨4, ![1, 128, 128, 512]⟩
abbrev S128x128x512 : Shape := ⟨3, ![128, 128, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x128x128x512, .bf16⟩
  | .hbm, ⟨1, _⟩ => ⟨S128x128x128, .f32⟩
  | .hbm, ⟨2, _⟩ => ⟨S128x128x128, .f32⟩
  | .hbm, ⟨3, _⟩ => ⟨S2x128x256x512, .bf16⟩
  | .hbm, ⟨4, _⟩ => ⟨S1x128x128x512, .bf16⟩
  | .hbm, ⟨5, _⟩ => ⟨S128x128x512, .bf16⟩
  | .hbm, ⟨6, _⟩ => ⟨S128x128x512, .f32⟩
  | .hbm, ⟨7, _⟩ => ⟨S1x128x128x512, .bf16⟩
  | .hbm, ⟨8, _⟩ => ⟨S128x128x512, .bf16⟩
  | .hbm, ⟨9, _⟩ => ⟨S128x128x512, .f32⟩
  | .hbm, ⟨10, _⟩ => ⟨S1x128x128x512, .bf16⟩
  | .hbm, ⟨11, _⟩ => ⟨S128x128x512, .bf16⟩
  | .hbm, ⟨12, _⟩ => ⟨S128x128x512, .f32⟩
  | .hbm, ⟨13, _⟩ => ⟨S1x128x128x512, .bf16⟩
  | .hbm, ⟨14, _⟩ => ⟨S128x128x512, .bf16⟩
  | .hbm, ⟨15, _⟩ => ⟨S128x128x512, .f32⟩
  | .hbm, ⟨16, _⟩ => ⟨S128x128x512, .f32⟩
  | .hbm, ⟨17, _⟩ => ⟨S128x128x512, .f32⟩
  | .hbm, ⟨18, _⟩ => ⟨S128x128x512, .f32⟩
  | .hbm, ⟨19, _⟩ => ⟨S128x128x128, .f32⟩
  | .hbm, ⟨20, _⟩ => ⟨S128x128x512, .f32⟩
  | .hbm, ⟨21, _⟩ => ⟨S128x128x512, .f32⟩
  | .hbm, ⟨22, _⟩ => ⟨S128x128x512, .f32⟩
  | .hbm, ⟨23, _⟩ => ⟨S128x128x512, .f32⟩
  | .hbm, ⟨24, _⟩ => ⟨S128x128x512, .f32⟩
  | .hbm, ⟨25, _⟩ => ⟨S128x128x512, .f32⟩
  | .hbm, ⟨26, _⟩ => ⟨S128x128x512, .f32⟩
  | .hbm, ⟨27, _⟩ => ⟨S128x128x512, .f32⟩
  | .hbm, ⟨28, _⟩ => ⟨S128x128x512, .f32⟩
  | .hbm, ⟨29, _⟩ => ⟨S128x128x128, .f32⟩
  | .hbm, ⟨30, _⟩ => ⟨S128x128x128, .f32⟩
  | .hbm, ⟨31, _⟩ => ⟨S128x128x512, .f32⟩
  | .hbm, ⟨32, _⟩ => ⟨S128x128x128, .f32⟩
  | .hbm, ⟨33, _⟩ => ⟨S128x128x512, .f32⟩
  | .hbm, ⟨34, _⟩ => ⟨S128x128x512, .f32⟩
  | .hbm, ⟨35, _⟩ => ⟨S128x128x512, .f32⟩
  | .hbm, ⟨36, _⟩ => ⟨S128x128x512, .f32⟩
  | .hbm, ⟨37, _⟩ => ⟨S128x128x512, .f32⟩
  | .hbm, ⟨38, _⟩ => ⟨S1x128x128x512, .f32⟩
  | .hbm, ⟨39, _⟩ => ⟨S1x128x128x512, .f32⟩
  | .hbm, ⟨40, _⟩ => ⟨S2x128x128x512, .f32⟩
  | .hbm, ⟨41, _⟩ => ⟨S2x128x128x512, .bf16⟩
  | _, _ => ⟨S2x128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩

abbrev nD : Nat := 1
abbrev τ : Topo := Topo.v7x

variable {F : FTy → Type} [FloatOps F]
-- ==== Signal2.lean ====
abbrev S128x128x512 : Shape := ⟨3, ![128, 128, 512]⟩
abbrev S128x64 : Shape := ⟨2, ![128, 64]⟩
abbrev S128x128 : Shape := ⟨2, ![128, 128]⟩
abbrev S256x128 : Shape := ⟨2, ![256, 128]⟩
abbrev S1x128x128x512 : Shape := ⟨4, ![1, 128, 128, 512]⟩
abbrev S1x256x128x512 : Shape := ⟨4, ![1, 256, 128, 512]⟩
abbrev S1x128x16x512 : Shape := ⟨4, ![1, 128, 16, 512]⟩
abbrev S1x256x16x512 : Shape := ⟨4, ![1, 256, 16, 512]⟩
abbrev S128x16x512 : Shape := ⟨3, ![128, 16, 512]⟩
abbrev S128x8192 : Shape := ⟨2, ![128, 8192]⟩
abbrev S256x8192 : Shape := ⟨2, ![256, 8192]⟩
abbrev S256x16x512 : Shape := ⟨3, ![256, 16, 512]⟩

abbrev nBuf : Space → Nat
  | .hbm => 10
  | .vmem => 5
  | .smem => 0
  | _ => 0

abbrev bufTy : (tb : Table) → Fin (tcTables nBuf tb) → BufTy
  | .hbm, ⟨0, _⟩ => ⟨S128x128x512, .bf16⟩
  | .hbm, ⟨1, _⟩ => ⟨S128x64, .f32⟩
  | .hbm, ⟨2, _⟩ => ⟨S128x64, .f32⟩
  | .hbm, ⟨3, _⟩ => ⟨S128x128, .f32⟩
  | .hbm, ⟨4, _⟩ => ⟨S128x64, .f32⟩
  | .hbm, ⟨5, _⟩ => ⟨S128x128, .f32⟩
  | .hbm, ⟨6, _⟩ => ⟨S256x128, .f32⟩
  | .hbm, ⟨7, _⟩ => ⟨S1x128x128x512, .bf16⟩
  | .hbm, ⟨8, _⟩ => ⟨S256x128, .bf16⟩
  | .hbm, ⟨9, _⟩ => ⟨S1x256x128x512, .bf16⟩
  | .local _ .vmem, ⟨0, _⟩ => ⟨S256x128, .bf16⟩
  | .local _ .vmem, ⟨1, _⟩ => ⟨S1x128x16x512, .bf16⟩
  | .local _ .vmem, ⟨2, _⟩ => ⟨S1x128x16x512, .bf16⟩
  | .local _ .vmem, ⟨3, _⟩ => ⟨S1x256x16x512, .bf16⟩
  | .local _ .vmem, ⟨4, _⟩ => ⟨S1x256x16x512, .bf16⟩
  | _, _ => ⟨S128x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Signal2RefIdeal.lean ====
abbrev S128x128x512 : Shape := ⟨3, ![128, 128, 512]⟩
abbrev S128x64 : Shape := ⟨2, ![128, 64]⟩
abbrev S64x128x512 : Shape := ⟨3, ![64, 128, 512]⟩
abbrev S256x128x512 : Shape := ⟨3, ![256, 128, 512]⟩
abbrev S1x256x128x512 : Shape := ⟨4, ![1, 256, 128, 512]⟩

abbrev nBuf : Space → Nat
  | .hbm => 17
  | .vmem => 0
  | .smem => 0
  | _ => 0

abbrev bufTy : (tb : Table) → Fin (tcTables nBuf tb) → BufTy
  | .hbm, ⟨0, _⟩ => ⟨S128x128x512, .bf16⟩
  | .hbm, ⟨1, _⟩ => ⟨S128x64, .f32⟩
  | .hbm, ⟨2, _⟩ => ⟨S128x64, .f32⟩
  | .hbm, ⟨3, _⟩ => ⟨S64x128x512, .bf16⟩
  | .hbm, ⟨4, _⟩ => ⟨S64x128x512, .f32⟩
  | .hbm, ⟨5, _⟩ => ⟨S64x128x512, .bf16⟩
  | .hbm, ⟨6, _⟩ => ⟨S64x128x512, .f32⟩
  | .hbm, ⟨7, _⟩ => ⟨S128x128x512, .f32⟩
  | .hbm, ⟨8, _⟩ => ⟨S128x128x512, .f32⟩
  | .hbm, ⟨9, _⟩ => ⟨S128x128x512, .f32⟩
  | .hbm, ⟨10, _⟩ => ⟨S128x64, .f32⟩
  | .hbm, ⟨11, _⟩ => ⟨S128x128x512, .f32⟩
  | .hbm, ⟨12, _⟩ => ⟨S128x128x512, .f32⟩
  | .hbm, ⟨13, _⟩ => ⟨S128x128x512, .f32⟩
  | .hbm, ⟨14, _⟩ => ⟨S256x128x512, .f32⟩
  | .hbm, ⟨15, _⟩ => ⟨S1x256x128x512, .f32⟩
  | .hbm, ⟨16, _⟩ => ⟨S1x256x128x512, .bf16⟩
  | _, _ => ⟨S128x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Gated2.lean ====
abbrev S256x128x512 : Shape := ⟨3, ![256, 128, 512]⟩
abbrev S128x128x512 : Shape := ⟨3, ![128, 128, 512]⟩
abbrev S3x128x128x512 : Shape := ⟨4, ![3, 128, 128, 512]⟩
abbrev S64x128 : Shape := ⟨2, ![64, 128]⟩
abbrev S1x512 : Shape := ⟨2, ![1, 512]⟩
abbrev S64x256 : Shape := ⟨2, ![64, 256]⟩
abbrev S128x256 : Shape := ⟨2, ![128, 256]⟩
abbrev S1x128x128x512 : Shape := ⟨4, ![1, 128, 128, 512]⟩
abbrev S256x16x512 : Shape := ⟨3, ![256, 16, 512]⟩
abbrev S1x128x16x512 : Shape := ⟨4, ![1, 128, 16, 512]⟩
abbrev S128x16x512 : Shape := ⟨3, ![128, 16, 512]⟩
abbrev S256x8192 : Shape := ⟨2, ![256, 8192]⟩
abbrev S128x8192 : Shape := ⟨2, ![128, 8192]⟩
abbrev S1x1x512 : Shape := ⟨3, ![1, 1, 512]⟩

abbrev nBuf : Space → Nat
  | .hbm => 13
  | .vmem => 10
  | .smem => 0
  | _ => 0

abbrev bufTy : (tb : Table) → Fin (tcTables nBuf tb) → BufTy
  | .hbm, ⟨0, _⟩ => ⟨S256x128x512, .bf16⟩
  | .hbm, ⟨1, _⟩ => ⟨S128x128x512, .bf16⟩
  | .hbm, ⟨2, _⟩ => ⟨S3x128x128x512, .bf16⟩
  | .hbm, ⟨3, _⟩ => ⟨S64x128, .f32⟩
  | .hbm, ⟨4, _⟩ => ⟨S64x128, .f32⟩
  | .hbm, ⟨5, _⟩ => ⟨S1x512, .f32⟩
  | .hbm, ⟨6, _⟩ => ⟨S64x128, .f32⟩
  | .hbm, ⟨7, _⟩ => ⟨S64x256, .f32⟩
  | .hbm, ⟨8, _⟩ => ⟨S64x256, .f32⟩
  | .hbm, ⟨9, _⟩ => ⟨S128x256, .f32⟩
  | .hbm, ⟨10, _⟩ => ⟨S1x128x128x512, .bf16⟩
  | .hbm, ⟨11, _⟩ => ⟨S128x256, .bf16⟩
  | .hbm, ⟨12, _⟩ => ⟨S128x128x512, .bf16⟩
  | .local _ .vmem, ⟨0, _⟩ => ⟨S128x256, .bf16⟩
  | .local _ .vmem, ⟨1, _⟩ => ⟨S256x16x512, .bf16⟩
  | .local _ .vmem, ⟨2, _⟩ => ⟨S256x16x512, .bf16⟩
  | .local _ .vmem, ⟨3, _⟩ => ⟨S1x128x16x512, .bf16⟩
  | .local _ .vmem, ⟨4, _⟩ => ⟨S1x128x16x512, .bf16⟩
  | .local _ .vmem, ⟨5, _⟩ => ⟨S1x128x16x512, .bf16⟩
  | .local _ .vmem, ⟨6, _⟩ => ⟨S1x128x16x512, .bf16⟩
  | .local _ .vmem, ⟨7, _⟩ => ⟨S1x512, .f32⟩
  | .local _ .vmem, ⟨8, _⟩ => ⟨S128x16x512, .bf16⟩
  | .local _ .vmem, ⟨9, _⟩ => ⟨S128x16x512, .bf16⟩
  | _, _ => ⟨S256x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Gated2RefIdeal.lean ====
abbrev S256x128x512 : Shape := ⟨3, ![256, 128, 512]⟩
abbrev S128x128x512 : Shape := ⟨3, ![128, 128, 512]⟩
abbrev S3x128x128x512 : Shape := ⟨4, ![3, 128, 128, 512]⟩
abbrev S64x128 : Shape := ⟨2, ![64, 128]⟩
abbrev S1x512 : Shape := ⟨2, ![1, 512]⟩
abbrev S64x128x512 : Shape := ⟨3, ![64, 128, 512]⟩
abbrev S1x128x128x512 : Shape := ⟨4, ![1, 128, 128, 512]⟩
abbrev S512 : Shape := ⟨1, ![512]⟩
abbrev S1x1x512 : Shape := ⟨3, ![1, 1, 512]⟩

abbrev nBuf : Space → Nat
  | .hbm => 29
  | .vmem => 0
  | .smem => 0
  | _ => 0

abbrev bufTy : (tb : Table) → Fin (tcTables nBuf tb) → BufTy
  | .hbm, ⟨0, _⟩ => ⟨S256x128x512, .bf16⟩
  | .hbm, ⟨1, _⟩ => ⟨S128x128x512, .bf16⟩
  | .hbm, ⟨2, _⟩ => ⟨S3x128x128x512, .bf16⟩
  | .hbm, ⟨3, _⟩ => ⟨S64x128, .f32⟩
  | .hbm, ⟨4, _⟩ => ⟨S64x128, .f32⟩
  | .hbm, ⟨5, _⟩ => ⟨S1x512, .f32⟩
  | .hbm, ⟨6, _⟩ => ⟨S128x128x512, .bf16⟩
  | .hbm, ⟨7, _⟩ => ⟨S128x128x512, .f32⟩
  | .hbm, ⟨8, _⟩ => ⟨S128x128x512, .bf16⟩
  | .hbm, ⟨9, _⟩ => ⟨S128x128x512, .f32⟩
  | .hbm, ⟨10, _⟩ => ⟨S64x128x512, .f32⟩
  | .hbm, ⟨11, _⟩ => ⟨S64x128, .f32⟩
  | .hbm, ⟨12, _⟩ => ⟨S64x128x512, .f32⟩
  | .hbm, ⟨13, _⟩ => ⟨S64x128x512, .f32⟩
  | .hbm, ⟨14, _⟩ => ⟨S64x128x512, .f32⟩
  | .hbm, ⟨15, _⟩ => ⟨S64x128x512, .f32⟩
  | .hbm, ⟨16, _⟩ => ⟨S64x128x512, .f32⟩
  | .hbm, ⟨17, _⟩ => ⟨S128x128x512, .f32⟩
  | .hbm, ⟨18, _⟩ => ⟨S1x128x128x512, .bf16⟩
  | .hbm, ⟨19, _⟩ => ⟨S128x128x512, .bf16⟩
  | .hbm, ⟨20, _⟩ => ⟨S128x128x512, .f32⟩
  | .hbm, ⟨21, _⟩ => ⟨S128x128x512, .f32⟩
  | .hbm, ⟨22, _⟩ => ⟨S512, .f32⟩
  | .hbm, ⟨23, _⟩ => ⟨S1x1x512, .f32⟩
  | .hbm, ⟨24, _⟩ => ⟨S128x128x512, .f32⟩
  | .hbm, ⟨25, _⟩ => ⟨S128x128x512, .f32⟩
  | .hbm, ⟨26, _⟩ => ⟨S128x128x512, .f32⟩
  | .hbm, ⟨27, _⟩ => ⟨S128x128x512, .f32⟩
  | .hbm, ⟨28, _⟩ => ⟨S128x128x512, .bf16⟩
  | _, _ => ⟨S256x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.InprojValue.lean ====
/-
  The value of the input projection: what the kernel leaves in its two result arrays, read at an index, is the
  root-mean-square norm of one token times one column of the weights, plus that column's bias.
-/
module

public import proofs.«01_k».proof.Defs
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InprojForm

/-- The scale of a row: one over the root of its mean square, the small constant added before the root. -/
def rowScale (x : Fin 1024 → EReal) : EReal :=
  Ideal.rsqrt (Ideal.div (∑ j : Fin 1024, x j * x j) (Ideal.ofBits .f32 0x44800000#32) + Ideal.ofBits .f32 0x358637BD#32)

/-- A row normed and weighted by the gains, at one feature. -/
def normed (x g : Fin 1024 → EReal) (k : Fin 1024) : EReal := x k * rowScale x * g k

/-- The normed row times one column, plus the column's bias. -/
def proj (x g w : Fin 1024 → EReal) (b : EReal) : EReal := ∑ k : Fin 1024, normed x g k * w k + b

end Cert.InprojForm

namespace Cert.InprojIdeal.Closed

open Cert.InprojIdeal Cert.InprojIdeal.Gen Cert.InprojForm

/-- The normed block at a row and a feature. -/
theorem pay3_apply (x : Vec Ideal S1024x1024 .f32) (g : Vec Ideal S1x1024 .f32) (r k : Fin 1024) :
    k0_pay3 (F := Ideal) x g (ix2 r k) = normed (fun j => x (ix2 r j)) (fun j => g (ix2 0 j)) k := by
  pointwise [k0_pay3, normed, rowScale]

/-- The first half of the first result's block. -/
theorem pay4_apply (x : Vec Ideal S1024x1024 .f32) (g : Vec Ideal S1x1024 .f32) (w : Vec Ideal S1024x1024 .bf16)
    (b : Vec Ideal S1x1024 .f32) (r l : Fin 1024) :
    k0_pay4 (F := Ideal) x g w b (ix2 r l)
      = proj (fun j => x (ix2 r j)) (fun j => g (ix2 0 j)) (fun k => w (ix2 k l)) (b (ix2 0 l)) := by
  unfold proj
  simp only [← pay3_apply]
  pointwise [k0_pay4]

/-- The second half of the first result's block. -/
theorem pay5_apply (x : Vec Ideal S1024x1024 .f32) (g : Vec Ideal S1x1024 .f32) (w : Vec Ideal S1024x1024 .bf16)
    (b : Vec Ideal S1x1024 .f32) (r l : Fin 1024) :
    k0_pay5 (F := Ideal) x g w b (ix2 r l)
      = proj (fun j => x (ix2 r j)) (fun j => g (ix2 0 j)) (fun k => w (ix2 k l)) (b (ix2 0 l)) := by
  unfold proj
  simp only [← pay3_apply]
  pointwise [k0_pay5]

/-- The first half of the second result's block, over a block that is already normed. -/
theorem pay1_apply (h : FVec Ideal S1024x1024 .bf16) (w : Vec Ideal S1024x1024 .bf16)
    (b : Vec Ideal S1x1024 .f32) (r l : Fin 1024) :
    k0_pay1 (F := Ideal) h w b (ix2 r l) = ∑ k : Fin 1024, h (ix2 r k) * w (ix2 k l) + b (ix2 0 l) := by
  pointwise [k0_pay1]

/-- The second half of the second result's block. -/
theorem pay2_apply (h : FVec Ideal S1024x1024 .bf16) (w : Vec Ideal S1024x1024 .bf16)
    (b : Vec Ideal S1x1024 .f32) (r l : Fin 1024) :
    k0_pay2 (F := Ideal) h w b (ix2 r l) = ∑ k : Fin 1024, h (ix2 r k) * w (ix2 k l) + b (ix2 0 l) := by
  pointwise [k0_pay2]

/-- One entry of a block of projections: row `r` of the activations against column `q` of the weights. -/
def blockProj (x : Vec Ideal S1024x1024 .f32) (g : Vec Ideal S1x1024 .f32)
    (w : Vec Ideal S1024x4096 .bf16) (b : Vec Ideal S1x4096 .f32) (r : Fin 1024) (q : Fin 4096) : EReal :=
  proj (fun j => x (ix2 r j)) (fun j => g (ix2 0 j)) (fun k => w (ix2 k q)) (b (ix2 0 q))

theorem hz : (![0, 0] : Fin 2 → Nat) = fun _ => 0 := funext fun a => by fin_cases a <;> rfl

/-- A column of the first result is a column of the projection, -/
def colLo (l : Fin 2048) : Fin 4096 := ⟨l.val, by omega⟩
/-- and a column of the second result is one in the upper half. -/
def colHi (l : Fin 2048) : Fin 4096 := ⟨2048 + l.val, by omega⟩

/-- The first result's block after the body: its two stores are halves of one block of projections. -/
theorem out4_apply (x : Vec Ideal S1024x1024 .f32) (g : Vec Ideal S1x1024 .f32) (w : Vec Ideal S1024x4096 .bf16)
    (b : Vec Ideal S1x4096 .f32) (y : S1024x2048.Idx) :
    out0_4 (F := Ideal) x g w b y = blockProj x g w b (y 0) (colLo (y 1)) := by
  unfold out0_4
  refine View.canon_apply_of_pieces (Val := Elt Ideal) (fun y => blockProj x g w b (y 0) (colLo (y 1))) _ ?_ y (cover0_4 _ _ y)
  intro p hp z
  simp only [List.mem_cons, List.not_mem_nil, or_false] at hp
  rcases hp with rfl | rfl
  · obtain ⟨r, l, rfl⟩ : ∃ r l : Fin 1024, z = ix2 r l := ⟨z 0, z 1, eq_ix2 z⟩
    refine (pay5_apply _ _ _ _ r l).trans ?_
    rw [View.ld_unit_zero hz, View.ld_unit_zero hz]
    have e0 : r0_7.emb (ix2 r l) 0 = r := Fin.ext (by show 0 + 1 * r.val = r.val; omega)
    have e1 : colLo (r0_7.emb (ix2 r l) 1) = ⟨1024 + l.val, by omega⟩ :=
      Fin.ext (by show 1024 + 1 * l.val = 1024 + l.val; omega)
    show _ = blockProj x g w b (r0_7.emb (ix2 r l) 0) (colLo (r0_7.emb (ix2 r l) 1))
    rw [e0, e1]
    unfold blockProj
    pointwise
  · obtain ⟨r, l, rfl⟩ : ∃ r l : Fin 1024, z = ix2 r l := ⟨z 0, z 1, eq_ix2 z⟩
    refine (pay4_apply _ _ _ _ r l).trans ?_
    rw [View.ld_unit_zero hz, View.ld_unit_zero hz]
    have e0 : r0_4.emb (ix2 r l) 0 = r := Fin.ext (by show 0 + 1 * r.val = r.val; omega)
    have e1 : colLo (r0_4.emb (ix2 r l) 1) = ⟨l.val, by omega⟩ :=
      Fin.ext (by show 0 + 1 * l.val = l.val; omega)
    show _ = blockProj x g w b (r0_4.emb (ix2 r l) 0) (colLo (r0_4.emb (ix2 r l) 1))
    rw [e0, e1]
    unfold blockProj
    pointwise

/-- The second result's block after the body, likewise: the upper half of the columns. -/
theorem out5_apply (x : Vec Ideal S1024x1024 .f32) (g : Vec Ideal S1x1024 .f32) (w : Vec Ideal S1024x4096 .bf16)
    (b : Vec Ideal S1x4096 .f32) (y : S1024x2048.Idx) :
    out0_5 (F := Ideal) x g w b y = blockProj x g w b (y 0) (colHi (y 1)) := by
  unfold out0_5 k0_pay6
  refine View.canon_apply_of_pieces (Val := Elt Ideal) (fun y => blockProj x g w b (y 0) (colHi (y 1))) _ ?_ y (cover0_5 _ _ y)
  intro p hp z
  simp only [List.mem_cons, List.not_mem_nil, or_false] at hp
  rcases hp with rfl | rfl
  · obtain ⟨r, l, rfl⟩ : ∃ r l : Fin 1024, z = ix2 r l := ⟨z 0, z 1, eq_ix2 z⟩
    refine (pay2_apply _ _ _ r l).trans ?_
    simp only [pay3_apply]
    rw [View.ld_unit_zero hz, View.ld_unit_zero hz]
    have e0 : r0_7.emb (ix2 r l) 0 = r := Fin.ext (by show 0 + 1 * r.val = r.val; omega)
    have e1 : colHi (r0_7.emb (ix2 r l) 1) = ⟨3072 + l.val, by omega⟩ :=
      Fin.ext (by show 2048 + (1024 + 1 * l.val) = 3072 + l.val; omega)
    show _ = blockProj x g w b (r0_7.emb (ix2 r l) 0) (colHi (r0_7.emb (ix2 r l) 1))
    rw [e0, e1]
    unfold blockProj proj
    pointwise
  · obtain ⟨r, l, rfl⟩ : ∃ r l : Fin 1024, z = ix2 r l := ⟨z 0, z 1, eq_ix2 z⟩
    refine (pay1_apply _ _ _ r l).trans ?_
    simp only [pay3_apply]
    rw [View.ld_unit_zero hz, View.ld_unit_zero hz]
    have e0 : r0_4.emb (ix2 r l) 0 = r := Fin.ext (by show 0 + 1 * r.val = r.val; omega)
    have e1 : colHi (r0_4.emb (ix2 r l) 1) = ⟨2048 + l.val, by omega⟩ :=
      Fin.ext (by show 2048 + (0 + 1 * l.val) = 2048 + l.val; omega)
    show _ = blockProj x g w b (r0_4.emb (ix2 r l) 0) (colHi (r0_4.emb (ix2 r l) 1))
    rw [e0, e1]
    unfold blockProj proj
    pointwise

/-! ## The arrays the region reads, and the blocks of them -/

variable (m : (ℓ : Loc nD τ sig) → Buf (Elt Ideal) ℓ) (ρ : Dev nD → PrngReg)

/-- The activations as a table of tokens: the argument reshaped. -/
theorem V_x (c : Dev nD) : V m c main_v0
    = shapeCast S16384x1024 (m ((c : Thread nD τ).loc main_arg0)) shapeCasts_S2x8192x1024_S16384x1024 := by
  show StableHlo.after hostOps0 _ _ = _
  after_results
  rfl

/-- The gains, a row. -/
theorem V_g (c : Dev nD) (k : Fin 1024) : V m c main_v2 (ix2 0 k) = m ((c : Thread nD τ).loc main_arg1) (ix2 0 k) := by
  show StableHlo.after hostOps0 _ _ _ = _
  after_results
  pointwise

/-- The weights: rounded by the kernel's caller, which changes nothing in exact numbers. -/
theorem V_w (c : Dev nD) : V m c main_v4
    = shapeCast S1024x4096 (m ((c : Thread nD τ).loc main_arg2)) shapeCasts_S1x1024x4096_S1024x4096 := by
  show StableHlo.after hostOps0 _ _ = _
  after_results
  rfl

/-- The biases, a row. -/
theorem V_b (c : Dev nD) (q : Fin 4096) : V m c main_v6 (ix2 0 q) = m ((c : Thread nD τ).loc main_arg3) (ix2 0 q) := by
  show StableHlo.after hostOps0 _ _ _ = _
  after_results
  pointwise

/-- Where each window's block lies at each point (decided over the points). -/
theorem idx_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) := by
  decide +kernel

/-- The row of the whole table that a point's block has at `r`. -/
def row (t : Fin cfg0.N) (r : Fin 1024) : Fin 16384 := ⟨t.val * 1024 + r.val, by
  have h : t.val < 16 := lt_of_lt_of_eq t.isLt N_0; omega⟩

theorem iblk0_apply (c : Dev nD) (t : Fin cfg0.N) (r k : Fin 1024) :
    iblk m c 0 t (ix2 r k) = V m c main_v0 (ix2 (row t r) k) := by
  show V m c main_v0 (((cfg0.win 0).blk t).view.emb (ix2 r k)) = _
  refine congrArg _ (funext fun a => Fin.ext ?_)
  match a with
  | ⟨0, _⟩ => show win0_0.index t 0 * 1024 + 1 * r.val = t.val * 1024 + r.val; rw [(idx_facts t).1.1]; omega
  | ⟨1, _⟩ => show win0_0.index t 1 * 1024 + 1 * k.val = k.val; rw [(idx_facts t).1.2]; omega

theorem iblk1_apply (c : Dev nD) (t : Fin cfg0.N) (k : Fin 1024) :
    iblk m c 1 t (ix2 0 k) = V m c main_v2 (ix2 0 k) := by
  show V m c main_v2 (((cfg0.win 1).blk t).view.emb (ix2 0 k)) = _
  refine congrArg _ (funext fun a => Fin.ext ?_)
  match a with
  | ⟨0, _⟩ => show win0_1.index t 0 * 1 + 1 * 0 = 0; rw [(idx_facts t).2.1.1]
  | ⟨1, _⟩ => show win0_1.index t 1 * 1024 + 1 * k.val = k.val; rw [(idx_facts t).2.1.2]; omega

theorem iblk2_apply (c : Dev nD) (t : Fin cfg0.N) (k : Fin 1024) (q : Fin 4096) :
    iblk m c 2 t (ix2 k q) = V m c main_v4 (ix2 k q) := by
  show V m c main_v4 (((cfg0.win 2).blk t).view.emb (ix2 k q)) = _
  refine congrArg _ (funext fun a => Fin.ext ?_)
  match a with
  | ⟨0, _⟩ => show win0_2.index t 0 * 1024 + 1 * k.val = k.val; rw [(idx_facts t).2.2.1.1]; omega
  | ⟨1, _⟩ => show win0_2.index t 1 * 4096 + 1 * q.val = q.val; rw [(idx_facts t).2.2.1.2]; omega

theorem iblk3_apply (c : Dev nD) (t : Fin cfg0.N) (q : Fin 4096) :
    iblk m c 3 t (ix2 0 q) = V m c main_v6 (ix2 0 q) := by
  show V m c main_v6 (((cfg0.win 3).blk t).view.emb (ix2 0 q)) = _
  refine congrArg _ (funext fun a => Fin.ext ?_)
  match a with
  | ⟨0, _⟩ => show win0_3.index t 0 * 1 + 1 * 0 = 0; rw [(idx_facts t).2.2.2.1.1]
  | ⟨1, _⟩ => show win0_3.index t 1 * 4096 + 1 * q.val = q.val; rw [(idx_facts t).2.2.2.1.2]; omega

/-! ## The result arrays -/

/-- The projection of the whole batch at a token and a column, from the arguments. -/
def full (c : Dev nD) (p : Fin 16384) (q : Fin 4096) : EReal :=
  proj (fun j => shapeCast S16384x1024 (m ((c : Thread nD τ).loc main_arg0)) shapeCasts_S2x8192x1024_S16384x1024 (ix2 p j))
    (fun j => m ((c : Thread nD τ).loc main_arg1) (ix2 0 j))
    (fun k => shapeCast S1024x4096 (m ((c : Thread nD τ).loc main_arg2)) shapeCasts_S1x1024x4096_S1024x4096 (ix2 k q))
    (m ((c : Thread nD τ).loc main_arg3) (ix2 0 q))

/-- A point's block of projections is the whole batch's at the point's rows. -/
theorem blockProj_eq (c : Dev nD) (t : Fin cfg0.N) (r : Fin 1024) (q : Fin 4096) :
    blockProj (iblk m c 0 t) (iblk m c 1 t) (iblk m c 2 t) (iblk m c 3 t) r q = full m c (row t r) q := by
  unfold blockProj full
  simp only [iblk0_apply, iblk1_apply, iblk2_apply, iblk3_apply]
  exact congr (congr (congr (congrArg proj (funext fun j => congrFun (V_x m c) _)) (funext fun j => V_g m c j))
    (funext fun k => congrFun (V_w m c) _)) (V_b m c q)

/-- The first result array, -/
def G4 (c : Dev nD) : Buf (Elt Ideal) ((c : Thread nD τ).loc main_v7_0) :=
  fun i : S16384x2048.Idx => full m c (i 0) (colLo (i 1))
/-- and the second. -/
def G5 (c : Dev nD) : Buf (Elt Ideal) ((c : Thread nD τ).loc main_v7_1) :=
  fun i : S16384x2048.Idx => full m c (i 0) (colHi (i 1))

theorem flushed4_eq (c : Dev nD) (t : Fin cfg0.N) :
    (dats m 0 c).flushed 4 t = ((cfg0.win 4).blk t).view.read (Elt Ideal) (G4 m c) := by
  rw [Value.flushed4]
  funext y
  show out0_4 _ _ _ _ y = G4 m c (((cfg0.win 4).blk t).view.emb y)
  refine (out4_apply _ _ _ _ y).trans ((blockProj_eq m c t _ _).trans ?_)
  refine congrArg₂ (full m c) (Fin.ext ?_) (Fin.ext ?_)
  · show t.val * 1024 + (y 0).val = win0_4.index t 0 * 1024 + 1 * (y 0).val; rw [(idx_facts t).2.2.2.2.1.1]; omega
  · show (y 1).val = win0_4.index t 1 * 2048 + 1 * (y 1).val; rw [(idx_facts t).2.2.2.2.1.2]; omega

theorem flushed5_eq (c : Dev nD) (t : Fin cfg0.N) :
    (dats m 0 c).flushed 5 t = ((cfg0.win 5).blk t).view.read (Elt Ideal) (G5 m c) := by
  rw [Value.flushed5]
  funext y
  show out0_5 _ _ _ _ y = G5 m c (((cfg0.win 5).blk t).view.emb y)
  refine (out5_apply _ _ _ _ y).trans ((blockProj_eq m c t _ _).trans ?_)
  refine congrArg₂ (full m c) (Fin.ext ?_) (Fin.ext ?_)
  · show t.val * 1024 + (y 0).val = win0_5.index t 0 * 1024 + 1 * (y 0).val; rw [(idx_facts t).2.2.2.2.2.1]; omega
  · show 2048 + (y 1).val = 2048 + (win0_5.index t 1 * 2048 + 1 * (y 1).val); rw [(idx_facts t).2.2.2.2.2.2]; omega

/-- The point whose blocks hold a row. -/
def pointOf (i : S16384x2048.Idx) : Fin cfg0.N := ⟨(i 0).val / 1024, by
  have h : (i 0).val < 16384 := (i 0).isLt
  have hN : cfg0.N = 16 := N_0
  omega⟩

theorem mem4 (i : S16384x2048.Idx) : i ∈ ((cfg0.win 4).blk (pointOf i)).view.set := by
  show i ∈ ((View.whole main_v7_0).slice (win0_4.rect (pointOf i))).set
  rw [View.set_slice_whole, Rect.mem_set_unit]
  have h0 : (i 0).val < 16384 := (i 0).isLt
  have h1 : (i 1).val < 2048 := (i 1).isLt
  have f := (idx_facts (pointOf i)).2.2.2.2.1
  intro a
  match a with
  | ⟨0, _⟩ =>
    show win0_4.index (pointOf i) 0 * 1024 ≤ (i 0).val ∧ (i 0).val < win0_4.index (pointOf i) 0 * 1024 + 1024
    rw [f.1]; show (i 0).val / 1024 * 1024 ≤ _ ∧ _ < (i 0).val / 1024 * 1024 + 1024; omega
  | ⟨1, _⟩ =>
    show win0_4.index (pointOf i) 1 * 2048 ≤ (i 1).val ∧ (i 1).val < win0_4.index (pointOf i) 1 * 2048 + 2048
    rw [f.2]; omega

theorem mem5 (i : S16384x2048.Idx) : i ∈ ((cfg0.win 5).blk (pointOf i)).view.set := by
  show i ∈ ((View.whole main_v7_1).slice (win0_5.rect (pointOf i))).set
  rw [View.set_slice_whole, Rect.mem_set_unit]
  have h0 : (i 0).val < 16384 := (i 0).isLt
  have h1 : (i 1).val < 2048 := (i 1).isLt
  have f := (idx_facts (pointOf i)).2.2.2.2.2
  intro a
  match a with
  | ⟨0, _⟩ =>
    show win0_5.index (pointOf i) 0 * 1024 ≤ (i 0).val ∧ (i 0).val < win0_5.index (pointOf i) 0 * 1024 + 1024
    rw [f.1]; show (i 0).val / 1024 * 1024 ≤ _ ∧ _ < (i 0).val / 1024 * 1024 + 1024; omega
  | ⟨1, _⟩ =>
    show win0_5.index (pointOf i) 1 * 2048 ≤ (i 1).val ∧ (i 1).val < win0_5.index (pointOf i) 1 * 2048 + 2048
    rw [f.2]; omega

/-- So the first result array ends as the lower columns of the projection, -/
theorem final4 (c : Dev nD) : (dats m 0 c).arrAt 4 cfg0.N = G4 m c :=
  (dats m 0 c).arrAt_eq_of_cover 4 (G4 m c) (fun t _ => flushed4_eq m c t) fun i => ⟨pointOf i, flush0_4 _, mem4 i⟩
/-- and the second as the upper ones. -/
theorem final5 (c : Dev nD) : (dats m 0 c).arrAt 5 cfg0.N = G5 m c :=
  (dats m 0 c).arrAt_eq_of_cover 5 (G5 m c) (fun t _ => flushed5_eq m c t) fun i => ⟨pointOf i, flush0_5 _, mem5 i⟩

end Cert.InprojIdeal.Closed

/-! ## The reference -/

namespace Cert.InprojRefIdeal.Closed

open Cert.InprojRefIdeal Cert.InprojRefIdeal.Gen Cert.InprojRefIdeal.Read Cert.InprojForm

/-- The reference's sum before it is split, at a token and a column. -/
theorem sum_apply (x0 : (⟨S2x8192x1024, .f32⟩ : BufTy).Contents (Elt Ideal)) (x1 : (⟨S1x1024, .f32⟩ : BufTy).Contents (Elt Ideal))
    (x2 : (⟨S1x1024x4096, .f32⟩ : BufTy).Contents (Elt Ideal)) (x3 : (⟨S1x4096, .f32⟩ : BufTy).Contents (Elt Ideal))
    (p : Fin 16384) (q : Fin 4096) :
    val_main_v20 (F := Ideal) x0 x1 x2 x3 (ix2 p q)
      = proj (fun j => val_main_v0 (F := Ideal) x0 (ix2 p j)) (fun j => x1 (ix2 0 j))
          (fun k => val_main_v15 (F := Ideal) x2 (ix2 k q)) (x3 (ix2 0 q)) := by
  generalize hx : val_main_v0 (F := Ideal) x0 = X
  generalize hw : val_main_v15 (F := Ideal) x2 = W
  unfold proj normed rowScale
  pointwise [val_main_v20, val_main_v19, val_main_v18, val_main_v17, val_main_v16, val_main_v14, val_main_v13, val_main_v12,
    val_main_v11, val_main_v10, val_main_v9, val_main_v8, val_main_v7, val_main_v6, val_main_v5, val_main_v4, val_main_v3,
    val_main_v2, val_main_v1, val_main_cst, val_main_cst_0, val_main_cst_1, hx, hw]

end Cert.InprojRefIdeal.Closed

/-! ## The claims -/

namespace Cert.InprojClaims

open Cert.InprojForm

variable (m : (ℓ : Loc Cert.InprojIdeal.nD Cert.InprojIdeal.τ Cert.InprojIdeal.sig) → Buf (Elt Ideal) ℓ) (c : Dev Cert.InprojIdeal.nD)

/-- The kernel's argument arrays. -/
abbrev a0 : FVec Ideal Cert.InprojIdeal.S2x8192x1024 .f32 := m ((c : Thread Cert.InprojIdeal.nD Cert.InprojIdeal.τ).loc Cert.InprojIdeal.main_arg0)
abbrev a1 : FVec Ideal Cert.InprojIdeal.S1x1024 .f32 := m ((c : Thread Cert.InprojIdeal.nD Cert.InprojIdeal.τ).loc Cert.InprojIdeal.main_arg1)
abbrev a2 : FVec Ideal Cert.InprojIdeal.S1x1024x4096 .f32 := m ((c : Thread Cert.InprojIdeal.nD Cert.InprojIdeal.τ).loc Cert.InprojIdeal.main_arg2)
abbrev a3 : FVec Ideal Cert.InprojIdeal.S1x4096 .f32 := m ((c : Thread Cert.InprojIdeal.nD Cert.InprojIdeal.τ).loc Cert.InprojIdeal.main_arg3)

/-- The reference's first result is the kernel's first array, -/
theorem lo_eq : Cert.InprojRefIdeal.Read.val_main_v22 (F := Ideal) (a0 m c) (a1 m c) (a2 m c) (a3 m c) = Cert.InprojIdeal.Closed.G4 m c := by
  funext i
  obtain ⟨p, l, rfl⟩ : ∃ (p : Fin 16384) (l : Fin 2048), i = ix2 p l := ⟨i 0, i 1, eq_ix2 i⟩
  refine (Cert.InprojRefIdeal.Read.val_main_v22_apply _ _ _ _ _).trans ?_
  refine (Cert.InprojRefIdeal.Read.val_main_v21_apply _ _ _ _ _).trans ?_
  refine Eq.trans (congrArg _ ?_) (Cert.InprojRefIdeal.Closed.sum_apply _ _ _ _ p (Cert.InprojIdeal.Closed.colLo l))
  exact funext fun a => Fin.ext (by match a with | ⟨0, _⟩ => rfl | ⟨1, _⟩ => rfl)

/-- and its second the kernel's second. -/
theorem hi_eq : Cert.InprojRefIdeal.Read.val_main_v23 (F := Ideal) (a0 m c) (a1 m c) (a2 m c) (a3 m c) = Cert.InprojIdeal.Closed.G5 m c := by
  funext i
  obtain ⟨p, l, rfl⟩ : ∃ (p : Fin 16384) (l : Fin 2048), i = ix2 p l := ⟨i 0, i 1, eq_ix2 i⟩
  refine (Cert.InprojRefIdeal.Read.val_main_v23_apply _ _ _ _ _).trans ?_
  refine Eq.trans (congrArg _ ?_) (Cert.InprojRefIdeal.Closed.sum_apply _ _ _ _ p (Cert.InprojIdeal.Closed.colHi l))
  exact funext fun a => Fin.ext (by match a with | ⟨0, _⟩ => rfl | ⟨1, _⟩ => rfl)

/-- The input projection's kernel and its reference end with the same two arrays. -/
theorem algebraic : Cert.algebraic_InprojIdeal_InprojRefIdeal := by
  intro m g m' g' _ hag
  refine ⟨fun c => Cert.InprojIdeal.Closed.G4 m c, fun c => Cert.InprojIdeal.Closed.G5 m c,
    (θ_run Cert.InprojIdeal.defs _ _).mono (fun r h c => ⟨(h c).1.trans (Cert.InprojIdeal.Closed.final4 m c),
      (h c).2.1.trans (Cert.InprojIdeal.Closed.final5 m c), (h c).2.2⟩) (Cert.InprojIdeal.Value.run_blocks m g),
    (θ_run Cert.InprojRefIdeal.defs _ _).mono (fun r h c => ⟨(h c).1.trans ?_, (h c).2.1.trans ?_, (h c).2.2⟩)
      (Cert.InprojRefIdeal.Value.run m' g')⟩
  · rw [(hag c).1, (hag c).2.1, (hag c).2.2.1, (hag c).2.2.2]
    exact (Cert.InprojRefIdeal.Read.val_main_v22_eq _ _ _ _).trans (lo_eq m c)
  · rw [(hag c).1, (hag c).2.1, (hag c).2.2.1, (hag c).2.2.2]
    exact (Cert.InprojRefIdeal.Read.val_main_v23_eq _ _ _ _).trans (hi_eq m c)

/-- The kernel, its idealization and the reference keep their arguments and end quiescent. -/
theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2,
      Idealize.ShloMosaic.sem_eq_zero_of_no_sems (by decide) r.2⟩) (Cert.InprojRefIdeal.Value.run (F := Ideal) m ρ)

end Cert.InprojClaims
-- ==== Proof.MergeValue.lean ====
/-
  The value of the merge: what the kernel leaves in its three result arrays, read at an index, is the residual stream after the
  two mixers' gated output projections, its root-mean-square norm, and that norm times the (permuted) query weights.
-/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.InprojValue
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeForm

/-- One token's residual after the mixers, at a feature: each mixer's row goes through its output projection, is weighted by the
    logistic of its gate, and their sum goes through the last projection. -/
def mixed (zh zf : Fin 512 → EReal) (gh gf x : Fin 1024 → EReal) (wh wf : Fin 512 → Fin 1024 → EReal)
    (wo : Fin 1024 → Fin 1024 → EReal) (l : Fin 1024) : EReal :=
  x l + ∑ k : Fin 1024, (Ideal.logistic (gh k) * (∑ j : Fin 512, zh j * wh j k)
    + Ideal.logistic (gf k) * (∑ j : Fin 512, zf j * wf j k)) * wo k l

/-- A gate of the first mixer is a column of the lower half, -/
def colLo (l : Fin 1024) : Fin 2048 := ⟨l.val, by omega⟩
/-- and one of the second a column of the upper half. -/
def colHi (l : Fin 1024) : Fin 2048 := ⟨1024 + l.val, by omega⟩

/-- The query column under a result column: the result puts the two halves of every head first, the weights the eight heads. -/
def perm (q : Fin 2048) : Fin 2048 := ⟨q.val / 128 % 8 * 256 + q.val / 1024 * 128 + q.val % 128, by omega⟩

end Cert.MergeForm

namespace Cert.MergeIdeal.Closed

open Cert.MergeIdeal Cert.MergeIdeal.Gen Cert.MergeForm
open Cert.InprojForm (rowScale normed)

/-- The residual's block at a row and a feature. -/
theorem pay3_apply (zh : Vec Ideal S512x512 .bf16) (wh : Vec Ideal S512x1024 .bf16) (zf : Vec Ideal S512x512 .bf16)
    (wf : Vec Ideal S512x1024 .bf16) (gh gf x : Vec Ideal S512x1024 .f32) (wo : Vec Ideal S1024x1024 .bf16)
    (r : Fin 512) (l : Fin 1024) :
    k0_pay3 (F := Ideal) zh wh zf wf gh gf x wo (ix2 r l)
      = mixed (fun j => zh (ix2 r j)) (fun j => zf (ix2 r j)) (fun k => gh (ix2 r k)) (fun k => gf (ix2 r k))
          (fun k => x (ix2 r k)) (fun j k => wh (ix2 j k)) (fun j k => wf (ix2 j k)) (fun k l => wo (ix2 k l)) l := by
  pointwise [k0_pay3, mixed]

/-- The scale of a row of the residual's block. -/
theorem pay5_apply (zh : Vec Ideal S512x512 .bf16) (wh : Vec Ideal S512x1024 .bf16) (zf : Vec Ideal S512x512 .bf16)
    (wf : Vec Ideal S512x1024 .bf16) (gh gf x : Vec Ideal S512x1024 .f32) (wo : Vec Ideal S1024x1024 .bf16) (r : Fin 512) :
    k0_pay5 (F := Ideal) zh wh zf wf gh gf x wo (ix2 r 0)
      = rowScale (fun l => k0_pay3 (F := Ideal) zh wh zf wf gh gf x wo (ix2 r l)) := by
  unfold k0_pay5
  generalize k0_pay3 (F := Ideal) zh wh zf wf gh gf x wo = v
  pointwise [rowScale]

/-- The normed block, from the residual's block, the gains and the rows' scales. -/
theorem pay1_apply (v : FVec Ideal S512x1024 .f32) (g : FVec Ideal S1x1024 .f32) (s : FVec Ideal S512x1 .f32)
    (r : Fin 512) (k : Fin 1024) :
    k0_pay1 (F := Ideal) v g s (ix2 r k) = v (ix2 r k) * s (ix2 r 0) * g (ix2 0 k) := by
  pointwise [k0_pay1]

/-- The queries' block. -/
theorem pay2_apply (v : FVec Ideal S512x1024 .f32) (g : FVec Ideal S1x1024 .f32) (s : FVec Ideal S512x1 .f32)
    (w : Vec Ideal S1024x2048 .bf16) (r : Fin 512) (q : Fin 2048) :
    k0_pay2 (F := Ideal) v g s w (ix2 r q) = ∑ k : Fin 1024, v (ix2 r k) * s (ix2 r 0) * g (ix2 0 k) * w (ix2 k q) := by
  simp only [← pay1_apply]
  pointwise [k0_pay2]

/-- The gains' block is taken as it is. -/
theorem pay4_apply (g : Vec Ideal S1x1024 .f32) (k : Fin 1024) : k0_pay4 (F := Ideal) g (ix2 0 k) = g (ix2 0 k) := by
  pointwise [k0_pay4]

theorem hz : (![0, 0] : Fin 2 → Nat) = fun _ => 0 := funext fun a => by fin_cases a <;> rfl

/-- A load of a whole block is the block. -/
theorem ld0 (v : Vec Ideal S512x512 .bf16) : View.ld v r0_0 = v := by rw [View.ld_unit_zero hz]
theorem ld1 (v : Vec Ideal S512x1024 .bf16) : View.ld v r0_1 = v := by rw [View.ld_unit_zero hz]
theorem ld1' (v : Vec Ideal S512x1024 .f32) : View.ld v r0_1 = v := by rw [View.ld_unit_zero hz]
theorem ld2 (v : Vec Ideal S1024x1024 .bf16) : View.ld v r0_2 = v := by rw [View.ld_unit_zero hz]
theorem ld3 (v : Vec Ideal S1x1024 .f32) : View.ld v r0_3 = v := by rw [View.ld_unit_zero hz]
theorem ld4 (v : Vec Ideal S1024x2048 .bf16) : View.ld v r0_4 = v := by rw [View.ld_unit_zero hz]

/-- A row of the residual, from a point's blocks. -/
def blockRes (zh zf : Vec Ideal S512x512 .bf16) (gh gf x : Vec Ideal S512x1024 .f32) (wh wf : Vec Ideal S512x1024 .bf16)
    (wo : Vec Ideal S1024x1024 .bf16) (r : Fin 512) : Fin 1024 → EReal :=
  mixed (fun j => zh (ix2 r j)) (fun j => zf (ix2 r j)) (fun k => gh (ix2 r k)) (fun k => gf (ix2 r k))
    (fun k => x (ix2 r k)) (fun j k => wh (ix2 j k)) (fun j k => wf (ix2 j k)) (fun k l => wo (ix2 k l))

variable (zh zf : Vec Ideal S512x512 .bf16) (gh gf x : Vec Ideal S512x1024 .f32) (wh wf : Vec Ideal S512x1024 .bf16)
  (wo : Vec Ideal S1024x1024 .bf16) (g : Vec Ideal S1x1024 .f32) (wq : Vec Ideal S1024x2048 .bf16)

/-- The residual of the blocks loaded whole, at a row and a feature. -/
theorem pay6_apply (r : Fin 512) (l : Fin 1024) :
    k0_pay6 (F := Ideal) zh zf gh gf x wh wf wo g wq (ix2 r l) = blockRes zh zf gh gf x wh wf wo r l := by
  unfold k0_pay6
  refine (pay3_apply _ _ _ _ _ _ _ _ r l).trans ?_
  rw [ld0 zh, ld1 wh, ld0 zf, ld1 wf, ld1' gh, ld1' gf, ld1' x, ld2 wo]
  rfl

/-- The scale of a row of the blocks loaded whole. -/
theorem pay8_apply (r : Fin 512) :
    k0_pay8 (F := Ideal) zh zf gh gf x wh wf wo g wq (ix2 r 0) = rowScale (blockRes zh zf gh gf x wh wf wo r) := by
  refine (pay5_apply _ _ _ _ _ _ _ _ r).trans (congrArg rowScale (funext fun l => ?_))
  exact pay6_apply zh zf gh gf x wh wf wo g wq r l

/-- The gains loaded whole. -/
theorem pay7_apply (k : Fin 1024) :
    k0_pay7 (F := Ideal) zh zf gh gf x wh wf wo g wq (ix2 0 k) = g (ix2 0 k) := by
  unfold k0_pay7
  refine (pay4_apply _ k).trans ?_
  rw [ld3]

/-- The first result's block after the body is the residual's, -/
theorem out10_apply (y : S512x1024.Idx) :
    out0_10 (F := Ideal) zh zf gh gf x wh wf wo g wq y = blockRes zh zf gh gf x wh wf wo (y 0) (y 1) := by
  unfold out0_10
  refine View.canon_apply_of_pieces (Val := Elt Ideal) (fun y => blockRes zh zf gh gf x wh wf wo (y 0) (y 1)) _ ?_ y (cover0_10 _ y)
  intro p hp z
  simp only [List.mem_cons, List.not_mem_nil, or_false] at hp
  subst hp
  obtain ⟨r, l, rfl⟩ : ∃ (r : Fin 512) (l : Fin 1024), z = ix2 r l := ⟨z 0, z 1, eq_ix2 z⟩
  refine (pay6_apply zh zf gh gf x wh wf wo g wq r l).trans ?_
  have e0 : r0_1.emb (ix2 r l) 0 = r := Fin.ext (by show 0 + 1 * r.val = r.val; omega)
  have e1 : r0_1.emb (ix2 r l) 1 = l := Fin.ext (by show 0 + 1 * l.val = l.val; omega)
  show _ = blockRes zh zf gh gf x wh wf wo (r0_1.emb (ix2 r l) 0) (r0_1.emb (ix2 r l) 1)
  rw [e0, e1]

/-- the second's is its norm, -/
theorem out11_apply (y : S512x1024.Idx) :
    out0_11 (F := Ideal) zh zf gh gf x wh wf wo g wq y
      = normed (blockRes zh zf gh gf x wh wf wo (y 0)) (fun k => g (ix2 0 k)) (y 1) := by
  unfold out0_11
  refine View.canon_apply_of_pieces (Val := Elt Ideal)
    (fun y => normed (blockRes zh zf gh gf x wh wf wo (y 0)) (fun k => g (ix2 0 k)) (y 1)) _ ?_ y (cover0_11 _ y)
  intro p hp z
  simp only [List.mem_cons, List.not_mem_nil, or_false] at hp
  subst hp
  obtain ⟨r, l, rfl⟩ : ∃ (r : Fin 512) (l : Fin 1024), z = ix2 r l := ⟨z 0, z 1, eq_ix2 z⟩
  refine (pay1_apply _ _ _ r l).trans ?_
  rw [pay6_apply, pay7_apply, pay8_apply]
  have e0 : r0_1.emb (ix2 r l) 0 = r := Fin.ext (by show 0 + 1 * r.val = r.val; omega)
  have e1 : r0_1.emb (ix2 r l) 1 = l := Fin.ext (by show 0 + 1 * l.val = l.val; omega)
  show _ = normed (blockRes zh zf gh gf x wh wf wo (r0_1.emb (ix2 r l) 0)) _ (r0_1.emb (ix2 r l) 1)
  rw [e0, e1]
  rfl

/-- and the third's the norm times the query weights. -/
theorem out12_apply (y : S512x2048.Idx) :
    out0_12 (F := Ideal) zh zf gh gf x wh wf wo g wq y
      = ∑ k : Fin 1024, normed (blockRes zh zf gh gf x wh wf wo (y 0)) (fun k => g (ix2 0 k)) k * wq (ix2 k (y 1)) := by
  unfold out0_12
  refine View.canon_apply_of_pieces (Val := Elt Ideal)
    (fun y => ∑ k : Fin 1024, normed (blockRes zh zf gh gf x wh wf wo (y 0)) (fun k => g (ix2 0 k)) k * wq (ix2 k (y 1))) _ ?_ y (cover0_12 _ y)
  intro p hp z
  simp only [List.mem_cons, List.not_mem_nil, or_false] at hp
  subst hp
  obtain ⟨r, l, rfl⟩ : ∃ (r : Fin 512) (l : Fin 2048), z = ix2 r l := ⟨z 0, z 1, eq_ix2 z⟩
  refine (pay2_apply _ _ _ _ r l).trans ?_
  rw [ld4 wq]
  simp only [pay6_apply, pay7_apply, pay8_apply]
  have e0 : r0_5.emb (ix2 r l) 0 = r := Fin.ext (by show 0 + 1 * r.val = r.val; omega)
  have e1 : r0_5.emb (ix2 r l) 1 = l := Fin.ext (by show 0 + 1 * l.val = l.val; omega)
  show _ = ∑ k : Fin 1024, normed (blockRes zh zf gh gf x wh wf wo (r0_5.emb (ix2 r l) 0)) _ k * wq (ix2 k (r0_5.emb (ix2 r l) 1))
  rw [e0, e1]
  rfl

/-! ## The arrays the region reads, and the blocks of them -/

variable (m : (ℓ : Loc nD τ sig) → Buf (Elt Ideal) ℓ) (ρ : Dev nD → PrngReg)

/-- The kernel's argument arrays. -/
abbrev a0 (c : Dev nD) : FVec Ideal S16384x512 .bf16 := m ((c : Thread nD τ).loc main_arg0)
abbrev a1 (c : Dev nD) : FVec Ideal S16384x512 .bf16 := m ((c : Thread nD τ).loc main_arg1)
abbrev a2 (c : Dev nD) : FVec Ideal S16384x2048 .f32 := m ((c : Thread nD τ).loc main_arg2)
abbrev a3 (c : Dev nD) : FVec Ideal S16384x1024 .f32 := m ((c : Thread nD τ).loc main_arg3)
abbrev a4 (c : Dev nD) : FVec Ideal S1x512x1024 .f32 := m ((c : Thread nD τ).loc main_arg4)
abbrev a5 (c : Dev nD) : FVec Ideal S1x512x1024 .f32 := m ((c : Thread nD τ).loc main_arg5)
abbrev a6 (c : Dev nD) : FVec Ideal S1x1024x1024 .f32 := m ((c : Thread nD τ).loc main_arg6)
abbrev a7 (c : Dev nD) : FVec Ideal S1x1024 .f32 := m ((c : Thread nD τ).loc main_arg7)
abbrev a8 (c : Dev nD) : FVec Ideal S1x1024x2048 .f32 := m ((c : Thread nD τ).loc main_arg8)

/-- The weights of the output projections: rounded by the kernel's caller, which changes nothing in exact numbers. -/
theorem V_wh (c : Dev nD) : V m c main_v5 = shapeCast S512x1024 (a4 m c) shapeCasts_S1x512x1024_S512x1024 := by
  show StableHlo.after hostOps0 _ _ = _
  after_results
  rfl
theorem V_wf (c : Dev nD) : V m c main_v7 = shapeCast S512x1024 (a5 m c) shapeCasts_S1x512x1024_S512x1024 := by
  show StableHlo.after hostOps0 _ _ = _
  after_results
  rfl
theorem V_wo (c : Dev nD) : V m c main_v9 = shapeCast S1024x1024 (a6 m c) shapeCasts_S1x1024x1024_S1024x1024 := by
  show StableHlo.after hostOps0 _ _ = _
  after_results
  rfl

/-- The gains, a row. -/
theorem V_g (c : Dev nD) (k : Fin 1024) : V m c main_v11 (ix2 0 k) = a7 m c (ix2 0 k) := by
  show StableHlo.after hostOps0 _ _ _ = _
  after_results
  pointwise

/-- A table of query weights reshaped to heads and halves, the two exchanged, and reshaped back: its columns permuted. -/
theorem perm_apply (w : S1024x2048.Idx → EReal) (k : Fin 1024) (q : Fin 2048) :
    shapeCast S1024x2048 (transpose S1024x2x8x128 [0, 2, 1, 3] (shapeCast S1024x8x2x128 w shapeCasts_S1024x2048_S1024x8x2x128)
        transposes_S1024x8x2x128_S1024x2x8x128_0_2_1_3) shapeCasts_S1024x2x8x128_S1024x2048 (ix2 k q) = w (ix2 k (perm q)) := by
  have hq := q.isLt
  refine (shapeCast_apply _ _ (ix2 k q) (ix4 k ⟨q.val / 1024, by omega⟩ ⟨q.val / 128 % 8, by omega⟩ ⟨q.val % 128, by omega⟩) ?_).trans ?_
  · rewrite [Shape.rowMajor_val_four, Shape.rowMajor_val_two]
    show ((k.val * 2 + q.val / 1024) * 8 + q.val / 128 % 8) * 128 + q.val % 128 = k.val * 2048 + q.val
    omega
  refine (transpose_apply _ _ _ _ (ix4 k ⟨q.val / 128 % 8, by omega⟩ ⟨q.val / 1024, by omega⟩ ⟨q.val % 128, by omega⟩)
    (fun b => match b with | ⟨0, _⟩ => rfl | ⟨1, _⟩ => rfl | ⟨2, _⟩ => rfl | ⟨3, _⟩ => rfl)).trans ?_
  refine shapeCast_apply _ _ _ (ix2 k (perm q)) ?_
  rewrite [Shape.rowMajor_val_two, Shape.rowMajor_val_four]
  show k.val * 2048 + (q.val / 128 % 8 * 256 + q.val / 1024 * 128 + q.val % 128)
    = ((k.val * 8 + q.val / 128 % 8) * 2 + q.val / 1024) * 128 + q.val % 128
  omega

/-- The query weights, their columns permuted. -/
theorem V_wq (c : Dev nD) (k : Fin 1024) (q : Fin 2048) : V m c main_v12 (ix2 k q)
    = shapeCast S1024x2048 (a8 m c) shapeCasts_S1x1024x2048_S1024x2048 (ix2 k (perm q)) := by
  refine Eq.trans ?_ (perm_apply _ k q)
  show StableHlo.after hostOps0 _ _ _ = _
  after_results
  rfl

/-- Where each window's block lies at each point (decided over the points). -/
theorem idx_rows : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 1)
    ∧ (win0_4.index t 0 = t.val ∧ win0_4.index t 1 = 0) := by
  decide +kernel
theorem idx_whole : ∀ t : Fin grid0.N,
    (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) := by
  decide +kernel
theorem idx_out : ∀ t : Fin grid0.N,
    (win0_10.index t 0 = t.val ∧ win0_10.index t 1 = 0) ∧ (win0_11.index t 0 = t.val ∧ win0_11.index t 1 = 0)
    ∧ (win0_12.index t 0 = t.val ∧ win0_12.index t 1 = 0) := by
  decide +kernel

/-- The row of the whole table that a point's block has at `r`. -/
def row (t : Fin cfg0.N) (r : Fin 512) : Fin 16384 := ⟨t.val * 512 + r.val, by
  have h : t.val < 32 := lt_of_lt_of_eq t.isLt N_0; omega⟩

theorem iblk0_apply (c : Dev nD) (t : Fin cfg0.N) (r k : Fin 512) : iblk m c 0 t (ix2 r k) = a0 m c (ix2 (row t r) k) := by
  show V m c main_arg0 (((cfg0.win 0).blk t).view.emb (ix2 r k)) = _
  refine (congrFun (V_main_arg0 m c) _).trans (congrArg (a0 m c) (funext fun a => Fin.ext ?_))
  match a with
  | ⟨0, _⟩ => show win0_0.index t 0 * 512 + 1 * r.val = t.val * 512 + r.val; rw [(idx_rows t).1.1]; omega
  | ⟨1, _⟩ => show win0_0.index t 1 * 512 + 1 * k.val = k.val; rw [(idx_rows t).1.2]; omega

theorem iblk1_apply (c : Dev nD) (t : Fin cfg0.N) (r k : Fin 512) : iblk m c 1 t (ix2 r k) = a1 m c (ix2 (row t r) k) := by
  show V m c main_arg1 (((cfg0.win 1).blk t).view.emb (ix2 r k)) = _
  refine (congrFun (V_main_arg1 m c) _).trans (congrArg (a1 m c) (funext fun a => Fin.ext ?_))
  match a with
  | ⟨0, _⟩ => show win0_1.index t 0 * 512 + 1 * r.val = t.val * 512 + r.val; rw [(idx_rows t).2.1.1]; omega
  | ⟨1, _⟩ => show win0_1.index t 1 * 512 + 1 * k.val = k.val; rw [(idx_rows t).2.1.2]; omega

theorem iblk2_apply (c : Dev nD) (t : Fin cfg0.N) (r : Fin 512) (k : Fin 1024) :
    iblk m c 2 t (ix2 r k) = a2 m c (ix2 (row t r) (colLo k)) := by
  show V m c main_arg2 (((cfg0.win 2).blk t).view.emb (ix2 r k)) = _
  refine (congrFun (V_main_arg2 m c) _).trans (congrArg (a2 m c) (funext fun a => Fin.ext ?_))
  match a with
  | ⟨0, _⟩ => show win0_2.index t 0 * 512 + 1 * r.val = t.val * 512 + r.val; rw [(idx_rows t).2.2.1.1]; omega
  | ⟨1, _⟩ => show win0_2.index t 1 * 1024 + 1 * k.val = k.val; rw [(idx_rows t).2.2.1.2]; omega

theorem iblk3_apply (c : Dev nD) (t : Fin cfg0.N) (r : Fin 512) (k : Fin 1024) :
    iblk m c 3 t (ix2 r k) = a2 m c (ix2 (row t r) (colHi k)) := by
  show V m c main_arg2 (((cfg0.win 3).blk t).view.emb (ix2 r k)) = _
  refine (congrFun (V_main_arg2 m c) _).trans (congrArg (a2 m c) (funext fun a => Fin.ext ?_))
  match a with
  | ⟨0, _⟩ => show win0_3.index t 0 * 512 + 1 * r.val = t.val * 512 + r.val; rw [(idx_rows t).2.2.2.1.1]; omega
  | ⟨1, _⟩ => show win0_3.index t 1 * 1024 + 1 * k.val = 1024 + k.val; rw [(idx_rows t).2.2.2.1.2]; omega

theorem iblk4_apply (c : Dev nD) (t : Fin cfg0.N) (r : Fin 512) (k : Fin 1024) :
    iblk m c 4 t (ix2 r k) = a3 m c (ix2 (row t r) k) := by
  show V m c main_arg3 (((cfg0.win 4).blk t).view.emb (ix2 r k)) = _
  refine (congrFun (V_main_arg3 m c) _).trans (congrArg (a3 m c) (funext fun a => Fin.ext ?_))
  match a with
  | ⟨0, _⟩ => show win0_4.index t 0 * 512 + 1 * r.val = t.val * 512 + r.val; rw [(idx_rows t).2.2.2.2.1]; omega
  | ⟨1, _⟩ => show win0_4.index t 1 * 1024 + 1 * k.val = k.val; rw [(idx_rows t).2.2.2.2.2]; omega

theorem iblk5_apply (c : Dev nD) (t : Fin cfg0.N) (j : Fin 512) (k : Fin 1024) :
    iblk m c 5 t (ix2 j k) = shapeCast S512x1024 (a4 m c) shapeCasts_S1x512x1024_S512x1024 (ix2 j k) := by
  show V m c main_v5 (((cfg0.win 5).blk t).view.emb (ix2 j k)) = _
  refine (congrFun (V_wh m c) _).trans (congrArg (shapeCast S512x1024 (a4 m c) shapeCasts_S1x512x1024_S512x1024) (funext fun a => Fin.ext ?_))
  match a with
  | ⟨0, _⟩ => show win0_5.index t 0 * 512 + 1 * j.val = j.val; rw [(idx_whole t).1.1]; omega
  | ⟨1, _⟩ => show win0_5.index t 1 * 1024 + 1 * k.val = k.val; rw [(idx_whole t).1.2]; omega

theorem iblk6_apply (c : Dev nD) (t : Fin cfg0.N) (j : Fin 512) (k : Fin 1024) :
    iblk m c 6 t (ix2 j k) = shapeCast S512x1024 (a5 m c) shapeCasts_S1x512x1024_S512x1024 (ix2 j k) := by
  show V m c main_v7 (((cfg0.win 6).blk t).view.emb (ix2 j k)) = _
  refine (congrFun (V_wf m c) _).trans (congrArg (shapeCast S512x1024 (a5 m c) shapeCasts_S1x512x1024_S512x1024) (funext fun a => Fin.ext ?_))
  match a with
  | ⟨0, _⟩ => show win0_6.index t 0 * 512 + 1 * j.val = j.val; rw [(idx_whole t).2.1.1]; omega
  | ⟨1, _⟩ => show win0_6.index t 1 * 1024 + 1 * k.val = k.val; rw [(idx_whole t).2.1.2]; omega

theorem iblk7_apply (c : Dev nD) (t : Fin cfg0.N) (j k : Fin 1024) :
    iblk m c 7 t (ix2 j k) = shapeCast S1024x1024 (a6 m c) shapeCasts_S1x1024x1024_S1024x1024 (ix2 j k) := by
  show V m c main_v9 (((cfg0.win 7).blk t).view.emb (ix2 j k)) = _
  refine (congrFun (V_wo m c) _).trans (congrArg (shapeCast S1024x1024 (a6 m c) shapeCasts_S1x1024x1024_S1024x1024) (funext fun a => Fin.ext ?_))
  match a with
  | ⟨0, _⟩ => show win0_7.index t 0 * 1024 + 1 * j.val = j.val; rw [(idx_whole t).2.2.1.1]; omega
  | ⟨1, _⟩ => show win0_7.index t 1 * 1024 + 1 * k.val = k.val; rw [(idx_whole t).2.2.1.2]; omega

theorem iblk8_apply (c : Dev nD) (t : Fin cfg0.N) (k : Fin 1024) : iblk m c 8 t (ix2 0 k) = a7 m c (ix2 0 k) := by
  refine Eq.trans ?_ (V_g m c k)
  show V m c main_v11 (((cfg0.win 8).blk t).view.emb (ix2 0 k)) = _
  refine congrArg _ (funext fun a => Fin.ext ?_)
  match a with
  | ⟨0, _⟩ => show win0_8.index t 0 * 1 + 1 * 0 = 0; rw [(idx_whole t).2.2.2.1.1]
  | ⟨1, _⟩ => show win0_8.index t 1 * 1024 + 1 * k.val = k.val; rw [(idx_whole t).2.2.2.1.2]; omega

theorem iblk9_apply (c : Dev nD) (t : Fin cfg0.N) (k : Fin 1024) (q : Fin 2048) :
    iblk m c 9 t (ix2 k q) = shapeCast S1024x2048 (a8 m c) shapeCasts_S1x1024x2048_S1024x2048 (ix2 k (perm q)) := by
  refine Eq.trans ?_ (V_wq m c k q)
  show V m c main_v12 (((cfg0.win 9).blk t).view.emb (ix2 k q)) = _
  refine congrArg _ (funext fun a => Fin.ext ?_)
  match a with
  | ⟨0, _⟩ => show win0_9.index t 0 * 1024 + 1 * k.val = k.val; rw [(idx_whole t).2.2.2.2.1]; omega
  | ⟨1, _⟩ => show win0_9.index t 1 * 2048 + 1 * q.val = q.val; rw [(idx_whole t).2.2.2.2.2]; omega

/-! ## The result arrays -/

/-- A token's residual, from the arguments. -/
def fullRes (c : Dev nD) (p : Fin 16384) : Fin 1024 → EReal :=
  mixed (fun j => a0 m c (ix2 p j)) (fun j => a1 m c (ix2 p j)) (fun k => a2 m c (ix2 p (colLo k)))
    (fun k => a2 m c (ix2 p (colHi k))) (fun k => a3 m c (ix2 p k))
    (fun j k => shapeCast S512x1024 (a4 m c) shapeCasts_S1x512x1024_S512x1024 (ix2 j k))
    (fun j k => shapeCast S512x1024 (a5 m c) shapeCasts_S1x512x1024_S512x1024 (ix2 j k))
    (fun k l => shapeCast S1024x1024 (a6 m c) shapeCasts_S1x1024x1024_S1024x1024 (ix2 k l))

/-- A token's normed residual. -/
def fullNorm (c : Dev nD) (p : Fin 16384) : Fin 1024 → EReal := normed (fullRes m c p) (fun k => a7 m c (ix2 0 k))

/-- A token's query at a result column. -/
def fullQuery (c : Dev nD) (p : Fin 16384) (q : Fin 2048) : EReal :=
  ∑ k : Fin 1024, fullNorm m c p k * shapeCast S1024x2048 (a8 m c) shapeCasts_S1x1024x2048_S1024x2048 (ix2 k (perm q))

/-- A point's rows of the residual are the whole batch's at the point's rows, -/
theorem blockRes_eq (c : Dev nD) (t : Fin cfg0.N) (r : Fin 512) :
    blockRes (iblk m c 0 t) (iblk m c 1 t) (iblk m c 2 t) (iblk m c 3 t) (iblk m c 4 t) (iblk m c 5 t) (iblk m c 6 t)
      (iblk m c 7 t) r = fullRes m c (row t r) := by
  unfold blockRes fullRes
  simp only [iblk0_apply, iblk1_apply, iblk2_apply, iblk3_apply, iblk4_apply, iblk5_apply, iblk6_apply, iblk7_apply]

/-- and so are the normed ones. -/
theorem blockNorm_eq (c : Dev nD) (t : Fin cfg0.N) (r : Fin 512) :
    normed (blockRes (iblk m c 0 t) (iblk m c 1 t) (iblk m c 2 t) (iblk m c 3 t) (iblk m c 4 t) (iblk m c 5 t) (iblk m c 6 t)
      (iblk m c 7 t) r) (fun k => iblk m c 8 t (ix2 0 k)) = fullNorm m c (row t r) :=
  congrArg₂ normed (blockRes_eq m c t r) (funext fun k => iblk8_apply m c t k)

/-- The three result arrays. -/
def G10 (c : Dev nD) : Buf (Elt Ideal) ((c : Thread nD τ).loc main_v13_0) := fun i : S16384x1024.Idx => fullRes m c (i 0) (i 1)
def G11 (c : Dev nD) : Buf (Elt Ideal) ((c : Thread nD τ).loc main_v13_1) := fun i : S16384x1024.Idx => fullNorm m c (i 0) (i 1)
def G12 (c : Dev nD) : Buf (Elt Ideal) ((c : Thread nD τ).loc main_v13_2) := fun i : S16384x2048.Idx => fullQuery m c (i 0) (i 1)

theorem flushed10_eq (c : Dev nD) (t : Fin cfg0.N) :
    (dats m 0 c).flushed 10 t = ((cfg0.win 10).blk t).view.read (Elt Ideal) (G10 m c) := by
  rw [Value.flushed10]
  funext y
  show out0_10 _ _ _ _ _ _ _ _ _ _ y = G10 m c (((cfg0.win 10).blk t).view.emb y)
  refine (out10_apply _ _ _ _ _ _ _ _ _ _ y).trans ((congrFun (blockRes_eq m c t _) _).trans ?_)
  refine congrArg₂ (fullRes m c) (Fin.ext ?_) (Fin.ext ?_)
  · show t.val * 512 + (y 0).val = win0_10.index t 0 * 512 + 1 * (y 0).val; rw [(idx_out t).1.1]; omega
  · show (y 1).val = win0_10.index t 1 * 1024 + 1 * (y 1).val; rw [(idx_out t).1.2]; omega

theorem flushed11_eq (c : Dev nD) (t : Fin cfg0.N) :
    (dats m 0 c).flushed 11 t = ((cfg0.win 11).blk t).view.read (Elt Ideal) (G11 m c) := by
  rw [Value.flushed11]
  funext y
  show out0_11 _ _ _ _ _ _ _ _ _ _ y = G11 m c (((cfg0.win 11).blk t).view.emb y)
  refine (out11_apply _ _ _ _ _ _ _ _ _ _ y).trans ((congrFun (blockNorm_eq m c t _) _).trans ?_)
  refine congrArg₂ (fullNorm m c) (Fin.ext ?_) (Fin.ext ?_)
  · show t.val * 512 + (y 0).val = win0_11.index t 0 * 512 + 1 * (y 0).val; rw [(idx_out t).2.1.1]; omega
  · show (y 1).val = win0_11.index t 1 * 1024 + 1 * (y 1).val; rw [(idx_out t).2.1.2]; omega

theorem flushed12_eq (c : Dev nD) (t : Fin cfg0.N) :
    (dats m 0 c).flushed 12 t = ((cfg0.win 12).blk t).view.read (Elt Ideal) (G12 m c) := by
  rw [Value.flushed12]
  funext y
  show out0_12 _ _ _ _ _ _ _ _ _ _ y = G12 m c (((cfg0.win 12).blk t).view.emb y)
  refine (out12_apply _ _ _ _ _ _ _ _ _ _ y).trans (Eq.trans (b := fullQuery m c (row t (y 0)) (y 1)) ?_ ?_)
  · exact Finset.sum_congr rfl fun k _ => congrArg₂ (fun a b : EReal => a * b) (congrFun (blockNorm_eq m c t _) k) (iblk9_apply m c t k _)
  refine congrArg₂ (fullQuery m c) (Fin.ext ?_) (Fin.ext ?_)
  · show t.val * 512 + (y 0).val = win0_12.index t 0 * 512 + 1 * (y 0).val; rw [(idx_out t).2.2.1]; omega
  · show (y 1).val = win0_12.index t 1 * 2048 + 1 * (y 1).val; rw [(idx_out t).2.2.2]; omega

/-- The point whose blocks hold a row. -/
def pointOf (p : Fin 16384) : Fin cfg0.N := ⟨p.val / 512, by
  have hN : cfg0.N = 32 := N_0
  omega⟩

theorem mem10 (i : S16384x1024.Idx) : i ∈ ((cfg0.win 10).blk (pointOf (i 0))).view.set := by
  show i ∈ ((View.whole main_v13_0).slice (win0_10.rect (pointOf (i 0)))).set
  rw [View.set_slice_whole, Rect.mem_set_unit]
  have h0 : (i 0).val < 16384 := (i 0).isLt
  have h1 : (i 1).val < 1024 := (i 1).isLt
  have f := (idx_out (pointOf (i 0))).1
  intro a
  match a with
  | ⟨0, _⟩ =>
    show win0_10.index (pointOf (i 0)) 0 * 512 ≤ (i 0).val ∧ (i 0).val < win0_10.index (pointOf (i 0)) 0 * 512 + 512
    rw [f.1]; show (i 0).val / 512 * 512 ≤ _ ∧ _ < (i 0).val / 512 * 512 + 512; omega
  | ⟨1, _⟩ =>
    show win0_10.index (pointOf (i 0)) 1 * 1024 ≤ (i 1).val ∧ (i 1).val < win0_10.index (pointOf (i 0)) 1 * 1024 + 1024
    rw [f.2]; omega

theorem mem11 (i : S16384x1024.Idx) : i ∈ ((cfg0.win 11).blk (pointOf (i 0))).view.set := by
  show i ∈ ((View.whole main_v13_1).slice (win0_11.rect (pointOf (i 0)))).set
  rw [View.set_slice_whole, Rect.mem_set_unit]
  have h0 : (i 0).val < 16384 := (i 0).isLt
  have h1 : (i 1).val < 1024 := (i 1).isLt
  have f := (idx_out (pointOf (i 0))).2.1
  intro a
  match a with
  | ⟨0, _⟩ =>
    show win0_11.index (pointOf (i 0)) 0 * 512 ≤ (i 0).val ∧ (i 0).val < win0_11.index (pointOf (i 0)) 0 * 512 + 512
    rw [f.1]; show (i 0).val / 512 * 512 ≤ _ ∧ _ < (i 0).val / 512 * 512 + 512; omega
  | ⟨1, _⟩ =>
    show win0_11.index (pointOf (i 0)) 1 * 1024 ≤ (i 1).val ∧ (i 1).val < win0_11.index (pointOf (i 0)) 1 * 1024 + 1024
    rw [f.2]; omega

theorem mem12 (i : S16384x2048.Idx) : i ∈ ((cfg0.win 12).blk (pointOf (i 0))).view.set := by
  show i ∈ ((View.whole main_v13_2).slice (win0_12.rect (pointOf (i 0)))).set
  rw [View.set_slice_whole, Rect.mem_set_unit]
  have h0 : (i 0).val < 16384 := (i 0).isLt
  have h1 : (i 1).val < 2048 := (i 1).isLt
  have f := (idx_out (pointOf (i 0))).2.2
  intro a
  match a with
  | ⟨0, _⟩ =>
    show win0_12.index (pointOf (i 0)) 0 * 512 ≤ (i 0).val ∧ (i 0).val < win0_12.index (pointOf (i 0)) 0 * 512 + 512
    rw [f.1]; show (i 0).val / 512 * 512 ≤ _ ∧ _ < (i 0).val / 512 * 512 + 512; omega
  | ⟨1, _⟩ =>
    show win0_12.index (pointOf (i 0)) 1 * 2048 ≤ (i 1).val ∧ (i 1).val < win0_12.index (pointOf (i 0)) 1 * 2048 + 2048
    rw [f.2]; omega

/-- So the result arrays end as the residual, -/
theorem final10 (c : Dev nD) : (dats m 0 c).arrAt 10 cfg0.N = G10 m c :=
  (dats m 0 c).arrAt_eq_of_cover 10 (G10 m c) (fun t _ => flushed10_eq m c t) fun i => ⟨pointOf (i 0), flush0_10 _, mem10 i⟩
/-- its norm, -/
theorem final11 (c : Dev nD) : (dats m 0 c).arrAt 11 cfg0.N = G11 m c :=
  (dats m 0 c).arrAt_eq_of_cover 11 (G11 m c) (fun t _ => flushed11_eq m c t) fun i => ⟨pointOf (i 0), flush0_11 _, mem11 i⟩
/-- and the queries. -/
theorem final12 (c : Dev nD) : (dats m 0 c).arrAt 12 cfg0.N = G12 m c :=
  (dats m 0 c).arrAt_eq_of_cover 12 (G12 m c) (fun t _ => flushed12_eq m c t) fun i => ⟨pointOf (i 0), flush0_12 _, mem12 i⟩

end Cert.MergeIdeal.Closed

/-! ## The reference -/

namespace Cert.MergeRefIdeal.Closed

open Cert.MergeRefIdeal Cert.MergeRefIdeal.Gen Cert.MergeRefIdeal.Read Cert.MergeForm
open Cert.InprojForm (rowScale normed)

variable (x0 x1 : (⟨S16384x512, .bf16⟩ : BufTy).Contents (Elt Ideal)) (x2 : (⟨S16384x2048, .f32⟩ : BufTy).Contents (Elt Ideal))
  (x3 : (⟨S16384x1024, .f32⟩ : BufTy).Contents (Elt Ideal)) (x4 x5 : (⟨S1x512x1024, .f32⟩ : BufTy).Contents (Elt Ideal))
  (x6 : (⟨S1x1024x1024, .f32⟩ : BufTy).Contents (Elt Ideal)) (x7 : (⟨S1x1024, .f32⟩ : BufTy).Contents (Elt Ideal))
  (x8 : (⟨S1x1024x2048, .f32⟩ : BufTy).Contents (Elt Ideal))

/-- The first mixer's gates are the lower half of the columns, -/
theorem gateLo_apply (p : Fin 16384) (k : Fin 1024) : val_main_v6 (F := Ideal) x2 (ix2 p k) = x2 (ix2 p (colLo k)) :=
  (val_main_v6_apply x2 _).trans (congrArg x2 (funext fun a => Fin.ext (by
    match a with
    | ⟨0, _⟩ => rfl
    | ⟨1, _⟩ => rfl)))

/-- and the second's the upper half. -/
theorem gateHi_apply (p : Fin 16384) (k : Fin 1024) : val_main_v14 (F := Ideal) x2 (ix2 p k) = x2 (ix2 p (colHi k)) :=
  (val_main_v14_apply x2 _).trans (congrArg x2 (funext fun a => Fin.ext (by
    match a with
    | ⟨0, _⟩ => rfl
    | ⟨1, _⟩ => rfl)))

/-- The reference's residual at a token and a feature. -/
theorem res_apply (p : Fin 16384) (l : Fin 1024) : val_main_v25 (F := Ideal) x0 x1 x2 x3 x4 x5 x6 (ix2 p l)
    = mixed (fun j => x0 (ix2 p j)) (fun j => x1 (ix2 p j)) (fun k => x2 (ix2 p (colLo k))) (fun k => x2 (ix2 p (colHi k)))
        (fun k => x3 (ix2 p k)) (fun j k => val_main_v1 (F := Ideal) x4 (ix2 j k)) (fun j k => val_main_v4 (F := Ideal) x5 (ix2 j k))
        (fun k l => val_main_v23 (F := Ideal) x6 (ix2 k l)) l := by
  simp only [← gateLo_apply, ← gateHi_apply]
  generalize hl : val_main_v6 (F := Ideal) x2 = Gl
  generalize hh : val_main_v14 (F := Ideal) x2 = Gh
  generalize h4 : val_main_v1 (F := Ideal) x4 = W4
  generalize h5 : val_main_v4 (F := Ideal) x5 = W5
  generalize h6 : val_main_v23 (F := Ideal) x6 = W6
  unfold mixed
  pointwise [val_main_v25, val_main_v24, val_main_v22, val_main_v21, val_main_v20, val_main_v19, val_main_v18, val_main_v17,
    val_main_v16, val_main_v15, val_main_v13, val_main_v12, val_main_v11, val_main_v10, val_main_v9, val_main_v8, val_main_v7,
    val_main_v5, val_main_v3, val_main_v2, val_main_v0, val_main_cst, val_main_cst_0, val_main_cst_1, val_main_cst_2,
    hl, hh, h4, h5, h6, Ideal.logistic]

/-- The reference's norm of it. -/
theorem norm_apply (p : Fin 16384) (k : Fin 1024) : val_main_v39 (F := Ideal) x0 x1 x2 x3 x4 x5 x6 x7 (ix2 p k)
    = normed (fun l => val_main_v25 (F := Ideal) x0 x1 x2 x3 x4 x5 x6 (ix2 p l)) (fun j => x7 (ix2 0 j)) k := by
  generalize hv : val_main_v25 (F := Ideal) x0 x1 x2 x3 x4 x5 x6 = X
  unfold normed rowScale
  pointwise [val_main_v39, val_main_v38, val_main_v37, val_main_v36, val_main_v35, val_main_v34, val_main_v33, val_main_v32,
    val_main_v31, val_main_v30, val_main_v29, val_main_v28, val_main_v27, val_main_v26, val_main_cst_3, val_main_cst_4,
    val_main_cst_5, hv]

/-- The reference's queries before they are permuted. -/
theorem query_apply (p : Fin 16384) (q : Fin 2048) : val_main_v41 (F := Ideal) x0 x1 x2 x3 x4 x5 x6 x7 x8 (ix2 p q)
    = ∑ k : Fin 1024, val_main_v39 (F := Ideal) x0 x1 x2 x3 x4 x5 x6 x7 (ix2 p k) * val_main_v40 (F := Ideal) x8 (ix2 k q) := by
  generalize hv : val_main_v39 (F := Ideal) x0 x1 x2 x3 x4 x5 x6 x7 = X
  generalize hw : val_main_v40 (F := Ideal) x8 = W
  pointwise [val_main_v41, hv, hw]

/-- The reference's third result: the queries, permuted. -/
theorem permuted_apply (p : Fin 16384) (q : Fin 2048) : val_main_v46 (F := Ideal) x0 x1 x2 x3 x4 x5 x6 x7 x8 (ix2 p q)
    = val_main_v41 (F := Ideal) x0 x1 x2 x3 x4 x5 x6 x7 x8 (ix2 p (perm q)) := by
  have hq := q.isLt
  show val_main_v45 (F := Ideal) x0 x1 x2 x3 x4 x5 x6 x7 x8 (ix2 p q) = _
  refine (val_main_v45_apply _ _ _ _ _ _ _ _ _ _).trans ((val_main_v44_apply _ _ _ _ _ _ _ _ _ _).trans
    ((val_main_v42_apply _ _ _ _ _ _ _ _ _ _).trans (congrArg _ (funext fun a => Fin.ext ?_))))
  have d0 : (p.val * 2048 + q.val) / 2048 = p.val := by omega
  have d1 : (p.val * 2048 + q.val) / 1024 % 2 = q.val / 1024 := by omega
  have d2 : (p.val * 2048 + q.val) / 128 % 8 = q.val / 128 % 8 := by omega
  have d3 : (p.val * 2048 + q.val) % 128 = q.val % 128 := by omega
  match a with
  | ⟨0, _⟩ =>
    show ((((p.val * 2048 + q.val) / 2048 * 8 + (p.val * 2048 + q.val) / 128 % 8) * 2 + (p.val * 2048 + q.val) / 1024 % 2) * 128
      + (p.val * 2048 + q.val) % 128) / 2048 = p.val
    rw [d0, d1, d2, d3]
    omega
  | ⟨1, _⟩ =>
    show ((((p.val * 2048 + q.val) / 2048 * 8 + (p.val * 2048 + q.val) / 128 % 8) * 2 + (p.val * 2048 + q.val) / 1024 % 2) * 128
      + (p.val * 2048 + q.val) % 128) % 2048 = q.val / 128 % 8 * 256 + q.val / 1024 * 128 + q.val % 128
    rw [d0, d1, d2, d3]
    omega

end Cert.MergeRefIdeal.Closed

/-! ## The claims -/

namespace Cert.MergeClaims

open Cert.MergeForm Cert.MergeIdeal.Closed Cert.MergeRefIdeal.Closed

variable (m : (ℓ : Loc Cert.MergeIdeal.nD Cert.MergeIdeal.τ Cert.MergeIdeal.sig) → Buf (Elt Ideal) ℓ) (c : Dev Cert.MergeIdeal.nD)

/-- The reference's first result is the kernel's first array, -/
theorem res_eq : Cert.MergeRefIdeal.Read.val_main_v25 (F := Ideal) (a0 m c) (a1 m c) (a2 m c) (a3 m c) (a4 m c) (a5 m c) (a6 m c)
    = G10 m c := by
  funext i
  obtain ⟨p, l, rfl⟩ : ∃ (p : Fin 16384) (l : Fin 1024), i = ix2 p l := ⟨i 0, i 1, eq_ix2 i⟩
  exact res_apply _ _ _ _ _ _ _ p l

/-- A token's norm is the same in both, -/
theorem normRow_eq (p : Fin 16384) (k : Fin 1024) : Cert.MergeRefIdeal.Read.val_main_v39 (F := Ideal) (a0 m c) (a1 m c) (a2 m c)
    (a3 m c) (a4 m c) (a5 m c) (a6 m c) (a7 m c) (ix2 p k) = fullNorm m c p k :=
  (norm_apply _ _ _ _ _ _ _ _ p k).trans
    (congrFun (congrArg (fun v => Cert.InprojForm.normed v _) (funext fun l => congrFun (res_eq m c) (ix2 p l))) k)

/-- its second the kernel's second, -/
theorem norm_eq : Cert.MergeRefIdeal.Read.val_main_v43 (F := Ideal) (a0 m c) (a1 m c) (a2 m c) (a3 m c) (a4 m c) (a5 m c) (a6 m c)
    (a7 m c) = G11 m c := by
  funext i
  obtain ⟨p, l, rfl⟩ : ∃ (p : Fin 16384) (l : Fin 1024), i = ix2 p l := ⟨i 0, i 1, eq_ix2 i⟩
  exact normRow_eq m c p l

/-- and its third the kernel's third. -/
theorem query_eq : Cert.MergeRefIdeal.Read.val_main_v46 (F := Ideal) (a0 m c) (a1 m c) (a2 m c) (a3 m c) (a4 m c) (a5 m c) (a6 m c)
    (a7 m c) (a8 m c) = G12 m c := by
  funext i
  obtain ⟨p, q, rfl⟩ : ∃ (p : Fin 16384) (q : Fin 2048), i = ix2 p q := ⟨i 0, i 1, eq_ix2 i⟩
  refine (permuted_apply _ _ _ _ _ _ _ _ _ p q).trans ((query_apply _ _ _ _ _ _ _ _ _ p _).trans ?_)
  exact Finset.sum_congr rfl fun k _ => congrArg (fun a : EReal => a * _) (normRow_eq m c p k)

/-- The merge's kernel and its reference end with the same three arrays. -/
theorem algebraic : Cert.algebraic_MergeIdeal_MergeRefIdeal := by
  intro m g m' g' _ hag
  refine ⟨fun c => G10 m c, fun c => G11 m c, fun c => G12 m c,
    (θ_run Cert.MergeIdeal.defs _ _).mono (fun r h c => ⟨(h c).1.trans (final10 m c), (h c).2.1.trans (final11 m c),
      (h c).2.2.1.trans (final12 m c), (h c).2.2.2⟩) (Cert.MergeIdeal.Value.run_blocks m g),
    (θ_run Cert.MergeRefIdeal.defs _ _).mono (fun r h c => ⟨(h c).1.trans ?_, (h c).2.1.trans ?_, (h c).2.2.1.trans ?_, (h c).2.2.2⟩)
      (Cert.MergeRefIdeal.Value.run m' g')⟩
  · obtain ⟨h0, h1, h2, h3, h4, h5, h6, -⟩ := hag c
    rw [h0, h1, h2, h3, h4, h5, h6]
    exact (Cert.MergeRefIdeal.Read.val_main_v25_eq _ _ _ _ _ _ _).trans (res_eq m c)
  · obtain ⟨h0, h1, h2, h3, h4, h5, h6, h7, -⟩ := hag c
    refine (Cert.MergeRefIdeal.Read.val_main_v43_eq m' c).trans ?_
    rw [h0, h1, h2, h3, h4, h5, h6, h7]
    exact norm_eq m c
  · obtain ⟨h0, h1, h2, h3, h4, h5, h6, h7, h8⟩ := hag c
    refine (Cert.MergeRefIdeal.Read.val_main_v46_eq m' c).trans ?_
    rw [h0, h1, h2, h3, h4, h5, h6, h7, h8]
    exact query_eq m c

/-- The kernel, its idealization and the reference keep their arguments and end quiescent. -/
theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2.2.2,
      Idealize.ShloMosaic.sem_eq_zero_of_no_sems (by decide) r.2⟩) (Cert.MergeRefIdeal.Value.run (F := Ideal) m ρ)

end Cert.MergeClaims
-- ==== Proof.DftForm.lean ====
/-
  What the discrete Fourier stages of both mixers share: a sum over joined halves, and tables joined from two halves read in
  either half. A complex table times a complex signal is written as real tables: the real and imaginary halves of the signal are
  one axis twice as long.
-/
module

public import Idealize.ShloMosaic.Lib.Pipeline.Value
public import Idealize.ShloMosaic.Lib.Pointwise

@[expose] public section

noncomputable section

open Idealize.ShloMosaic

namespace Cert.DftForm

/-- A place in the first half of an axis, -/
def lo {n : Nat} (N : Nat) (h : N = n + n) (i : Fin n) : Fin N := ⟨i.val, by omega⟩
/-- and one in the second. -/
def hi {n : Nat} (N : Nat) (h : N = n + n) (i : Fin n) : Fin N := ⟨n + i.val, by omega⟩

/-- Every place is in one half or the other. -/
theorem halves {n N : Nat} (h : N = n + n) (i : Fin N) : (∃ j : Fin n, i = lo N h j) ∨ ∃ j : Fin n, i = hi N h j := by
  have hi := i.isLt
  by_cases hl : i.val < n
  · exact .inl ⟨⟨i.val, hl⟩, rfl⟩
  · exact .inr ⟨⟨i.val - n, by omega⟩, Fin.ext (by show i.val = n + (i.val - n); omega)⟩

/-- A sum over an axis is the sum over its halves. -/
theorem sum_halves {n N : Nat} (h : N = n + n) (f : Fin N → EReal) :
    ∑ i : Fin N, f i = ∑ i : Fin n, f (lo N h i) + ∑ i : Fin n, f (hi N h i) := by
  subst h
  exact Fin.sum_univ_add f

/-- One part of a complex product: two real tables against the two parts of a signal. -/
def part {n : Nat} (c s u v : Fin n → EReal) : EReal := ∑ i : Fin n, c i * u i + ∑ i : Fin n, s i * v i

/-- Parts of equal tables and signals are equal. -/
theorem part_congr {n : Nat} {c s u v c' s' u' v' : Fin n → EReal} (hc : ∀ i, c i = c' i) (hs : ∀ i, s i = s' i)
    (hu : ∀ i, u i = u' i) (hv : ∀ i, v i = v' i) : part c s u v = part c' s' u' v' := by
  unfold part
  simp only [hc, hs, hu, hv]

/-- The factors of a part may be taken in either order. -/
theorem part_comm {n : Nat} (c s u v : Fin n → EReal) : part c s u v = part u v c s := by
  unfold part
  simp only [mul_comm]

/-- A row of a joined table against a joined signal is such a part. -/
theorem sum_joined {n N : Nat} (h : N = n + n) (w x : Fin N → EReal) (c s u v : Fin n → EReal)
    (hc : ∀ i, w (lo N h i) = c i) (hs : ∀ i, w (hi N h i) = s i) (hu : ∀ i, x (lo N h i) = u i) (hv : ∀ i, x (hi N h i) = v i) :
    ∑ i : Fin N, w i * x i = part c s u v := by
  rw [sum_halves h]
  unfold part
  simp only [hc, hs, hu, hv]

section Tables
variable {α : Type} {n N k : Nat}

/-- Two tables joined along the columns: a column of the first half, -/
theorem cols_lo (h : N = n + n) (x y : (⟨2, ![k, n]⟩ : Shape).Idx → α)
    (hc : Shape.Concatenates [⟨2, ![k, n]⟩, ⟨2, ![k, n]⟩] ⟨2, ![k, N]⟩ 1) (r : Fin k) (i : Fin n) :
    concatenate ⟨2, ![k, N]⟩ 1 [⟨⟨2, ![k, n]⟩, x⟩, ⟨⟨2, ![k, n]⟩, y⟩] hc (ix2 r (lo N h i)) = x (ix2 r i) :=
  concatenate_pair_apply_left 1 x y hc _ rfl _ fun b => match b with | ⟨0, _⟩ => rfl | ⟨1, _⟩ => rfl
/-- and one of the second. -/
theorem cols_hi (h : N = n + n) (x y : (⟨2, ![k, n]⟩ : Shape).Idx → α)
    (hc : Shape.Concatenates [⟨2, ![k, n]⟩, ⟨2, ![k, n]⟩] ⟨2, ![k, N]⟩ 1) (r : Fin k) (i : Fin n) :
    concatenate ⟨2, ![k, N]⟩ 1 [⟨⟨2, ![k, n]⟩, x⟩, ⟨⟨2, ![k, n]⟩, y⟩] hc (ix2 r (hi N h i)) = y (ix2 r i) :=
  concatenate_pair_apply_right 1 x y hc _ rfl rfl _
    (fun b hb => match b, hb with | ⟨0, _⟩, _ => rfl | ⟨1, _⟩, hb => absurd rfl hb) (Nat.add_comm i.val n)

/-- Two tables joined along the rows: a row of the first half, -/
theorem rows_lo (h : N = n + n) (x y : (⟨2, ![n, k]⟩ : Shape).Idx → α)
    (hc : Shape.Concatenates [⟨2, ![n, k]⟩, ⟨2, ![n, k]⟩] ⟨2, ![N, k]⟩ 0) (i : Fin n) (r : Fin k) :
    concatenate ⟨2, ![N, k]⟩ 0 [⟨⟨2, ![n, k]⟩, x⟩, ⟨⟨2, ![n, k]⟩, y⟩] hc (ix2 (lo N h i) r) = x (ix2 i r) :=
  concatenate_pair_apply_left 0 x y hc _ rfl _ fun b => match b with | ⟨0, _⟩ => rfl | ⟨1, _⟩ => rfl
/-- and one of the second. -/
theorem rows_hi (h : N = n + n) (x y : (⟨2, ![n, k]⟩ : Shape).Idx → α)
    (hc : Shape.Concatenates [⟨2, ![n, k]⟩, ⟨2, ![n, k]⟩] ⟨2, ![N, k]⟩ 0) (i : Fin n) (r : Fin k) :
    concatenate ⟨2, ![N, k]⟩ 0 [⟨⟨2, ![n, k]⟩, x⟩, ⟨⟨2, ![n, k]⟩, y⟩] hc (ix2 (hi N h i) r) = y (ix2 i r) :=
  concatenate_pair_apply_right 0 x y hc _ rfl rfl _
    (fun b hb => match b, hb with | ⟨0, _⟩, hb => absurd rfl hb | ⟨1, _⟩, _ => rfl) (Nat.add_comm i.val n)

/-- The same for a table per slab: joined along the columns, -/
theorem cols3_lo {m : Nat} (h : N = n + n) (x y : (⟨3, ![m, k, n]⟩ : Shape).Idx → α)
    (hc : Shape.Concatenates [⟨3, ![m, k, n]⟩, ⟨3, ![m, k, n]⟩] ⟨3, ![m, k, N]⟩ 2) (a : Fin m) (r : Fin k) (i : Fin n) :
    concatenate ⟨3, ![m, k, N]⟩ 2 [⟨⟨3, ![m, k, n]⟩, x⟩, ⟨⟨3, ![m, k, n]⟩, y⟩] hc (ix3 a r (lo N h i)) = x (ix3 a r i) :=
  concatenate_pair_apply_left 2 x y hc _ rfl _ fun b => match b with | ⟨0, _⟩ => rfl | ⟨1, _⟩ => rfl | ⟨2, _⟩ => rfl
theorem cols3_hi {m : Nat} (h : N = n + n) (x y : (⟨3, ![m, k, n]⟩ : Shape).Idx → α)
    (hc : Shape.Concatenates [⟨3, ![m, k, n]⟩, ⟨3, ![m, k, n]⟩] ⟨3, ![m, k, N]⟩ 2) (a : Fin m) (r : Fin k) (i : Fin n) :
    concatenate ⟨3, ![m, k, N]⟩ 2 [⟨⟨3, ![m, k, n]⟩, x⟩, ⟨⟨3, ![m, k, n]⟩, y⟩] hc (ix3 a r (hi N h i)) = y (ix3 a r i) :=
  concatenate_pair_apply_right 2 x y hc _ rfl rfl _
    (fun b hb => match b, hb with | ⟨0, _⟩, _ => rfl | ⟨1, _⟩, _ => rfl | ⟨2, _⟩, hb => absurd rfl hb) (Nat.add_comm i.val n)
/-- and along the rows. -/
theorem rows3_lo {m : Nat} (h : N = n + n) (x y : (⟨3, ![m, n, k]⟩ : Shape).Idx → α)
    (hc : Shape.Concatenates [⟨3, ![m, n, k]⟩, ⟨3, ![m, n, k]⟩] ⟨3, ![m, N, k]⟩ 1) (a : Fin m) (i : Fin n) (r : Fin k) :
    concatenate ⟨3, ![m, N, k]⟩ 1 [⟨⟨3, ![m, n, k]⟩, x⟩, ⟨⟨3, ![m, n, k]⟩, y⟩] hc (ix3 a (lo N h i) r) = x (ix3 a i r) :=
  concatenate_pair_apply_left 1 x y hc _ rfl _ fun b => match b with | ⟨0, _⟩ => rfl | ⟨1, _⟩ => rfl | ⟨2, _⟩ => rfl
theorem rows3_hi {m : Nat} (h : N = n + n) (x y : (⟨3, ![m, n, k]⟩ : Shape).Idx → α)
    (hc : Shape.Concatenates [⟨3, ![m, n, k]⟩, ⟨3, ![m, n, k]⟩] ⟨3, ![m, N, k]⟩ 1) (a : Fin m) (i : Fin n) (r : Fin k) :
    concatenate ⟨3, ![m, N, k]⟩ 1 [⟨⟨3, ![m, n, k]⟩, x⟩, ⟨⟨3, ![m, n, k]⟩, y⟩] hc (ix3 a (hi N h i) r) = y (ix3 a i r) :=
  concatenate_pair_apply_right 1 x y hc _ rfl rfl _
    (fun b hb => match b, hb with | ⟨0, _⟩, _ => rfl | ⟨1, _⟩, hb => absurd rfl hb | ⟨2, _⟩, _ => rfl) (Nat.add_comm i.val n)

/-- The same under two leading axes. -/
theorem rows4_lo {l m : Nat} (h : N = n + n) (x y : (⟨4, ![l, m, n, k]⟩ : Shape).Idx → α)
    (hc : Shape.Concatenates [⟨4, ![l, m, n, k]⟩, ⟨4, ![l, m, n, k]⟩] ⟨4, ![l, m, N, k]⟩ 2) (a : Fin l) (b : Fin m) (i : Fin n) (r : Fin k) :
    concatenate ⟨4, ![l, m, N, k]⟩ 2 [⟨⟨4, ![l, m, n, k]⟩, x⟩, ⟨⟨4, ![l, m, n, k]⟩, y⟩] hc (ix4 a b (lo N h i) r) = x (ix4 a b i r) :=
  concatenate_pair_apply_left 2 x y hc _ rfl _ fun b => match b with | ⟨0, _⟩ => rfl | ⟨1, _⟩ => rfl | ⟨2, _⟩ => rfl | ⟨3, _⟩ => rfl
theorem rows4_hi {l m : Nat} (h : N = n + n) (x y : (⟨4, ![l, m, n, k]⟩ : Shape).Idx → α)
    (hc : Shape.Concatenates [⟨4, ![l, m, n, k]⟩, ⟨4, ![l, m, n, k]⟩] ⟨4, ![l, m, N, k]⟩ 2) (a : Fin l) (b : Fin m) (i : Fin n) (r : Fin k) :
    concatenate ⟨4, ![l, m, N, k]⟩ 2 [⟨⟨4, ![l, m, n, k]⟩, x⟩, ⟨⟨4, ![l, m, n, k]⟩, y⟩] hc (ix4 a b (hi N h i) r) = y (ix4 a b i r) :=
  concatenate_pair_apply_right 2 x y hc _ rfl rfl _
    (fun b hb => match b, hb with | ⟨0, _⟩, _ => rfl | ⟨1, _⟩, _ => rfl | ⟨2, _⟩, hb => absurd rfl hb | ⟨3, _⟩, _ => rfl) (Nat.add_comm i.val n)

end Tables

/-! ## A stage over a flattened block -/

/-- The place of a slab position and a channel in a row of flattened blocks. -/
def flatPos (b : Fin 16) (c : Fin 512) : Fin 8192 := ⟨b.val * 512 + c.val, by omega⟩

/-- A block flattened, -/
theorem flatten_apply {α : Type} {k : Nat} (x : (⟨3, ![k, 16, 512]⟩ : Shape).Idx → α)
    (h : Shape.ShapeCasts ⟨3, ![k, 16, 512]⟩ ⟨2, ![k, 8192]⟩) (i : Fin k) (b : Fin 16) (c : Fin 512) :
    shapeCast ⟨2, ![k, 8192]⟩ x h (ix2 i (flatPos b c)) = x (ix3 i b c) := by
  refine shapeCast_apply _ _ _ _ ?_
  rewrite [Shape.rowMajor_val_three, Shape.rowMajor_val_two]
  show (i.val * 16 + b.val) * 512 + c.val = i.val * 8192 + (b.val * 512 + c.val)
  omega
/-- and taken apart again. -/
theorem unflatten_apply {α : Type} {k : Nat} (x : (⟨2, ![k, 8192]⟩ : Shape).Idx → α)
    (h : Shape.ShapeCasts ⟨2, ![k, 8192]⟩ ⟨3, ![k, 16, 512]⟩) (i : Fin k) (b : Fin 16) (c : Fin 512) :
    shapeCast ⟨3, ![k, 16, 512]⟩ x h (ix3 i b c) = x (ix2 i (flatPos b c)) := by
  refine shapeCast_apply _ _ _ _ ?_
  rewrite [Shape.rowMajor_val_three, Shape.rowMajor_val_two]
  show i.val * 8192 + (b.val * 512 + c.val) = (i.val * 16 + b.val) * 512 + c.val
  omega

/-- A leading axis of extent one dropped, -/
theorem unlead_apply {α : Type} {k : Nat} (x : (⟨4, ![1, k, 16, 512]⟩ : Shape).Idx → α)
    (h : Shape.ShapeCasts ⟨4, ![1, k, 16, 512]⟩ ⟨3, ![k, 16, 512]⟩) (i : Fin k) (b : Fin 16) (c : Fin 512) :
    shapeCast ⟨3, ![k, 16, 512]⟩ x h (ix3 i b c) = x (ix4 0 i b c) := by
  refine shapeCast_apply _ _ _ _ ?_
  rewrite [Shape.rowMajor_val_three, Shape.rowMajor_val_four]
  show ((0 * k + i.val) * 16 + b.val) * 512 + c.val = (i.val * 16 + b.val) * 512 + c.val
  omega
/-- and put on. -/
theorem lead_apply {α : Type} {k : Nat} (x : (⟨3, ![k, 16, 512]⟩ : Shape).Idx → α)
    (h : Shape.ShapeCasts ⟨3, ![k, 16, 512]⟩ ⟨4, ![1, k, 16, 512]⟩) (i : Fin k) (b : Fin 16) (c : Fin 512) :
    shapeCast ⟨4, ![1, k, 16, 512]⟩ x h (ix4 0 i b c) = x (ix3 i b c) := by
  refine shapeCast_apply _ _ _ _ ?_
  rewrite [Shape.rowMajor_val_three, Shape.rowMajor_val_four]
  show (i.val * 16 + b.val) * 512 + c.val = ((0 * k + i.val) * 16 + b.val) * 512 + c.val
  omega

end Cert.DftForm
-- ==== Proof.SignalValue.lean ====
/-
  The value of the outer Fourier stage of the long convolution: both batches' signals are the two parts of one complex signal,
  and every slab position and channel of it is taken through one complex table.
-/
module

public import proofs.«01_k».proof.Defs
public import proofs.«01_k».proof.Proof.Gen.Signal.Frame
public import proofs.«01_k».proof.Proof.Gen.SignalIdeal.Value
public import proofs.«01_k».proof.Proof.Gen.SignalRefIdeal.Run
public import proofs.«01_k».proof.Proof.Gen.SignalRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SignalIdeal.Closed

open Cert.SignalIdeal Cert.SignalIdeal.Gen Cert.DftForm

/-- The result's block at an index: a row of the table against a column of the block. -/
theorem pay1_apply (w : Vec Ideal S256x128 .bf16) (x : Vec Ideal S1x128x16x512 .bf16) (o : Fin 256) (b : Fin 16) (k : Fin 512) :
    k0_pay1 (F := Ideal) w x (ix4 0 o b k) = ∑ i : Fin 128, w (ix2 o i) * x (ix4 0 i b k) := by
  have e : ∀ i : Fin 128, shapeCast S128x8192 (shapeCast S128x16x512 x shapeCasts_S1x128x16x512_S128x16x512)
      shapeCasts_S128x16x512_S128x8192 (ix2 i (flatPos b k)) = x (ix4 0 i b k) := fun i =>
    (flatten_apply _ _ i b k).trans (unlead_apply _ _ i b k)
  simp only [← e]
  unfold k0_pay1
  refine (lead_apply _ _ o b k).trans ((unflatten_apply _ _ o b k).trans ?_)
  generalize shapeCast S128x8192 (shapeCast S128x16x512 x shapeCasts_S1x128x16x512_S128x16x512)
      shapeCasts_S128x16x512_S128x8192 = v
  generalize flatPos b k = q
  pointwise

/-- A row of the table against a column of a block. -/
def blockSum (w : Vec Ideal S256x128 .bf16) (x : Vec Ideal S1x128x16x512 .bf16) (o : Fin 256) (b : Fin 16) (k : Fin 512) : EReal :=
  ∑ i : Fin 128, w (ix2 o i) * x (ix4 0 i b k)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of a whole block is the block. -/
theorem ld0 (v : Vec Ideal S256x128 .bf16) : View.ld v r0_0 = v := by rw [View.ld_unit_zero hz2]
theorem ld1 (v : Vec Ideal S1x128x16x512 .bf16) : View.ld v r0_1 = v := by rw [View.ld_unit_zero hz4]

/-- The result's block after the body. -/
theorem out2_apply (w : Vec Ideal S256x128 .bf16) (x : Vec Ideal S1x128x16x512 .bf16) (y : S1x256x16x512.Idx) :
    out0_2 (F := Ideal) w x y = blockSum w x (y 1) (y 2) (y 3) := by
  unfold out0_2
  refine View.canon_apply_of_pieces (Val := Elt Ideal) (fun y => blockSum w x (y 1) (y 2) (y 3)) _ ?_ y (cover0_2 _ y)
  intro p hp z
  simp only [List.mem_cons, List.not_mem_nil, or_false] at hp
  subst hp
  obtain ⟨a, o, b, k, rfl⟩ : ∃ (a : Fin 1) (o : Fin 256) (b : Fin 16) (k : Fin 512), z = ix4 a o b k :=
    ⟨z 0, z 1, z 2, z 3, eq_ix4 z⟩
  obtain rfl : a = 0 := Subsingleton.elim _ _
  refine (pay1_apply _ _ o b k).trans ?_
  rw [ld0 w, ld1 x]
  have e1 : r0_2.emb (ix4 0 o b k) 1 = o := Fin.ext (by show 0 + 1 * o.val = o.val; omega)
  have e2 : r0_2.emb (ix4 0 o b k) 2 = b := Fin.ext (by show 0 + 1 * b.val = b.val; omega)
  have e3 : r0_2.emb (ix4 0 o b k) 3 = k := Fin.ext (by show 0 + 1 * k.val = k.val; omega)
  show _ = blockSum w x (r0_2.emb (ix4 0 o b k) 1) (r0_2.emb (ix4 0 o b k) 2) (r0_2.emb (ix4 0 o b k) 3)
  rw [e1, e2, e3]
  rfl

/-! ## The stage over any signal and any tables -/

section Arrays
variable (x0 : FVec Ideal S3x128x128x512 .bf16) (x1 x2 : FVec Ideal S128x64 .f32)

/-- The table in real form: cosines and sines, and under them the sines negated and the cosines. -/
def table : S256x128.Idx → EReal :=
  concatenate S256x128 0 [⟨S128x128, concatenate S128x128 1 [⟨S128x64, x1⟩, ⟨S128x64, x2⟩] concatenates_S128x64_S128x64_S128x128_d1⟩,
    ⟨S128x128, concatenate S128x128 1 [⟨S128x64, fun i => -(x2 i)⟩, ⟨S128x64, x1⟩] concatenates_S128x64_S128x64_S128x128_d1⟩]
    concatenates_S128x128_S128x128_S256x128_d0

/-- The table's rows, a half at a time. -/
theorem row_re_lo (o : Fin 128) (i : Fin 64) : table x1 x2 (ix2 (lo 256 rfl o) (lo 128 rfl i)) = x1 (ix2 o i) :=
  (rows_lo rfl _ _ _ o _).trans (cols_lo rfl _ _ _ o i)
theorem row_re_hi (o : Fin 128) (i : Fin 64) : table x1 x2 (ix2 (lo 256 rfl o) (hi 128 rfl i)) = x2 (ix2 o i) :=
  (rows_lo rfl _ _ _ o _).trans (cols_hi rfl _ _ _ o i)
theorem row_im_lo (o : Fin 128) (i : Fin 64) : table x1 x2 (ix2 (hi 256 rfl o) (lo 128 rfl i)) = -(x2 (ix2 o i)) :=
  (rows_hi rfl _ _ _ o _).trans (cols_lo rfl _ _ _ o i)
theorem row_im_hi (o : Fin 128) (i : Fin 64) : table x1 x2 (ix2 (hi 256 rfl o) (hi 128 rfl i)) = x1 (ix2 o i) :=
  (rows_hi rfl _ _ _ o _).trans (cols_hi rfl _ _ _ o i)

/-- The whole stage at an index. -/
def full (o : Fin 256) (b : Fin 128) (k : Fin 512) : EReal :=
  ∑ i : Fin 128, table x1 x2 (ix2 o i) * x0 (ix4 0 i b k)

def G2 : FVec Ideal S1x256x128x512 .bf16 := fun i => full x0 x1 x2 (i 1) (i 2) (i 3)
end Arrays

/-! ## Where the blocks lie -/

/-- Where each window's block lies at each point (decided over the points). -/
theorem idx_facts : ∀ t : Fin grid0.N,
    (win0_0.index t 0 = 0 ∧ win0_0.index t 1 = 0)
    ∧ (win0_1.index t 0 = 0 ∧ win0_1.index t 1 = 0 ∧ win0_1.index t 2 = t.val ∧ win0_1.index t 3 = 0)
    ∧ (win0_2.index t 0 = 0 ∧ win0_2.index t 1 = 0 ∧ win0_2.index t 2 = t.val ∧ win0_2.index t 3 = 0) := by
  decide +kernel

/-- The slab position that a point's block has at `b`. -/
def pos (t : Fin cfg0.N) (b : Fin 16) : Fin 128 := ⟨t.val * 16 + b.val, by
  have h : t.val < 8 := lt_of_lt_of_eq t.isLt N_0; omega⟩

/-- The blocks' elements in their arrays. -/
theorem emb0 (t : Fin cfg0.N) (o : Fin 256) (i : Fin 128) : (win0_0.rect t).emb (ix2 o i) = ix2 o i := by
  refine funext fun a => Fin.ext ?_
  match a with
  | ⟨0, _⟩ => show win0_0.index t 0 * 256 + 1 * o.val = o.val; rw [(idx_facts t).1.1]; omega
  | ⟨1, _⟩ => show win0_0.index t 1 * 128 + 1 * i.val = i.val; rw [(idx_facts t).1.2]; omega
theorem emb1 (t : Fin cfg0.N) (i : Fin 128) (b : Fin 16) (k : Fin 512) : (win0_1.rect t).emb (ix4 0 i b k) = ix4 0 i (pos t b) k := by
  refine funext fun a => Fin.ext ?_
  match a with
  | ⟨0, _⟩ => show win0_1.index t 0 * 1 + 1 * 0 = 0; rw [(idx_facts t).2.1.1]
  | ⟨1, _⟩ => show win0_1.index t 1 * 128 + 1 * i.val = i.val; rw [(idx_facts t).2.1.2.1]; omega
  | ⟨2, _⟩ => show win0_1.index t 2 * 16 + 1 * b.val = t.val * 16 + b.val; rw [(idx_facts t).2.1.2.2.1]; omega
  | ⟨3, _⟩ => show win0_1.index t 3 * 512 + 1 * k.val = k.val; rw [(idx_facts t).2.1.2.2.2]; omega

/-- The body's block is the block of the whole stage, when the blocks read hold the table and the signal. -/
theorem out2_eq (x0 : FVec Ideal S3x128x128x512 .bf16) (x1 x2 : FVec Ideal S128x64 .f32) (t : Fin cfg0.N)
    (w : Vec Ideal S256x128 .bf16) (x : Vec Ideal S1x128x16x512 .bf16) (hw : ∀ o i, w (ix2 o i) = table x1 x2 (ix2 o i))
    (hx : ∀ i b k, x (ix4 0 i b k) = x0 (ix4 0 i (pos t b) k)) (y : S1x256x16x512.Idx) :
    out0_2 (F := Ideal) w x y = G2 x0 x1 x2 ((win0_2.rect t).emb y) := by
  have e : ∀ (o : Fin 256) (b : Fin 16) (k : Fin 512), blockSum w x o b k = full x0 x1 x2 o (pos t b) k := fun o b k => by
    unfold blockSum full
    simp only [hw, hx]
  refine (out2_apply _ _ y).trans ((e _ _ _).trans ?_)
  refine congr (congr (congrArg (full x0 x1 x2) (Fin.ext ?_)) (Fin.ext ?_)) (Fin.ext ?_)
  · show (y 1).val = win0_2.index t 1 * 256 + 1 * (y 1).val; rw [(idx_facts t).2.2.2.1]; omega
  · show t.val * 16 + (y 2).val = win0_2.index t 2 * 16 + 1 * (y 2).val; rw [(idx_facts t).2.2.2.2.1]; omega
  · show (y 3).val = win0_2.index t 3 * 512 + 1 * (y 3).val; rw [(idx_facts t).2.2.2.2.2]; omega

/-- The point whose block holds an index. -/
def pointOf (i : S1x256x128x512.Idx) : Fin cfg0.N := ⟨(i 2).val / 16, by
  have h : (i 2).val < 128 := (i 2).isLt
  have hN : cfg0.N = 8 := N_0
  omega⟩

theorem mem_rect (i : S1x256x128x512.Idx) : i ∈ (win0_2.rect (pointOf i)).set := by
  rw [Rect.mem_set_unit]
  have h0 : (i 0).val < 1 := (i 0).isLt
  have h1 : (i 1).val < 256 := (i 1).isLt
  have h2 : (i 2).val < 128 := (i 2).isLt
  have h3 : (i 3).val < 512 := (i 3).isLt
  have f := (idx_facts (pointOf i)).2.2
  intro a
  match a with
  | ⟨0, _⟩ =>
    show win0_2.index (pointOf i) 0 * 1 ≤ (i 0).val ∧ (i 0).val < win0_2.index (pointOf i) 0 * 1 + 1
    rw [f.1]; omega
  | ⟨1, _⟩ =>
    show win0_2.index (pointOf i) 1 * 256 ≤ (i 1).val ∧ (i 1).val < win0_2.index (pointOf i) 1 * 256 + 256
    rw [f.2.1]; omega
  | ⟨2, _⟩ =>
    show win0_2.index (pointOf i) 2 * 16 ≤ (i 2).val ∧ (i 2).val < win0_2.index (pointOf i) 2 * 16 + 16
    rw [f.2.2.1]; show (i 2).val / 16 * 16 ≤ _ ∧ _ < (i 2).val / 16 * 16 + 16; omega
  | ⟨3, _⟩ =>
    show win0_2.index (pointOf i) 3 * 512 ≤ (i 3).val ∧ (i 3).val < win0_2.index (pointOf i) 3 * 512 + 512
    rw [f.2.2.2]; omega

/-! ## The arrays the region reads, and the result array -/

variable (m : (ℓ : Loc nD τ sig) → Buf (Elt Ideal) ℓ) (ρ : Dev nD → PrngReg)

/-- The kernel's argument arrays. -/
abbrev a0 (c : Dev nD) : FVec Ideal S3x128x128x512 .bf16 := m ((c : Thread nD τ).loc main_arg0)
abbrev a1 (c : Dev nD) : FVec Ideal S128x64 .f32 := m ((c : Thread nD τ).loc main_arg1)
abbrev a2 (c : Dev nD) : FVec Ideal S128x64 .f32 := m ((c : Thread nD τ).loc main_arg2)

theorem V_w (c : Dev nD) : V m c main_v4 = table (a1 m c) (a2 m c) := by
  show StableHlo.after hostOps0 _ _ = _
  after_results
  rfl

theorem iblk0_apply (c : Dev nD) (t : Fin cfg0.N) (o : Fin 256) (i : Fin 128) :
    iblk m c 0 t (ix2 o i) = table (a1 m c) (a2 m c) (ix2 o i) :=
  (congrFun (V_w m c) _).trans (congrArg (table (a1 m c) (a2 m c)) (emb0 t o i))

theorem iblk1_apply (c : Dev nD) (t : Fin cfg0.N) (i : Fin 128) (b : Fin 16) (k : Fin 512) :
    iblk m c 1 t (ix4 0 i b k) = a0 m c (ix4 0 i (pos t b) k) :=
  (congrFun (V_main_arg0 m c) _).trans (congrArg (a0 m c) (emb1 t i b k))

theorem flushed2_eq (c : Dev nD) (t : Fin cfg0.N) :
    (dats m 0 c).flushed 2 t = ((cfg0.win 2).blk t).view.read (Elt Ideal) (G2 (a0 m c) (a1 m c) (a2 m c)) := by
  rw [Value.flushed2]
  funext y
  exact out2_eq (a0 m c) (a1 m c) (a2 m c) t _ _ (iblk0_apply m c t) (iblk1_apply m c t) y

theorem mem2 (i : S1x256x128x512.Idx) : i ∈ ((cfg0.win 2).blk (pointOf i)).view.set := by
  show i ∈ ((View.whole main_v5).slice (win0_2.rect (pointOf i))).set
  rw [View.set_slice_whole]
  exact mem_rect i

theorem final2 (c : Dev nD) : (dats m 0 c).arrAt 2 cfg0.N = G2 (a0 m c) (a1 m c) (a2 m c) :=
  (dats m 0 c).arrAt_eq_of_cover 2 (G2 (a0 m c) (a1 m c) (a2 m c)) (fun t _ => flushed2_eq m c t) fun i => ⟨pointOf i, flush0_2 _, mem2 i⟩

end Cert.SignalIdeal.Closed

/-! ## The reference -/

namespace Cert.SignalRefIdeal.Closed

open Cert.SignalRefIdeal Cert.SignalRefIdeal.Gen Cert.SignalRefIdeal.Read Cert.DftForm

variable (x0 : (⟨S3x128x128x512, .bf16⟩ : BufTy).Contents (Elt Ideal)) (x1 x2 : (⟨S128x64, .f32⟩ : BufTy).Contents (Elt Ideal))

/-- The two parts of the signal. -/
theorem re_apply (i : Fin 64) (b : Fin 128) (k : Fin 512) :
    val_main_v2 (F := Ideal) x0 (ix3 i b k) = x0 (ix4 0 (lo 128 rfl i) b k) := by
  pointwise [val_main_v2, val_main_v1, val_main_v0, lo]
theorem im_apply (i : Fin 64) (b : Fin 128) (k : Fin 512) :
    val_main_v5 (F := Ideal) x0 (ix3 i b k) = x0 (ix4 0 (hi 128 rfl i) b k) := by
  pointwise [val_main_v5, val_main_v4, val_main_v3, hi]

/-- The real part of the result, -/
theorem sum_re (o : Fin 128) (b : Fin 128) (k : Fin 512) : val_main_v8 (F := Ideal) x0 x1 x2 (ix3 o b k)
    = part (fun i => x1 (ix2 o i)) (fun i => x2 (ix2 o i)) (fun i => x0 (ix4 0 (lo 128 rfl i) b k)) (fun i => x0 (ix4 0 (hi 128 rfl i) b k)) := by
  simp only [← re_apply, ← im_apply]
  unfold part
  generalize hu : val_main_v2 (F := Ideal) x0 = U
  generalize hv : val_main_v5 (F := Ideal) x0 = W
  pointwise [val_main_v8, val_main_v7, val_main_v6, hu, hv]

/-- and the imaginary one. -/
theorem sum_im (o : Fin 128) (b : Fin 128) (k : Fin 512) : val_main_v12 (F := Ideal) x0 x1 x2 (ix3 o b k)
    = part (fun i => -(x2 (ix2 o i))) (fun i => x1 (ix2 o i)) (fun i => x0 (ix4 0 (lo 128 rfl i) b k)) (fun i => x0 (ix4 0 (hi 128 rfl i) b k)) := by
  simp only [← re_apply, ← im_apply]
  unfold part
  generalize hu : val_main_v2 (F := Ideal) x0 = U
  generalize hv : val_main_v5 (F := Ideal) x0 = W
  pointwise [val_main_v12, val_main_v11, val_main_v10, val_main_v9, hu, hv]

theorem res_lo (o : Fin 128) (b : Fin 128) (k : Fin 512) :
    val_main_v15 (F := Ideal) x0 x1 x2 (ix4 0 (lo 256 rfl o) b k) = val_main_v8 (F := Ideal) x0 x1 x2 (ix3 o b k) := by
  pointwise [val_main_v15, val_main_v14, val_main_v13, lo]

theorem res_hi (o : Fin 128) (b : Fin 128) (k : Fin 512) :
    val_main_v15 (F := Ideal) x0 x1 x2 (ix4 0 (hi 256 rfl o) b k) = val_main_v12 (F := Ideal) x0 x1 x2 (ix3 o b k) := by
  pointwise [val_main_v15, val_main_v14, val_main_v13, hi]

end Cert.SignalRefIdeal.Closed

/-! ## The claims -/

namespace Cert.SignalClaims

open Cert.DftForm Cert.SignalIdeal.Closed

/-- The reference's result is the kernel's array. -/
theorem res_eq (x0 : FVec Ideal Cert.SignalIdeal.S3x128x128x512 .bf16) (x1 x2 : FVec Ideal Cert.SignalIdeal.S128x64 .f32) :
    Cert.SignalRefIdeal.Read.val_main_v15 (F := Ideal) x0 x1 x2 = G2 x0 x1 x2 := by
  funext i
  obtain ⟨z, o, b, k, rfl⟩ : ∃ (z : Fin 1) (o : Fin 256) (b : Fin 128) (k : Fin 512), i = ix4 z o b k :=
    ⟨i 0, i 1, i 2, i 3, eq_ix4 i⟩
  obtain rfl : z = 0 := Subsingleton.elim _ _
  show _ = full x0 x1 x2 o b k
  unfold full
  rcases halves (n := 128) rfl o with ⟨p, rfl⟩ | ⟨p, rfl⟩
  · refine (Cert.SignalRefIdeal.Closed.res_lo _ _ _ p b k).trans ((Cert.SignalRefIdeal.Closed.sum_re _ _ _ p b k).trans ?_)
    exact (sum_joined (n := 64) (N := 128) rfl (fun i => table x1 x2 (ix2 (lo 256 rfl p) i)) (fun i => x0 (ix4 0 i b k)) _ _ _ _
      (fun i => row_re_lo x1 x2 p i) (fun i => row_re_hi x1 x2 p i) (fun _ => rfl) fun _ => rfl).symm
  · refine (Cert.SignalRefIdeal.Closed.res_hi _ _ _ p b k).trans ((Cert.SignalRefIdeal.Closed.sum_im _ _ _ p b k).trans ?_)
    exact (sum_joined (n := 64) (N := 128) rfl (fun i => table x1 x2 (ix2 (hi 256 rfl p) i)) (fun i => x0 (ix4 0 i b k)) _ _ _ _
      (fun i => row_im_lo x1 x2 p i) (fun i => row_im_hi x1 x2 p i) (fun _ => rfl) fun _ => rfl).symm

/-- The stage's kernel and its reference end with the same array. -/
theorem algebraic : Cert.algebraic_SignalIdeal_SignalRefIdeal := by
  intro m g m' g' _ hag
  refine ⟨fun c => G2 (a0 m c) (a1 m c) (a2 m c),
    (θ_run Cert.SignalIdeal.defs _ _).mono (fun r h c => ⟨(h c).1.trans (final2 m c), (h c).2⟩) (Cert.SignalIdeal.Value.run_blocks m g),
    (θ_run Cert.SignalRefIdeal.defs _ _).mono (fun r h c => ⟨(h c).1.trans ?_, (h c).2⟩) (Cert.SignalRefIdeal.Value.run m' g')⟩
  obtain ⟨h0, h1, h2⟩ := hag c
  rw [h0, h1, h2]
  exact (Cert.SignalRefIdeal.Read.val_main_v15_eq _ _ _).trans (res_eq _ _ _)

/-- The kernel, its idealization and the reference keep their arguments and end quiescent. -/
theorem frame_p : Cert.quiescent_Signal := fun m ρ _ => Cert.Signal.Gen.frame m ρ
theorem frame_pi : Cert.quiescent_SignalIdeal := fun m ρ _ => Cert.SignalIdeal.Gen.frame m ρ
theorem frame_ri : Cert.quiescent_SignalRefIdeal := fun m ρ _ =>
  (θ_run Cert.SignalRefIdeal.defs _ _).mono (fun r h => ⟨fun c => (h c).2,
      Idealize.ShloMosaic.sem_eq_zero_of_no_sems (by decide) r.2⟩) (Cert.SignalRefIdeal.Value.run (F := Ideal) m ρ)

end Cert.SignalClaims
-- ==== Proof.GatedValue.lean ====
/-
  The value of the last stage of the long convolution: the spectrum is taken back through one complex table, the signal times the
  skip weight is added, and the gate multiplies the sum.
-/
module

public import proofs.«01_k».proof.Defs
public import proofs.«01_k».proof.Proof.Gen.Gated.Frame
public import proofs.«01_k».proof.Proof.Gen.GatedIdeal.Value
public import proofs.«01_k».proof.Proof.Gen.GatedRefIdeal.Run
public import proofs.«01_k».proof.Proof.Gen.GatedRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GatedIdeal.Closed

open Cert.GatedIdeal Cert.GatedIdeal.Gen Cert.DftForm

/-- The stage at one element: the gate times the sum of the transform and of the signal times the skip weight. -/
def gate (g d u s : EReal) : EReal := g * (d + u * s)

/-- A row of the table against a column of a block, gated. -/
def blockGate (w : Vec Ideal S128x256 .bf16) (x : Vec Ideal S256x16x512 .bf16) (u g : Vec Ideal S1x128x16x512 .bf16)
    (s : Vec Ideal S1x512 .f32) (o : Fin 128) (b : Fin 16) (k : Fin 512) : EReal :=
  gate (g (ix4 0 o b k)) (∑ i : Fin 256, w (ix2 o i) * x (ix3 i b k)) (u (ix4 0 o b k)) (s (ix2 0 k))

/-- The table against a flattened block, at an index. -/
theorem dot_apply (w : FVec Ideal S128x256 .bf16) (v : FVec Ideal S256x8192 .bf16) (o : Fin 128) (q : Fin 8192) :
    (matmul dot_S128x256_S256x8192_S128x8192_1_0_0_1_n_n none (shapeCast S128x256 w shapeCasts_S128x256_S128x256) v
      (constant S128x8192 .f32 0x00000000#32) : FVec Ideal S128x8192 .f32) (ix2 o q) = ∑ i : Fin 256, w (ix2 o i) * v (ix2 i q) := by
  pointwise

/-- The result's block at an index. -/
theorem pay1_apply (w : Vec Ideal S128x256 .bf16) (x : Vec Ideal S256x16x512 .bf16) (u g : Vec Ideal S1x128x16x512 .bf16)
    (s : Vec Ideal S1x512 .f32) (o : Fin 128) (b : Fin 16) (k : Fin 512) :
    k0_pay1 (F := Ideal) w x u g s (ix3 o b k) = blockGate w x u g s o b k := by
  have e : ∀ i : Fin 256, shapeCast S256x8192 x shapeCasts_S256x16x512_S256x8192 (ix2 i (flatPos b k)) = x (ix3 i b k) :=
    fun i => flatten_apply _ _ i b k
  have hd := (unflatten_apply _ shapeCasts_S128x8192_S128x16x512 o b k).trans
    (dot_apply w (shapeCast S256x8192 x shapeCasts_S256x16x512_S256x8192) o (flatPos b k))
  have hu := unlead_apply u shapeCasts_S1x128x16x512_S128x16x512 o b k
  have hg := unlead_apply g shapeCasts_S1x128x16x512_S128x16x512 o b k
  have hs : broadcastTo S128x16x512 (shapeCast S1x1x512 s shapeCasts_S1x512_S1x1x512) broadcasts_S1x1x512_S128x16x512 (ix3 o b k)
      = s (ix2 0 k) := by pointwise
  simp only [e] at hd
  unfold blockGate
  rw [← hd, ← hu, ← hg, ← hs]
  rfl

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of a whole block is the block. -/
theorem ld0 (v : Vec Ideal S128x256 .bf16) : View.ld v r0_0 = v := by rw [View.ld_unit_zero hz2]
theorem ld1 (v : Vec Ideal S256x16x512 .bf16) : View.ld v r0_1 = v := by rw [View.ld_unit_zero hz3]
theorem ld2 (v : Vec Ideal S1x128x16x512 .bf16) : View.ld v r0_2 = v := by rw [View.ld_unit_zero hz4]
theorem ld3 (v : Vec Ideal S1x512 .f32) : View.ld v r0_3 = v := by rw [View.ld_unit_zero hz2]

/-- The result's block after the body. -/
theorem out5_apply (w : Vec Ideal S128x256 .bf16) (x : Vec Ideal S256x16x512 .bf16) (u g : Vec Ideal S1x128x16x512 .bf16)
    (s : Vec Ideal S1x512 .f32) (y : S128x16x512.Idx) :
    out0_5 (F := Ideal) w x u g s y = blockGate w x u g s (y 0) (y 1) (y 2) := by
  unfold out0_5
  refine View.canon_apply_of_pieces (Val := Elt Ideal) (fun y => blockGate w x u g s (y 0) (y 1) (y 2)) _ ?_ y (cover0_5 _ y)
  intro p hp z
  simp only [List.mem_cons, List.not_mem_nil, or_false] at hp
  subst hp
  obtain ⟨o, b, k, rfl⟩ : ∃ (o : Fin 128) (b : Fin 16) (k : Fin 512), z = ix3 o b k := ⟨z 0, z 1, z 2, eq_ix3 z⟩
  refine (pay1_apply _ _ _ _ _ o b k).trans ?_
  rw [ld0 w, ld1 x, ld2 u, ld2 g, ld3 s]
  have e0 : r0_4.emb (ix3 o b k) 0 = o := Fin.ext (by show 0 + 1 * o.val = o.val; omega)
  have e1 : r0_4.emb (ix3 o b k) 1 = b := Fin.ext (by show 0 + 1 * b.val = b.val; omega)
  have e2 : r0_4.emb (ix3 o b k) 2 = k := Fin.ext (by show 0 + 1 * k.val = k.val; omega)
  show _ = blockGate w x u g s (r0_4.emb (ix3 o b k) 0) (r0_4.emb (ix3 o b k) 1) (r0_4.emb (ix3 o b k) 2)
  rw [e0, e1, e2]

/-! ## The stage over any spectrum, signal, gate and tables -/

section Arrays
variable (x : FVec Ideal S256x128x512 .bf16) (u g : Fin 128 → Fin 128 → Fin 512 → EReal) (w1 w2 : FVec Ideal S64x128 .f32)
  (s : FVec Ideal S1x512 .f32)

/-- The table in real form: cosines and negated sines, and under them the sines and the cosines. -/
def table : S128x256.Idx → EReal :=
  concatenate S128x256 0 [⟨S64x256, concatenate S64x256 1 [⟨S64x128, w1⟩, ⟨S64x128, fun i => -(w2 i)⟩] concatenates_S64x128_S64x128_S64x256_d1⟩,
    ⟨S64x256, concatenate S64x256 1 [⟨S64x128, w2⟩, ⟨S64x128, w1⟩] concatenates_S64x128_S64x128_S64x256_d1⟩]
    concatenates_S64x256_S64x256_S128x256_d0

/-- The table's rows, a half at a time. -/
theorem row_re_lo (o : Fin 64) (i : Fin 128) : table w1 w2 (ix2 (lo 128 rfl o) (lo 256 rfl i)) = w1 (ix2 o i) :=
  (rows_lo rfl _ _ _ o _).trans (cols_lo rfl _ _ _ o i)
theorem row_re_hi (o : Fin 64) (i : Fin 128) : table w1 w2 (ix2 (lo 128 rfl o) (hi 256 rfl i)) = -(w2 (ix2 o i)) :=
  (rows_lo rfl _ _ _ o _).trans (cols_hi rfl _ _ _ o i)
theorem row_im_lo (o : Fin 64) (i : Fin 128) : table w1 w2 (ix2 (hi 128 rfl o) (lo 256 rfl i)) = w2 (ix2 o i) :=
  (rows_hi rfl _ _ _ o _).trans (cols_lo rfl _ _ _ o i)
theorem row_im_hi (o : Fin 64) (i : Fin 128) : table w1 w2 (ix2 (hi 128 rfl o) (hi 256 rfl i)) = w1 (ix2 o i) :=
  (rows_hi rfl _ _ _ o _).trans (cols_hi rfl _ _ _ o i)

/-- The whole stage at an index. -/
def full (o : Fin 128) (b : Fin 128) (k : Fin 512) : EReal :=
  gate (g o b k) (∑ i : Fin 256, table w1 w2 (ix2 o i) * x (ix3 i b k)) (u o b k) (s (ix2 0 k))

def G5 : FVec Ideal S128x128x512 .bf16 := fun i => full x u g w1 w2 s (i 0) (i 1) (i 2)
end Arrays

/-! ## Where the blocks lie -/

/-- Where each window's block lies at each point (decided over the points). -/
theorem idx_facts : ∀ t : Fin grid0.N,
    (win0_0.index t 0 = 0 ∧ win0_0.index t 1 = 0)
    ∧ (win0_1.index t 0 = 0 ∧ win0_1.index t 1 = t.val ∧ win0_1.index t 2 = 0)
    ∧ (win0_2.index t 0 = 0 ∧ win0_2.index t 1 = 0 ∧ win0_2.index t 2 = t.val ∧ win0_2.index t 3 = 0)
    ∧ (win0_3.index t 0 = 1 ∧ win0_3.index t 1 = 0 ∧ win0_3.index t 2 = t.val ∧ win0_3.index t 3 = 0)
    ∧ (win0_4.index t 0 = 0 ∧ win0_4.index t 1 = 0)
    ∧ (win0_5.index t 0 = 0 ∧ win0_5.index t 1 = t.val ∧ win0_5.index t 2 = 0) := by
  decide +kernel

/-- The slab position that a point's block has at `b`. -/
def pos (t : Fin cfg0.N) (b : Fin 16) : Fin 128 := ⟨t.val * 16 + b.val, by
  have h : t.val < 8 := lt_of_lt_of_eq t.isLt N_0; omega⟩

/-- The blocks' elements in their arrays. -/
theorem emb0 (t : Fin cfg0.N) (o : Fin 128) (i : Fin 256) : (win0_0.rect t).emb (ix2 o i) = ix2 o i := by
  refine funext fun a => Fin.ext ?_
  have f := (idx_facts t).1
  match a with
  | ⟨0, _⟩ => show win0_0.index t 0 * 128 + 1 * o.val = o.val; rw [f.1]; omega
  | ⟨1, _⟩ => show win0_0.index t 1 * 256 + 1 * i.val = i.val; rw [f.2]; omega
theorem emb1 (t : Fin cfg0.N) (i : Fin 256) (b : Fin 16) (k : Fin 512) : (win0_1.rect t).emb (ix3 i b k) = ix3 i (pos t b) k := by
  refine funext fun a => Fin.ext ?_
  have f := (idx_facts t).2.1
  match a with
  | ⟨0, _⟩ => show win0_1.index t 0 * 256 + 1 * i.val = i.val; rw [f.1]; omega
  | ⟨1, _⟩ => show win0_1.index t 1 * 16 + 1 * b.val = t.val * 16 + b.val; rw [f.2.1]; omega
  | ⟨2, _⟩ => show win0_1.index t 2 * 512 + 1 * k.val = k.val; rw [f.2.2]; omega
theorem emb4 (t : Fin cfg0.N) (k : Fin 512) : (win0_4.rect t).emb (ix2 0 k) = ix2 0 k := by
  refine funext fun a => Fin.ext ?_
  have f := (idx_facts t).2.2.2.2.1
  match a with
  | ⟨0, _⟩ => show win0_4.index t 0 * 1 + 1 * 0 = 0; rw [f.1]
  | ⟨1, _⟩ => show win0_4.index t 1 * 512 + 1 * k.val = k.val; rw [f.2]; omega

/-- The body's block is the block of the whole stage, when the blocks read hold the table, the spectrum, the signal, the gate and
    the skip weights. -/
theorem out5_eq (x : FVec Ideal S256x128x512 .bf16) (u g : Fin 128 → Fin 128 → Fin 512 → EReal) (w1 w2 : FVec Ideal S64x128 .f32)
    (s : FVec Ideal S1x512 .f32) (t : Fin cfg0.N) (bw : Vec Ideal S128x256 .bf16) (bx : Vec Ideal S256x16x512 .bf16)
    (bu bg : Vec Ideal S1x128x16x512 .bf16) (bs : Vec Ideal S1x512 .f32) (hw : ∀ o i, bw (ix2 o i) = table w1 w2 (ix2 o i))
    (hx : ∀ i b k, bx (ix3 i b k) = x (ix3 i (pos t b) k)) (hu : ∀ o b k, bu (ix4 0 o b k) = u o (pos t b) k)
    (hg : ∀ o b k, bg (ix4 0 o b k) = g o (pos t b) k) (hs : ∀ k, bs (ix2 0 k) = s (ix2 0 k)) (y : S128x16x512.Idx) :
    out0_5 (F := Ideal) bw bx bu bg bs y = G5 x u g w1 w2 s ((win0_5.rect t).emb y) := by
  have e : ∀ (o : Fin 128) (b : Fin 16) (k : Fin 512), blockGate bw bx bu bg bs o b k = full x u g w1 w2 s o (pos t b) k := fun o b k => by
    unfold blockGate full
    simp only [hw, hx, hu, hg, hs]
  refine (out5_apply _ _ _ _ _ y).trans ((e _ _ _).trans ?_)
  have f := (idx_facts t).2.2.2.2.2
  refine congr (congr (congrArg (full x u g w1 w2 s) (Fin.ext ?_)) (Fin.ext ?_)) (Fin.ext ?_)
  · show (y 0).val = win0_5.index t 0 * 128 + 1 * (y 0).val; rw [f.1]; omega
  · show t.val * 16 + (y 1).val = win0_5.index t 1 * 16 + 1 * (y 1).val; rw [f.2.1]; omega
  · show (y 2).val = win0_5.index t 2 * 512 + 1 * (y 2).val; rw [f.2.2]; omega

/-- The point whose block holds an index. -/
def pointOf (i : S128x128x512.Idx) : Fin cfg0.N := ⟨(i 1).val / 16, by
  have h : (i 1).val < 128 := (i 1).isLt
  have hN : cfg0.N = 8 := N_0
  omega⟩

theorem mem_rect (i : S128x128x512.Idx) : i ∈ (win0_5.rect (pointOf i)).set := by
  rw [Rect.mem_set_unit]
  have h0 : (i 0).val < 128 := (i 0).isLt
  have h1 : (i 1).val < 128 := (i 1).isLt
  have h2 : (i 2).val < 512 := (i 2).isLt
  have f := (idx_facts (pointOf i)).2.2.2.2.2
  have hp : (pointOf i).val = (i 1).val / 16 := rfl
  intro a
  match a with
  | ⟨0, _⟩ =>
    show win0_5.index (pointOf i) 0 * 128 ≤ (i 0).val ∧ (i 0).val < win0_5.index (pointOf i) 0 * 128 + 128
    rw [f.1]; omega
  | ⟨1, _⟩ =>
    show win0_5.index (pointOf i) 1 * 16 ≤ (i 1).val ∧ (i 1).val < win0_5.index (pointOf i) 1 * 16 + 16
    rw [f.2.1, hp]; omega
  | ⟨2, _⟩ =>
    show win0_5.index (pointOf i) 2 * 512 ≤ (i 2).val ∧ (i 2).val < win0_5.index (pointOf i) 2 * 512 + 512
    rw [f.2.2]; omega

/-! ## The arrays the region reads, and the result array -/

/-- The signal and the gate are two rows of one array. -/
theorem emb2 (t : Fin cfg0.N) (i : Fin 128) (b : Fin 16) (k : Fin 512) : (win0_2.rect t).emb (ix4 0 i b k) = ix4 0 i (pos t b) k := by
  refine funext fun a => Fin.ext ?_
  have f := (idx_facts t).2.2.1
  match a with
  | ⟨0, _⟩ => show win0_2.index t 0 * 1 + 1 * 0 = 0; rw [f.1]
  | ⟨1, _⟩ => show win0_2.index t 1 * 128 + 1 * i.val = i.val; rw [f.2.1]; omega
  | ⟨2, _⟩ => show win0_2.index t 2 * 16 + 1 * b.val = t.val * 16 + b.val; rw [f.2.2.1]; omega
  | ⟨3, _⟩ => show win0_2.index t 3 * 512 + 1 * k.val = k.val; rw [f.2.2.2]; omega
theorem emb3 (t : Fin cfg0.N) (i : Fin 128) (b : Fin 16) (k : Fin 512) : (win0_3.rect t).emb (ix4 0 i b k) = ix4 1 i (pos t b) k := by
  refine funext fun a => Fin.ext ?_
  have f := (idx_facts t).2.2.2.1
  match a with
  | ⟨0, _⟩ => show win0_3.index t 0 * 1 + 1 * 0 = 1; rw [f.1]
  | ⟨1, _⟩ => show win0_3.index t 1 * 128 + 1 * i.val = i.val; rw [f.2.1]; omega
  | ⟨2, _⟩ => show win0_3.index t 2 * 16 + 1 * b.val = t.val * 16 + b.val; rw [f.2.2.1]; omega
  | ⟨3, _⟩ => show win0_3.index t 3 * 512 + 1 * k.val = k.val; rw [f.2.2.2]; omega

variable (m : (ℓ : Loc nD τ sig) → Buf (Elt Ideal) ℓ) (ρ : Dev nD → PrngReg)

/-- The kernel's argument arrays. -/
abbrev a0 (c : Dev nD) : FVec Ideal S256x128x512 .bf16 := m ((c : Thread nD τ).loc main_arg0)
abbrev a1 (c : Dev nD) : FVec Ideal S3x128x128x512 .bf16 := m ((c : Thread nD τ).loc main_arg1)
abbrev a2 (c : Dev nD) : FVec Ideal S64x128 .f32 := m ((c : Thread nD τ).loc main_arg2)
abbrev a3 (c : Dev nD) : FVec Ideal S64x128 .f32 := m ((c : Thread nD τ).loc main_arg3)
abbrev a4 (c : Dev nD) : FVec Ideal S1x512 .f32 := m ((c : Thread nD τ).loc main_arg4)

theorem V_w (c : Dev nD) : V m c main_v4 = table (a2 m c) (a3 m c) := by
  show StableHlo.after hostOps0 _ _ = _
  after_results
  rfl

theorem iblk0_apply (c : Dev nD) (t : Fin cfg0.N) (o : Fin 128) (i : Fin 256) :
    iblk m c 0 t (ix2 o i) = table (a2 m c) (a3 m c) (ix2 o i) :=
  (congrFun (V_w m c) _).trans (congrArg (table (a2 m c) (a3 m c)) (emb0 t o i))
theorem iblk1_apply (c : Dev nD) (t : Fin cfg0.N) (i : Fin 256) (b : Fin 16) (k : Fin 512) :
    iblk m c 1 t (ix3 i b k) = a0 m c (ix3 i (pos t b) k) :=
  (congrFun (V_main_arg0 m c) _).trans (congrArg (a0 m c) (emb1 t i b k))
theorem iblk2_apply (c : Dev nD) (t : Fin cfg0.N) (i : Fin 128) (b : Fin 16) (k : Fin 512) :
    iblk m c 2 t (ix4 0 i b k) = a1 m c (ix4 0 i (pos t b) k) :=
  (congrFun (V_main_arg1 m c) _).trans (congrArg (a1 m c) (emb2 t i b k))
theorem iblk3_apply (c : Dev nD) (t : Fin cfg0.N) (i : Fin 128) (b : Fin 16) (k : Fin 512) :
    iblk m c 3 t (ix4 0 i b k) = a1 m c (ix4 1 i (pos t b) k) :=
  (congrFun (V_main_arg1 m c) _).trans (congrArg (a1 m c) (emb3 t i b k))
theorem iblk4_apply (c : Dev nD) (t : Fin cfg0.N) (k : Fin 512) : iblk m c 4 t (ix2 0 k) = a4 m c (ix2 0 k) :=
  (congrFun (V_main_arg4 m c) _).trans (congrArg (a4 m c) (emb4 t k))

/-- The whole stage on the kernel's arguments. -/
def res (c : Dev nD) : FVec Ideal S128x128x512 .bf16 :=
  G5 (a0 m c) (fun o b k => a1 m c (ix4 0 o b k)) (fun o b k => a1 m c (ix4 1 o b k)) (a2 m c) (a3 m c) (a4 m c)

theorem flushed5_eq (c : Dev nD) (t : Fin cfg0.N) :
    (dats m 0 c).flushed 5 t = ((cfg0.win 5).blk t).view.read (Elt Ideal) (res m c) := by
  rw [Value.flushed5]
  funext y
  exact out5_eq (a0 m c) (fun o b k => a1 m c (ix4 0 o b k)) (fun o b k => a1 m c (ix4 1 o b k)) (a2 m c) (a3 m c) (a4 m c) t _ _ _ _ _
    (iblk0_apply m c t) (iblk1_apply m c t) (iblk2_apply m c t) (iblk3_apply m c t) (iblk4_apply m c t) y

theorem mem5 (i : S128x128x512.Idx) : i ∈ ((cfg0.win 5).blk (pointOf i)).view.set := by
  show i ∈ ((View.whole main_v5).slice (win0_5.rect (pointOf i))).set
  rw [View.set_slice_whole]
  exact mem_rect i

theorem final5 (c : Dev nD) : (dats m 0 c).arrAt 5 cfg0.N = res m c :=
  (dats m 0 c).arrAt_eq_of_cover 5 (res m c) (fun t _ => flushed5_eq m c t) fun i => ⟨pointOf i, flush0_5 _, mem5 i⟩

end Cert.GatedIdeal.Closed

/-! ## The reference -/

namespace Cert.GatedRefIdeal.Closed

open Cert.GatedRefIdeal Cert.GatedRefIdeal.Gen Cert.GatedRefIdeal.Read Cert.DftForm
open Cert.GatedIdeal.Closed (gate)

variable (x0 : (⟨S256x128x512, .bf16⟩ : BufTy).Contents (Elt Ideal)) (x1 : (⟨S3x128x128x512, .bf16⟩ : BufTy).Contents (Elt Ideal))
  (x2 x3 : (⟨S64x128, .f32⟩ : BufTy).Contents (Elt Ideal)) (x4 : (⟨S1x512, .f32⟩ : BufTy).Contents (Elt Ideal))

/-- The two parts of the spectrum. -/
theorem re_apply (i : Fin 128) (b : Fin 128) (k : Fin 512) :
    val_main_v1 (F := Ideal) x0 (ix3 i b k) = x0 (ix3 (lo 256 rfl i) b k) := by
  pointwise [val_main_v1, val_main_v0, lo]
theorem im_apply (i : Fin 128) (b : Fin 128) (k : Fin 512) :
    val_main_v3 (F := Ideal) x0 (ix3 i b k) = x0 (ix3 (hi 256 rfl i) b k) := by
  pointwise [val_main_v3, val_main_v2, hi]

/-- The real part of the transform, -/
theorem sum_re (o : Fin 64) (b : Fin 128) (k : Fin 512) : val_main_v7 (F := Ideal) x0 x2 x3 (ix3 o b k)
    = part (fun i => x2 (ix2 o i)) (fun i => -(x3 (ix2 o i))) (fun i => x0 (ix3 (lo 256 rfl i) b k)) (fun i => x0 (ix3 (hi 256 rfl i) b k)) := by
  simp only [← re_apply, ← im_apply]
  unfold part
  generalize hu : val_main_v1 (F := Ideal) x0 = U
  generalize hv : val_main_v3 (F := Ideal) x0 = W
  pointwise [val_main_v7, val_main_v6, val_main_v5, val_main_v4, hu, hv]

/-- and the imaginary one. -/
theorem sum_im (o : Fin 64) (b : Fin 128) (k : Fin 512) : val_main_v10 (F := Ideal) x0 x2 x3 (ix3 o b k)
    = part (fun i => x3 (ix2 o i)) (fun i => x2 (ix2 o i)) (fun i => x0 (ix3 (lo 256 rfl i) b k)) (fun i => x0 (ix3 (hi 256 rfl i) b k)) := by
  simp only [← re_apply, ← im_apply]
  unfold part
  generalize hu : val_main_v1 (F := Ideal) x0 = U
  generalize hv : val_main_v3 (F := Ideal) x0 = W
  pointwise [val_main_v10, val_main_v9, val_main_v8, hu, hv]

/-- The transform's two halves. -/
theorem dft_lo (o : Fin 64) (b : Fin 128) (k : Fin 512) :
    val_main_v11 (F := Ideal) x0 x2 x3 (ix3 (lo 128 rfl o) b k) = val_main_v7 (F := Ideal) x0 x2 x3 (ix3 o b k) := by
  pointwise [val_main_v11, lo]
theorem dft_hi (o : Fin 64) (b : Fin 128) (k : Fin 512) :
    val_main_v11 (F := Ideal) x0 x2 x3 (ix3 (hi 128 rfl o) b k) = val_main_v10 (F := Ideal) x0 x2 x3 (ix3 o b k) := by
  pointwise [val_main_v11, hi]

/-- The result at an index, over the transform. -/
theorem res_apply (o : Fin 128) (b : Fin 128) (k : Fin 512) : val_main_v24 (F := Ideal) x0 x1 x2 x3 x4 (ix3 o b k)
    = gate (x1 (ix4 1 o b k)) (val_main_v11 (F := Ideal) x0 x2 x3 (ix3 o b k)) (x1 (ix4 0 o b k)) (x4 (ix2 0 k)) := by
  unfold gate
  generalize hd : val_main_v11 (F := Ideal) x0 x2 x3 = D
  pointwise [val_main_v24, val_main_v23, val_main_v22, val_main_v21, val_main_v20, val_main_v19, val_main_v18, val_main_v17,
    val_main_v16, val_main_v15, val_main_v14, val_main_v13, val_main_v12, hd]

end Cert.GatedRefIdeal.Closed

/-! ## The claims -/

namespace Cert.GatedClaims

open Cert.DftForm Cert.GatedIdeal.Closed

/-- The reference's transform is the table against the spectrum. -/
theorem dft_eq (x : FVec Ideal Cert.GatedIdeal.S256x128x512 .bf16) (w1 w2 : FVec Ideal Cert.GatedIdeal.S64x128 .f32) (o : Fin 128) (b : Fin 128) (k : Fin 512) :
    Cert.GatedRefIdeal.Read.val_main_v11 (F := Ideal) x w1 w2 (ix3 o b k)
      = ∑ i : Fin 256, table w1 w2 (ix2 o i) * x (ix3 i b k) := by
  rcases halves (n := 64) rfl o with ⟨p, rfl⟩ | ⟨p, rfl⟩
  · refine (Cert.GatedRefIdeal.Closed.dft_lo _ _ _ p b k).trans ((Cert.GatedRefIdeal.Closed.sum_re _ _ _ p b k).trans ?_)
    exact (sum_joined (n := 128) (N := 256) rfl (fun i => table w1 w2 (ix2 (lo 128 rfl p) i)) (fun i => x (ix3 i b k)) _ _ _ _
      (fun i => row_re_lo w1 w2 p i) (fun i => row_re_hi w1 w2 p i) (fun _ => rfl) fun _ => rfl).symm
  · refine (Cert.GatedRefIdeal.Closed.dft_hi _ _ _ p b k).trans ((Cert.GatedRefIdeal.Closed.sum_im _ _ _ p b k).trans ?_)
    exact (sum_joined (n := 128) (N := 256) rfl (fun i => table w1 w2 (ix2 (hi 128 rfl p) i)) (fun i => x (ix3 i b k)) _ _ _ _
      (fun i => row_im_lo w1 w2 p i) (fun i => row_im_hi w1 w2 p i) (fun _ => rfl) fun _ => rfl).symm

variable (m : (ℓ : Loc Cert.GatedIdeal.nD Cert.GatedIdeal.τ Cert.GatedIdeal.sig) → Buf (Elt Ideal) ℓ) (c : Dev Cert.GatedIdeal.nD)

/-- The reference's result is the kernel's array. -/
theorem res_eq : Cert.GatedRefIdeal.Read.val_main_v24 (F := Ideal) (a0 m c) (a1 m c) (a2 m c) (a3 m c) (a4 m c) = res m c := by
  funext i
  obtain ⟨o, b, k, rfl⟩ : ∃ (o : Fin 128) (b : Fin 128) (k : Fin 512), i = ix3 o b k := ⟨i 0, i 1, i 2, eq_ix3 i⟩
  refine (Cert.GatedRefIdeal.Closed.res_apply _ _ _ _ _ o b k).trans ?_
  rw [dft_eq (a0 m c) (a2 m c) (a3 m c) o b k]
  rfl

/-- The stage's kernel and its reference end with the same array. -/
theorem algebraic : Cert.algebraic_GatedIdeal_GatedRefIdeal := by
  intro m g m' g' _ hag
  refine ⟨fun c => res m c,
    (θ_run Cert.GatedIdeal.defs _ _).mono (fun r h c => ⟨(h c).1.trans (final5 m c), (h c).2⟩) (Cert.GatedIdeal.Value.run_blocks m g),
    (θ_run Cert.GatedRefIdeal.defs _ _).mono (fun r h c => ⟨(h c).1.trans ?_, (h c).2⟩) (Cert.GatedRefIdeal.Value.run m' g')⟩
  obtain ⟨h0, h1, h2, h3, h4⟩ := hag c
  rw [h0, h1, h2, h3, h4]
  exact (Cert.GatedRefIdeal.Read.val_main_v24_eq _ _ _ _ _).trans (res_eq m c)

/-- The kernel, its idealization and the reference keep their arguments and end quiescent. -/
theorem frame_p : Cert.quiescent_Gated := fun m ρ _ => Cert.Gated.Gen.frame m ρ
theorem frame_pi : Cert.quiescent_GatedIdeal := fun m ρ _ => Cert.GatedIdeal.Gen.frame m ρ
theorem frame_ri : Cert.quiescent_GatedRefIdeal := fun m ρ _ =>
  (θ_run Cert.GatedRefIdeal.defs _ _).mono (fun r h => ⟨fun c => (h c).2,
      Idealize.ShloMosaic.sem_eq_zero_of_no_sems (by decide) r.2⟩) (Cert.GatedRefIdeal.Value.run (F := Ideal) m ρ)

end Cert.GatedClaims
-- ==== Proof.RealdftValue.lean ====
/-
  The value of the last Fourier stage of the filter's taps: of a complex array only the real part of the transform is
  kept, so the table has a row of cosines and sines per result row.
-/
module

public import proofs.«01_k».proof.Defs
public import proofs.«01_k».proof.Proof.Gen.Realdft.Frame
public import proofs.«01_k».proof.Proof.Gen.RealdftIdeal.Value
public import proofs.«01_k».proof.Proof.Gen.RealdftRefIdeal.Run
public import proofs.«01_k».proof.Proof.Gen.RealdftRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RealdftIdeal.Closed

open Cert.RealdftIdeal Cert.RealdftIdeal.Gen Cert.DftForm

/-- The result's block at an index: a row of the table against a column of the block. -/
theorem pay1_apply (w : Vec Ideal S64x128 .bf16) (x : Vec Ideal S1x128x16x512 .bf16) (o : Fin 64) (b : Fin 16) (k : Fin 512) :
    k0_pay1 (F := Ideal) w x (ix4 0 o b k) = ∑ i : Fin 128, w (ix2 o i) * x (ix4 0 i b k) := by
  have e : ∀ i : Fin 128, shapeCast S128x8192 (shapeCast S128x16x512 x shapeCasts_S1x128x16x512_S128x16x512)
      shapeCasts_S128x16x512_S128x8192 (ix2 i (flatPos b k)) = x (ix4 0 i b k) := fun i =>
    (flatten_apply _ _ i b k).trans (unlead_apply _ _ i b k)
  simp only [← e]
  unfold k0_pay1
  refine (lead_apply _ _ o b k).trans ((unflatten_apply _ _ o b k).trans ?_)
  generalize shapeCast S128x8192 (shapeCast S128x16x512 x shapeCasts_S1x128x16x512_S128x16x512)
      shapeCasts_S128x16x512_S128x8192 = v
  generalize flatPos b k = q
  pointwise

/-- A row of the table against a column of a block. -/
def blockSum (w : Vec Ideal S64x128 .bf16) (x : Vec Ideal S1x128x16x512 .bf16) (o : Fin 64) (b : Fin 16) (k : Fin 512) : EReal :=
  ∑ i : Fin 128, w (ix2 o i) * x (ix4 0 i b k)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of a whole block is the block. -/
theorem ld0 (v : Vec Ideal S64x128 .bf16) : View.ld v r0_0 = v := by rw [View.ld_unit_zero hz2]
theorem ld1 (v : Vec Ideal S1x128x16x512 .bf16) : View.ld v r0_1 = v := by rw [View.ld_unit_zero hz4]

/-- The result's block after the body. -/
theorem out2_apply (w : Vec Ideal S64x128 .bf16) (x : Vec Ideal S1x128x16x512 .bf16) (y : S1x64x16x512.Idx) :
    out0_2 (F := Ideal) w x y = blockSum w x (y 1) (y 2) (y 3) := by
  unfold out0_2
  refine View.canon_apply_of_pieces (Val := Elt Ideal) (fun y => blockSum w x (y 1) (y 2) (y 3)) _ ?_ y (cover0_2 _ y)
  intro p hp z
  simp only [List.mem_cons, List.not_mem_nil, or_false] at hp
  subst hp
  obtain ⟨a, o, b, k, rfl⟩ : ∃ (a : Fin 1) (o : Fin 64) (b : Fin 16) (k : Fin 512), z = ix4 a o b k :=
    ⟨z 0, z 1, z 2, z 3, eq_ix4 z⟩
  obtain rfl : a = 0 := Subsingleton.elim _ _
  refine (pay1_apply _ _ o b k).trans ?_
  rw [ld0 w, ld1 x]
  have e1 : r0_2.emb (ix4 0 o b k) 1 = o := Fin.ext (by show 0 + 1 * o.val = o.val; omega)
  have e2 : r0_2.emb (ix4 0 o b k) 2 = b := Fin.ext (by show 0 + 1 * b.val = b.val; omega)
  have e3 : r0_2.emb (ix4 0 o b k) 3 = k := Fin.ext (by show 0 + 1 * k.val = k.val; omega)
  show _ = blockSum w x (r0_2.emb (ix4 0 o b k) 1) (r0_2.emb (ix4 0 o b k) 2) (r0_2.emb (ix4 0 o b k) 3)
  rw [e1, e2, e3]
  rfl

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x128x128x512 .bf16 := m ((c : Thread nD τ).loc main_arg0)
abbrev a1 (c : Dev nD) : FVec Ideal S64x64 .f32 := m ((c : Thread nD τ).loc main_arg1)
abbrev a2 (c : Dev nD) : FVec Ideal S64x64 .f32 := m ((c : Thread nD τ).loc main_arg2)

/-- The table: cosines, and beside them the sines. -/
def table (c : Dev nD) : S64x128.Idx → EReal :=
  concatenate S64x128 1 [⟨S64x64, a1 m c⟩, ⟨S64x64, a2 m c⟩] concatenates_S64x64_S64x64_S64x128_d1

theorem V_w (c : Dev nD) : V m c main_v1 = table m c := by
  show StableHlo.after hostOps0 _ _ = _
  after_results
  rfl

/-- The table's rows, a half at a time. -/
theorem row_lo (c : Dev nD) (o : Fin 64) (i : Fin 64) : table m c (ix2 o (lo 128 rfl i)) = a1 m c (ix2 o i) :=
  cols_lo rfl _ _ _ o i
theorem row_hi (c : Dev nD) (o : Fin 64) (i : Fin 64) : table m c (ix2 o (hi 128 rfl i)) = a2 m c (ix2 o i) :=
  cols_hi rfl _ _ _ o i

/-- Where each window's block lies at each point (decided over the points). -/
theorem idx_facts : ∀ t : Fin grid0.N,
    (win0_0.index t 0 = 0 ∧ win0_0.index t 1 = 0)
    ∧ (win0_1.index t 0 = t.val / 8 ∧ win0_1.index t 1 = 0 ∧ win0_1.index t 2 = t.val % 8 ∧ win0_1.index t 3 = 0)
    ∧ (win0_2.index t 0 = t.val / 8 ∧ win0_2.index t 1 = 0 ∧ win0_2.index t 2 = t.val % 8 ∧ win0_2.index t 3 = 0) := by
  decide +kernel

/-- The batch of a point, and the slab position that its block has at `b`. -/
def batch (t : Fin cfg0.N) : Fin 2 := ⟨t.val / 8, by
  have h : t.val < 16 := lt_of_lt_of_eq t.isLt N_0; omega⟩
def pos (t : Fin cfg0.N) (b : Fin 16) : Fin 128 := ⟨t.val % 8 * 16 + b.val, by omega⟩

theorem iblk0_apply (c : Dev nD) (t : Fin cfg0.N) (o : Fin 64) (i : Fin 128) : iblk m c 0 t (ix2 o i) = table m c (ix2 o i) := by
  show V m c main_v1 (((cfg0.win 0).blk t).view.emb (ix2 o i)) = _
  refine (congrFun (V_w m c) _).trans (congrArg (table m c) (funext fun a => Fin.ext ?_))
  match a with
  | ⟨0, _⟩ => show win0_0.index t 0 * 64 + 1 * o.val = o.val; rw [(idx_facts t).1.1]; omega
  | ⟨1, _⟩ => show win0_0.index t 1 * 128 + 1 * i.val = i.val; rw [(idx_facts t).1.2]; omega

theorem iblk1_apply (c : Dev nD) (t : Fin cfg0.N) (i : Fin 128) (b : Fin 16) (k : Fin 512) :
    iblk m c 1 t (ix4 0 i b k) = a0 m c (ix4 (batch t) i (pos t b) k) := by
  show V m c main_arg0 (((cfg0.win 1).blk t).view.emb (ix4 0 i b k)) = _
  refine (congrFun (V_main_arg0 m c) _).trans (congrArg (a0 m c) (funext fun a => Fin.ext ?_))
  match a with
  | ⟨0, _⟩ => show win0_1.index t 0 * 1 + 1 * 0 = t.val / 8; rw [(idx_facts t).2.1.1]; omega
  | ⟨1, _⟩ => show win0_1.index t 1 * 128 + 1 * i.val = i.val; rw [(idx_facts t).2.1.2.1]; omega
  | ⟨2, _⟩ => show win0_1.index t 2 * 16 + 1 * b.val = t.val % 8 * 16 + b.val; rw [(idx_facts t).2.1.2.2.1]; omega
  | ⟨3, _⟩ => show win0_1.index t 3 * 512 + 1 * k.val = k.val; rw [(idx_facts t).2.1.2.2.2]; omega

/-! ## The result array -/

/-- The whole stage at an index. -/
def full (c : Dev nD) (a : Fin 2) (o : Fin 64) (b : Fin 128) (k : Fin 512) : EReal :=
  ∑ i : Fin 128, table m c (ix2 o i) * a0 m c (ix4 a i b k)

def G2 (c : Dev nD) : Buf (Elt Ideal) ((c : Thread nD τ).loc main_v2) :=
  fun i : S2x64x128x512.Idx => full m c (i 0) (i 1) (i 2) (i 3)

/-- A point's block of the stage is the whole stage at the point's batch and slab positions. -/
theorem block_eq (c : Dev nD) (t : Fin cfg0.N) (o : Fin 64) (b : Fin 16) (k : Fin 512) :
    blockSum (iblk m c 0 t) (iblk m c 1 t) o b k = full m c (batch t) o (pos t b) k := by
  unfold blockSum full
  simp only [iblk0_apply, iblk1_apply]

theorem flushed2_eq (c : Dev nD) (t : Fin cfg0.N) :
    (dats m 0 c).flushed 2 t = ((cfg0.win 2).blk t).view.read (Elt Ideal) (G2 m c) := by
  rw [Value.flushed2]
  funext y
  show out0_2 _ _ y = G2 m c (((cfg0.win 2).blk t).view.emb y)
  refine (out2_apply _ _ y).trans ((block_eq m c t _ _ _).trans ?_)
  have h0 : (y 0).val = 0 := Nat.lt_one_iff.1 (y 0).isLt
  refine congr (congr (congr (congrArg (full m c) (Fin.ext ?_)) (Fin.ext ?_)) (Fin.ext ?_)) (Fin.ext ?_)
  · show t.val / 8 = win0_2.index t 0 * 1 + 1 * (y 0).val; rw [(idx_facts t).2.2.1, h0]; omega
  · show (y 1).val = win0_2.index t 1 * 64 + 1 * (y 1).val; rw [(idx_facts t).2.2.2.1]; omega
  · show t.val % 8 * 16 + (y 2).val = win0_2.index t 2 * 16 + 1 * (y 2).val; rw [(idx_facts t).2.2.2.2.1]; omega
  · show (y 3).val = win0_2.index t 3 * 512 + 1 * (y 3).val; rw [(idx_facts t).2.2.2.2.2]; omega

/-- The point whose block holds an index. -/
def pointOf (i : S2x64x128x512.Idx) : Fin cfg0.N := ⟨(i 0).val * 8 + (i 2).val / 16, by
  have h0 : (i 0).val < 2 := (i 0).isLt
  have h : (i 2).val < 128 := (i 2).isLt
  have hN : cfg0.N = 16 := N_0
  omega⟩

theorem mem2 (i : S2x64x128x512.Idx) : i ∈ ((cfg0.win 2).blk (pointOf i)).view.set := by
  show i ∈ ((View.whole main_v2).slice (win0_2.rect (pointOf i))).set
  rw [View.set_slice_whole, Rect.mem_set_unit]
  have h0 : (i 0).val < 2 := (i 0).isLt
  have h1 : (i 1).val < 64 := (i 1).isLt
  have h2 : (i 2).val < 128 := (i 2).isLt
  have h3 : (i 3).val < 512 := (i 3).isLt
  have f := (idx_facts (pointOf i)).2.2
  have hp : (pointOf i).val = (i 0).val * 8 + (i 2).val / 16 := rfl
  intro a
  match a with
  | ⟨0, _⟩ =>
    show win0_2.index (pointOf i) 0 * 1 ≤ (i 0).val ∧ (i 0).val < win0_2.index (pointOf i) 0 * 1 + 1
    rw [f.1, hp]; omega
  | ⟨1, _⟩ =>
    show win0_2.index (pointOf i) 1 * 64 ≤ (i 1).val ∧ (i 1).val < win0_2.index (pointOf i) 1 * 64 + 64
    rw [f.2.1]; omega
  | ⟨2, _⟩ =>
    show win0_2.index (pointOf i) 2 * 16 ≤ (i 2).val ∧ (i 2).val < win0_2.index (pointOf i) 2 * 16 + 16
    rw [f.2.2.1, hp]; omega
  | ⟨3, _⟩ =>
    show win0_2.index (pointOf i) 3 * 512 ≤ (i 3).val ∧ (i 3).val < win0_2.index (pointOf i) 3 * 512 + 512
    rw [f.2.2.2]; omega

theorem final2 (c : Dev nD) : (dats m 0 c).arrAt 2 cfg0.N = G2 m c :=
  (dats m 0 c).arrAt_eq_of_cover 2 (G2 m c) (fun t _ => flushed2_eq m c t) fun i => ⟨pointOf i, flush0_2 _, mem2 i⟩

end Cert.RealdftIdeal.Closed

/-! ## The reference -/

namespace Cert.RealdftRefIdeal.Closed

open Cert.RealdftRefIdeal Cert.RealdftRefIdeal.Gen Cert.RealdftRefIdeal.Read Cert.DftForm

variable (x0 : (⟨S2x128x128x512, .bf16⟩ : BufTy).Contents (Elt Ideal)) (x1 x2 : (⟨S64x64, .f32⟩ : BufTy).Contents (Elt Ideal))

/-- The two parts of the array. -/
theorem re_apply (a : Fin 2) (i : Fin 64) (b : Fin 128) (k : Fin 512) :
    val_main_v1 (F := Ideal) x0 (ix4 a i b k) = x0 (ix4 a (lo 128 rfl i) b k) := by
  pointwise [val_main_v1, val_main_v0, lo]
theorem im_apply (a : Fin 2) (i : Fin 64) (b : Fin 128) (k : Fin 512) :
    val_main_v3 (F := Ideal) x0 (ix4 a i b k) = x0 (ix4 a (hi 128 rfl i) b k) := by
  pointwise [val_main_v3, val_main_v2, hi]

/-- The result at an index. -/
theorem res_apply (a : Fin 2) (o : Fin 64) (b : Fin 128) (k : Fin 512) : val_main_v9 (F := Ideal) x0 x1 x2 (ix4 a o b k)
    = part (fun i => x0 (ix4 a (lo 128 rfl i) b k)) (fun i => x0 (ix4 a (hi 128 rfl i) b k)) (fun i => x1 (ix2 o i)) (fun i => x2 (ix2 o i)) := by
  simp only [← re_apply, ← im_apply]
  unfold part
  generalize hu : val_main_v1 (F := Ideal) x0 = U
  generalize hv : val_main_v3 (F := Ideal) x0 = W
  pointwise [val_main_v9, val_main_v8, val_main_v7, val_main_v6, val_main_v5, val_main_v4, hu, hv]

end Cert.RealdftRefIdeal.Closed

/-! ## The claims -/

namespace Cert.RealdftClaims

open Cert.DftForm Cert.RealdftIdeal.Closed

variable (m : (ℓ : Loc Cert.RealdftIdeal.nD Cert.RealdftIdeal.τ Cert.RealdftIdeal.sig) → Buf (Elt Ideal) ℓ) (c : Dev Cert.RealdftIdeal.nD)

/-- The reference's result is the kernel's array. -/
theorem res_eq : Cert.RealdftRefIdeal.Read.val_main_v9 (F := Ideal) (a0 m c) (a1 m c) (a2 m c) = G2 m c := by
  funext i
  obtain ⟨z, o, b, k, rfl⟩ : ∃ (z : Fin 2) (o : Fin 64) (b : Fin 128) (k : Fin 512), i = ix4 z o b k :=
    ⟨i 0, i 1, i 2, i 3, eq_ix4 i⟩
  show _ = full m c z o b k
  unfold full
  refine (Cert.RealdftRefIdeal.Closed.res_apply _ _ _ z o b k).trans ((part_comm _ _ _ _).trans ?_)
  exact (sum_joined (n := 64) (N := 128) rfl (fun i => table m c (ix2 o i)) (fun i => a0 m c (ix4 z i b k)) _ _ _ _
      (fun i => row_lo m c o i) (fun i => row_hi m c o i) (fun _ => rfl) fun _ => rfl).symm

/-- The stage's kernel and its reference end with the same array. -/
theorem algebraic : Cert.algebraic_RealdftIdeal_RealdftRefIdeal := by
  intro m g m' g' _ hag
  refine ⟨fun c => G2 m c,
    (θ_run Cert.RealdftIdeal.defs _ _).mono (fun r h c => ⟨(h c).1.trans (final2 m c), (h c).2⟩) (Cert.RealdftIdeal.Value.run_blocks m g),
    (θ_run Cert.RealdftRefIdeal.defs _ _).mono (fun r h c => ⟨(h c).1.trans ?_, (h c).2⟩) (Cert.RealdftRefIdeal.Value.run m' g')⟩
  obtain ⟨h0, h1, h2⟩ := hag c
  rw [h0, h1, h2]
  exact (Cert.RealdftRefIdeal.Read.val_main_v9_eq _ _ _).trans (res_eq m c)

/-- The kernel, its idealization and the reference keep their arguments and end quiescent. -/
theorem frame_p : Cert.quiescent_Realdft := fun m ρ _ => Cert.Realdft.Gen.frame m ρ
theorem frame_pi : Cert.quiescent_RealdftIdeal := fun m ρ _ => Cert.RealdftIdeal.Gen.frame m ρ
theorem frame_ri : Cert.quiescent_RealdftRefIdeal := fun m ρ _ =>
  (θ_run Cert.RealdftRefIdeal.defs _ _).mono (fun r h => ⟨fun c => (h c).2,
      Idealize.ShloMosaic.sem_eq_zero_of_no_sems (by decide) r.2⟩) (Cert.RealdftRefIdeal.Value.run (F := Ideal) m ρ)

end Cert.RealdftClaims
-- ==== Proof.TapdftValue.lean ====
/-
  The value of the Fourier stage over a real array: every batch, slab position and channel is taken through the cosines
  and the negated sines of one table.
-/
module

public import proofs.«01_k».proof.Defs
public import proofs.«01_k».proof.Proof.Gen.Tapdft.Frame
public import proofs.«01_k».proof.Proof.Gen.TapdftIdeal.Value
public import proofs.«01_k».proof.Proof.Gen.TapdftRefIdeal.Run
public import proofs.«01_k».proof.Proof.Gen.TapdftRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.TapdftIdeal.Closed

open Cert.TapdftIdeal Cert.TapdftIdeal.Gen Cert.DftForm

/-- The result's block at an index: a row of the table against a column of the block. -/
theorem pay1_apply (w : Vec Ideal S256x128 .bf16) (x : Vec Ideal S1x128x16x512 .bf16) (o : Fin 256) (b : Fin 16) (k : Fin 512) :
    k0_pay1 (F := Ideal) w x (ix4 0 o b k) = ∑ i : Fin 128, w (ix2 o i) * x (ix4 0 i b k) := by
  have e : ∀ i : Fin 128, shapeCast S128x8192 (shapeCast S128x16x512 x shapeCasts_S1x128x16x512_S128x16x512)
      shapeCasts_S128x16x512_S128x8192 (ix2 i (flatPos b k)) = x (ix4 0 i b k) := fun i =>
    (flatten_apply _ _ i b k).trans (unlead_apply _ _ i b k)
  simp only [← e]
  unfold k0_pay1
  refine (lead_apply _ _ o b k).trans ((unflatten_apply _ _ o b k).trans ?_)
  generalize shapeCast S128x8192 (shapeCast S128x16x512 x shapeCasts_S1x128x16x512_S128x16x512)
      shapeCasts_S128x16x512_S128x8192 = v
  generalize flatPos b k = q
  pointwise

/-- A row of the table against a column of a block. -/
def blockSum (w : Vec Ideal S256x128 .bf16) (x : Vec Ideal S1x128x16x512 .bf16) (o : Fin 256) (b : Fin 16) (k : Fin 512) : EReal :=
  ∑ i : Fin 128, w (ix2 o i) * x (ix4 0 i b k)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A load of a whole block is the block. -/
theorem ld0 (v : Vec Ideal S256x128 .bf16) : View.ld v r0_0 = v := by rw [View.ld_unit_zero hz2]
theorem ld1 (v : Vec Ideal S1x128x16x512 .bf16) : View.ld v r0_1 = v := by rw [View.ld_unit_zero hz4]

/-- The result's block after the body. -/
theorem out2_apply (w : Vec Ideal S256x128 .bf16) (x : Vec Ideal S1x128x16x512 .bf16) (y : S1x256x16x512.Idx) :
    out0_2 (F := Ideal) w x y = blockSum w x (y 1) (y 2) (y 3) := by
  unfold out0_2
  refine View.canon_apply_of_pieces (Val := Elt Ideal) (fun y => blockSum w x (y 1) (y 2) (y 3)) _ ?_ y (cover0_2 _ y)
  intro p hp z
  simp only [List.mem_cons, List.not_mem_nil, or_false] at hp
  subst hp
  obtain ⟨a, o, b, k, rfl⟩ : ∃ (a : Fin 1) (o : Fin 256) (b : Fin 16) (k : Fin 512), z = ix4 a o b k :=
    ⟨z 0, z 1, z 2, z 3, eq_ix4 z⟩
  obtain rfl : a = 0 := Subsingleton.elim _ _
  refine (pay1_apply _ _ o b k).trans ?_
  rw [ld0 w, ld1 x]
  have e1 : r0_2.emb (ix4 0 o b k) 1 = o := Fin.ext (by show 0 + 1 * o.val = o.val; omega)
  have e2 : r0_2.emb (ix4 0 o b k) 2 = b := Fin.ext (by show 0 + 1 * b.val = b.val; omega)
  have e3 : r0_2.emb (ix4 0 o b k) 3 = k := Fin.ext (by show 0 + 1 * k.val = k.val; omega)
  show _ = blockSum w x (r0_2.emb (ix4 0 o b k) 1) (r0_2.emb (ix4 0 o b k) 2) (r0_2.emb (ix4 0 o b k) 3)
  rw [e1, e2, e3]
  rfl

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x128x128x512 .bf16 := m ((c : Thread nD τ).loc main_arg0)
abbrev a1 (c : Dev nD) : FVec Ideal S128x128 .f32 := m ((c : Thread nD τ).loc main_arg1)
abbrev a2 (c : Dev nD) : FVec Ideal S128x128 .f32 := m ((c : Thread nD τ).loc main_arg2)

/-- The table: cosines, and under them the sines negated. -/
def table (c : Dev nD) : S256x128.Idx → EReal :=
  concatenate S256x128 0 [⟨S128x128, a1 m c⟩, ⟨S128x128, fun i => -(a2 m c i)⟩] concatenates_S128x128_S128x128_S256x128_d0

theorem V_w (c : Dev nD) : V m c main_v2 = table m c := by
  show StableHlo.after hostOps0 _ _ = _
  after_results
  rfl

/-- The table's rows, a half at a time. -/
theorem row_lo (c : Dev nD) (o : Fin 128) (i : Fin 128) : table m c (ix2 (lo 256 rfl o) i) = a1 m c (ix2 o i) :=
  rows_lo rfl _ _ _ o _
theorem row_hi (c : Dev nD) (o : Fin 128) (i : Fin 128) : table m c (ix2 (hi 256 rfl o) i) = -(a2 m c (ix2 o i)) :=
  rows_hi rfl _ _ _ o _

/-- Where each window's block lies at each point (decided over the points). -/
theorem idx_facts : ∀ t : Fin grid0.N,
    (win0_0.index t 0 = 0 ∧ win0_0.index t 1 = 0)
    ∧ (win0_1.index t 0 = t.val / 8 ∧ win0_1.index t 1 = 0 ∧ win0_1.index t 2 = t.val % 8 ∧ win0_1.index t 3 = 0)
    ∧ (win0_2.index t 0 = t.val / 8 ∧ win0_2.index t 1 = 0 ∧ win0_2.index t 2 = t.val % 8 ∧ win0_2.index t 3 = 0) := by
  decide +kernel

/-- The batch of a point, and the slab position that its block has at `b`. -/
def batch (t : Fin cfg0.N) : Fin 2 := ⟨t.val / 8, by
  have h : t.val < 16 := lt_of_lt_of_eq t.isLt N_0; omega⟩
def pos (t : Fin cfg0.N) (b : Fin 16) : Fin 128 := ⟨t.val % 8 * 16 + b.val, by omega⟩

theorem iblk0_apply (c : Dev nD) (t : Fin cfg0.N) (o : Fin 256) (i : Fin 128) : iblk m c 0 t (ix2 o i) = table m c (ix2 o i) := by
  show V m c main_v2 (((cfg0.win 0).blk t).view.emb (ix2 o i)) = _
  refine (congrFun (V_w m c) _).trans (congrArg (table m c) (funext fun a => Fin.ext ?_))
  match a with
  | ⟨0, _⟩ => show win0_0.index t 0 * 256 + 1 * o.val = o.val; rw [(idx_facts t).1.1]; omega
  | ⟨1, _⟩ => show win0_0.index t 1 * 128 + 1 * i.val = i.val; rw [(idx_facts t).1.2]; omega

theorem iblk1_apply (c : Dev nD) (t : Fin cfg0.N) (i : Fin 128) (b : Fin 16) (k : Fin 512) :
    iblk m c 1 t (ix4 0 i b k) = a0 m c (ix4 (batch t) i (pos t b) k) := by
  show V m c main_arg0 (((cfg0.win 1).blk t).view.emb (ix4 0 i b k)) = _
  refine (congrFun (V_main_arg0 m c) _).trans (congrArg (a0 m c) (funext fun a => Fin.ext ?_))
  match a with
  | ⟨0, _⟩ => show win0_1.index t 0 * 1 + 1 * 0 = t.val / 8; rw [(idx_facts t).2.1.1]; omega
  | ⟨1, _⟩ => show win0_1.index t 1 * 128 + 1 * i.val = i.val; rw [(idx_facts t).2.1.2.1]; omega
  | ⟨2, _⟩ => show win0_1.index t 2 * 16 + 1 * b.val = t.val % 8 * 16 + b.val; rw [(idx_facts t).2.1.2.2.1]; omega
  | ⟨3, _⟩ => show win0_1.index t 3 * 512 + 1 * k.val = k.val; rw [(idx_facts t).2.1.2.2.2]; omega

/-! ## The result array -/

/-- The whole stage at an index. -/
def full (c : Dev nD) (a : Fin 2) (o : Fin 256) (b : Fin 128) (k : Fin 512) : EReal :=
  ∑ i : Fin 128, table m c (ix2 o i) * a0 m c (ix4 a i b k)

def G2 (c : Dev nD) : Buf (Elt Ideal) ((c : Thread nD τ).loc main_v3) :=
  fun i : S2x256x128x512.Idx => full m c (i 0) (i 1) (i 2) (i 3)

/-- A point's block of the stage is the whole stage at the point's batch and slab positions. -/
theorem block_eq (c : Dev nD) (t : Fin cfg0.N) (o : Fin 256) (b : Fin 16) (k : Fin 512) :
    blockSum (iblk m c 0 t) (iblk m c 1 t) o b k = full m c (batch t) o (pos t b) k := by
  unfold blockSum full
  simp only [iblk0_apply, iblk1_apply]

theorem flushed2_eq (c : Dev nD) (t : Fin cfg0.N) :
    (dats m 0 c).flushed 2 t = ((cfg0.win 2).blk t).view.read (Elt Ideal) (G2 m c) := by
  rw [Value.flushed2]
  funext y
  show out0_2 _ _ y = G2 m c (((cfg0.win 2).blk t).view.emb y)
  refine (out2_apply _ _ y).trans ((block_eq m c t _ _ _).trans ?_)
  have h0 : (y 0).val = 0 := Nat.lt_one_iff.1 (y 0).isLt
  refine congr (congr (congr (congrArg (full m c) (Fin.ext ?_)) (Fin.ext ?_)) (Fin.ext ?_)) (Fin.ext ?_)
  · show t.val / 8 = win0_2.index t 0 * 1 + 1 * (y 0).val; rw [(idx_facts t).2.2.1, h0]; omega
  · show (y 1).val = win0_2.index t 1 * 256 + 1 * (y 1).val; rw [(idx_facts t).2.2.2.1]; omega
  · show t.val % 8 * 16 + (y 2).val = win0_2.index t 2 * 16 + 1 * (y 2).val; rw [(idx_facts t).2.2.2.2.1]; omega
  · show (y 3).val = win0_2.index t 3 * 512 + 1 * (y 3).val; rw [(idx_facts t).2.2.2.2.2]; omega

/-- The point whose block holds an index. -/
def pointOf (i : S2x256x128x512.Idx) : Fin cfg0.N := ⟨(i 0).val * 8 + (i 2).val / 16, by
  have h0 : (i 0).val < 2 := (i 0).isLt
  have h : (i 2).val < 128 := (i 2).isLt
  have hN : cfg0.N = 16 := N_0
  omega⟩

theorem mem2 (i : S2x256x128x512.Idx) : i ∈ ((cfg0.win 2).blk (pointOf i)).view.set := by
  show i ∈ ((View.whole main_v3).slice (win0_2.rect (pointOf i))).set
  rw [View.set_slice_whole, Rect.mem_set_unit]
  have h0 : (i 0).val < 2 := (i 0).isLt
  have h1 : (i 1).val < 256 := (i 1).isLt
  have h2 : (i 2).val < 128 := (i 2).isLt
  have h3 : (i 3).val < 512 := (i 3).isLt
  have f := (idx_facts (pointOf i)).2.2
  have hp : (pointOf i).val = (i 0).val * 8 + (i 2).val / 16 := rfl
  intro a
  match a with
  | ⟨0, _⟩ =>
    show win0_2.index (pointOf i) 0 * 1 ≤ (i 0).val ∧ (i 0).val < win0_2.index (pointOf i) 0 * 1 + 1
    rw [f.1, hp]; omega
  | ⟨1, _⟩ =>
    show win0_2.index (pointOf i) 1 * 256 ≤ (i 1).val ∧ (i 1).val < win0_2.index (pointOf i) 1 * 256 + 256
    rw [f.2.1]; omega
  | ⟨2, _⟩ =>
    show win0_2.index (pointOf i) 2 * 16 ≤ (i 2).val ∧ (i 2).val < win0_2.index (pointOf i) 2 * 16 + 16
    rw [f.2.2.1, hp]; omega
  | ⟨3, _⟩ =>
    show win0_2.index (pointOf i) 3 * 512 ≤ (i 3).val ∧ (i 3).val < win0_2.index (pointOf i) 3 * 512 + 512
    rw [f.2.2.2]; omega

theorem final2 (c : Dev nD) : (dats m 0 c).arrAt 2 cfg0.N = G2 m c :=
  (dats m 0 c).arrAt_eq_of_cover 2 (G2 m c) (fun t _ => flushed2_eq m c t) fun i => ⟨pointOf i, flush0_2 _, mem2 i⟩

end Cert.TapdftIdeal.Closed

/-! ## The reference -/

namespace Cert.TapdftRefIdeal.Closed

open Cert.TapdftRefIdeal Cert.TapdftRefIdeal.Gen Cert.TapdftRefIdeal.Read Cert.DftForm

variable (x0 : (⟨S2x128x128x512, .bf16⟩ : BufTy).Contents (Elt Ideal)) (x1 x2 : (⟨S128x128, .f32⟩ : BufTy).Contents (Elt Ideal))

/-- The real part of the result, -/
theorem sum_re (a : Fin 2) (o : Fin 128) (b : Fin 128) (k : Fin 512) : val_main_v2 (F := Ideal) x0 x1 (ix4 a o b k)
    = ∑ i : Fin 128, x0 (ix4 a i b k) * x1 (ix2 o i) := by
  pointwise [val_main_v2, val_main_v1, val_main_v0]

/-- and the imaginary one. -/
theorem sum_im (a : Fin 2) (o : Fin 128) (b : Fin 128) (k : Fin 512) : val_main_v5 (F := Ideal) x0 x2 (ix4 a o b k)
    = ∑ i : Fin 128, x0 (ix4 a i b k) * -(x2 (ix2 o i)) := by
  pointwise [val_main_v5, val_main_v4, val_main_v3, val_main_v0]

theorem res_lo (a : Fin 2) (o : Fin 128) (b : Fin 128) (k : Fin 512) :
    val_main_v7 (F := Ideal) x0 x1 x2 (ix4 a (lo 256 rfl o) b k) = val_main_v2 (F := Ideal) x0 x1 (ix4 a o b k) := by
  pointwise [val_main_v7, val_main_v6, lo]

theorem res_hi (a : Fin 2) (o : Fin 128) (b : Fin 128) (k : Fin 512) :
    val_main_v7 (F := Ideal) x0 x1 x2 (ix4 a (hi 256 rfl o) b k) = val_main_v5 (F := Ideal) x0 x2 (ix4 a o b k) := by
  pointwise [val_main_v7, val_main_v6, hi]

end Cert.TapdftRefIdeal.Closed

/-! ## The claims -/

namespace Cert.TapdftClaims

open Cert.DftForm Cert.TapdftIdeal.Closed

variable (m : (ℓ : Loc Cert.TapdftIdeal.nD Cert.TapdftIdeal.τ Cert.TapdftIdeal.sig) → Buf (Elt Ideal) ℓ) (c : Dev Cert.TapdftIdeal.nD)

/-- The reference's result is the kernel's array. -/
theorem res_eq : Cert.TapdftRefIdeal.Read.val_main_v7 (F := Ideal) (a0 m c) (a1 m c) (a2 m c) = G2 m c := by
  funext i
  obtain ⟨z, o, b, k, rfl⟩ : ∃ (z : Fin 2) (o : Fin 256) (b : Fin 128) (k : Fin 512), i = ix4 z o b k :=
    ⟨i 0, i 1, i 2, i 3, eq_ix4 i⟩
  show _ = full m c z o b k
  unfold full
  rcases halves (n := 128) rfl o with ⟨p, rfl⟩ | ⟨p, rfl⟩
  · refine (Cert.TapdftRefIdeal.Closed.res_lo _ _ _ z p b k).trans ((Cert.TapdftRefIdeal.Closed.sum_re _ _ z p b k).trans ?_)
    exact Finset.sum_congr rfl fun i _ => (mul_comm _ _).trans (congrArg (· * a0 m c (ix4 z i b k)) (row_lo m c p i).symm)
  · refine (Cert.TapdftRefIdeal.Closed.res_hi _ _ _ z p b k).trans ((Cert.TapdftRefIdeal.Closed.sum_im _ _ z p b k).trans ?_)
    exact Finset.sum_congr rfl fun i _ => (mul_comm _ _).trans (congrArg (· * a0 m c (ix4 z i b k)) (row_hi m c p i).symm)

/-- The stage's kernel and its reference end with the same array. -/
theorem algebraic : Cert.algebraic_TapdftIdeal_TapdftRefIdeal := by
  intro m g m' g' _ hag
  refine ⟨fun c => G2 m c,
    (θ_run Cert.TapdftIdeal.defs _ _).mono (fun r h c => ⟨(h c).1.trans (final2 m c), (h c).2⟩) (Cert.TapdftIdeal.Value.run_blocks m g),
    (θ_run Cert.TapdftRefIdeal.defs _ _).mono (fun r h c => ⟨(h c).1.trans ?_, (h c).2⟩) (Cert.TapdftRefIdeal.Value.run m' g')⟩
  obtain ⟨h0, h1, h2⟩ := hag c
  rw [h0, h1, h2]
  exact (Cert.TapdftRefIdeal.Read.val_main_v7_eq _ _ _).trans (res_eq m c)

/-- The kernel, its idealization and the reference keep their arguments and end quiescent. -/
theorem frame_p : Cert.quiescent_Tapdft := fun m ρ _ => Cert.Tapdft.Gen.frame m ρ
theorem frame_pi : Cert.quiescent_TapdftIdeal := fun m ρ _ => Cert.TapdftIdeal.Gen.frame m ρ
theorem frame_ri : Cert.quiescent_TapdftRefIdeal := fun m ρ _ =>
  (θ_run Cert.TapdftRefIdeal.defs _ _).mono (fun r h => ⟨fun c => (h c).2,
      Idealize.ShloMosaic.sem_eq_zero_of_no_sems (by decide) r.2⟩) (Cert.TapdftRefIdeal.Value.run (F := Ideal) m ρ)

end Cert.TapdftClaims
-- ==== Proof.TableValue.lean ====
/-
  The value of the stage that turns the expert output table around: the transpose of one table.
-/
module

public import proofs.«01_k».proof.Defs
public import proofs.«01_k».proof.Proof.Gen.Table.Frame
public import proofs.«01_k».proof.Proof.Gen.TableIdeal.Value
public import proofs.«01_k».proof.Proof.Gen.TableRefIdeal.Run
public import proofs.«01_k».proof.Proof.Gen.TableRefIdeal.Read
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.TableIdeal.Closed

open Cert.TableIdeal Cert.TableIdeal.Gen

/-- The result's block at an index: the block turned around. -/
theorem pay1_apply (x : Vec Ideal S512x1024 .f32) (p : Fin 1024) (q : Fin 512) :
    k0_pay1 (F := Ideal) x (ix2 p q) = x (ix2 q p) := by
  pointwise [k0_pay1]

theorem hz2 : (![0, 0] : Fin 2 → Nat) = fun _ => 0 := funext fun a => by fin_cases a <;> rfl

/-- A load of a whole block is the block. -/
theorem ld0 (v : Vec Ideal S512x1024 .f32) : View.ld v r0_0 = v := by rw [View.ld_unit_zero hz2]

/-- An element of a block turned around. -/
def blockTurn (x : Vec Ideal S512x1024 .f32) (p : Fin 1024) (q : Fin 512) : EReal := x (ix2 q p)

/-- The result's block after the body. -/
theorem out1_apply (x : Vec Ideal S512x1024 .f32) (y : S1024x512.Idx) : out0_1 (F := Ideal) x y = blockTurn x (y 0) (y 1) := by
  unfold out0_1
  refine View.canon_apply_of_pieces (Val := Elt Ideal) (fun y => blockTurn x (y 0) (y 1)) _ ?_ y (cover0_1 _ y)
  intro p hp z
  simp only [List.mem_cons, List.not_mem_nil, or_false] at hp
  subst hp
  obtain ⟨o, k, rfl⟩ : ∃ (o : Fin 1024) (k : Fin 512), z = ix2 o k := ⟨z 0, z 1, eq_ix2 z⟩
  refine (pay1_apply _ o k).trans ?_
  rw [ld0 x]
  have e0 : r0_1.emb (ix2 o k) 0 = o := Fin.ext (by show 0 + 1 * o.val = o.val; omega)
  have e1 : r0_1.emb (ix2 o k) 1 = k := Fin.ext (by show 0 + 1 * k.val = k.val; omega)
  show _ = blockTurn x (r0_1.emb (ix2 o k) 0) (r0_1.emb (ix2 o k) 1)
  rw [e0, e1]
  rfl

/-! ## The array the region reads, and the blocks of it -/

variable (m : (ℓ : Loc nD τ sig) → Buf (Elt Ideal) ℓ) (ρ : Dev nD → PrngReg)

/-- The kernel's argument array, and the same without its leading axis. -/
abbrev a0 (c : Dev nD) : FVec Ideal S1x16384x1024 .f32 := m ((c : Thread nD τ).loc main_arg0)
def flat (c : Dev nD) : FVec Ideal S16384x1024 .f32 := shapeCast S16384x1024 (a0 m c) shapeCasts_S1x16384x1024_S16384x1024

theorem V_x (c : Dev nD) : V m c main_v0 = flat m c := by
  show StableHlo.after hostOps0 _ _ = _
  after_results
  rfl

/-- Where each window's block lies at each point (decided over the points). -/
theorem idx_facts : ∀ t : Fin grid0.N,
    (win0_0.index t 0 = t.val ∧ win0_0.index t 1 = 0) ∧ (win0_1.index t 0 = 0 ∧ win0_1.index t 1 = t.val) := by
  decide +kernel

/-- The table row that a point's block has at `q`. -/
def row (t : Fin cfg0.N) (q : Fin 512) : Fin 16384 := ⟨t.val * 512 + q.val, by
  have h : t.val < 32 := lt_of_lt_of_eq t.isLt N_0; omega⟩

theorem iblk0_apply (c : Dev nD) (t : Fin cfg0.N) (q : Fin 512) (p : Fin 1024) : iblk m c 0 t (ix2 q p) = flat m c (ix2 (row t q) p) := by
  show V m c main_v0 (((cfg0.win 0).blk t).view.emb (ix2 q p)) = _
  refine (congrFun (V_x m c) _).trans (congrArg (flat m c) (funext fun a => Fin.ext ?_))
  match a with
  | ⟨0, _⟩ => show win0_0.index t 0 * 512 + 1 * q.val = t.val * 512 + q.val; rw [(idx_facts t).1.1]; omega
  | ⟨1, _⟩ => show win0_0.index t 1 * 1024 + 1 * p.val = p.val; rw [(idx_facts t).1.2]; omega

/-! ## The result array -/

/-- The whole stage at an index. -/
def full (c : Dev nD) (p : Fin 1024) (q : Fin 16384) : EReal := flat m c (ix2 q p)

def G1 (c : Dev nD) : Buf (Elt Ideal) ((c : Thread nD τ).loc main_v1) := fun i : S1024x16384.Idx => full m c (i 0) (i 1)

/-- A point's block of the stage is the whole stage at the point's rows. -/
theorem block_eq (c : Dev nD) (t : Fin cfg0.N) (p : Fin 1024) (q : Fin 512) : blockTurn (iblk m c 0 t) p q = full m c p (row t q) :=
  iblk0_apply m c t q p

theorem flushed1_eq (c : Dev nD) (t : Fin cfg0.N) :
    (dats m 0 c).flushed 1 t = ((cfg0.win 1).blk t).view.read (Elt Ideal) (G1 m c) := by
  rw [Value.flushed1]
  funext y
  show out0_1 _ y = G1 m c (((cfg0.win 1).blk t).view.emb y)
  refine (out1_apply _ y).trans ((block_eq m c t _ _).trans ?_)
  refine congr (congrArg (full m c) (Fin.ext ?_)) (Fin.ext ?_)
  · show (y 0).val = win0_1.index t 0 * 1024 + 1 * (y 0).val; rw [(idx_facts t).2.1]; omega
  · show t.val * 512 + (y 1).val = win0_1.index t 1 * 512 + 1 * (y 1).val; rw [(idx_facts t).2.2]; omega

/-- The point whose block holds an index. -/
def pointOf (i : S1024x16384.Idx) : Fin cfg0.N := ⟨(i 1).val / 512, by
  have h : (i 1).val < 16384 := (i 1).isLt
  have hN : cfg0.N = 32 := N_0
  omega⟩

theorem mem1 (i : S1024x16384.Idx) : i ∈ ((cfg0.win 1).blk (pointOf i)).view.set := by
  show i ∈ ((View.whole main_v1).slice (win0_1.rect (pointOf i))).set
  rw [View.set_slice_whole, Rect.mem_set_unit]
  have h0 : (i 0).val < 1024 := (i 0).isLt
  have h1 : (i 1).val < 16384 := (i 1).isLt
  have hp : (pointOf i).val = (i 1).val / 512 := rfl
  intro a
  match a with
  | ⟨0, _⟩ =>
    show win0_1.index (pointOf i) 0 * 1024 ≤ (i 0).val ∧ (i 0).val < win0_1.index (pointOf i) 0 * 1024 + 1024
    rw [(idx_facts (pointOf i)).2.1]; omega
  | ⟨1, _⟩ =>
    show win0_1.index (pointOf i) 1 * 512 ≤ (i 1).val ∧ (i 1).val < win0_1.index (pointOf i) 1 * 512 + 512
    rw [(idx_facts (pointOf i)).2.2, hp]; omega

theorem final1 (c : Dev nD) : (dats m 0 c).arrAt 1 cfg0.N = G1 m c :=
  (dats m 0 c).arrAt_eq_of_cover 1 (G1 m c) (fun t _ => flushed1_eq m c t) fun i => ⟨pointOf i, flush0_1 _, mem1 i⟩

end Cert.TableIdeal.Closed

/-! ## The claims -/

namespace Cert.TableClaims

open Cert.TableIdeal.Closed

variable (m : (ℓ : Loc Cert.TableIdeal.nD Cert.TableIdeal.τ Cert.TableIdeal.sig) → Buf (Elt Ideal) ℓ) (c : Dev Cert.TableIdeal.nD)

/-- The reference's result is the kernel's array. -/
theorem res_eq : Cert.TableRefIdeal.Read.val_main_v2 (F := Ideal) (a0 m c) = G1 m c := by
  funext i
  obtain ⟨p, q, rfl⟩ : ∃ (p : Fin 1024) (q : Fin 16384), i = ix2 p q := ⟨i 0, i 1, eq_ix2 i⟩
  show _ = flat m c (ix2 q p)
  generalize hu : flat m c = U
  have hv : Cert.TableRefIdeal.Read.val_main_v0 (F := Ideal) (a0 m c) = U := hu
  pointwise [Cert.TableRefIdeal.Read.val_main_v2, Cert.TableRefIdeal.Read.val_main_v1, hv]

/-- The stage's kernel and its reference end with the same array. -/
theorem algebraic : Cert.algebraic_TableIdeal_TableRefIdeal := by
  intro m g m' g' _ hag
  refine ⟨fun c => G1 m c,
    (θ_run Cert.TableIdeal.defs _ _).mono (fun r h c => ⟨(h c).1.trans (final1 m c), (h c).2⟩) (Cert.TableIdeal.Value.run_blocks m g),
    (θ_run Cert.TableRefIdeal.defs _ _).mono (fun r h c => ⟨(h c).1.trans ?_, (h c).2⟩) (Cert.TableRefIdeal.Value.run m' g')⟩
  rw [hag c]
  exact (Cert.TableRefIdeal.Read.val_main_v2_eq _).trans (res_eq m c)

/-- The kernel, its idealization and the reference keep their arguments and end quiescent. -/
theorem frame_p : Cert.quiescent_Table := fun m ρ _ => Cert.Table.Gen.frame m ρ
theorem frame_pi : Cert.quiescent_TableIdeal := fun m ρ _ => Cert.TableIdeal.Gen.frame m ρ
theorem frame_ri : Cert.quiescent_TableRefIdeal := fun m ρ _ =>
  (θ_run Cert.TableRefIdeal.defs _ _).mono (fun r h => ⟨fun c => (h c).2,
      Idealize.ShloMosaic.sem_eq_zero_of_no_sems (by decide) r.2⟩) (Cert.TableRefIdeal.Value.run (F := Ideal) m ρ)

end Cert.TableClaims
-- ==== Proof.PosdftValue.lean ====
/-
  The value of the inner Fourier stage over the positions: every slab of the signal has its own complex table, and the body takes
  the slabs of a block one after another.
-/
module

public import proofs.«01_k».proof.Defs
public import proofs.«01_k».proof.Proof.Gen.Posdft.Frame
public import proofs.«01_k».proof.Proof.Gen.PosdftIdeal.Value
public import proofs.«01_k».proof.Proof.Gen.PosdftRefIdeal.Run
public import proofs.«01_k».proof.Proof.Gen.PosdftRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.PosdftIdeal.Closed

open Cert.PosdftIdeal Cert.PosdftIdeal.Gen Cert.DftForm

/-! ## One slab -/

/-- The table of a slab against a joined signal, at an index. -/
theorem prod_apply (w : FVec Ideal S1x256x256 .bf16) (x : FVec Ideal S256x512 .bf16) (o : Fin 256) (k : Fin 512) :
    (matmul dot_S256x256_S256x512_S256x512_1_0_0_1_n_n none (shapeCast S256x256 w shapeCasts_S1x256x256_S256x256) x
      (constant S256x512 .f32 0x00000000#32) : FVec Ideal S256x512 .f32) (ix2 o k) = ∑ i : Fin 256, w (ix3 0 o i) * x (ix2 i k) := by
  pointwise

/-- The two parts of a slab's signal, one over the other. -/
def join (u v : FVec Ideal S1x1x1x128x512 .bf16) : FVec Ideal S256x512 .bf16 :=
  concatenate S256x512 0 [⟨S128x512, shapeCast S128x512 u shapeCasts_S1x1x1x128x512_S128x512⟩,
    ⟨S128x512, shapeCast S128x512 v shapeCasts_S1x1x1x128x512_S128x512⟩] concatenates_S128x512_S128x512_S256x512_d0

theorem join_lo (u v : FVec Ideal S1x1x1x128x512 .bf16) (i : Fin 128) (k : Fin 512) :
    join u v (ix2 (lo 256 rfl i) k) = u (ix5 0 0 0 i k) :=
  (rows_lo rfl _ _ _ i k).trans (by pointwise)
theorem join_hi (u v : FVec Ideal S1x1x1x128x512 .bf16) (i : Fin 128) (k : Fin 512) :
    join u v (ix2 (hi 256 rfl i) k) = v (ix5 0 0 0 i k) :=
  (rows_hi rfl _ _ _ i k).trans (by pointwise)

/-- A slab's complex product, in real form. -/
def slab (w : FVec Ideal S1x256x256 .bf16) (u v : FVec Ideal S1x1x1x128x512 .bf16) : FVec Ideal S256x512 .f32 :=
  matmul dot_S256x256_S256x512_S256x512_1_0_0_1_n_n none (shapeCast S256x256 w shapeCasts_S1x256x256_S256x256) (join u v)
    (constant S256x512 .f32 0x00000000#32)

theorem slab_apply (w : FVec Ideal S1x256x256 .bf16) (u v : FVec Ideal S1x1x1x128x512 .bf16) (o : Fin 256) (k : Fin 512) :
    slab w u v (ix2 o k) = part (fun i : Fin 128 => w (ix3 0 o (lo 256 rfl i))) (fun i => w (ix3 0 o (hi 256 rfl i)))
      (fun i => u (ix5 0 0 0 i k)) (fun i => v (ix5 0 0 0 i k)) :=
  (prod_apply w (join u v) o k).trans (sum_joined (n := 128) (N := 256) rfl (fun i => w (ix3 0 o i)) (fun i => join u v (ix2 i k)) _ _ _ _
    (fun _ => rfl) (fun _ => rfl) (fun i => join_lo u v i k) fun i => join_hi u v i k)

/-- The two parts of it, as they are stored. -/
def rePart (w : FVec Ideal S1x256x256 .bf16) (u v : FVec Ideal S1x1x1x128x512 .bf16) : FVec Ideal S1x1x1x128x512 .bf16 :=
  shapeCast S1x1x1x128x512 (truncf .bf16 (extractStridedSlice S128x512 ![0, 0] (slab w u v) slices_S256x512_o0_0_S128x512)
    bitsLt_bf16_f32) shapeCasts_S128x512_S1x1x1x128x512
def imPart (w : FVec Ideal S1x256x256 .bf16) (u v : FVec Ideal S1x1x1x128x512 .bf16) : FVec Ideal S1x1x1x128x512 .bf16 :=
  shapeCast S1x1x1x128x512 (truncf .bf16 (extractStridedSlice S128x512 ![128, 0] (slab w u v) slices_S256x512_o128_0_S128x512)
    bitsLt_bf16_f32) shapeCasts_S128x512_S1x1x1x128x512

theorem rePart_apply (w : FVec Ideal S1x256x256 .bf16) (u v : FVec Ideal S1x1x1x128x512 .bf16) (p : Fin 128) (k : Fin 512) :
    rePart w u v (ix5 0 0 0 p k) = slab w u v (ix2 (lo 256 rfl p) k) := by
  unfold rePart
  generalize slab w u v = s
  pointwise [lo]
theorem imPart_apply (w : FVec Ideal S1x256x256 .bf16) (u v : FVec Ideal S1x1x1x128x512 .bf16) (p : Fin 128) (k : Fin 512) :
    imPart w u v (ix5 0 0 0 p k) = slab w u v (ix2 (hi 256 rfl p) k) := by
  unfold imPart
  generalize slab w u v = s
  pointwise [hi]

/-! ## The body's block, a slab and a part at a time -/

/-- A row of a slab's table in the block against the slab's signal in the block. -/
def blockRow (x : Vec Ideal S1x2x8x128x512 .bf16) (w : Vec Ideal S8x256x256 .bf16) (s : Fin 8) (o : Fin 256) (k : Fin 512) : EReal :=
  part (fun i : Fin 128 => w (ix3 s o (lo 256 rfl i))) (fun i => w (ix3 s o (hi 256 rfl i)))
    (fun i => x (ix5 0 0 s i k)) (fun i => x (ix5 0 1 s i k))

/-- The row of a table that holds a part's row. -/
def row (h : Fin 2) (p : Fin 128) : Fin 256 := ⟨h.val * 128 + p.val, by omega⟩
theorem row_zero (p : Fin 128) : row 0 p = lo 256 rfl p := Fin.ext (by show 0 * 128 + p.val = p.val; omega)
theorem row_one (p : Fin 128) : row 1 p = hi 256 rfl p := Fin.ext (by show 1 * 128 + p.val = 128 + p.val; omega)

/-- The block at an index. -/
def blockVal (x : Vec Ideal S1x2x8x128x512 .bf16) (w : Vec Ideal S8x256x256 .bf16) (y : S1x2x8x128x512.Idx) : EReal :=
  blockRow x w (y 2) (row (y 1) (y 3)) (y 4)

section Pieces
variable (x : Vec Ideal S1x2x8x128x512 .bf16) (w : Vec Ideal S8x256x256 .bf16) (j : Fin 8)
  (hw : ∀ a, (![j.val, 0, 0] : Fin 3 → Nat) a + S1x256x256.size a ≤ S8x256x256.size a)
  (hu : ∀ a, (![0, 0, j.val, 0, 0] : Fin 5 → Nat) a + S1x1x1x128x512.size a ≤ S1x2x8x128x512.size a)
  (hv : ∀ a, (![0, 1, j.val, 0, 0] : Fin 5 → Nat) a + S1x1x1x128x512.size a ≤ S1x2x8x128x512.size a)

/-- The slab's rectangles: of its table, and of the two parts of its signal. -/
abbrev rw : Rect S8x256x256 := Rect.unit (s := S8x256x256) ![j.val, 0, 0] S1x256x256.size hw
abbrev ru : Rect S1x2x8x128x512 := Rect.unit (s := S1x2x8x128x512) ![0, 0, j.val, 0, 0] S1x1x1x128x512.size hu
abbrev rv : Rect S1x2x8x128x512 := Rect.unit (s := S1x2x8x128x512) ![0, 1, j.val, 0, 0] S1x1x1x128x512.size hv

theorem emb_w (o i : Fin 256) : (rw j hw).emb (ix3 0 o i) = ix3 j o i := funext fun a => Fin.ext (match a with
  | ⟨0, _⟩ => by show j.val + 1 * 0 = j.val; omega
  | ⟨1, _⟩ => by show 0 + 1 * o.val = o.val; omega
  | ⟨2, _⟩ => by show 0 + 1 * i.val = i.val; omega)
theorem emb_u (i : Fin 128) (k : Fin 512) : (ru j hu).emb (ix5 0 0 0 i k) = ix5 0 0 j i k := funext fun a => Fin.ext (match a with
  | ⟨0, _⟩ => by show 0 + 1 * 0 = 0; omega
  | ⟨1, _⟩ => by show 0 + 1 * 0 = 0; omega
  | ⟨2, _⟩ => by show j.val + 1 * 0 = j.val; omega
  | ⟨3, _⟩ => by show 0 + 1 * i.val = i.val; omega
  | ⟨4, _⟩ => by show 0 + 1 * k.val = k.val; omega)
theorem emb_v (i : Fin 128) (k : Fin 512) : (rv j hv).emb (ix5 0 0 0 i k) = ix5 0 1 j i k := funext fun a => Fin.ext (match a with
  | ⟨0, _⟩ => by show 0 + 1 * 0 = 0; omega
  | ⟨1, _⟩ => by show 1 + 1 * 0 = 1; omega
  | ⟨2, _⟩ => by show j.val + 1 * 0 = j.val; omega
  | ⟨3, _⟩ => by show 0 + 1 * i.val = i.val; omega
  | ⟨4, _⟩ => by show 0 + 1 * k.val = k.val; omega)

theorem ld_w (o i : Fin 256) : View.ld w (rw j hw) (ix3 0 o i) = w (ix3 j o i) := congrArg w (emb_w j hw o i)
theorem ld_u (i : Fin 128) (k : Fin 512) : View.ld x (ru j hu) (ix5 0 0 0 i k) = x (ix5 0 0 j i k) := congrArg x (emb_u j hu i k)
theorem ld_v (i : Fin 128) (k : Fin 512) : View.ld x (rv j hv) (ix5 0 0 0 i k) = x (ix5 0 1 j i k) := congrArg x (emb_v j hv i k)

/-- A slab's product over the loaded pieces is the block's. -/
theorem slab_ld (o : Fin 256) (k : Fin 512) :
    slab (View.ld w (rw j hw)) (View.ld x (ru j hu)) (View.ld x (rv j hv)) (ix2 o k) = blockRow x w j o k := by
  refine (slab_apply _ _ _ o k).trans ?_
  exact part_congr (fun i => ld_w w j hw o _) (fun i => ld_w w j hw o _) (fun i => ld_u x j hu i k) fun i => ld_v x j hv i k

theorem ix5_of (z : S1x1x1x128x512.Idx) : ∃ (p : Fin 128) (k : Fin 512), z = ix5 0 0 0 p k := by
  obtain ⟨a, b, c, p, k, rfl⟩ : ∃ (a : Fin 1) (b : Fin 1) (c : Fin 1) (p : Fin 128) (k : Fin 512), z = ix5 a b c p k :=
    ⟨z 0, z 1, z 2, z 3, z 4, eq_ix5 z⟩
  obtain rfl : a = 0 := Subsingleton.elim _ _
  obtain rfl : b = 0 := Subsingleton.elim _ _
  obtain rfl : c = 0 := Subsingleton.elim _ _
  exact ⟨p, k, rfl⟩

/-- The real part of a slab, stored where it belongs, -/
theorem piece_re (z : S1x1x1x128x512.Idx) :
    rePart (View.ld w (rw j hw)) (View.ld x (ru j hu)) (View.ld x (rv j hv)) z = blockVal x w ((ru j hu).emb z) := by
  obtain ⟨p, k, rfl⟩ := ix5_of z
  refine (rePart_apply _ _ _ p k).trans ((slab_ld x w j hw hu hv _ k).trans ?_)
  rw [emb_u j hu p k, ← row_zero]
  rfl
/-- and the imaginary one. -/
theorem piece_im (z : S1x1x1x128x512.Idx) :
    imPart (View.ld w (rw j hw)) (View.ld x (ru j hu)) (View.ld x (rv j hv)) z = blockVal x w ((rv j hv).emb z) := by
  obtain ⟨p, k, rfl⟩ := ix5_of z
  refine (imPart_apply _ _ _ p k).trans ((slab_ld x w j hw hu hv _ k).trans ?_)
  rw [emb_v j hv p k, ← row_one]
  rfl
end Pieces

/-- The result's block after the body. -/
theorem out2_apply (x : Vec Ideal S1x2x8x128x512 .bf16) (w : Vec Ideal S8x256x256 .bf16) (y : S1x2x8x128x512.Idx) :
    out0_2 (F := Ideal) x w y = blockVal x w y := by
  unfold out0_2
  refine View.canon_apply_of_pieces (Val := Elt Ideal) (blockVal x w) _ ?_ y (cover0_2 _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl
  · exact piece_im x w 7 _ _ _ z
  · exact piece_re x w 7 _ _ inb_S1x2x8x128x512_S1x1x1x128x512_0_1_7_0_0 z
  · exact piece_im x w 6 _ _ _ z
  · exact piece_re x w 6 _ _ inb_S1x2x8x128x512_S1x1x1x128x512_0_1_6_0_0 z
  · exact piece_im x w 5 _ _ _ z
  · exact piece_re x w 5 _ _ inb_S1x2x8x128x512_S1x1x1x128x512_0_1_5_0_0 z
  · exact piece_im x w 4 _ _ _ z
  · exact piece_re x w 4 _ _ inb_S1x2x8x128x512_S1x1x1x128x512_0_1_4_0_0 z
  · exact piece_im x w 3 _ _ _ z
  · exact piece_re x w 3 _ _ inb_S1x2x8x128x512_S1x1x1x128x512_0_1_3_0_0 z
  · exact piece_im x w 2 _ _ _ z
  · exact piece_re x w 2 _ _ inb_S1x2x8x128x512_S1x1x1x128x512_0_1_2_0_0 z
  · exact piece_im x w 1 _ _ _ z
  · exact piece_re x w 1 _ _ inb_S1x2x8x128x512_S1x1x1x128x512_0_1_1_0_0 z
  · exact piece_im x w 0 _ _ _ z
  · exact piece_re x w 0 _ _ inb_S1x2x8x128x512_S1x1x1x128x512_0_1_0_0_0 z

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x2x64x128x512 .bf16 := m ((c : Thread nD τ).loc main_arg0)
abbrev a1 (c : Dev nD) : FVec Ideal S64x128x128 .f32 := m ((c : Thread nD τ).loc main_arg1)
abbrev a2 (c : Dev nD) : FVec Ideal S64x128x128 .f32 := m ((c : Thread nD τ).loc main_arg2)

/-- The tables in real form: cosines and sines, and under them the sines negated and the cosines. -/
def table (c : Dev nD) : S64x256x256.Idx → EReal :=
  concatenate S64x256x256 1 [⟨S64x128x256, concatenate S64x128x256 2 [⟨S64x128x128, a1 m c⟩, ⟨S64x128x128, a2 m c⟩] concatenates_S64x128x128_S64x128x128_S64x128x256_d2⟩,
    ⟨S64x128x256, concatenate S64x128x256 2 [⟨S64x128x128, fun i => -(a2 m c i)⟩, ⟨S64x128x128, a1 m c⟩] concatenates_S64x128x128_S64x128x128_S64x128x256_d2⟩]
    concatenates_S64x128x256_S64x128x256_S64x256x256_d1

theorem V_w (c : Dev nD) : V m c main_v4 = table m c := by
  show StableHlo.after hostOps0 _ _ = _
  after_results
  rfl

/-- The tables' rows, a half at a time. -/
theorem row_re_lo (c : Dev nD) (s : Fin 64) (o i : Fin 128) : table m c (ix3 s (lo 256 rfl o) (lo 256 rfl i)) = a1 m c (ix3 s o i) :=
  (rows3_lo rfl _ _ _ s o _).trans (cols3_lo rfl _ _ _ s o i)
theorem row_re_hi (c : Dev nD) (s : Fin 64) (o i : Fin 128) : table m c (ix3 s (lo 256 rfl o) (hi 256 rfl i)) = a2 m c (ix3 s o i) :=
  (rows3_lo rfl _ _ _ s o _).trans (cols3_hi rfl _ _ _ s o i)
theorem row_im_lo (c : Dev nD) (s : Fin 64) (o i : Fin 128) : table m c (ix3 s (hi 256 rfl o) (lo 256 rfl i)) = -(a2 m c (ix3 s o i)) :=
  (rows3_hi rfl _ _ _ s o _).trans (cols3_lo rfl _ _ _ s o i)
theorem row_im_hi (c : Dev nD) (s : Fin 64) (o i : Fin 128) : table m c (ix3 s (hi 256 rfl o) (hi 256 rfl i)) = a1 m c (ix3 s o i) :=
  (rows3_hi rfl _ _ _ s o _).trans (cols3_hi rfl _ _ _ s o i)

/-- Where each window's block lies at each point (decided over the points). -/
theorem idx_facts : ∀ t : Fin grid0.N,
    (win0_0.index t 0 = t.val / 8 ∧ win0_0.index t 1 = 0 ∧ win0_0.index t 2 = t.val % 8 ∧ win0_0.index t 3 = 0 ∧ win0_0.index t 4 = 0)
    ∧ (win0_1.index t 0 = t.val % 8 ∧ win0_1.index t 1 = 0 ∧ win0_1.index t 2 = 0)
    ∧ (win0_2.index t 0 = t.val / 8 ∧ win0_2.index t 1 = 0 ∧ win0_2.index t 2 = t.val % 8 ∧ win0_2.index t 3 = 0 ∧ win0_2.index t 4 = 0) := by
  decide +kernel

/-- The batch of a point, and the slab that its block has at `s`. -/
def batch (t : Fin cfg0.N) : Fin 2 := ⟨t.val / 8, by
  have h : t.val < 16 := lt_of_lt_of_eq t.isLt N_0; omega⟩
def pos (t : Fin cfg0.N) (s : Fin 8) : Fin 64 := ⟨t.val % 8 * 8 + s.val, by omega⟩

theorem iblk0_apply (c : Dev nD) (t : Fin cfg0.N) (h : Fin 2) (s : Fin 8) (i : Fin 128) (k : Fin 512) :
    iblk m c 0 t (ix5 0 h s i k) = a0 m c (ix5 (batch t) h (pos t s) i k) := by
  show V m c main_arg0 (((cfg0.win 0).blk t).view.emb (ix5 0 h s i k)) = _
  refine (congrFun (V_main_arg0 m c) _).trans (congrArg (a0 m c) (funext fun a => Fin.ext ?_))
  have f := (idx_facts t).1
  match a with
  | ⟨0, _⟩ => show win0_0.index t 0 * 1 + 1 * 0 = t.val / 8; rw [f.1]; omega
  | ⟨1, _⟩ => show win0_0.index t 1 * 2 + 1 * h.val = h.val; rw [f.2.1]; omega
  | ⟨2, _⟩ => show win0_0.index t 2 * 8 + 1 * s.val = t.val % 8 * 8 + s.val; rw [f.2.2.1]; omega
  | ⟨3, _⟩ => show win0_0.index t 3 * 128 + 1 * i.val = i.val; rw [f.2.2.2.1]; omega
  | ⟨4, _⟩ => show win0_0.index t 4 * 512 + 1 * k.val = k.val; rw [f.2.2.2.2]; omega

theorem iblk1_apply (c : Dev nD) (t : Fin cfg0.N) (s : Fin 8) (o i : Fin 256) :
    iblk m c 1 t (ix3 s o i) = table m c (ix3 (pos t s) o i) := by
  show V m c main_v4 (((cfg0.win 1).blk t).view.emb (ix3 s o i)) = _
  refine (congrFun (V_w m c) _).trans (congrArg (table m c) (funext fun a => Fin.ext ?_))
  have f := (idx_facts t).2.1
  match a with
  | ⟨0, _⟩ => show win0_1.index t 0 * 8 + 1 * s.val = t.val % 8 * 8 + s.val; rw [f.1]; omega
  | ⟨1, _⟩ => show win0_1.index t 1 * 256 + 1 * o.val = o.val; rw [f.2.1]; omega
  | ⟨2, _⟩ => show win0_1.index t 2 * 256 + 1 * i.val = i.val; rw [f.2.2]; omega

/-! ## The result array -/

/-- The whole stage at a batch, a slab, a row of the slab's table and a channel. -/
def full (c : Dev nD) (b : Fin 2) (s : Fin 64) (o : Fin 256) (k : Fin 512) : EReal :=
  part (fun i : Fin 128 => table m c (ix3 s o (lo 256 rfl i))) (fun i => table m c (ix3 s o (hi 256 rfl i)))
    (fun i => a0 m c (ix5 b 0 s i k)) (fun i => a0 m c (ix5 b 1 s i k))

def G2 (c : Dev nD) : Buf (Elt Ideal) ((c : Thread nD τ).loc main_v5) :=
  fun i : S2x2x64x128x512.Idx => full m c (i 0) (i 2) (row (i 1) (i 3)) (i 4)

/-- A point's block of the stage is the whole stage at the point's batch and slabs. -/
theorem block_eq (c : Dev nD) (t : Fin cfg0.N) (s : Fin 8) (o : Fin 256) (k : Fin 512) :
    blockRow (iblk m c 0 t) (iblk m c 1 t) s o k = full m c (batch t) (pos t s) o k := by
  unfold blockRow full
  simp only [iblk0_apply, iblk1_apply]

theorem flushed2_eq (c : Dev nD) (t : Fin cfg0.N) :
    (dats m 0 c).flushed 2 t = ((cfg0.win 2).blk t).view.read (Elt Ideal) (G2 m c) := by
  rw [Value.flushed2]
  funext y
  show out0_2 _ _ y = G2 m c (((cfg0.win 2).blk t).view.emb y)
  refine (out2_apply _ _ y).trans ((block_eq m c t _ _ _).trans ?_)
  have h0 : (y 0).val = 0 := Nat.lt_one_iff.1 (y 0).isLt
  have f := (idx_facts t).2.2
  refine congr (congr (congr (congrArg (full m c) (Fin.ext ?_)) (Fin.ext ?_)) (congr (congrArg row (Fin.ext ?_)) (Fin.ext ?_))) (Fin.ext ?_)
  · show t.val / 8 = win0_2.index t 0 * 1 + 1 * (y 0).val; rw [f.1, h0]; omega
  · show t.val % 8 * 8 + (y 2).val = win0_2.index t 2 * 8 + 1 * (y 2).val; rw [f.2.2.1]; omega
  · show (y 1).val = win0_2.index t 1 * 2 + 1 * (y 1).val; rw [f.2.1]; omega
  · show (y 3).val = win0_2.index t 3 * 128 + 1 * (y 3).val; rw [f.2.2.2.1]; omega
  · show (y 4).val = win0_2.index t 4 * 512 + 1 * (y 4).val; rw [f.2.2.2.2]; omega

/-- The point whose block holds an index. -/
def pointOf (i : S2x2x64x128x512.Idx) : Fin cfg0.N := ⟨(i 0).val * 8 + (i 2).val / 8, by
  have h0 : (i 0).val < 2 := (i 0).isLt
  have h : (i 2).val < 64 := (i 2).isLt
  have hN : cfg0.N = 16 := N_0
  omega⟩

theorem mem2 (i : S2x2x64x128x512.Idx) : i ∈ ((cfg0.win 2).blk (pointOf i)).view.set := by
  show i ∈ ((View.whole main_v5).slice (win0_2.rect (pointOf i))).set
  rw [View.set_slice_whole, Rect.mem_set_unit]
  have h0 : (i 0).val < 2 := (i 0).isLt
  have h1 : (i 1).val < 2 := (i 1).isLt
  have h2 : (i 2).val < 64 := (i 2).isLt
  have h3 : (i 3).val < 128 := (i 3).isLt
  have h4 : (i 4).val < 512 := (i 4).isLt
  have f := (idx_facts (pointOf i)).2.2
  have hp : (pointOf i).val = (i 0).val * 8 + (i 2).val / 8 := rfl
  intro a
  match a with
  | ⟨0, _⟩ =>
    show win0_2.index (pointOf i) 0 * 1 ≤ (i 0).val ∧ (i 0).val < win0_2.index (pointOf i) 0 * 1 + 1
    rw [f.1, hp]; omega
  | ⟨1, _⟩ =>
    show win0_2.index (pointOf i) 1 * 2 ≤ (i 1).val ∧ (i 1).val < win0_2.index (pointOf i) 1 * 2 + 2
    rw [f.2.1]; omega
  | ⟨2, _⟩ =>
    show win0_2.index (pointOf i) 2 * 8 ≤ (i 2).val ∧ (i 2).val < win0_2.index (pointOf i) 2 * 8 + 8
    rw [f.2.2.1, hp]; omega
  | ⟨3, _⟩ =>
    show win0_2.index (pointOf i) 3 * 128 ≤ (i 3).val ∧ (i 3).val < win0_2.index (pointOf i) 3 * 128 + 128
    rw [f.2.2.2.1]; omega
  | ⟨4, _⟩ =>
    show win0_2.index (pointOf i) 4 * 512 ≤ (i 4).val ∧ (i 4).val < win0_2.index (pointOf i) 4 * 512 + 512
    rw [f.2.2.2.2]; omega

theorem final2 (c : Dev nD) : (dats m 0 c).arrAt 2 cfg0.N = G2 m c :=
  (dats m 0 c).arrAt_eq_of_cover 2 (G2 m c) (fun t _ => flushed2_eq m c t) fun i => ⟨pointOf i, flush0_2 _, mem2 i⟩

end Cert.PosdftIdeal.Closed

/-! ## The reference -/

namespace Cert.PosdftRefIdeal.Closed

open Cert.PosdftRefIdeal Cert.PosdftRefIdeal.Gen Cert.PosdftRefIdeal.Read Cert.DftForm

variable (x0 : (⟨S2x2x64x128x512, .bf16⟩ : BufTy).Contents (Elt Ideal)) (x1 x2 : (⟨S64x128x128, .f32⟩ : BufTy).Contents (Elt Ideal))

/-- The two parts of the signal. -/
theorem re_apply (b : Fin 2) (s : Fin 64) (i : Fin 128) (k : Fin 512) : val_main_v2 (F := Ideal) x0 (ix4 b s i k) = x0 (ix5 b 0 s i k) := by
  pointwise [val_main_v2, val_main_v1, val_main_v0]
theorem im_apply (b : Fin 2) (s : Fin 64) (i : Fin 128) (k : Fin 512) : val_main_v5 (F := Ideal) x0 (ix4 b s i k) = x0 (ix5 b 1 s i k) := by
  pointwise [val_main_v5, val_main_v4, val_main_v3]

/-- The real part of the result, -/
theorem sum_re (b : Fin 2) (s : Fin 64) (o : Fin 128) (k : Fin 512) : val_main_v10 (F := Ideal) x0 x1 x2 (ix4 b s o k)
    = part (fun i : Fin 128 => x0 (ix5 b 0 s i k)) (fun i => x0 (ix5 b 1 s i k)) (fun i => x1 (ix3 s o i)) (fun i => x2 (ix3 s o i)) := by
  simp only [← re_apply, ← im_apply]
  unfold part
  generalize hu : val_main_v2 (F := Ideal) x0 = U
  generalize hv : val_main_v5 (F := Ideal) x0 = W
  pointwise [val_main_v10, val_main_v9, val_main_v8, val_main_v7, val_main_v6, hu, hv]

/-- and the imaginary one. -/
theorem sum_im (b : Fin 2) (s : Fin 64) (o : Fin 128) (k : Fin 512) : val_main_v16 (F := Ideal) x0 x1 x2 (ix4 b s o k)
    = part (fun i : Fin 128 => x0 (ix5 b 0 s i k)) (fun i => x0 (ix5 b 1 s i k)) (fun i => -(x2 (ix3 s o i))) (fun i => x1 (ix3 s o i)) := by
  simp only [← re_apply, ← im_apply]
  unfold part
  generalize hu : val_main_v2 (F := Ideal) x0 = U
  generalize hv : val_main_v5 (F := Ideal) x0 = W
  pointwise [val_main_v16, val_main_v15, val_main_v14, val_main_v13, val_main_v12, val_main_v11, hu, hv]

theorem res_re (b : Fin 2) (s : Fin 64) (o : Fin 128) (k : Fin 512) :
    val_main_v20 (F := Ideal) x0 x1 x2 (ix5 b 0 s o k) = val_main_v10 (F := Ideal) x0 x1 x2 (ix4 b s o k) := by
  generalize hd : val_main_v10 (F := Ideal) x0 x1 x2 = D
  pointwise [val_main_v20, val_main_v19, val_main_v17, hd]
theorem res_im (b : Fin 2) (s : Fin 64) (o : Fin 128) (k : Fin 512) :
    val_main_v20 (F := Ideal) x0 x1 x2 (ix5 b 1 s o k) = val_main_v16 (F := Ideal) x0 x1 x2 (ix4 b s o k) := by
  generalize hd : val_main_v16 (F := Ideal) x0 x1 x2 = D
  pointwise [val_main_v20, val_main_v19, val_main_v18, hd]

end Cert.PosdftRefIdeal.Closed

/-! ## The claims -/

namespace Cert.PosdftClaims

open Cert.DftForm Cert.PosdftIdeal.Closed

variable (m : (ℓ : Loc Cert.PosdftIdeal.nD Cert.PosdftIdeal.τ Cert.PosdftIdeal.sig) → Buf (Elt Ideal) ℓ) (c : Dev Cert.PosdftIdeal.nD)

/-- The whole stage's two parts, over the tables of cosines and sines. -/
theorem full_re (b : Fin 2) (s : Fin 64) (o : Fin 128) (k : Fin 512) : full m c b s (lo 256 rfl o) k
    = part (fun i : Fin 128 => a1 m c (ix3 s o i)) (fun i => a2 m c (ix3 s o i)) (fun i => a0 m c (ix5 b 0 s i k)) (fun i => a0 m c (ix5 b 1 s i k)) := by
  unfold full
  simp only [row_re_lo, row_re_hi]
theorem full_im (b : Fin 2) (s : Fin 64) (o : Fin 128) (k : Fin 512) : full m c b s (hi 256 rfl o) k
    = part (fun i : Fin 128 => -(a2 m c (ix3 s o i))) (fun i => a1 m c (ix3 s o i)) (fun i => a0 m c (ix5 b 0 s i k)) (fun i => a0 m c (ix5 b 1 s i k)) := by
  unfold full
  simp only [row_im_lo, row_im_hi]

/-- The reference's result is the kernel's array. -/
theorem res_eq : Cert.PosdftRefIdeal.Read.val_main_v20 (F := Ideal) (a0 m c) (a1 m c) (a2 m c) = G2 m c := by
  funext i
  obtain ⟨b, h, s, o, k, rfl⟩ : ∃ (b : Fin 2) (h : Fin 2) (s : Fin 64) (o : Fin 128) (k : Fin 512), i = ix5 b h s o k :=
    ⟨i 0, i 1, i 2, i 3, i 4, eq_ix5 i⟩
  show _ = full m c b s (row h o) k
  obtain rfl | rfl : h = 0 ∨ h = 1 := by omega
  · rw [row_zero, full_re]
    exact (Cert.PosdftRefIdeal.Closed.res_re _ _ _ b s o k).trans ((Cert.PosdftRefIdeal.Closed.sum_re _ _ _ b s o k).trans (part_comm _ _ _ _))
  · rw [row_one, full_im]
    exact (Cert.PosdftRefIdeal.Closed.res_im _ _ _ b s o k).trans ((Cert.PosdftRefIdeal.Closed.sum_im _ _ _ b s o k).trans (part_comm _ _ _ _))

/-- The stage's kernel and its reference end with the same array. -/
theorem algebraic : Cert.algebraic_PosdftIdeal_PosdftRefIdeal := by
  intro m g m' g' _ hag
  refine ⟨fun c => G2 m c,
    (θ_run Cert.PosdftIdeal.defs _ _).mono (fun r h c => ⟨(h c).1.trans (final2 m c), (h c).2⟩) (Cert.PosdftIdeal.Value.run_blocks m g),
    (θ_run Cert.PosdftRefIdeal.defs _ _).mono (fun r h c => ⟨(h c).1.trans ?_, (h c).2⟩) (Cert.PosdftRefIdeal.Value.run m' g')⟩
  obtain ⟨h0, h1, h2⟩ := hag c
  rw [h0, h1, h2]
  exact (Cert.PosdftRefIdeal.Read.val_main_v20_eq _ _ _).trans (res_eq m c)

/-- The kernel, its idealization and the reference keep their arguments and end quiescent. -/
theorem frame_p : Cert.quiescent_Posdft := fun m ρ _ => Cert.Posdft.Gen.frame m ρ
theorem frame_pi : Cert.quiescent_PosdftIdeal := fun m ρ _ => Cert.PosdftIdeal.Gen.frame m ρ
theorem frame_ri : Cert.quiescent_PosdftRefIdeal := fun m ρ _ =>
  (θ_run Cert.PosdftRefIdeal.defs _ _).mono (fun r h => ⟨fun c => (h c).2,
      Idealize.ShloMosaic.sem_eq_zero_of_no_sems (by decide) r.2⟩) (Cert.PosdftRefIdeal.Value.run (F := Ideal) m ρ)

end Cert.PosdftClaims
-- ==== Proof.FiltspecValue.lean ====
/-
  The value of the inner Fourier stage of the filters' taps and of their normalisation: every slab of the taps has its own complex
  table, the product is scaled by channel, and the body takes the slabs of a block one after another.
-/
module

public import proofs.«01_k».proof.Defs
public import proofs.«01_k».proof.Proof.Gen.Filtspec.Frame
public import proofs.«01_k».proof.Proof.Gen.FiltspecIdeal.Value
public import proofs.«01_k».proof.Proof.Gen.FiltspecRefIdeal.Run
public import proofs.«01_k».proof.Proof.Gen.FiltspecRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FiltspecIdeal.Closed

open Cert.FiltspecIdeal Cert.FiltspecIdeal.Gen Cert.DftForm

/-! ## One slab -/

/-- The table of a slab against a joined signal, at an index. -/
theorem prod_apply (w : FVec Ideal S1x256x256 .bf16) (x : FVec Ideal S256x512 .bf16) (o : Fin 256) (k : Fin 512) :
    (matmul dot_S256x256_S256x512_S256x512_1_0_0_1_n_n none (shapeCast S256x256 w shapeCasts_S1x256x256_S256x256) x
      (constant S256x512 .f32 0x00000000#32) : FVec Ideal S256x512 .f32) (ix2 o k) = ∑ i : Fin 256, w (ix3 0 o i) * x (ix2 i k) := by
  pointwise

/-- The two parts of a slab's signal, one over the other. -/
def join (u v : FVec Ideal S1x1x1x128x512 .bf16) : FVec Ideal S256x512 .bf16 :=
  concatenate S256x512 0 [⟨S128x512, shapeCast S128x512 u shapeCasts_S1x1x1x128x512_S128x512⟩,
    ⟨S128x512, shapeCast S128x512 v shapeCasts_S1x1x1x128x512_S128x512⟩] concatenates_S128x512_S128x512_S256x512_d0

theorem join_lo (u v : FVec Ideal S1x1x1x128x512 .bf16) (i : Fin 128) (k : Fin 512) :
    join u v (ix2 (lo 256 rfl i) k) = u (ix5 0 0 0 i k) :=
  (rows_lo rfl _ _ _ i k).trans (by pointwise)
theorem join_hi (u v : FVec Ideal S1x1x1x128x512 .bf16) (i : Fin 128) (k : Fin 512) :
    join u v (ix2 (hi 256 rfl i) k) = v (ix5 0 0 0 i k) :=
  (rows_hi rfl _ _ _ i k).trans (by pointwise)

/-- A slab's complex product, in real form. -/
def slab (w : FVec Ideal S1x256x256 .bf16) (u v : FVec Ideal S1x1x1x128x512 .bf16) : FVec Ideal S256x512 .f32 :=
  matmul dot_S256x256_S256x512_S256x512_1_0_0_1_n_n none (shapeCast S256x256 w shapeCasts_S1x256x256_S256x256) (join u v)
    (constant S256x512 .f32 0x00000000#32)

theorem slab_apply (w : FVec Ideal S1x256x256 .bf16) (u v : FVec Ideal S1x1x1x128x512 .bf16) (o : Fin 256) (k : Fin 512) :
    slab w u v (ix2 o k) = part (fun i : Fin 128 => w (ix3 0 o (lo 256 rfl i))) (fun i => w (ix3 0 o (hi 256 rfl i)))
      (fun i => u (ix5 0 0 0 i k)) (fun i => v (ix5 0 0 0 i k)) :=
  (prod_apply w (join u v) o k).trans (sum_joined (n := 128) (N := 256) rfl (fun i => w (ix3 0 o i)) (fun i => join u v (ix2 i k)) _ _ _ _
    (fun _ => rfl) (fun _ => rfl) (fun i => join_lo u v i k) fun i => join_hi u v i k)

/-- The slab's product scaled by channel, as it is stored. -/
def scaled (w : FVec Ideal S1x256x256 .bf16) (u v : FVec Ideal S1x1x1x128x512 .bf16) (n : FVec Ideal S1x1x512 .f32) :
    FVec Ideal S1x1x256x512 .bf16 :=
  shapeCast S1x1x256x512 (truncf .bf16 (mulf (slab w u v)
    (broadcastTo S256x512 (shapeCast S1x512 n shapeCasts_S1x1x512_S1x512) broadcasts_S1x512_S256x512)) bitsLt_bf16_f32)
    shapeCasts_S256x512_S1x1x256x512

theorem scaled_apply (w : FVec Ideal S1x256x256 .bf16) (u v : FVec Ideal S1x1x1x128x512 .bf16) (n : FVec Ideal S1x1x512 .f32)
    (o : Fin 256) (k : Fin 512) : scaled w u v n (ix4 0 0 o k) = slab w u v (ix2 o k) * n (ix3 0 0 k) := by
  unfold scaled
  generalize slab w u v = p
  pointwise

/-! ## The body's block, a slab at a time -/

/-- A row of a slab's table in the block against the slab's signal in the block. -/
def blockRow (x : Vec Ideal S1x2x16x128x512 .bf16) (w : Vec Ideal S16x256x256 .bf16) (s : Fin 16) (o : Fin 256) (k : Fin 512) : EReal :=
  part (fun i : Fin 128 => w (ix3 s o (lo 256 rfl i))) (fun i => w (ix3 s o (hi 256 rfl i)))
    (fun i => x (ix5 0 0 s i k)) (fun i => x (ix5 0 1 s i k))

/-- The block at an index. -/
def blockVal (x : Vec Ideal S1x2x16x128x512 .bf16) (w : Vec Ideal S16x256x256 .bf16) (n : Vec Ideal S1x1x512 .f32)
    (y : S1x16x256x512.Idx) : EReal :=
  blockRow x w (y 1) (y 2) (y 3) * n (ix3 0 0 (y 3))

theorem zero3 : (![0, 0, 0] : Fin 3 → Nat) = fun _ => 0 := funext fun a => by fin_cases a <;> rfl
/-- A load of the whole scale is the scale. -/
theorem ld_n (n : Vec Ideal S1x1x512 .f32) : View.ld n r0_3 = n := by rw [View.ld_unit_zero zero3]

section Pieces
variable (x : Vec Ideal S1x2x16x128x512 .bf16) (w : Vec Ideal S16x256x256 .bf16) (n : Vec Ideal S1x1x512 .f32) (j : Fin 16)
  (hw : ∀ a, (![j.val, 0, 0] : Fin 3 → Nat) a + S1x256x256.size a ≤ S16x256x256.size a)
  (hu : ∀ a, (![0, 0, j.val, 0, 0] : Fin 5 → Nat) a + S1x1x1x128x512.size a ≤ S1x2x16x128x512.size a)
  (hv : ∀ a, (![0, 1, j.val, 0, 0] : Fin 5 → Nat) a + S1x1x1x128x512.size a ≤ S1x2x16x128x512.size a)
  (ho : ∀ a, (![0, j.val, 0, 0] : Fin 4 → Nat) a + S1x1x256x512.size a ≤ S1x16x256x512.size a)

/-- The slab's rectangles: of its table, of the two parts of its signal, and of its result. -/
abbrev rw : Rect S16x256x256 := Rect.unit (s := S16x256x256) ![j.val, 0, 0] S1x256x256.size hw
abbrev ru : Rect S1x2x16x128x512 := Rect.unit (s := S1x2x16x128x512) ![0, 0, j.val, 0, 0] S1x1x1x128x512.size hu
abbrev rv : Rect S1x2x16x128x512 := Rect.unit (s := S1x2x16x128x512) ![0, 1, j.val, 0, 0] S1x1x1x128x512.size hv

abbrev ro : Rect S1x16x256x512 := Rect.unit (s := S1x16x256x512) ![0, j.val, 0, 0] S1x1x256x512.size ho

theorem emb_o (o : Fin 256) (k : Fin 512) : (ro j ho).emb (ix4 0 0 o k) = ix4 0 j o k := funext fun a => Fin.ext (match a with
  | ⟨0, _⟩ => by show 0 + 1 * 0 = 0; omega
  | ⟨1, _⟩ => by show j.val + 1 * 0 = j.val; omega
  | ⟨2, _⟩ => by show 0 + 1 * o.val = o.val; omega
  | ⟨3, _⟩ => by show 0 + 1 * k.val = k.val; omega)
theorem emb_w (o i : Fin 256) : (rw j hw).emb (ix3 0 o i) = ix3 j o i := funext fun a => Fin.ext (match a with
  | ⟨0, _⟩ => by show j.val + 1 * 0 = j.val; omega
  | ⟨1, _⟩ => by show 0 + 1 * o.val = o.val; omega
  | ⟨2, _⟩ => by show 0 + 1 * i.val = i.val; omega)
theorem emb_u (i : Fin 128) (k : Fin 512) : (ru j hu).emb (ix5 0 0 0 i k) = ix5 0 0 j i k := funext fun a => Fin.ext (match a with
  | ⟨0, _⟩ => by show 0 + 1 * 0 = 0; omega
  | ⟨1, _⟩ => by show 0 + 1 * 0 = 0; omega
  | ⟨2, _⟩ => by show j.val + 1 * 0 = j.val; omega
  | ⟨3, _⟩ => by show 0 + 1 * i.val = i.val; omega
  | ⟨4, _⟩ => by show 0 + 1 * k.val = k.val; omega)
theorem emb_v (i : Fin 128) (k : Fin 512) : (rv j hv).emb (ix5 0 0 0 i k) = ix5 0 1 j i k := funext fun a => Fin.ext (match a with
  | ⟨0, _⟩ => by show 0 + 1 * 0 = 0; omega
  | ⟨1, _⟩ => by show 1 + 1 * 0 = 1; omega
  | ⟨2, _⟩ => by show j.val + 1 * 0 = j.val; omega
  | ⟨3, _⟩ => by show 0 + 1 * i.val = i.val; omega
  | ⟨4, _⟩ => by show 0 + 1 * k.val = k.val; omega)

theorem ld_w (o i : Fin 256) : View.ld w (rw j hw) (ix3 0 o i) = w (ix3 j o i) := congrArg w (emb_w j hw o i)
theorem ld_u (i : Fin 128) (k : Fin 512) : View.ld x (ru j hu) (ix5 0 0 0 i k) = x (ix5 0 0 j i k) := congrArg x (emb_u j hu i k)
theorem ld_v (i : Fin 128) (k : Fin 512) : View.ld x (rv j hv) (ix5 0 0 0 i k) = x (ix5 0 1 j i k) := congrArg x (emb_v j hv i k)

/-- A slab's product over the loaded pieces is the block's. -/
theorem slab_ld (o : Fin 256) (k : Fin 512) :
    slab (View.ld w (rw j hw)) (View.ld x (ru j hu)) (View.ld x (rv j hv)) (ix2 o k) = blockRow x w j o k := by
  refine (slab_apply _ _ _ o k).trans ?_
  exact part_congr (fun i => ld_w w j hw o _) (fun i => ld_w w j hw o _) (fun i => ld_u x j hu i k) fun i => ld_v x j hv i k

/-- A slab's result, stored where it belongs. -/
theorem piece (z : S1x1x256x512.Idx) :
    scaled (View.ld w (rw j hw)) (View.ld x (ru j hu)) (View.ld x (rv j hv)) (View.ld n r0_3) z = blockVal x w n ((ro j ho).emb z) := by
  obtain ⟨a, b, o, k, rfl⟩ : ∃ (a : Fin 1) (b : Fin 1) (o : Fin 256) (k : Fin 512), z = ix4 a b o k :=
    ⟨z 0, z 1, z 2, z 3, eq_ix4 z⟩
  obtain rfl : a = 0 := Subsingleton.elim _ _
  obtain rfl : b = 0 := Subsingleton.elim _ _
  refine (scaled_apply _ _ _ _ o k).trans ?_
  rw [emb_o j ho o k, ld_n n]
  exact congrArg (· * n (ix3 0 0 k)) (slab_ld x w j hw hu hv o k)
end Pieces

/-- The result's block after the body. -/
theorem out3_apply (x : Vec Ideal S1x2x16x128x512 .bf16) (w : Vec Ideal S16x256x256 .bf16) (n : Vec Ideal S1x1x512 .f32)
    (y : S1x16x256x512.Idx) : out0_3 (F := Ideal) x w n y = blockVal x w n y := by
  unfold out0_3
  refine View.canon_apply_of_pieces (Val := Elt Ideal) (blockVal x w n) _ ?_ y (cover0_3 _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl
  · exact piece x w n 15 _ _ _ inb_S1x16x256x512_S1x1x256x512_0_15_0_0 z
  · exact piece x w n 14 _ _ _ inb_S1x16x256x512_S1x1x256x512_0_14_0_0 z
  · exact piece x w n 13 _ _ _ inb_S1x16x256x512_S1x1x256x512_0_13_0_0 z
  · exact piece x w n 12 _ _ _ inb_S1x16x256x512_S1x1x256x512_0_12_0_0 z
  · exact piece x w n 11 _ _ _ inb_S1x16x256x512_S1x1x256x512_0_11_0_0 z
  · exact piece x w n 10 _ _ _ inb_S1x16x256x512_S1x1x256x512_0_10_0_0 z
  · exact piece x w n 9 _ _ _ inb_S1x16x256x512_S1x1x256x512_0_9_0_0 z
  · exact piece x w n 8 _ _ _ inb_S1x16x256x512_S1x1x256x512_0_8_0_0 z
  · exact piece x w n 7 _ _ _ inb_S1x16x256x512_S1x1x256x512_0_7_0_0 z
  · exact piece x w n 6 _ _ _ inb_S1x16x256x512_S1x1x256x512_0_6_0_0 z
  · exact piece x w n 5 _ _ _ inb_S1x16x256x512_S1x1x256x512_0_5_0_0 z
  · exact piece x w n 4 _ _ _ inb_S1x16x256x512_S1x1x256x512_0_4_0_0 z
  · exact piece x w n 3 _ _ _ inb_S1x16x256x512_S1x1x256x512_0_3_0_0 z
  · exact piece x w n 2 _ _ _ inb_S1x16x256x512_S1x1x256x512_0_2_0_0 z
  · exact piece x w n 1 _ _ _ inb_S1x16x256x512_S1x1x256x512_0_1_0_0 z
  · exact piece x w n 0 _ _ _ inb_S1x16x256x512_S1x1x256x512_0_0_0_0 z

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x2x128x128x512 .bf16 := m ((c : Thread nD τ).loc main_arg0)
abbrev a1 (c : Dev nD) : FVec Ideal S128x128x128 .f32 := m ((c : Thread nD τ).loc main_arg1)
abbrev a2 (c : Dev nD) : FVec Ideal S128x128x128 .f32 := m ((c : Thread nD τ).loc main_arg2)
abbrev a3 (c : Dev nD) : FVec Ideal S2x1x512 .f32 := m ((c : Thread nD τ).loc main_arg3)

/-- The tables in real form: cosines and sines, and under them the sines negated and the cosines. -/
def table (c : Dev nD) : S128x256x256.Idx → EReal :=
  concatenate S128x256x256 1 [⟨S128x128x256, concatenate S128x128x256 2 [⟨S128x128x128, a1 m c⟩, ⟨S128x128x128, a2 m c⟩] concatenates_S128x128x128_S128x128x128_S128x128x256_d2⟩,
    ⟨S128x128x256, concatenate S128x128x256 2 [⟨S128x128x128, fun i => -(a2 m c i)⟩, ⟨S128x128x128, a1 m c⟩] concatenates_S128x128x128_S128x128x128_S128x128x256_d2⟩]
    concatenates_S128x128x256_S128x128x256_S128x256x256_d1

theorem V_w (c : Dev nD) : V m c main_v4 = table m c := by
  show StableHlo.after hostOps0 _ _ = _
  after_results
  rfl

/-- The tables' rows, a half at a time. -/
theorem row_re_lo (c : Dev nD) (s : Fin 128) (o i : Fin 128) : table m c (ix3 s (lo 256 rfl o) (lo 256 rfl i)) = a1 m c (ix3 s o i) :=
  (rows3_lo rfl _ _ _ s o _).trans (cols3_lo rfl _ _ _ s o i)
theorem row_re_hi (c : Dev nD) (s : Fin 128) (o i : Fin 128) : table m c (ix3 s (lo 256 rfl o) (hi 256 rfl i)) = a2 m c (ix3 s o i) :=
  (rows3_lo rfl _ _ _ s o _).trans (cols3_hi rfl _ _ _ s o i)
theorem row_im_lo (c : Dev nD) (s : Fin 128) (o i : Fin 128) : table m c (ix3 s (hi 256 rfl o) (lo 256 rfl i)) = -(a2 m c (ix3 s o i)) :=
  (rows3_hi rfl _ _ _ s o _).trans (cols3_lo rfl _ _ _ s o i)
theorem row_im_hi (c : Dev nD) (s : Fin 128) (o i : Fin 128) : table m c (ix3 s (hi 256 rfl o) (hi 256 rfl i)) = a1 m c (ix3 s o i) :=
  (rows3_hi rfl _ _ _ s o _).trans (cols3_hi rfl _ _ _ s o i)

/-- Where each window's block lies at each point (decided over the points). -/
theorem idx_facts : ∀ t : Fin grid0.N,
    (win0_0.index t 0 = t.val / 8 ∧ win0_0.index t 1 = 0 ∧ win0_0.index t 2 = t.val % 8 ∧ win0_0.index t 3 = 0 ∧ win0_0.index t 4 = 0)
    ∧ (win0_1.index t 0 = t.val % 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = t.val % 8 ∧ win0_3.index t 2 = 0 ∧ win0_3.index t 3 = 0) := by
  decide +kernel

/-- The batch of a point, and the slab that its block has at `s`. -/
def batch (t : Fin cfg0.N) : Fin 2 := ⟨t.val / 8, by
  have h : t.val < 16 := lt_of_lt_of_eq t.isLt N_0; omega⟩
def pos (t : Fin cfg0.N) (s : Fin 16) : Fin 128 := ⟨t.val % 8 * 16 + s.val, by omega⟩

theorem iblk0_apply (c : Dev nD) (t : Fin cfg0.N) (h : Fin 2) (s : Fin 16) (i : Fin 128) (k : Fin 512) :
    iblk m c 0 t (ix5 0 h s i k) = a0 m c (ix5 (batch t) h (pos t s) i k) := by
  show V m c main_arg0 (((cfg0.win 0).blk t).view.emb (ix5 0 h s i k)) = _
  refine (congrFun (V_main_arg0 m c) _).trans (congrArg (a0 m c) (funext fun a => Fin.ext ?_))
  have f := (idx_facts t).1
  match a with
  | ⟨0, _⟩ => show win0_0.index t 0 * 1 + 1 * 0 = t.val / 8; rw [f.1]; omega
  | ⟨1, _⟩ => show win0_0.index t 1 * 2 + 1 * h.val = h.val; rw [f.2.1]; omega
  | ⟨2, _⟩ => show win0_0.index t 2 * 16 + 1 * s.val = t.val % 8 * 16 + s.val; rw [f.2.2.1]; omega
  | ⟨3, _⟩ => show win0_0.index t 3 * 128 + 1 * i.val = i.val; rw [f.2.2.2.1]; omega
  | ⟨4, _⟩ => show win0_0.index t 4 * 512 + 1 * k.val = k.val; rw [f.2.2.2.2]; omega

theorem iblk1_apply (c : Dev nD) (t : Fin cfg0.N) (s : Fin 16) (o i : Fin 256) :
    iblk m c 1 t (ix3 s o i) = table m c (ix3 (pos t s) o i) := by
  show V m c main_v4 (((cfg0.win 1).blk t).view.emb (ix3 s o i)) = _
  refine (congrFun (V_w m c) _).trans (congrArg (table m c) (funext fun a => Fin.ext ?_))
  have f := (idx_facts t).2.1
  match a with
  | ⟨0, _⟩ => show win0_1.index t 0 * 16 + 1 * s.val = t.val % 8 * 16 + s.val; rw [f.1]; omega
  | ⟨1, _⟩ => show win0_1.index t 1 * 256 + 1 * o.val = o.val; rw [f.2.1]; omega
  | ⟨2, _⟩ => show win0_1.index t 2 * 256 + 1 * i.val = i.val; rw [f.2.2]; omega

theorem iblk2_apply (c : Dev nD) (t : Fin cfg0.N) (k : Fin 512) :
    iblk m c 2 t (ix3 0 0 k) = a3 m c (ix3 (batch t) 0 k) := by
  show V m c main_arg3 (((cfg0.win 2).blk t).view.emb (ix3 0 0 k)) = _
  refine (congrFun (V_main_arg3 m c) _).trans (congrArg (a3 m c) (funext fun a => Fin.ext ?_))
  have f := (idx_facts t).2.2.1
  match a with
  | ⟨0, _⟩ => show win0_2.index t 0 * 1 + 1 * 0 = t.val / 8; rw [f.1]; omega
  | ⟨1, _⟩ => show win0_2.index t 1 * 1 + 1 * 0 = 0; rw [f.2.1]
  | ⟨2, _⟩ => show win0_2.index t 2 * 512 + 1 * k.val = k.val; rw [f.2.2]; omega

/-! ## The result array -/

/-- The whole stage at a batch, a slab, a row of the slab's table and a channel. -/
def full (c : Dev nD) (b : Fin 2) (s : Fin 128) (o : Fin 256) (k : Fin 512) : EReal :=
  part (fun i : Fin 128 => table m c (ix3 s o (lo 256 rfl i))) (fun i => table m c (ix3 s o (hi 256 rfl i)))
    (fun i => a0 m c (ix5 b 0 s i k)) (fun i => a0 m c (ix5 b 1 s i k))

def G3 (c : Dev nD) : Buf (Elt Ideal) ((c : Thread nD τ).loc main_v5) :=
  fun i : S2x128x256x512.Idx => full m c (i 0) (i 1) (i 2) (i 3) * a3 m c (ix3 (i 0) 0 (i 3))

/-- A point's block of the stage is the whole stage at the point's filter and slabs. -/
theorem block_eq (c : Dev nD) (t : Fin cfg0.N) (s : Fin 16) (o : Fin 256) (k : Fin 512) :
    blockRow (iblk m c 0 t) (iblk m c 1 t) s o k = full m c (batch t) (pos t s) o k := by
  unfold blockRow full
  simp only [iblk0_apply, iblk1_apply]

theorem flushed3_eq (c : Dev nD) (t : Fin cfg0.N) :
    (dats m 0 c).flushed 3 t = ((cfg0.win 3).blk t).view.read (Elt Ideal) (G3 m c) := by
  rw [Value.flushed3]
  funext y
  show out0_3 _ _ _ y = G3 m c (((cfg0.win 3).blk t).view.emb y)
  have h0 : (y 0).val = 0 := Nat.lt_one_iff.1 (y 0).isLt
  have f := (idx_facts t).2.2.2
  have e0 : batch t = (((cfg0.win 3).blk t).view.emb y) 0 := Fin.ext (by
    show t.val / 8 = win0_3.index t 0 * 1 + 1 * (y 0).val; rw [f.1, h0]; omega)
  have e1 : pos t (y 1) = (((cfg0.win 3).blk t).view.emb y) 1 := Fin.ext (by
    show t.val % 8 * 16 + (y 1).val = win0_3.index t 1 * 16 + 1 * (y 1).val; rw [f.2.1]; omega)
  have e2 : (y 2 : Fin 256) = (((cfg0.win 3).blk t).view.emb y) 2 := Fin.ext (by
    show (y 2).val = win0_3.index t 2 * 256 + 1 * (y 2).val; rw [f.2.2.1]; omega)
  have e3 : (y 3 : Fin 512) = (((cfg0.win 3).blk t).view.emb y) 3 := Fin.ext (by
    show (y 3).val = win0_3.index t 3 * 512 + 1 * (y 3).val; rw [f.2.2.2]; omega)
  refine (out3_apply _ _ _ y).trans ((congr (congrArg HMul.hMul (block_eq m c t _ _ _)) (iblk2_apply m c t _)).trans ?_)
  exact congr (congrArg HMul.hMul (congr (congr (congr (congrArg (full m c) e0) e1) e2) e3))
    (congrArg (a3 m c) (congrArg₂ (fun (a : Fin 2) (k : Fin 512) => (ix3 a 0 k : S2x1x512.Idx)) e0 e3))

/-- The point whose block holds an index. -/
def pointOf (i : S2x128x256x512.Idx) : Fin cfg0.N := ⟨(i 0).val * 8 + (i 1).val / 16, by
  have h0 : (i 0).val < 2 := (i 0).isLt
  have h : (i 1).val < 128 := (i 1).isLt
  have hN : cfg0.N = 16 := N_0
  omega⟩

theorem mem3 (i : S2x128x256x512.Idx) : i ∈ ((cfg0.win 3).blk (pointOf i)).view.set := by
  show i ∈ ((View.whole main_v5).slice (win0_3.rect (pointOf i))).set
  rw [View.set_slice_whole, Rect.mem_set_unit]
  have h0 : (i 0).val < 2 := (i 0).isLt
  have h1 : (i 1).val < 128 := (i 1).isLt
  have h2 : (i 2).val < 256 := (i 2).isLt
  have h3 : (i 3).val < 512 := (i 3).isLt
  have f := (idx_facts (pointOf i)).2.2.2
  have hp : (pointOf i).val = (i 0).val * 8 + (i 1).val / 16 := rfl
  intro a
  match a with
  | ⟨0, _⟩ =>
    show win0_3.index (pointOf i) 0 * 1 ≤ (i 0).val ∧ (i 0).val < win0_3.index (pointOf i) 0 * 1 + 1
    rw [f.1, hp]; omega
  | ⟨1, _⟩ =>
    show win0_3.index (pointOf i) 1 * 16 ≤ (i 1).val ∧ (i 1).val < win0_3.index (pointOf i) 1 * 16 + 16
    rw [f.2.1, hp]; omega
  | ⟨2, _⟩ =>
    show win0_3.index (pointOf i) 2 * 256 ≤ (i 2).val ∧ (i 2).val < win0_3.index (pointOf i) 2 * 256 + 256
    rw [f.2.2.1]; omega
  | ⟨3, _⟩ =>
    show win0_3.index (pointOf i) 3 * 512 ≤ (i 3).val ∧ (i 3).val < win0_3.index (pointOf i) 3 * 512 + 512
    rw [f.2.2.2]; omega

theorem final3 (c : Dev nD) : (dats m 0 c).arrAt 3 cfg0.N = G3 m c :=
  (dats m 0 c).arrAt_eq_of_cover 3 (G3 m c) (fun t _ => flushed3_eq m c t) fun i => ⟨pointOf i, flush0_3 _, mem3 i⟩

end Cert.FiltspecIdeal.Closed

/-! ## The reference -/

namespace Cert.FiltspecRefIdeal.Closed

open Cert.FiltspecRefIdeal Cert.FiltspecRefIdeal.Gen Cert.FiltspecRefIdeal.Read Cert.DftForm

variable (x0 : (⟨S2x2x128x128x512, .bf16⟩ : BufTy).Contents (Elt Ideal)) (x1 x2 : (⟨S128x128x128, .f32⟩ : BufTy).Contents (Elt Ideal))
  (x3 : (⟨S2x1x512, .f32⟩ : BufTy).Contents (Elt Ideal))

/-- The two parts of the taps. -/
theorem re_apply (b : Fin 2) (s : Fin 128) (i : Fin 128) (k : Fin 512) : val_main_v2 (F := Ideal) x0 (ix4 b s i k) = x0 (ix5 b 0 s i k) := by
  pointwise [val_main_v2, val_main_v1, val_main_v0]
theorem im_apply (b : Fin 2) (s : Fin 128) (i : Fin 128) (k : Fin 512) : val_main_v5 (F := Ideal) x0 (ix4 b s i k) = x0 (ix5 b 1 s i k) := by
  pointwise [val_main_v5, val_main_v4, val_main_v3]

/-- The real part of the result, -/
theorem sum_re (b : Fin 2) (s : Fin 128) (o : Fin 128) (k : Fin 512) : val_main_v10 (F := Ideal) x0 x1 x2 (ix4 b s o k)
    = part (fun i : Fin 128 => x0 (ix5 b 0 s i k)) (fun i => x0 (ix5 b 1 s i k)) (fun i => x1 (ix3 s o i)) (fun i => x2 (ix3 s o i)) := by
  simp only [← re_apply, ← im_apply]
  unfold part
  generalize hu : val_main_v2 (F := Ideal) x0 = U
  generalize hv : val_main_v5 (F := Ideal) x0 = W
  pointwise [val_main_v10, val_main_v9, val_main_v8, val_main_v7, val_main_v6, hu, hv]

/-- and the imaginary one. -/
theorem sum_im (b : Fin 2) (s : Fin 128) (o : Fin 128) (k : Fin 512) : val_main_v19 (F := Ideal) x0 x1 x2 (ix4 b s o k)
    = part (fun i : Fin 128 => x0 (ix5 b 0 s i k)) (fun i => x0 (ix5 b 1 s i k)) (fun i => -(x2 (ix3 s o i))) (fun i => x1 (ix3 s o i)) := by
  simp only [← re_apply, ← im_apply]
  unfold part
  generalize hu : val_main_v2 (F := Ideal) x0 = U
  generalize hv : val_main_v5 (F := Ideal) x0 = W
  pointwise [val_main_v19, val_main_v18, val_main_v17, val_main_v16, val_main_v15, val_main_v14, hu, hv]

/-- The result's rows: the real part scaled over the imaginary part scaled. -/
theorem res_re (b : Fin 2) (s : Fin 128) (o : Fin 128) (k : Fin 512) : val_main_v24 (F := Ideal) x0 x1 x2 x3 (ix4 b s (lo 256 rfl o) k)
    = val_main_v10 (F := Ideal) x0 x1 x2 (ix4 b s o k) * x3 (ix3 b 0 k) := by
  generalize hd : val_main_v10 (F := Ideal) x0 x1 x2 = D
  have e : val_main_v13 (F := Ideal) x0 x1 x2 x3 (ix4 b s o k) = D (ix4 b s o k) * x3 (ix3 b 0 k) := by
    pointwise [val_main_v13, val_main_v12, val_main_v11, hd]
  exact (rows4_lo (n := 128) (N := 256) rfl _ _ concatenates_S2x128x128x512_S2x128x128x512_S2x128x256x512_d2 b s o k).trans e
theorem res_im (b : Fin 2) (s : Fin 128) (o : Fin 128) (k : Fin 512) : val_main_v24 (F := Ideal) x0 x1 x2 x3 (ix4 b s (hi 256 rfl o) k)
    = val_main_v19 (F := Ideal) x0 x1 x2 (ix4 b s o k) * x3 (ix3 b 0 k) := by
  generalize hd : val_main_v19 (F := Ideal) x0 x1 x2 = D
  have e : val_main_v22 (F := Ideal) x0 x1 x2 x3 (ix4 b s o k) = D (ix4 b s o k) * x3 (ix3 b 0 k) := by
    pointwise [val_main_v22, val_main_v21, val_main_v20, hd]
  exact (rows4_hi (n := 128) (N := 256) rfl _ _ concatenates_S2x128x128x512_S2x128x128x512_S2x128x256x512_d2 b s o k).trans e

end Cert.FiltspecRefIdeal.Closed

/-! ## The claims -/

namespace Cert.FiltspecClaims

open Cert.DftForm Cert.FiltspecIdeal.Closed

variable (m : (ℓ : Loc Cert.FiltspecIdeal.nD Cert.FiltspecIdeal.τ Cert.FiltspecIdeal.sig) → Buf (Elt Ideal) ℓ) (c : Dev Cert.FiltspecIdeal.nD)

/-- The whole stage's two parts, over the tables of cosines and sines. -/
theorem full_re (b : Fin 2) (s : Fin 128) (o : Fin 128) (k : Fin 512) : full m c b s (lo 256 rfl o) k
    = part (fun i : Fin 128 => a1 m c (ix3 s o i)) (fun i => a2 m c (ix3 s o i)) (fun i => a0 m c (ix5 b 0 s i k)) (fun i => a0 m c (ix5 b 1 s i k)) := by
  unfold full
  simp only [row_re_lo, row_re_hi]
theorem full_im (b : Fin 2) (s : Fin 128) (o : Fin 128) (k : Fin 512) : full m c b s (hi 256 rfl o) k
    = part (fun i : Fin 128 => -(a2 m c (ix3 s o i))) (fun i => a1 m c (ix3 s o i)) (fun i => a0 m c (ix5 b 0 s i k)) (fun i => a0 m c (ix5 b 1 s i k)) := by
  unfold full
  simp only [row_im_lo, row_im_hi]

/-- The reference's result is the kernel's array. -/
theorem res_eq : Cert.FiltspecRefIdeal.Read.val_main_v24 (F := Ideal) (a0 m c) (a1 m c) (a2 m c) (a3 m c) = G3 m c := by
  funext i
  obtain ⟨b, s, o, k, rfl⟩ : ∃ (b : Fin 2) (s : Fin 128) (o : Fin 256) (k : Fin 512), i = ix4 b s o k :=
    ⟨i 0, i 1, i 2, i 3, eq_ix4 i⟩
  show _ = full m c b s o k * a3 m c (ix3 b 0 k)
  obtain ⟨o, rfl⟩ | ⟨o, rfl⟩ := halves (n := 128) rfl o
  · rw [full_re]
    exact (Cert.FiltspecRefIdeal.Closed.res_re _ _ _ _ b s o k).trans (congrArg (· * a3 m c (ix3 b 0 k))
      ((Cert.FiltspecRefIdeal.Closed.sum_re _ _ _ b s o k).trans (part_comm _ _ _ _)))
  · rw [full_im]
    exact (Cert.FiltspecRefIdeal.Closed.res_im _ _ _ _ b s o k).trans (congrArg (· * a3 m c (ix3 b 0 k))
      ((Cert.FiltspecRefIdeal.Closed.sum_im _ _ _ b s o k).trans (part_comm _ _ _ _)))

/-- The stage's kernel and its reference end with the same array. -/
theorem algebraic : Cert.algebraic_FiltspecIdeal_FiltspecRefIdeal := by
  intro m g m' g' _ hag
  refine ⟨fun c => G3 m c,
    (θ_run Cert.FiltspecIdeal.defs _ _).mono (fun r h c => ⟨(h c).1.trans (final3 m c), (h c).2⟩) (Cert.FiltspecIdeal.Value.run_blocks m g),
    (θ_run Cert.FiltspecRefIdeal.defs _ _).mono (fun r h c => ⟨(h c).1.trans ?_, (h c).2⟩) (Cert.FiltspecRefIdeal.Value.run m' g')⟩
  obtain ⟨h0, h1, h2, h3⟩ := hag c
  rw [h0, h1, h2, h3]
  exact (Cert.FiltspecRefIdeal.Read.val_main_v24_eq _ _ _ _).trans (res_eq m c)

/-- The kernel, its idealization and the reference keep their arguments and end quiescent. -/
theorem frame_p : Cert.quiescent_Filtspec := fun m ρ _ => Cert.Filtspec.Gen.frame m ρ
theorem frame_pi : Cert.quiescent_FiltspecIdeal := fun m ρ _ => Cert.FiltspecIdeal.Gen.frame m ρ
theorem frame_ri : Cert.quiescent_FiltspecRefIdeal := fun m ρ _ =>
  (θ_run Cert.FiltspecRefIdeal.defs _ _).mono (fun r h => ⟨fun c => (h c).2,
      Idealize.ShloMosaic.sem_eq_zero_of_no_sems (by decide) r.2⟩) (Cert.FiltspecRefIdeal.Value.run (F := Ideal) m ρ)

end Cert.FiltspecClaims
-- ==== Proof.SpectrumValue.lean ====
/-
  The value of the product of spectra: every slab's inner Fourier stage, its complex product with the slab of the filter's spectrum,
  and the inner stage back through the transposed table.
-/
module

public import proofs.«01_k».proof.Defs
public import proofs.«01_k».proof.Proof.Gen.Spectrum.Frame
public import proofs.«01_k».proof.Proof.Gen.SpectrumIdeal.Value
public import proofs.«01_k».proof.Proof.Gen.SpectrumRefIdeal.Run
public import proofs.«01_k».proof.Proof.Gen.SpectrumRefIdeal.Read
public import proofs.«01_k».proof.Proof.DftForm
public import Idealize.ShloMosaic.Lib.Pipeline.Value
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SpectrumIdeal.Closed

open Cert.SpectrumIdeal Cert.SpectrumIdeal.Gen Cert.DftForm

/-! ## One slab -/

/-- The table of a slab against a joined signal, at an index. -/
theorem prod_apply (w : FVec Ideal S1x256x256 .bf16) (x : FVec Ideal S256x512 .bf16) (o : Fin 256) (k : Fin 512) :
    (matmul dot_S256x256_S256x512_S256x512_1_0_0_1_n_n none (shapeCast S256x256 w shapeCasts_S1x256x256_S256x256) x
      (constant S256x512 .f32 0x00000000#32) : FVec Ideal S256x512 .f32) (ix2 o k) = ∑ i : Fin 256, w (ix3 0 o i) * x (ix2 i k) := by
  pointwise

/-- The two parts of a slab's signal, one over the other. -/
def join (u v : FVec Ideal S1x1x128x512 .bf16) : FVec Ideal S256x512 .bf16 :=
  concatenate S256x512 0 [⟨S128x512, shapeCast S128x512 u shapeCasts_S1x1x128x512_S128x512⟩,
    ⟨S128x512, shapeCast S128x512 v shapeCasts_S1x1x128x512_S128x512⟩] concatenates_S128x512_S128x512_S256x512_d0

theorem join_lo (u v : FVec Ideal S1x1x128x512 .bf16) (i : Fin 128) (k : Fin 512) :
    join u v (ix2 (lo 256 rfl i) k) = u (ix4 0 0 i k) :=
  (rows_lo rfl _ _ _ i k).trans (by pointwise)
theorem join_hi (u v : FVec Ideal S1x1x128x512 .bf16) (i : Fin 128) (k : Fin 512) :
    join u v (ix2 (hi 256 rfl i) k) = v (ix4 0 0 i k) :=
  (rows_hi rfl _ _ _ i k).trans (by pointwise)

/-- A slab's spectrum, in real form. -/
def slab (w : FVec Ideal S1x256x256 .bf16) (u v : FVec Ideal S1x1x128x512 .bf16) : FVec Ideal S256x512 .f32 :=
  matmul dot_S256x256_S256x512_S256x512_1_0_0_1_n_n none (shapeCast S256x256 w shapeCasts_S1x256x256_S256x256) (join u v)
    (constant S256x512 .f32 0x00000000#32)

theorem slab_apply (w : FVec Ideal S1x256x256 .bf16) (u v : FVec Ideal S1x1x128x512 .bf16) (o : Fin 256) (k : Fin 512) :
    slab w u v (ix2 o k) = part (fun i : Fin 128 => w (ix3 0 o (lo 256 rfl i))) (fun i => w (ix3 0 o (hi 256 rfl i)))
      (fun i => u (ix4 0 0 i k)) (fun i => v (ix4 0 0 i k)) :=
  (prod_apply w (join u v) o k).trans (sum_joined (n := 128) (N := 256) rfl (fun i => w (ix3 0 o i)) (fun i => join u v (ix2 i k)) _ _ _ _
    (fun _ => rfl) (fun _ => rfl) (fun i => join_lo u v i k) fun i => join_hi u v i k)

/-- The upper rows of a spectrum are its real part, the lower ones its imaginary part. -/
def top (p : FVec Ideal S256x512 .f32) : FVec Ideal S128x512 .f32 := extractStridedSlice S128x512 ![0, 0] p slices_S256x512_o0_0_S128x512
def bot (p : FVec Ideal S256x512 .f32) : FVec Ideal S128x512 .f32 := extractStridedSlice S128x512 ![128, 0] p slices_S256x512_o128_0_S128x512
theorem top_apply (p : FVec Ideal S256x512 .f32) (i : Fin 128) (k : Fin 512) : top p (ix2 i k) = p (ix2 (lo 256 rfl i) k) := by
  unfold top
  pointwise [lo]
theorem bot_apply (p : FVec Ideal S256x512 .f32) (i : Fin 128) (k : Fin 512) : bot p (ix2 i k) = p (ix2 (hi 256 rfl i) k) := by
  unfold bot
  pointwise [hi]

/-- The filter's slab as a spectrum. -/
def filt (f : FVec Ideal S1x1x256x512 .bf16) : FVec Ideal S256x512 .f32 :=
  extf .f32 (shapeCast S256x512 f shapeCasts_S1x1x256x512_S256x512) bitsLt_bf16_f32
theorem filt_apply (f : FVec Ideal S1x1x256x512 .bf16) (o : Fin 256) (k : Fin 512) : filt f (ix2 o k) = f (ix4 0 0 o k) := by
  unfold filt
  pointwise

/-- The complex product of two spectra. -/
def times (p q : FVec Ideal S256x512 .f32) : FVec Ideal S256x512 .bf16 :=
  truncf .bf16 (concatenate S256x512 0 [⟨S128x512, subf (mulf (top p) (top q)) (mulf (bot p) (bot q))⟩,
    ⟨S128x512, addf (mulf (top p) (bot q)) (mulf (bot p) (top q))⟩] concatenates_S128x512_S128x512_S256x512_d0) bitsLt_bf16_f32
theorem times_lo (p q : FVec Ideal S256x512 .f32) (i : Fin 128) (k : Fin 512) : times p q (ix2 (lo 256 rfl i) k)
    = p (ix2 (lo 256 rfl i) k) * q (ix2 (lo 256 rfl i) k) - p (ix2 (hi 256 rfl i) k) * q (ix2 (hi 256 rfl i) k) := by
  refine (rows_lo (n := 128) (N := 256) rfl _ _ concatenates_S128x512_S128x512_S256x512_d0 i k).trans ?_
  show top p (ix2 i k) * top q (ix2 i k) - bot p (ix2 i k) * bot q (ix2 i k) = _
  rw [top_apply, top_apply, bot_apply, bot_apply]
theorem times_hi (p q : FVec Ideal S256x512 .f32) (i : Fin 128) (k : Fin 512) : times p q (ix2 (hi 256 rfl i) k)
    = p (ix2 (lo 256 rfl i) k) * q (ix2 (hi 256 rfl i) k) + p (ix2 (hi 256 rfl i) k) * q (ix2 (lo 256 rfl i) k) := by
  refine (rows_hi (n := 128) (N := 256) rfl _ _ concatenates_S128x512_S128x512_S256x512_d0 i k).trans ?_
  show top p (ix2 i k) * bot q (ix2 i k) + bot p (ix2 i k) * top q (ix2 i k) = _
  rw [top_apply, top_apply, bot_apply, bot_apply]

/-- The stage back: the second table against the product. -/
def back (w' : FVec Ideal S1x256x256 .bf16) (x : FVec Ideal S256x512 .bf16) : FVec Ideal S256x512 .f32 :=
  matmul dot_S256x256_S256x512_S256x512_1_0_0_1_n_n none (shapeCast S256x256 w' shapeCasts_S1x256x256_S256x256) x
    (constant S256x512 .f32 0x00000000#32)

/-- A slab's whole result, in real form. -/
def slabOut (w w' : FVec Ideal S1x256x256 .bf16) (u v : FVec Ideal S1x1x128x512 .bf16) (f : FVec Ideal S1x1x256x512 .bf16) :
    FVec Ideal S256x512 .f32 := back w' (times (slab w u v) (filt f))

/-- The complex product of two numbers, part by part. -/
def prodRe (a b c d : EReal) : EReal := a * c - b * d
def prodIm (a b c d : EReal) : EReal := a * d + b * c

theorem slabOut_apply (w w' : FVec Ideal S1x256x256 .bf16) (u v : FVec Ideal S1x1x128x512 .bf16) (f : FVec Ideal S1x1x256x512 .bf16)
    (o : Fin 256) (k : Fin 512) : slabOut w w' u v f (ix2 o k)
      = part (fun i : Fin 128 => w' (ix3 0 o (lo 256 rfl i))) (fun i => w' (ix3 0 o (hi 256 rfl i)))
        (fun i => prodRe (slab w u v (ix2 (lo 256 rfl i) k)) (slab w u v (ix2 (hi 256 rfl i) k)) (f (ix4 0 0 (lo 256 rfl i) k)) (f (ix4 0 0 (hi 256 rfl i) k)))
        (fun i => prodIm (slab w u v (ix2 (lo 256 rfl i) k)) (slab w u v (ix2 (hi 256 rfl i) k)) (f (ix4 0 0 (lo 256 rfl i) k)) (f (ix4 0 0 (hi 256 rfl i) k))) := by
  refine (prod_apply w' (times (slab w u v) (filt f)) o k).trans (sum_joined (n := 128) (N := 256) rfl (fun i => w' (ix3 0 o i))
    (fun i => times (slab w u v) (filt f) (ix2 i k)) _ _ _ _ (fun _ => rfl) (fun _ => rfl) (fun i => ?_) fun i => ?_)
  · refine (times_lo _ _ i k).trans ?_
    rw [filt_apply, filt_apply]
    rfl
  · refine (times_hi _ _ i k).trans ?_
    rw [filt_apply, filt_apply]
    rfl

/-- The two parts of it, as they are stored. -/
def stored (p : FVec Ideal S128x512 .f32) : FVec Ideal S1x1x128x512 .bf16 :=
  shapeCast S1x1x128x512 (truncf .bf16 p bitsLt_bf16_f32) shapeCasts_S128x512_S1x1x128x512
theorem stored_apply (p : FVec Ideal S128x512 .f32) (i : Fin 128) (k : Fin 512) : stored p (ix4 0 0 i k) = p (ix2 i k) := by
  unfold stored
  pointwise

/-! ## The body's block, a slab and a part at a time -/

/-- A row of a slab's table in the block against the slab's signal in the block. -/
def blockRow (x : Vec Ideal S2x16x128x512 .bf16) (w : Vec Ideal S16x256x256 .bf16) (s : Fin 16) (o : Fin 256) (k : Fin 512) : EReal :=
  part (fun i : Fin 128 => w (ix3 s o (lo 256 rfl i))) (fun i => w (ix3 s o (hi 256 rfl i)))
    (fun i => x (ix4 0 s i k)) (fun i => x (ix4 1 s i k))

/-- A row of the slab's second table against the product of the slab's spectra. -/
def blockOut (x : Vec Ideal S2x16x128x512 .bf16) (w w' : Vec Ideal S16x256x256 .bf16) (f : Vec Ideal S1x16x256x512 .bf16)
    (s : Fin 16) (o : Fin 256) (k : Fin 512) : EReal :=
  part (fun i : Fin 128 => w' (ix3 s o (lo 256 rfl i))) (fun i => w' (ix3 s o (hi 256 rfl i)))
    (fun i => prodRe (blockRow x w s (lo 256 rfl i) k) (blockRow x w s (hi 256 rfl i) k) (f (ix4 0 s (lo 256 rfl i) k)) (f (ix4 0 s (hi 256 rfl i) k)))
    (fun i => prodIm (blockRow x w s (lo 256 rfl i) k) (blockRow x w s (hi 256 rfl i) k) (f (ix4 0 s (lo 256 rfl i) k)) (f (ix4 0 s (hi 256 rfl i) k)))

/-- The row of a table that holds a part's row. -/
def row (h : Fin 2) (p : Fin 128) : Fin 256 := ⟨h.val * 128 + p.val, by omega⟩
theorem row_zero (p : Fin 128) : row 0 p = lo 256 rfl p := Fin.ext (by show 0 * 128 + p.val = p.val; omega)
theorem row_one (p : Fin 128) : row 1 p = hi 256 rfl p := Fin.ext (by show 1 * 128 + p.val = 128 + p.val; omega)

/-- The block at an index. -/
def blockVal (x : Vec Ideal S2x16x128x512 .bf16) (w w' : Vec Ideal S16x256x256 .bf16) (f : Vec Ideal S1x16x256x512 .bf16)
    (y : S2x16x128x512.Idx) : EReal :=
  blockOut x w w' f (y 1) (row (y 0) (y 2)) (y 3)

section Pieces
variable (x : Vec Ideal S2x16x128x512 .bf16) (w w' : Vec Ideal S16x256x256 .bf16) (f : Vec Ideal S1x16x256x512 .bf16) (j : Fin 16)
  (hw : ∀ a, (![j.val, 0, 0] : Fin 3 → Nat) a + S1x256x256.size a ≤ S16x256x256.size a)
  (hu : ∀ a, (![0, j.val, 0, 0] : Fin 4 → Nat) a + S1x1x128x512.size a ≤ S2x16x128x512.size a)
  (hv : ∀ a, (![1, j.val, 0, 0] : Fin 4 → Nat) a + S1x1x128x512.size a ≤ S2x16x128x512.size a)
  (hf : ∀ a, (![0, j.val, 0, 0] : Fin 4 → Nat) a + S1x1x256x512.size a ≤ S1x16x256x512.size a)

/-- The slab's rectangles: of its tables, of the two parts of its signal, and of its filter. -/
abbrev rw : Rect S16x256x256 := Rect.unit (s := S16x256x256) ![j.val, 0, 0] S1x256x256.size hw
abbrev ru : Rect S2x16x128x512 := Rect.unit (s := S2x16x128x512) ![0, j.val, 0, 0] S1x1x128x512.size hu
abbrev rv : Rect S2x16x128x512 := Rect.unit (s := S2x16x128x512) ![1, j.val, 0, 0] S1x1x128x512.size hv
abbrev rf : Rect S1x16x256x512 := Rect.unit (s := S1x16x256x512) ![0, j.val, 0, 0] S1x1x256x512.size hf

theorem emb_w (o i : Fin 256) : (rw j hw).emb (ix3 0 o i) = ix3 j o i := funext fun a => Fin.ext (match a with
  | ⟨0, _⟩ => by show j.val + 1 * 0 = j.val; omega
  | ⟨1, _⟩ => by show 0 + 1 * o.val = o.val; omega
  | ⟨2, _⟩ => by show 0 + 1 * i.val = i.val; omega)
theorem emb_u (i : Fin 128) (k : Fin 512) : (ru j hu).emb (ix4 0 0 i k) = ix4 0 j i k := funext fun a => Fin.ext (match a with
  | ⟨0, _⟩ => by show 0 + 1 * 0 = 0; omega
  | ⟨1, _⟩ => by show j.val + 1 * 0 = j.val; omega
  | ⟨2, _⟩ => by show 0 + 1 * i.val = i.val; omega
  | ⟨3, _⟩ => by show 0 + 1 * k.val = k.val; omega)
theorem emb_v (i : Fin 128) (k : Fin 512) : (rv j hv).emb (ix4 0 0 i k) = ix4 1 j i k := funext fun a => Fin.ext (match a with
  | ⟨0, _⟩ => by show 1 + 1 * 0 = 1; omega
  | ⟨1, _⟩ => by show j.val + 1 * 0 = j.val; omega
  | ⟨2, _⟩ => by show 0 + 1 * i.val = i.val; omega
  | ⟨3, _⟩ => by show 0 + 1 * k.val = k.val; omega)
theorem emb_f (o : Fin 256) (k : Fin 512) : (rf j hf).emb (ix4 0 0 o k) = ix4 0 j o k := funext fun a => Fin.ext (match a with
  | ⟨0, _⟩ => by show 0 + 1 * 0 = 0; omega
  | ⟨1, _⟩ => by show j.val + 1 * 0 = j.val; omega
  | ⟨2, _⟩ => by show 0 + 1 * o.val = o.val; omega
  | ⟨3, _⟩ => by show 0 + 1 * k.val = k.val; omega)

theorem ld_w (o i : Fin 256) : View.ld w (rw j hw) (ix3 0 o i) = w (ix3 j o i) := congrArg w (emb_w j hw o i)
theorem ld_u (i : Fin 128) (k : Fin 512) : View.ld x (ru j hu) (ix4 0 0 i k) = x (ix4 0 j i k) := congrArg x (emb_u j hu i k)
theorem ld_v (i : Fin 128) (k : Fin 512) : View.ld x (rv j hv) (ix4 0 0 i k) = x (ix4 1 j i k) := congrArg x (emb_v j hv i k)
theorem ld_f (o : Fin 256) (k : Fin 512) : View.ld f (rf j hf) (ix4 0 0 o k) = f (ix4 0 j o k) := congrArg f (emb_f j hf o k)

/-- A slab's spectrum over the loaded pieces is the block's. -/
theorem slab_ld (o : Fin 256) (k : Fin 512) :
    slab (View.ld w (rw j hw)) (View.ld x (ru j hu)) (View.ld x (rv j hv)) (ix2 o k) = blockRow x w j o k := by
  refine (slab_apply _ _ _ o k).trans ?_
  exact part_congr (fun i => ld_w w j hw o _) (fun i => ld_w w j hw o _) (fun i => ld_u x j hu i k) fun i => ld_v x j hv i k

/-- Complex products of equal numbers are equal. -/
theorem prodRe_congr {a b c d a' b' c' d' : EReal} (ha : a = a') (hb : b = b') (hc : c = c') (hd : d = d') :
    prodRe a b c d = prodRe a' b' c' d' := by rw [ha, hb, hc, hd]
theorem prodIm_congr {a b c d a' b' c' d' : EReal} (ha : a = a') (hb : b = b') (hc : c = c') (hd : d = d') :
    prodIm a b c d = prodIm a' b' c' d' := by rw [ha, hb, hc, hd]

/-- A slab's whole result over the loaded pieces is the block's. -/
theorem slabOut_ld (o : Fin 256) (k : Fin 512) :
    slabOut (View.ld w (rw j hw)) (View.ld w' (rw j hw)) (View.ld x (ru j hu)) (View.ld x (rv j hv)) (View.ld f (rf j hf)) (ix2 o k)
      = blockOut x w w' f j o k := by
  refine (slabOut_apply _ _ _ _ _ o k).trans ?_
  exact part_congr (fun i => ld_w w' j hw o _) (fun i => ld_w w' j hw o _)
    (fun i => prodRe_congr (slab_ld x w j hw hu hv _ k) (slab_ld x w j hw hu hv _ k) (ld_f f j hf _ k) (ld_f f j hf _ k))
    fun i => prodIm_congr (slab_ld x w j hw hu hv _ k) (slab_ld x w j hw hu hv _ k) (ld_f f j hf _ k) (ld_f f j hf _ k)

theorem ix4_of (z : S1x1x128x512.Idx) : ∃ (p : Fin 128) (k : Fin 512), z = ix4 0 0 p k := by
  obtain ⟨a, b, p, k, rfl⟩ : ∃ (a : Fin 1) (b : Fin 1) (p : Fin 128) (k : Fin 512), z = ix4 a b p k :=
    ⟨z 0, z 1, z 2, z 3, eq_ix4 z⟩
  obtain rfl : a = 0 := Subsingleton.elim _ _
  obtain rfl : b = 0 := Subsingleton.elim _ _
  exact ⟨p, k, rfl⟩

/-- The real part of a slab, stored where it belongs, -/
theorem piece_re (z : S1x1x128x512.Idx) :
    stored (top (slabOut (View.ld w (rw j hw)) (View.ld w' (rw j hw)) (View.ld x (ru j hu)) (View.ld x (rv j hv)) (View.ld f (rf j hf)))) z
      = blockVal x w w' f ((ru j hu).emb z) := by
  obtain ⟨p, k, rfl⟩ := ix4_of z
  refine (stored_apply _ p k).trans ((top_apply _ p k).trans ((slabOut_ld x w w' f j hw hu hv hf _ k).trans ?_))
  rw [emb_u j hu p k, ← row_zero]
  rfl
/-- and the imaginary one. -/
theorem piece_im (z : S1x1x128x512.Idx) :
    stored (bot (slabOut (View.ld w (rw j hw)) (View.ld w' (rw j hw)) (View.ld x (ru j hu)) (View.ld x (rv j hv)) (View.ld f (rf j hf)))) z
      = blockVal x w w' f ((rv j hv).emb z) := by
  obtain ⟨p, k, rfl⟩ := ix4_of z
  refine (stored_apply _ p k).trans ((bot_apply _ p k).trans ((slabOut_ld x w w' f j hw hu hv hf _ k).trans ?_))
  rw [emb_v j hv p k, ← row_one]
  rfl
end Pieces

/-- The result's block after the body. -/
theorem out4_apply (x : Vec Ideal S2x16x128x512 .bf16) (w w' : Vec Ideal S16x256x256 .bf16) (f : Vec Ideal S1x16x256x512 .bf16)
    (y : S2x16x128x512.Idx) : out0_4 (F := Ideal) x w w' f y = blockVal x w w' f y := by
  unfold out0_4
  refine View.canon_apply_of_pieces (Val := Elt Ideal) (blockVal x w w' f) _ ?_ y (cover0_4 _ _ _ _ _ _ _ _ _ _ _ _ _ _ _ _ _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_im x w w' f 15 _ _ _ inb_S1x16x256x512_S1x1x256x512_0_15_0_0 z
  · exact piece_re x w w' f 15 _ _ inb_S2x16x128x512_S1x1x128x512_1_15_0_0 inb_S1x16x256x512_S1x1x256x512_0_15_0_0 z
  · exact piece_im x w w' f 14 _ _ _ inb_S1x16x256x512_S1x1x256x512_0_14_0_0 z
  · exact piece_re x w w' f 14 _ _ inb_S2x16x128x512_S1x1x128x512_1_14_0_0 inb_S1x16x256x512_S1x1x256x512_0_14_0_0 z
  · exact piece_im x w w' f 13 _ _ _ inb_S1x16x256x512_S1x1x256x512_0_13_0_0 z
  · exact piece_re x w w' f 13 _ _ inb_S2x16x128x512_S1x1x128x512_1_13_0_0 inb_S1x16x256x512_S1x1x256x512_0_13_0_0 z
  · exact piece_im x w w' f 12 _ _ _ inb_S1x16x256x512_S1x1x256x512_0_12_0_0 z
  · exact piece_re x w w' f 12 _ _ inb_S2x16x128x512_S1x1x128x512_1_12_0_0 inb_S1x16x256x512_S1x1x256x512_0_12_0_0 z
  · exact piece_im x w w' f 11 _ _ _ inb_S1x16x256x512_S1x1x256x512_0_11_0_0 z
  · exact piece_re x w w' f 11 _ _ inb_S2x16x128x512_S1x1x128x512_1_11_0_0 inb_S1x16x256x512_S1x1x256x512_0_11_0_0 z
  · exact piece_im x w w' f 10 _ _ _ inb_S1x16x256x512_S1x1x256x512_0_10_0_0 z
  · exact piece_re x w w' f 10 _ _ inb_S2x16x128x512_S1x1x128x512_1_10_0_0 inb_S1x16x256x512_S1x1x256x512_0_10_0_0 z
  · exact piece_im x w w' f 9 _ _ _ inb_S1x16x256x512_S1x1x256x512_0_9_0_0 z
  · exact piece_re x w w' f 9 _ _ inb_S2x16x128x512_S1x1x128x512_1_9_0_0 inb_S1x16x256x512_S1x1x256x512_0_9_0_0 z
  · exact piece_im x w w' f 8 _ _ _ inb_S1x16x256x512_S1x1x256x512_0_8_0_0 z
  · exact piece_re x w w' f 8 _ _ inb_S2x16x128x512_S1x1x128x512_1_8_0_0 inb_S1x16x256x512_S1x1x256x512_0_8_0_0 z
  · exact piece_im x w w' f 7 _ _ _ inb_S1x16x256x512_S1x1x256x512_0_7_0_0 z
  · exact piece_re x w w' f 7 _ _ inb_S2x16x128x512_S1x1x128x512_1_7_0_0 inb_S1x16x256x512_S1x1x256x512_0_7_0_0 z
  · exact piece_im x w w' f 6 _ _ _ inb_S1x16x256x512_S1x1x256x512_0_6_0_0 z
  · exact piece_re x w w' f 6 _ _ inb_S2x16x128x512_S1x1x128x512_1_6_0_0 inb_S1x16x256x512_S1x1x256x512_0_6_0_0 z
  · exact piece_im x w w' f 5 _ _ _ inb_S1x16x256x512_S1x1x256x512_0_5_0_0 z
  · exact piece_re x w w' f 5 _ _ inb_S2x16x128x512_S1x1x128x512_1_5_0_0 inb_S1x16x256x512_S1x1x256x512_0_5_0_0 z
  · exact piece_im x w w' f 4 _ _ _ inb_S1x16x256x512_S1x1x256x512_0_4_0_0 z
  · exact piece_re x w w' f 4 _ _ inb_S2x16x128x512_S1x1x128x512_1_4_0_0 inb_S1x16x256x512_S1x1x256x512_0_4_0_0 z
  · exact piece_im x w w' f 3 _ _ _ inb_S1x16x256x512_S1x1x256x512_0_3_0_0 z
  · exact piece_re x w w' f 3 _ _ inb_S2x16x128x512_S1x1x128x512_1_3_0_0 inb_S1x16x256x512_S1x1x256x512_0_3_0_0 z
  · exact piece_im x w w' f 2 _ _ _ inb_S1x16x256x512_S1x1x256x512_0_2_0_0 z
  · exact piece_re x w w' f 2 _ _ inb_S2x16x128x512_S1x1x128x512_1_2_0_0 inb_S1x16x256x512_S1x1x256x512_0_2_0_0 z
  · exact piece_im x w w' f 1 _ _ _ inb_S1x16x256x512_S1x1x256x512_0_1_0_0 z
  · exact piece_re x w w' f 1 _ _ inb_S2x16x128x512_S1x1x128x512_1_1_0_0 inb_S1x16x256x512_S1x1x256x512_0_1_0_0 z
  · exact piece_im x w w' f 0 _ _ _ inb_S1x16x256x512_S1x1x256x512_0_0_0_0 z
  · exact piece_re x w w' f 0 _ _ inb_S2x16x128x512_S1x1x128x512_1_0_0_0 inb_S1x16x256x512_S1x1x256x512_0_0_0_0 z

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x128x128x512 .bf16 := m ((c : Thread nD τ).loc main_arg0)
abbrev a1 (c : Dev nD) : FVec Ideal S128x128x128 .f32 := m ((c : Thread nD τ).loc main_arg1)
abbrev a2 (c : Dev nD) : FVec Ideal S128x128x128 .f32 := m ((c : Thread nD τ).loc main_arg2)
abbrev a3 (c : Dev nD) : FVec Ideal S2x128x256x512 .bf16 := m ((c : Thread nD τ).loc main_arg3)

/-- The tables in real form: cosines and sines, and under them the sines negated and the cosines. -/
def table (c : Dev nD) : S128x256x256.Idx → EReal :=
  concatenate S128x256x256 1 [⟨S128x128x256, concatenate S128x128x256 2 [⟨S128x128x128, a1 m c⟩, ⟨S128x128x128, a2 m c⟩] concatenates_S128x128x128_S128x128x128_S128x128x256_d2⟩,
    ⟨S128x128x256, concatenate S128x128x256 2 [⟨S128x128x128, fun i => -(a2 m c i)⟩, ⟨S128x128x128, a1 m c⟩] concatenates_S128x128x128_S128x128x128_S128x128x256_d2⟩]
    concatenates_S128x128x256_S128x128x256_S128x256x256_d1

/-- The tables back: the same ones transposed. -/
def tableT (c : Dev nD) : S128x256x256.Idx → EReal :=
  transpose S128x256x256 [0, 2, 1] (table m c) transposes_S128x256x256_S128x256x256_0_2_1
theorem tableT_apply (c : Dev nD) (s : Fin 128) (o i : Fin 256) : tableT m c (ix3 s o i) = table m c (ix3 s i o) := by
  unfold tableT
  generalize table m c = T
  pointwise

theorem V_w' (c : Dev nD) : V m c main_v6 = tableT m c := by
  show StableHlo.after hostOps0 _ _ = _
  after_results
  rfl
theorem V_w (c : Dev nD) : V m c main_v5 = table m c := by
  show StableHlo.after hostOps0 _ _ = _
  after_results
  rfl

/-- The tables' rows, a half at a time. -/
theorem row_re_lo (c : Dev nD) (s : Fin 128) (o i : Fin 128) : table m c (ix3 s (lo 256 rfl o) (lo 256 rfl i)) = a1 m c (ix3 s o i) :=
  (rows3_lo rfl _ _ _ s o _).trans (cols3_lo rfl _ _ _ s o i)
theorem row_re_hi (c : Dev nD) (s : Fin 128) (o i : Fin 128) : table m c (ix3 s (lo 256 rfl o) (hi 256 rfl i)) = a2 m c (ix3 s o i) :=
  (rows3_lo rfl _ _ _ s o _).trans (cols3_hi rfl _ _ _ s o i)
theorem row_im_lo (c : Dev nD) (s : Fin 128) (o i : Fin 128) : table m c (ix3 s (hi 256 rfl o) (lo 256 rfl i)) = -(a2 m c (ix3 s o i)) :=
  (rows3_hi rfl _ _ _ s o _).trans (cols3_lo rfl _ _ _ s o i)
theorem row_im_hi (c : Dev nD) (s : Fin 128) (o i : Fin 128) : table m c (ix3 s (hi 256 rfl o) (hi 256 rfl i)) = a1 m c (ix3 s o i) :=
  (rows3_hi rfl _ _ _ s o _).trans (cols3_hi rfl _ _ _ s o i)

/-- Where each window's block lies at each point (decided over the points). -/
theorem idx_facts : ∀ t : Fin grid0.N,
    (win0_0.index t 0 = 0 ∧ win0_0.index t 1 = t.val ∧ win0_0.index t 2 = 0 ∧ win0_0.index t 3 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = 0 ∧ win0_3.index t 1 = t.val ∧ win0_3.index t 2 = 0 ∧ win0_3.index t 3 = 0)
    ∧ (win0_4.index t 0 = 0 ∧ win0_4.index t 1 = t.val ∧ win0_4.index t 2 = 0 ∧ win0_4.index t 3 = 0) := by
  decide +kernel

/-- The slab that a point's block has at `s`. -/
def pos (t : Fin cfg0.N) (s : Fin 16) : Fin 128 := ⟨t.val * 16 + s.val, by
  have h : t.val < 8 := lt_of_lt_of_eq t.isLt N_0; omega⟩

theorem iblk0_apply (c : Dev nD) (t : Fin cfg0.N) (h : Fin 2) (s : Fin 16) (i : Fin 128) (k : Fin 512) :
    iblk m c 0 t (ix4 h s i k) = a0 m c (ix4 h (pos t s) i k) := by
  show V m c main_arg0 (((cfg0.win 0).blk t).view.emb (ix4 h s i k)) = _
  refine (congrFun (V_main_arg0 m c) _).trans (congrArg (a0 m c) (funext fun a => Fin.ext ?_))
  have f := (idx_facts t).1
  match a with
  | ⟨0, _⟩ => show win0_0.index t 0 * 2 + 1 * h.val = h.val; rw [f.1]; omega
  | ⟨1, _⟩ => show win0_0.index t 1 * 16 + 1 * s.val = t.val * 16 + s.val; rw [f.2.1]; omega
  | ⟨2, _⟩ => show win0_0.index t 2 * 128 + 1 * i.val = i.val; rw [f.2.2.1]; omega
  | ⟨3, _⟩ => show win0_0.index t 3 * 512 + 1 * k.val = k.val; rw [f.2.2.2]; omega

theorem iblk1_apply (c : Dev nD) (t : Fin cfg0.N) (s : Fin 16) (o i : Fin 256) :
    iblk m c 1 t (ix3 s o i) = table m c (ix3 (pos t s) o i) := by
  show V m c main_v5 (((cfg0.win 1).blk t).view.emb (ix3 s o i)) = _
  refine (congrFun (V_w m c) _).trans (congrArg (table m c) (funext fun a => Fin.ext ?_))
  have f := (idx_facts t).2.1
  match a with
  | ⟨0, _⟩ => show win0_1.index t 0 * 16 + 1 * s.val = t.val * 16 + s.val; rw [f.1]; omega
  | ⟨1, _⟩ => show win0_1.index t 1 * 256 + 1 * o.val = o.val; rw [f.2.1]; omega
  | ⟨2, _⟩ => show win0_1.index t 2 * 256 + 1 * i.val = i.val; rw [f.2.2]; omega

theorem iblk2_apply (c : Dev nD) (t : Fin cfg0.N) (s : Fin 16) (o i : Fin 256) :
    iblk m c 2 t (ix3 s o i) = tableT m c (ix3 (pos t s) o i) := by
  show V m c main_v6 (((cfg0.win 2).blk t).view.emb (ix3 s o i)) = _
  refine (congrFun (V_w' m c) _).trans (congrArg (tableT m c) (funext fun a => Fin.ext ?_))
  have f := (idx_facts t).2.2.1
  match a with
  | ⟨0, _⟩ => show win0_2.index t 0 * 16 + 1 * s.val = t.val * 16 + s.val; rw [f.1]; omega
  | ⟨1, _⟩ => show win0_2.index t 1 * 256 + 1 * o.val = o.val; rw [f.2.1]; omega
  | ⟨2, _⟩ => show win0_2.index t 2 * 256 + 1 * i.val = i.val; rw [f.2.2]; omega

theorem iblk3_apply (c : Dev nD) (t : Fin cfg0.N) (s : Fin 16) (o : Fin 256) (k : Fin 512) :
    iblk m c 3 t (ix4 0 s o k) = a3 m c (ix4 0 (pos t s) o k) := by
  show V m c main_arg3 (((cfg0.win 3).blk t).view.emb (ix4 0 s o k)) = _
  refine (congrFun (V_main_arg3 m c) _).trans (congrArg (a3 m c) (funext fun a => Fin.ext ?_))
  have f := (idx_facts t).2.2.2.1
  match a with
  | ⟨0, _⟩ => show win0_3.index t 0 * 1 + 1 * 0 = 0; rw [f.1]
  | ⟨1, _⟩ => show win0_3.index t 1 * 16 + 1 * s.val = t.val * 16 + s.val; rw [f.2.1]; omega
  | ⟨2, _⟩ => show win0_3.index t 2 * 256 + 1 * o.val = o.val; rw [f.2.2.1]; omega
  | ⟨3, _⟩ => show win0_3.index t 3 * 512 + 1 * k.val = k.val; rw [f.2.2.2]; omega

/-! ## The result array -/

/-- The spectrum of a slab at a row of its table and a channel. -/
def spec (c : Dev nD) (s : Fin 128) (o : Fin 256) (k : Fin 512) : EReal :=
  part (fun i : Fin 128 => table m c (ix3 s o (lo 256 rfl i))) (fun i => table m c (ix3 s o (hi 256 rfl i)))
    (fun i => a0 m c (ix4 0 s i k)) (fun i => a0 m c (ix4 1 s i k))

/-- The whole stage at a slab, a row of the slab's second table and a channel, over the spectrum of a filter. -/
def full (f : S2x128x256x512.Idx → EReal) (c : Dev nD) (s : Fin 128) (o : Fin 256) (k : Fin 512) : EReal :=
  part (fun i : Fin 128 => tableT m c (ix3 s o (lo 256 rfl i))) (fun i => tableT m c (ix3 s o (hi 256 rfl i)))
    (fun i => prodRe (spec m c s (lo 256 rfl i) k) (spec m c s (hi 256 rfl i) k) (f (ix4 0 s (lo 256 rfl i) k)) (f (ix4 0 s (hi 256 rfl i) k)))
    (fun i => prodIm (spec m c s (lo 256 rfl i) k) (spec m c s (hi 256 rfl i) k) (f (ix4 0 s (lo 256 rfl i) k)) (f (ix4 0 s (hi 256 rfl i) k)))

def G4 (f : S2x128x256x512.Idx → EReal) (c : Dev nD) : Buf (Elt Ideal) ((c : Thread nD τ).loc main_v7) :=
  fun i : S2x128x128x512.Idx => full m f c (i 1) (row (i 0) (i 2)) (i 3)

theorem row_eq (c : Dev nD) (t : Fin cfg0.N) (s : Fin 16) (o : Fin 256) (k : Fin 512) :
    blockRow (iblk m c 0 t) (iblk m c 1 t) s o k = spec m c (pos t s) o k := by
  unfold blockRow spec
  simp only [iblk0_apply, iblk1_apply]

section Filter
variable (f : S2x128x256x512.Idx → EReal) (c : Dev nD) (t : Fin cfg0.N) (b : Vec Ideal S1x16x256x512 .bf16)
  (hb : ∀ (s : Fin 16) (o : Fin 256) (k : Fin 512), b (ix4 0 s o k) = f (ix4 0 (pos t s) o k))
include hb

/-- A point's block of the stage is the whole stage at the point's slabs, when the filter's block holds the filter there. -/
theorem block_eq (s : Fin 16) (o : Fin 256) (k : Fin 512) :
    blockOut (iblk m c 0 t) (iblk m c 1 t) (iblk m c 2 t) b s o k = full m f c (pos t s) o k := by
  unfold blockOut full
  simp only [row_eq, iblk2_apply, hb]

/-- So the body's block is the block of the whole array. -/
theorem out4_eq : out0_4 (F := Ideal) (iblk m c 0 t) (iblk m c 1 t) (iblk m c 2 t) b
    = ((cfg0.win 4).blk t).view.read (Elt Ideal) (G4 m f c) := by
  funext y
  show out0_4 _ _ _ _ y = G4 m f c (((cfg0.win 4).blk t).view.emb y)
  refine (out4_apply _ _ _ _ y).trans ((block_eq m f c t b hb _ _ _).trans ?_)
  have g := (idx_facts t).2.2.2.2
  refine congr (congr (congrArg (full m f c) (Fin.ext ?_)) (congr (congrArg row (Fin.ext ?_)) (Fin.ext ?_))) (Fin.ext ?_)
  · show t.val * 16 + (y 1).val = win0_4.index t 1 * 16 + 1 * (y 1).val; rw [g.2.1]; omega
  · show (y 0).val = win0_4.index t 0 * 2 + 1 * (y 0).val; rw [g.1]; omega
  · show (y 2).val = win0_4.index t 2 * 128 + 1 * (y 2).val; rw [g.2.2.1]; omega
  · show (y 3).val = win0_4.index t 3 * 512 + 1 * (y 3).val; rw [g.2.2.2]; omega
end Filter

theorem flushed4_eq (c : Dev nD) (t : Fin cfg0.N) :
    (dats m 0 c).flushed 4 t = ((cfg0.win 4).blk t).view.read (Elt Ideal) (G4 m (a3 m c) c) := by
  rw [Value.flushed4]
  exact out4_eq m (a3 m c) c t _ (iblk3_apply m c t)

/-- The point whose block holds an index. -/
def pointOf (i : S2x128x128x512.Idx) : Fin cfg0.N := ⟨(i 1).val / 16, by
  have h : (i 1).val < 128 := (i 1).isLt
  have hN : cfg0.N = 8 := N_0
  omega⟩

theorem mem4 (i : S2x128x128x512.Idx) : i ∈ ((cfg0.win 4).blk (pointOf i)).view.set := by
  show i ∈ ((View.whole main_v7).slice (win0_4.rect (pointOf i))).set
  rw [View.set_slice_whole, Rect.mem_set_unit]
  have h0 : (i 0).val < 2 := (i 0).isLt
  have h1 : (i 1).val < 128 := (i 1).isLt
  have h2 : (i 2).val < 128 := (i 2).isLt
  have h3 : (i 3).val < 512 := (i 3).isLt
  have f := (idx_facts (pointOf i)).2.2.2.2
  have hp : (pointOf i).val = (i 1).val / 16 := rfl
  intro a
  match a with
  | ⟨0, _⟩ =>
    show win0_4.index (pointOf i) 0 * 2 ≤ (i 0).val ∧ (i 0).val < win0_4.index (pointOf i) 0 * 2 + 2
    rw [f.1]; omega
  | ⟨1, _⟩ =>
    show win0_4.index (pointOf i) 1 * 16 ≤ (i 1).val ∧ (i 1).val < win0_4.index (pointOf i) 1 * 16 + 16
    rw [f.2.1, hp]; omega
  | ⟨2, _⟩ =>
    show win0_4.index (pointOf i) 2 * 128 ≤ (i 2).val ∧ (i 2).val < win0_4.index (pointOf i) 2 * 128 + 128
    rw [f.2.2.1]; omega
  | ⟨3, _⟩ =>
    show win0_4.index (pointOf i) 3 * 512 ≤ (i 3).val ∧ (i 3).val < win0_4.index (pointOf i) 3 * 512 + 512
    rw [f.2.2.2]; omega

theorem final4 (c : Dev nD) : (dats m 0 c).arrAt 4 cfg0.N = G4 m (a3 m c) c :=
  (dats m 0 c).arrAt_eq_of_cover 4 (G4 m (a3 m c) c) (fun t _ => flushed4_eq m c t) fun i => ⟨pointOf i, flush0_4 _, mem4 i⟩

end Cert.SpectrumIdeal.Closed

/-! ## The reference -/

namespace Cert.SpectrumRefIdeal.Closed

open Cert.SpectrumRefIdeal Cert.SpectrumRefIdeal.Gen Cert.SpectrumRefIdeal.Read Cert.DftForm

variable (x0 : (⟨S2x128x128x512, .bf16⟩ : BufTy).Contents (Elt Ideal)) (x1 x2 : (⟨S128x128x128, .f32⟩ : BufTy).Contents (Elt Ideal))
  (x3 : (⟨S2x128x256x512, .bf16⟩ : BufTy).Contents (Elt Ideal))

/-- The two parts of the signal, -/
theorem re_apply (s : Fin 128) (i : Fin 128) (k : Fin 512) : val_main_v2 (F := Ideal) x0 (ix3 s i k) = x0 (ix4 0 s i k) := by
  pointwise [val_main_v2, val_main_v1, val_main_v0]
theorem im_apply (s : Fin 128) (i : Fin 128) (k : Fin 512) : val_main_v5 (F := Ideal) x0 (ix3 s i k) = x0 (ix4 1 s i k) := by
  pointwise [val_main_v5, val_main_v4, val_main_v3]
/-- and of the filter's spectrum. -/
theorem fre_apply (s : Fin 128) (i : Fin 128) (k : Fin 512) : val_main_v8 (F := Ideal) x3 (ix3 s i k) = x3 (ix4 0 s (lo 256 rfl i) k) := by
  pointwise [val_main_v8, val_main_v7, val_main_v6, lo]
theorem fim_apply (s : Fin 128) (i : Fin 128) (k : Fin 512) : val_main_v11 (F := Ideal) x3 (ix3 s i k) = x3 (ix4 0 s (hi 256 rfl i) k) := by
  pointwise [val_main_v11, val_main_v10, val_main_v9, hi]

/-- A table per slab against a signal, at an index. -/
theorem dot_apply (w : FVec Ideal S128x128x128 .f32) (u : FVec Ideal S128x128x512 .f32)
    (s o : Fin 128) (k : Fin 512) :
    (Host.dotGeneral dot_S128x128x128_S128x128x512_S128x128x512_2_1_1_2_0_0 none w u : FVec Ideal S128x128x512 .f32) (ix3 s o k) = ∑ i : Fin 128, w (ix3 s o i) * u (ix3 s i k) := by
  pointwise

/-- The signal's spectrum, part by part. -/
theorem spec_re (s : Fin 128) (o : Fin 128) (k : Fin 512) : val_main_v14 (F := Ideal) x0 x1 x2 (ix3 s o k)
    = part (fun i : Fin 128 => x1 (ix3 s o i)) (fun i => x2 (ix3 s o i)) (fun i => x0 (ix4 0 s i k)) (fun i => x0 (ix4 1 s i k)) := by
  simp only [← re_apply, ← im_apply]
  exact congr (congrArg HAdd.hAdd (dot_apply _ _ s o k)) (dot_apply _ _ s o k)
theorem spec_im (s : Fin 128) (o : Fin 128) (k : Fin 512) : val_main_v18 (F := Ideal) x0 x1 x2 (ix3 s o k)
    = part (fun i : Fin 128 => -(x2 (ix3 s o i))) (fun i => x1 (ix3 s o i)) (fun i => x0 (ix4 0 s i k)) (fun i => x0 (ix4 1 s i k)) := by
  simp only [← re_apply, ← im_apply]
  exact congr (congrArg HAdd.hAdd (dot_apply _ _ s o k)) (dot_apply _ _ s o k)

/-- The transposed tables. -/
theorem t1_apply (s o i : Fin 128) : val_main_v25 (F := Ideal) x1 (ix3 s o i) = x1 (ix3 s i o) := by
  pointwise [val_main_v25]
theorem t2_apply (s o i : Fin 128) : val_main_v26 (F := Ideal) x2 (ix3 s o i) = x2 (ix3 s i o) := by
  pointwise [val_main_v26]

/-- The real part of the result over the product of the spectra, -/
theorem sum_re (s : Fin 128) (o : Fin 128) (k : Fin 512) : val_main_v30 (F := Ideal) x0 x1 x2 x3 (ix3 s o k)
    = part (fun i : Fin 128 => x1 (ix3 s i o)) (fun i => -(x2 (ix3 s i o)))
      (fun i => val_main_v21 (F := Ideal) x0 x1 x2 x3 (ix3 s i k)) (fun i => val_main_v24 (F := Ideal) x0 x1 x2 x3 (ix3 s i k)) := by
  simp only [← t1_apply x1, ← t2_apply x2]
  exact congr (congrArg HAdd.hAdd (dot_apply _ _ s o k)) (dot_apply _ _ s o k)
/-- and the imaginary one. -/
theorem sum_im (s : Fin 128) (o : Fin 128) (k : Fin 512) : val_main_v33 (F := Ideal) x0 x1 x2 x3 (ix3 s o k)
    = part (fun i : Fin 128 => x2 (ix3 s i o)) (fun i => x1 (ix3 s i o))
      (fun i => val_main_v21 (F := Ideal) x0 x1 x2 x3 (ix3 s i k)) (fun i => val_main_v24 (F := Ideal) x0 x1 x2 x3 (ix3 s i k)) := by
  simp only [← t1_apply x1, ← t2_apply x2]
  exact congr (congrArg HAdd.hAdd (dot_apply _ _ s o k)) (dot_apply _ _ s o k)

theorem res_re (s : Fin 128) (o : Fin 128) (k : Fin 512) :
    val_main_v37 (F := Ideal) x0 x1 x2 x3 (ix4 0 s o k) = val_main_v30 (F := Ideal) x0 x1 x2 x3 (ix3 s o k) := by
  generalize hd : val_main_v30 (F := Ideal) x0 x1 x2 x3 = D
  pointwise [val_main_v37, val_main_v36, val_main_v34, hd]
theorem res_im (s : Fin 128) (o : Fin 128) (k : Fin 512) :
    val_main_v37 (F := Ideal) x0 x1 x2 x3 (ix4 1 s o k) = val_main_v33 (F := Ideal) x0 x1 x2 x3 (ix3 s o k) := by
  generalize hd : val_main_v33 (F := Ideal) x0 x1 x2 x3 = D
  pointwise [val_main_v37, val_main_v36, val_main_v35, hd]

end Cert.SpectrumRefIdeal.Closed

/-! ## The claims -/

namespace Cert.SpectrumClaims

open Cert.DftForm Cert.SpectrumIdeal.Closed

variable (m : (ℓ : Loc Cert.SpectrumIdeal.nD Cert.SpectrumIdeal.τ Cert.SpectrumIdeal.sig) → Buf (Elt Ideal) ℓ) (c : Dev Cert.SpectrumIdeal.nD)

/-- The spectrum's two parts, over the tables of cosines and sines. -/
theorem spec_lo (s : Fin 128) (o : Fin 128) (k : Fin 512) :
    spec m c s (lo 256 rfl o) k = Cert.SpectrumRefIdeal.Read.val_main_v14 (F := Ideal) (a0 m c) (a1 m c) (a2 m c) (ix3 s o k) := by
  rw [Cert.SpectrumRefIdeal.Closed.spec_re]
  unfold spec
  simp only [row_re_lo, row_re_hi]
theorem spec_hi (s : Fin 128) (o : Fin 128) (k : Fin 512) :
    spec m c s (hi 256 rfl o) k = Cert.SpectrumRefIdeal.Read.val_main_v18 (F := Ideal) (a0 m c) (a1 m c) (a2 m c) (ix3 s o k) := by
  rw [Cert.SpectrumRefIdeal.Closed.spec_im]
  unfold spec
  simp only [row_im_lo, row_im_hi]

section Filter
variable (f : Cert.SpectrumIdeal.S2x128x256x512.Idx → EReal)

/-- The product with a filter's spectrum, part by part. -/
theorem prod_re (s : Fin 128) (i : Fin 128) (k : Fin 512) :
    prodRe (spec m c s (lo 256 rfl i) k) (spec m c s (hi 256 rfl i) k) (f (ix4 0 s (lo 256 rfl i) k)) (f (ix4 0 s (hi 256 rfl i) k))
      = Cert.SpectrumRefIdeal.Read.val_main_v21 (F := Ideal) (a0 m c) (a1 m c) (a2 m c) f (ix3 s i k) := by
  rw [spec_lo, spec_hi, ← Cert.SpectrumRefIdeal.Closed.fre_apply f, ← Cert.SpectrumRefIdeal.Closed.fim_apply f]
  rfl
theorem prod_im (s : Fin 128) (i : Fin 128) (k : Fin 512) :
    prodIm (spec m c s (lo 256 rfl i) k) (spec m c s (hi 256 rfl i) k) (f (ix4 0 s (lo 256 rfl i) k)) (f (ix4 0 s (hi 256 rfl i) k))
      = Cert.SpectrumRefIdeal.Read.val_main_v24 (F := Ideal) (a0 m c) (a1 m c) (a2 m c) f (ix3 s i k) := by
  rw [spec_lo, spec_hi, ← Cert.SpectrumRefIdeal.Closed.fre_apply f, ← Cert.SpectrumRefIdeal.Closed.fim_apply f]
  rfl

/-- The reference's result over a filter is the kernel's array over it. -/
theorem res_eq : Cert.SpectrumRefIdeal.Read.val_main_v37 (F := Ideal) (a0 m c) (a1 m c) (a2 m c) f = G4 m f c := by
  funext i
  obtain ⟨h, s, o, k, rfl⟩ : ∃ (h : Fin 2) (s : Fin 128) (o : Fin 128) (k : Fin 512), i = ix4 h s o k :=
    ⟨i 0, i 1, i 2, i 3, eq_ix4 i⟩
  show _ = full m f c s (row h o) k
  obtain rfl | rfl : h = 0 ∨ h = 1 := by omega
  · refine (Cert.SpectrumRefIdeal.Closed.res_re _ _ _ _ s o k).trans ((Cert.SpectrumRefIdeal.Closed.sum_re _ _ _ _ s o k).trans ?_)
    rw [row_zero]
    unfold full
    simp only [prod_re, prod_im, tableT_apply, row_re_lo, row_im_lo]
  · refine (Cert.SpectrumRefIdeal.Closed.res_im _ _ _ _ s o k).trans ((Cert.SpectrumRefIdeal.Closed.sum_im _ _ _ _ s o k).trans ?_)
    rw [row_one]
    unfold full
    simp only [prod_re, prod_im, tableT_apply, row_re_hi, row_im_hi]
end Filter

/-- The stage's kernel and its reference end with the same array. -/
theorem algebraic : Cert.algebraic_SpectrumIdeal_SpectrumRefIdeal := by
  intro m g m' g' _ hag
  refine ⟨fun c => G4 m (a3 m c) c,
    (θ_run Cert.SpectrumIdeal.defs _ _).mono (fun r h c => ⟨(h c).1.trans (final4 m c), (h c).2⟩) (Cert.SpectrumIdeal.Value.run_blocks m g),
    (θ_run Cert.SpectrumRefIdeal.defs _ _).mono (fun r h c => ⟨(h c).1.trans ?_, (h c).2⟩) (Cert.SpectrumRefIdeal.Value.run m' g')⟩
  obtain ⟨h0, h1, h2, h3⟩ := hag c
  refine (Cert.SpectrumRefIdeal.Read.val_main_v37_eq m' c).trans ?_
  rw [h0, h1, h2, h3]
  exact res_eq m c (a3 m c)

/-- The kernel, its idealization and the reference keep their arguments and end quiescent. -/
theorem frame_p : Cert.quiescent_Spectrum := fun m ρ _ => Cert.Spectrum.Gen.frame m ρ
theorem frame_pi : Cert.quiescent_SpectrumIdeal := fun m ρ _ => Cert.SpectrumIdeal.Gen.frame m ρ
theorem frame_ri : Cert.quiescent_SpectrumRefIdeal := fun m ρ _ =>
  (θ_run Cert.SpectrumRefIdeal.defs _ _).mono (fun r h => ⟨fun c => (h c).2,
      Idealize.ShloMosaic.sem_eq_zero_of_no_sems (by decide) r.2⟩) (Cert.SpectrumRefIdeal.Value.run (F := Ideal) m ρ)

end Cert.SpectrumClaims
-- ==== Proof.ChandftValue.lean ====
/-
  The value of the Fourier stage over the channels: four groups of channels of a signal without imaginary part, each against the
  same complex table, written position first.
-/
module

public import proofs.«01_k».proof.Defs
public import proofs.«01_k».proof.Proof.Gen.Chandft.Frame
public import proofs.«01_k».proof.Proof.Gen.ChandftIdeal.Value
public import proofs.«01_k».proof.Proof.Gen.ChandftRefIdeal.Run
public import proofs.«01_k».proof.Proof.Gen.ChandftRefIdeal.Read
public import proofs.«01_k».proof.Proof.DftForm
public import Idealize.ShloMosaic.Lib.Pipeline.Value
public import Idealize.ShloMosaic.Lib.Pointwise
public import Idealize.ShloMosaic.Lib.ValueIdxRank6
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ChandftIdeal.Closed

open Cert.ChandftIdeal Cert.ChandftIdeal.Gen Cert.DftForm

/-! ## Places -/

/-- The channel of a group, -/
def chan (g : Fin 4) (l : Fin 128) : Fin 512 := ⟨g.val * 128 + l.val, by omega⟩
/-- the row of a block that holds a place of a slab position, -/
def rowOf (b : Fin 16) (q : Fin 64) : Fin 1024 := ⟨b.val * 64 + q.val, by omega⟩
/-- and the column of the table that holds a part's channel. -/
def col (h : Fin 2) (l : Fin 128) : Fin 256 := ⟨h.val * 128 + l.val, by omega⟩
theorem col_zero (l : Fin 128) : col 0 l = lo 256 rfl l := Fin.ext (by show 0 * 128 + l.val = l.val; omega)
theorem col_one (l : Fin 128) : col 1 l = hi 256 rfl l := Fin.ext (by show 1 * 128 + l.val = 128 + l.val; omega)

/-- A channel's group and its place there. -/
def grpOf (k : Fin 512) : Fin 4 := ⟨k.val / 128, by omega⟩
def laneOf (k : Fin 512) : Fin 128 := ⟨k.val % 128, by omega⟩
theorem grpOf_chan (g : Fin 4) (l : Fin 128) : grpOf (chan g l) = g := Fin.ext (by show (g.val * 128 + l.val) / 128 = g.val; omega)
theorem laneOf_chan (g : Fin 4) (l : Fin 128) : laneOf (chan g l) = l := Fin.ext (by show (g.val * 128 + l.val) % 128 = l.val; omega)
theorem chan_of (k : Fin 512) : k = chan (grpOf k) (laneOf k) := Fin.ext (by show k.val = k.val / 128 * 128 + k.val % 128; omega)

/-! ## One group and one part -/

/-- A group's channels of a block against the table, at an index. -/
theorem dot_apply (y : FVec Ideal S1024x128 .bf16) (w : FVec Ideal S128x256 .bf16) (r : Fin 1024) (o : Fin 256) :
    (matmul dot_S1024x128_S128x256_S1024x256_1_0_0_1_n_n none y (shapeCast S128x256 w shapeCasts_S128x256_S128x256)
      (constant S1024x256 .f32 0x00000000#32) : FVec Ideal S1024x256 .f32) (ix2 r o) = ∑ i : Fin 128, y (ix2 r i) * w (ix2 i o) := by
  pointwise

section Group
variable (g : Fin 4) (hg : S1024x512.Slices ![0, g.val * 128] S1024x128)

/-- The product of one group. -/
def prod (x : FVec Ideal S1x1024x512 .bf16) (w : FVec Ideal S128x256 .bf16) : FVec Ideal S1024x256 .f32 :=
  matmul dot_S1024x128_S128x256_S1024x256_1_0_0_1_n_n none
    (extractStridedSlice S1024x128 ![0, g.val * 128] (shapeCast S1024x512 x shapeCasts_S1x1024x512_S1024x512) hg)
    (shapeCast S128x256 w shapeCasts_S128x256_S128x256) (constant S1024x256 .f32 0x00000000#32)

theorem prod_apply (x : FVec Ideal S1x1024x512 .bf16) (w : FVec Ideal S128x256 .bf16) (r : Fin 1024) (o : Fin 256) :
    prod g hg x w (ix2 r o) = ∑ i : Fin 128, x (ix3 0 r (chan g i)) * w (ix2 i o) := by
  have e : ∀ i : Fin 128, extractStridedSlice S1024x128 ![0, g.val * 128] (shapeCast S1024x512 x shapeCasts_S1x1024x512_S1024x512) hg (ix2 r i)
      = x (ix3 0 r (chan g i)) := fun i => by pointwise [chan]
  refine (dot_apply _ w r o).trans ?_
  simp only [e]
end Group

/-- Rows split into slab positions and places. -/
theorem split_apply (y : FVec Ideal S1024x128 .f32) (b : Fin 16) (q : Fin 64) (l : Fin 128) :
    shapeCast S16x64x128 y shapeCasts_S1024x128_S16x64x128 (ix3 b q l) = y (ix2 (rowOf b q) l) := by
  refine shapeCast_apply _ _ _ _ ?_
  rewrite [Shape.rowMajor_val_three, Shape.rowMajor_val_two]
  show (b.val * 64 + q.val) * 128 + l.val = (b.val * 64 + q.val) * 128 + l.val
  rfl

/-- A part as it is stored: places first. -/
def stored (y : FVec Ideal S1024x128 .f32) : FVec Ideal S1x1x64x16x128 .bf16 :=
  shapeCast S1x1x64x16x128 (truncf .bf16 (transpose S64x16x128 [1, 0, 2] (shapeCast S16x64x128 y shapeCasts_S1024x128_S16x64x128)
    transposes_S16x64x128_p1_0_2_S64x16x128) bitsLt_bf16_f32) shapeCasts_S64x16x128_S1x1x64x16x128
theorem stored_apply (y : FVec Ideal S1024x128 .f32) (q : Fin 64) (b : Fin 16) (l : Fin 128) :
    stored y (ix5 0 0 q b l) = y (ix2 (rowOf b q) l) := by
  rw [← split_apply y b q l]
  unfold stored
  generalize shapeCast S16x64x128 y shapeCasts_S1024x128_S16x64x128 = z
  pointwise

/-- The left columns of a product are its real part, the right ones its imaginary part. -/
def left (y : FVec Ideal S1024x256 .f32) : FVec Ideal S1024x128 .f32 := extractStridedSlice S1024x128 ![0, 0] y slices_S1024x256_o0_0_S1024x128
def right (y : FVec Ideal S1024x256 .f32) : FVec Ideal S1024x128 .f32 := extractStridedSlice S1024x128 ![0, 128] y slices_S1024x256_o0_128_S1024x128
theorem left_apply (y : FVec Ideal S1024x256 .f32) (r : Fin 1024) (l : Fin 128) : left y (ix2 r l) = y (ix2 r (col 0 l)) := by
  unfold left
  rw [col_zero]
  pointwise [lo]
theorem right_apply (y : FVec Ideal S1024x256 .f32) (r : Fin 1024) (l : Fin 128) : right y (ix2 r l) = y (ix2 r (col 1 l)) := by
  unfold right
  rw [col_one]
  pointwise [hi]

/-! ## The body's block, a group and a part at a time -/

/-- A row of a block's group against a column of the table. -/
def blockSum (x : Vec Ideal S1x1024x512 .bf16) (w : Vec Ideal S128x256 .bf16) (h : Fin 2) (q : Fin 64) (b : Fin 16) (g : Fin 4) (l : Fin 128) : EReal :=
  ∑ i : Fin 128, x (ix3 0 (rowOf b q) (chan g i)) * w (ix2 i (col h l))

/-- The block at an index. -/
def blockVal (x : Vec Ideal S1x1024x512 .bf16) (w : Vec Ideal S128x256 .bf16) (y : S1x2x64x16x512.Idx) : EReal :=
  blockSum x w (y 1) (y 2) (y 3) (grpOf (y 4)) (laneOf (y 4))

theorem zero3 : (![0, 0, 0] : Fin 3 → Nat) = fun _ => 0 := funext fun a => by fin_cases a <;> rfl
theorem zero2 : (![0, 0] : Fin 2 → Nat) = fun _ => 0 := funext fun a => by fin_cases a <;> rfl
/-- A load of a whole block is the block. -/
theorem ld_x (x : Vec Ideal S1x1024x512 .bf16) : View.ld x r0_0 = x := by rw [View.ld_unit_zero zero3]
theorem ld_t (w : Vec Ideal S128x256 .bf16) : View.ld w r0_1 = w := by rw [View.ld_unit_zero zero2]

section Pieces
variable (x : Vec Ideal S1x1024x512 .bf16) (w : Vec Ideal S128x256 .bf16) (g : Fin 4)
  (hg : S1024x512.Slices ![0, g.val * 128] S1024x128) (h : Fin 2)
  (ho : ∀ a, (![0, h.val, 0, 0, g.val * 128] : Fin 5 → Nat) a + S1x1x64x16x128.size a ≤ S1x2x64x16x512.size a)

/-- The rectangle of a group's part. -/
abbrev ro : Rect S1x2x64x16x512 := Rect.unit (s := S1x2x64x16x512) ![0, h.val, 0, 0, g.val * 128] S1x1x64x16x128.size ho

theorem emb_o (q : Fin 64) (b : Fin 16) (l : Fin 128) : (ro g h ho).emb (ix5 0 0 q b l) = ix5 0 h q b (chan g l) :=
  funext fun a => Fin.ext (match a with
  | ⟨0, _⟩ => by show 0 + 1 * 0 = 0; omega
  | ⟨1, _⟩ => by show h.val + 1 * 0 = h.val; omega
  | ⟨2, _⟩ => by show 0 + 1 * q.val = q.val; omega
  | ⟨3, _⟩ => by show 0 + 1 * b.val = b.val; omega
  | ⟨4, _⟩ => by show g.val * 128 + 1 * l.val = g.val * 128 + l.val; omega)

/-- A stored value that agrees with the product's column belongs where it is stored. -/
theorem piece_of (p : FVec Ideal S1024x128 .f32)
    (hp : ∀ (r : Fin 1024) (l : Fin 128), p (ix2 r l) = prod g hg (View.ld x r0_0) (View.ld w r0_1) (ix2 r (col h l)))
    (z : S1x1x64x16x128.Idx) : stored p z = blockVal x w ((ro g h ho).emb z) := by
  obtain ⟨a, a', q, b, l, rfl⟩ : ∃ (a : Fin 1) (a' : Fin 1) (q : Fin 64) (b : Fin 16) (l : Fin 128), z = ix5 a a' q b l :=
    ⟨z 0, z 1, z 2, z 3, z 4, eq_ix5 z⟩
  obtain rfl : a = 0 := Subsingleton.elim _ _
  obtain rfl : a' = 0 := Subsingleton.elim _ _
  refine (stored_apply p q b l).trans ((hp _ _).trans ((prod_apply g hg _ _ _ _).trans ?_))
  rw [emb_o g h ho q b l, ld_x, ld_t]
  show _ = blockSum x w h q b (grpOf (chan g l)) (laneOf (chan g l))
  rw [grpOf_chan, laneOf_chan]
  rfl
end Pieces

section Parts
variable (x : Vec Ideal S1x1024x512 .bf16) (w : Vec Ideal S128x256 .bf16) (g : Fin 4)
  (hg : S1024x512.Slices ![0, g.val * 128] S1024x128)

/-- The real part of a group, stored where it belongs, -/
theorem piece_re (ho : ∀ a, (![0, (0 : Fin 2).val, 0, 0, g.val * 128] : Fin 5 → Nat) a + S1x1x64x16x128.size a ≤ S1x2x64x16x512.size a)
    (z : S1x1x64x16x128.Idx) :
    stored (left (prod g hg (View.ld x r0_0) (View.ld w r0_1))) z = blockVal x w ((ro g 0 ho).emb z) :=
  piece_of x w g hg 0 ho _ (left_apply _) z
/-- and the imaginary one. -/
theorem piece_im (ho : ∀ a, (![0, (1 : Fin 2).val, 0, 0, g.val * 128] : Fin 5 → Nat) a + S1x1x64x16x128.size a ≤ S1x2x64x16x512.size a)
    (z : S1x1x64x16x128.Idx) :
    stored (right (prod g hg (View.ld x r0_0) (View.ld w r0_1))) z = blockVal x w ((ro g 1 ho).emb z) :=
  piece_of x w g hg 1 ho _ (right_apply _) z
end Parts

/-- The result's block after the body. -/
theorem out2_apply (x : Vec Ideal S1x1024x512 .bf16) (w : Vec Ideal S128x256 .bf16) (y : S1x2x64x16x512.Idx) :
    out0_2 (F := Ideal) x w y = blockVal x w y := by
  unfold out0_2
  refine View.canon_apply_of_pieces (Val := Elt Ideal) (blockVal x w) _ ?_ y (cover0_2 _ _ _ _ _ _ _ _ y)
  intro p hp z
  simp only [List.mem_cons, List.not_mem_nil, or_false] at hp
  rcases hp with rfl | rfl | rfl | rfl | rfl | rfl | rfl | rfl
  · exact piece_im x w 3 slices_S1024x512_o0_384_S1024x128 inb_S1x2x64x16x512_S1x1x64x16x128_0_1_0_0_384 z
  · exact piece_re x w 3 slices_S1024x512_o0_384_S1024x128 inb_S1x2x64x16x512_S1x1x64x16x128_0_0_0_0_384 z
  · exact piece_im x w 2 slices_S1024x512_o0_256_S1024x128 inb_S1x2x64x16x512_S1x1x64x16x128_0_1_0_0_256 z
  · exact piece_re x w 2 slices_S1024x512_o0_256_S1024x128 inb_S1x2x64x16x512_S1x1x64x16x128_0_0_0_0_256 z
  · exact piece_im x w 1 slices_S1024x512_o0_128_S1024x128 inb_S1x2x64x16x512_S1x1x64x16x128_0_1_0_0_128 z
  · exact piece_re x w 1 slices_S1024x512_o0_128_S1024x128 inb_S1x2x64x16x512_S1x1x64x16x128_0_0_0_0_128 z
  · exact piece_im x w 0 slices_S1024x512_o0_0_S1024x128 inb_S1x2x64x16x512_S1x1x64x16x128_0_1_0_0_0 z
  · exact piece_re x w 0 slices_S1024x512_o0_0_S1024x128 inb_S1x2x64x16x512_S1x1x64x16x128_0_0_0_0_0 z

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x8192x2048 .bf16 := m ((c : Thread nD τ).loc main_arg0)
abbrev a1 (c : Dev nD) : FVec Ideal S128x128 .f32 := m ((c : Thread nD τ).loc main_arg1)
abbrev a2 (c : Dev nD) : FVec Ideal S128x128 .f32 := m ((c : Thread nD τ).loc main_arg2)

/-- The table: cosines, and beside them the sines negated. -/
def table (c : Dev nD) : S128x256.Idx → EReal :=
  concatenate S128x256 1 [⟨S128x128, a1 m c⟩, ⟨S128x128, fun i => -(a2 m c i)⟩] concatenates_S128x128_S128x128_S128x256_d1

theorem V_t (c : Dev nD) : V m c main_v2 = table m c := by
  show StableHlo.after hostOps0 _ _ = _
  after_results
  rfl

/-- The table's columns, a half at a time. -/
theorem table_re (c : Dev nD) (i l : Fin 128) : table m c (ix2 i (col 0 l)) = a1 m c (ix2 i l) := by
  rw [col_zero]
  exact cols_lo rfl _ _ _ i l
theorem table_im (c : Dev nD) (i l : Fin 128) : table m c (ix2 i (col 1 l)) = -(a2 m c (ix2 i l)) := by
  rw [col_one]
  exact cols_hi rfl _ _ _ i l

/-- Where each window's block lies at each point (decided over the points). -/
theorem idx_facts : ∀ t : Fin grid0.N,
    (win0_0.index t 0 = t.val / 8 ∧ win0_0.index t 1 = t.val % 8 ∧ win0_0.index t 2 = 3)
    ∧ (win0_1.index t 0 = 0 ∧ win0_1.index t 1 = 0)
    ∧ (win0_2.index t 0 = t.val / 8 ∧ win0_2.index t 1 = 0 ∧ win0_2.index t 2 = 0 ∧ win0_2.index t 3 = t.val % 8 ∧ win0_2.index t 4 = 0) := by
  decide +kernel

/-- The batch of a point, and the slab position that its block has at `b`. -/
def batch (t : Fin cfg0.N) : Fin 2 := ⟨t.val / 8, by
  have h : t.val < 16 := lt_of_lt_of_eq t.isLt N_0; omega⟩
def pos (t : Fin cfg0.N) (b : Fin 16) : Fin 128 := ⟨t.val % 8 * 16 + b.val, by omega⟩
/-- The row of the signal that holds a place of a slab position, and the column that holds a group's channel. -/
def rowAt (b : Fin 128) (q : Fin 64) : Fin 8192 := ⟨b.val * 64 + q.val, by omega⟩
def colAt (k : Fin 512) : Fin 2048 := ⟨1536 + k.val, by omega⟩

theorem iblk0_apply (c : Dev nD) (t : Fin cfg0.N) (b : Fin 16) (q : Fin 64) (k : Fin 512) :
    iblk m c 0 t (ix3 0 (rowOf b q) k) = a0 m c (ix3 (batch t) (rowAt (pos t b) q) (colAt k)) := by
  show V m c main_arg0 (((cfg0.win 0).blk t).view.emb (ix3 0 (rowOf b q) k)) = _
  refine (congrFun (V_main_arg0 m c) _).trans (congrArg (a0 m c) (funext fun a => Fin.ext ?_))
  have f := (idx_facts t).1
  match a with
  | ⟨0, _⟩ => show win0_0.index t 0 * 1 + 1 * 0 = t.val / 8; rw [f.1]; omega
  | ⟨1, _⟩ => show win0_0.index t 1 * 1024 + 1 * (b.val * 64 + q.val) = (t.val % 8 * 16 + b.val) * 64 + q.val; rw [f.2.1]; omega
  | ⟨2, _⟩ => show win0_0.index t 2 * 512 + 1 * k.val = 1536 + k.val; rw [f.2.2]; omega

theorem iblk1_apply (c : Dev nD) (t : Fin cfg0.N) (i : Fin 128) (o : Fin 256) : iblk m c 1 t (ix2 i o) = table m c (ix2 i o) := by
  show V m c main_v2 (((cfg0.win 1).blk t).view.emb (ix2 i o)) = _
  refine (congrFun (V_t m c) _).trans (congrArg (table m c) (funext fun a => Fin.ext ?_))
  have f := (idx_facts t).2.1
  match a with
  | ⟨0, _⟩ => show win0_1.index t 0 * 128 + 1 * i.val = i.val; rw [f.1]; omega
  | ⟨1, _⟩ => show win0_1.index t 1 * 256 + 1 * o.val = o.val; rw [f.2]; omega

/-! ## The result array -/

/-- The whole stage at a batch, a part, a place, a slab position, a group and a channel of it. -/
def full (c : Dev nD) (a h : Fin 2) (q : Fin 64) (b : Fin 128) (g : Fin 4) (l : Fin 128) : EReal :=
  ∑ i : Fin 128, a0 m c (ix3 a (rowAt b q) (colAt (chan g i))) * table m c (ix2 i (col h l))

def G2 (c : Dev nD) : Buf (Elt Ideal) ((c : Thread nD τ).loc main_v3) :=
  fun i : S2x2x64x128x512.Idx => full m c (i 0) (i 1) (i 2) (i 3) (grpOf (i 4)) (laneOf (i 4))

/-- A point's block of the stage is the whole stage at the point's batch and slab positions. -/
theorem block_eq (c : Dev nD) (t : Fin cfg0.N) (h : Fin 2) (q : Fin 64) (b : Fin 16) (g : Fin 4) (l : Fin 128) :
    blockSum (iblk m c 0 t) (iblk m c 1 t) h q b g l = full m c (batch t) h q (pos t b) g l := by
  unfold blockSum full
  simp only [iblk0_apply, iblk1_apply]

theorem flushed2_eq (c : Dev nD) (t : Fin cfg0.N) :
    (dats m 0 c).flushed 2 t = ((cfg0.win 2).blk t).view.read (Elt Ideal) (G2 m c) := by
  rw [Value.flushed2]
  funext y
  show out0_2 _ _ y = G2 m c (((cfg0.win 2).blk t).view.emb y)
  refine (out2_apply _ _ y).trans ((block_eq m c t _ _ _ _ _).trans ?_)
  have h0 : (y 0).val = 0 := Nat.lt_one_iff.1 (y 0).isLt
  have f := (idx_facts t).2.2
  have e4 : (y 4 : Fin 512) = (((cfg0.win 2).blk t).view.emb y) 4 := Fin.ext (by
    show (y 4).val = win0_2.index t 4 * 512 + 1 * (y 4).val; rw [f.2.2.2.2]; omega)
  refine congr (congr (congr (congr (congr (congrArg (full m c) (Fin.ext ?_)) (Fin.ext ?_)) (Fin.ext ?_)) (Fin.ext ?_))
    (congrArg grpOf e4)) (congrArg laneOf e4)
  · show t.val / 8 = win0_2.index t 0 * 1 + 1 * (y 0).val; rw [f.1, h0]; omega
  · show (y 1).val = win0_2.index t 1 * 2 + 1 * (y 1).val; rw [f.2.1]; omega
  · show (y 2).val = win0_2.index t 2 * 64 + 1 * (y 2).val; rw [f.2.2.1]; omega
  · show t.val % 8 * 16 + (y 3).val = win0_2.index t 3 * 16 + 1 * (y 3).val; rw [f.2.2.2.1]; omega

/-- The point whose block holds an index. -/
def pointOf (i : S2x2x64x128x512.Idx) : Fin cfg0.N := ⟨(i 0).val * 8 + (i 3).val / 16, by
  have h0 : (i 0).val < 2 := (i 0).isLt
  have h : (i 3).val < 128 := (i 3).isLt
  have hN : cfg0.N = 16 := N_0
  omega⟩

theorem mem2 (i : S2x2x64x128x512.Idx) : i ∈ ((cfg0.win 2).blk (pointOf i)).view.set := by
  show i ∈ ((View.whole main_v3).slice (win0_2.rect (pointOf i))).set
  rw [View.set_slice_whole, Rect.mem_set_unit]
  have h0 : (i 0).val < 2 := (i 0).isLt
  have h1 : (i 1).val < 2 := (i 1).isLt
  have h2 : (i 2).val < 64 := (i 2).isLt
  have h3 : (i 3).val < 128 := (i 3).isLt
  have h4 : (i 4).val < 512 := (i 4).isLt
  have f := (idx_facts (pointOf i)).2.2
  have hp : (pointOf i).val = (i 0).val * 8 + (i 3).val / 16 := rfl
  intro a
  match a with
  | ⟨0, _⟩ =>
    show win0_2.index (pointOf i) 0 * 1 ≤ (i 0).val ∧ (i 0).val < win0_2.index (pointOf i) 0 * 1 + 1
    rw [f.1, hp]; omega
  | ⟨1, _⟩ =>
    show win0_2.index (pointOf i) 1 * 2 ≤ (i 1).val ∧ (i 1).val < win0_2.index (pointOf i) 1 * 2 + 2
    rw [f.2.1]; omega
  | ⟨2, _⟩ =>
    show win0_2.index (pointOf i) 2 * 64 ≤ (i 2).val ∧ (i 2).val < win0_2.index (pointOf i) 2 * 64 + 64
    rw [f.2.2.1]; omega
  | ⟨3, _⟩ =>
    show win0_2.index (pointOf i) 3 * 16 ≤ (i 3).val ∧ (i 3).val < win0_2.index (pointOf i) 3 * 16 + 16
    rw [f.2.2.2.1, hp]; omega
  | ⟨4, _⟩ =>
    show win0_2.index (pointOf i) 4 * 512 ≤ (i 4).val ∧ (i 4).val < win0_2.index (pointOf i) 4 * 512 + 512
    rw [f.2.2.2.2]; omega

theorem final2 (c : Dev nD) : (dats m 0 c).arrAt 2 cfg0.N = G2 m c :=
  (dats m 0 c).arrAt_eq_of_cover 2 (G2 m c) (fun t _ => flushed2_eq m c t) fun i => ⟨pointOf i, flush0_2 _, mem2 i⟩

end Cert.ChandftIdeal.Closed

/-! ## The reference -/

namespace Cert.ChandftRefIdeal.Closed

open Cert.ChandftRefIdeal Cert.ChandftRefIdeal.Gen Cert.ChandftRefIdeal.Read Cert.DftForm Cert.ChandftIdeal.Closed

variable (x0 : (⟨S2x8192x2048, .bf16⟩ : BufTy).Contents (Elt Ideal)) (x1 x2 : (⟨S128x128, .f32⟩ : BufTy).Contents (Elt Ideal))

/-- The signal split into slab positions, places, groups and channels. -/
theorem split_apply (a : Fin 2) (b : Fin 128) (q : Fin 64) (g : Fin 4) (i : Fin 128) :
    val_main_v2 (F := Ideal) x0 (ix5 a b q g i) = x0 (ix3 a (rowAt b q) (colAt (chan g i))) := by
  have e : val_main_v1 (F := Ideal) x0 (ix3 a (rowAt b q) (chan g i)) = x0 (ix3 a (rowAt b q) (colAt (chan g i))) := by
    pointwise [val_main_v1, val_main_v0, colAt]
  refine Eq.trans ?_ e
  unfold val_main_v2
  refine shapeCast_apply _ _ _ _ ?_
  rewrite [Shape.rowMajor_val_five, Shape.rowMajor_val_three]
  show (a.val * 8192 + (b.val * 64 + q.val)) * 512 + (g.val * 128 + i.val) = (((a.val * 128 + b.val) * 64 + q.val) * 4 + g.val) * 128 + i.val
  omega

/-- The two parts of the products. -/
theorem dot_re (a : Fin 2) (b : Fin 128) (q : Fin 64) (g : Fin 4) (l : Fin 128) : val_main_v3 (F := Ideal) x0 x1 (ix5 a b q g l)
    = ∑ i : Fin 128, x0 (ix3 a (rowAt b q) (colAt (chan g i))) * x1 (ix2 i l) := by
  simp only [← split_apply]
  generalize hu : val_main_v2 (F := Ideal) x0 = U
  pointwise [val_main_v3, hu]
theorem dot_im (a : Fin 2) (b : Fin 128) (q : Fin 64) (g : Fin 4) (l : Fin 128) : val_main_v5 (F := Ideal) x0 x2 (ix5 a b q g l)
    = ∑ i : Fin 128, x0 (ix3 a (rowAt b q) (colAt (chan g i))) * -(x2 (ix2 i l)) := by
  simp only [← split_apply]
  generalize hu : val_main_v2 (F := Ideal) x0 = U
  pointwise [val_main_v5, val_main_v4, hu]

/-- The storage format's cast leaves a number as it is. -/
theorem cast_apply (u : FVec Ideal S2x2x64x128x512 .f32) (j : S2x2x64x128x512.Idx) :
    (truncf .bf16 u bitsLt_bf16_f32 : FVec Ideal S2x2x64x128x512 .bf16) j = u j := rfl

/-- The result joins groups and channels again. -/
theorem join_apply (a h : Fin 2) (q : Fin 64) (b : Fin 128) (g : Fin 4) (l : Fin 128) :
    val_main_v11 (F := Ideal) x0 x1 x2 (ix5 a h q b (chan g l)) = val_main_v9 (F := Ideal) x0 x1 x2 (ix6 a h q b g l) := by
  refine (cast_apply (val_main_v10 (F := Ideal) x0 x1 x2) _).trans ?_
  unfold val_main_v10
  generalize val_main_v9 (F := Ideal) x0 x1 x2 = u
  refine shapeCast_apply _ _ _ _ ?_
  rewrite [Shape.rowMajor_val_five, Shape.rowMajor_val_six]
  show ((((a.val * 2 + h.val) * 64 + q.val) * 128 + b.val) * 4 + g.val) * 128 + l.val
    = (((a.val * 2 + h.val) * 64 + q.val) * 128 + b.val) * 512 + (g.val * 128 + l.val)
  omega

theorem res_re (a : Fin 2) (q : Fin 64) (b : Fin 128) (g : Fin 4) (l : Fin 128) :
    val_main_v9 (F := Ideal) x0 x1 x2 (ix6 a 0 q b g l) = val_main_v3 (F := Ideal) x0 x1 (ix5 a b q g l) := by
  generalize hd : val_main_v3 (F := Ideal) x0 x1 = D
  pointwise [val_main_v9, val_main_v8, val_main_v6, hd]
theorem res_im (a : Fin 2) (q : Fin 64) (b : Fin 128) (g : Fin 4) (l : Fin 128) :
    val_main_v9 (F := Ideal) x0 x1 x2 (ix6 a 1 q b g l) = val_main_v5 (F := Ideal) x0 x2 (ix5 a b q g l) := by
  generalize hd : val_main_v5 (F := Ideal) x0 x2 = D
  pointwise [val_main_v9, val_main_v8, val_main_v7, hd]

end Cert.ChandftRefIdeal.Closed

/-! ## The claims -/

namespace Cert.ChandftClaims

open Cert.DftForm Cert.ChandftIdeal.Closed

variable (m : (ℓ : Loc Cert.ChandftIdeal.nD Cert.ChandftIdeal.τ Cert.ChandftIdeal.sig) → Buf (Elt Ideal) ℓ) (c : Dev Cert.ChandftIdeal.nD)

/-- The reference's result is the kernel's array. -/
theorem res_eq : Cert.ChandftRefIdeal.Read.val_main_v11 (F := Ideal) (a0 m c) (a1 m c) (a2 m c) = G2 m c := by
  funext i
  obtain ⟨a, h, q, b, k, rfl⟩ : ∃ (a : Fin 2) (h : Fin 2) (q : Fin 64) (b : Fin 128) (k : Fin 512), i = ix5 a h q b k :=
    ⟨i 0, i 1, i 2, i 3, i 4, eq_ix5 i⟩
  show _ = full m c a h q b (grpOf k) (laneOf k)
  rw [chan_of k, grpOf_chan, laneOf_chan]
  generalize grpOf k = g
  generalize laneOf k = l
  unfold full
  refine (Cert.ChandftRefIdeal.Closed.join_apply _ _ _ a h q b g l).trans ?_
  obtain rfl | rfl : h = 0 ∨ h = 1 := by omega
  · refine (Cert.ChandftRefIdeal.Closed.res_re _ _ _ a q b g l).trans ((Cert.ChandftRefIdeal.Closed.dot_re _ _ a b q g l).trans ?_)
    simp only [table_re]
  · refine (Cert.ChandftRefIdeal.Closed.res_im _ _ _ a q b g l).trans ((Cert.ChandftRefIdeal.Closed.dot_im _ _ a b q g l).trans ?_)
    simp only [table_im]

/-- The stage's kernel and its reference end with the same array. -/
theorem algebraic : Cert.algebraic_ChandftIdeal_ChandftRefIdeal := by
  intro m g m' g' _ hag
  refine ⟨fun c => G2 m c,
    (θ_run Cert.ChandftIdeal.defs _ _).mono (fun r h c => ⟨(h c).1.trans (final2 m c), (h c).2⟩) (Cert.ChandftIdeal.Value.run_blocks m g),
    (θ_run Cert.ChandftRefIdeal.defs _ _).mono (fun r h c => ⟨(h c).1.trans ?_, (h c).2⟩) (Cert.ChandftRefIdeal.Value.run m' g')⟩
  obtain ⟨h0, h1, h2⟩ := hag c
  rw [h0, h1, h2]
  exact (Cert.ChandftRefIdeal.Read.val_main_v11_eq _ _ _).trans (res_eq m c)

/-- The kernel, its idealization and the reference keep their arguments and end quiescent. -/
theorem frame_p : Cert.quiescent_Chandft := fun m ρ _ => Cert.Chandft.Gen.frame m ρ
theorem frame_pi : Cert.quiescent_ChandftIdeal := fun m ρ _ => Cert.ChandftIdeal.Gen.frame m ρ
theorem frame_ri : Cert.quiescent_ChandftRefIdeal := fun m ρ _ =>
  (θ_run Cert.ChandftRefIdeal.defs _ _).mono (fun r h => ⟨fun c => (h c).2,
      Idealize.ShloMosaic.sem_eq_zero_of_no_sems (by decide) r.2⟩) (Cert.ChandftRefIdeal.Value.run (F := Ideal) m ρ)

end Cert.ChandftClaims
-- ==== Proof.FtapsValue.lean ====
/-
  The value of the filters' taps: two hidden layers of sines over the positions' features, computed two halves of a block at a time
  against joined weights, the products with the third weights, the decay and the zero row; and the sums of the taps' sizes,
  accumulated block by block.
-/
module

public import proofs.«01_k».proof.Defs
public import proofs.«01_k».proof.Proof.Gen.Ftaps.Frame
public import proofs.«01_k».proof.Proof.Gen.FtapsIdeal.Value
public import proofs.«01_k».proof.Proof.Gen.FtapsRefIdeal.Run
public import proofs.«01_k».proof.Proof.Gen.FtapsRefIdeal.Read
public import proofs.«01_k».proof.Proof.DftForm
public import Idealize.ShloMosaic.Lib.Pipeline.Value
public import Idealize.ShloMosaic.Lib.Pointwise
public import Idealize.ShloMosaic.Lib.Routing.OpsOne
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FtapsIdeal.Closed

open Cert.FtapsIdeal Cert.FtapsIdeal.Gen Cert.DftForm

section Half

/-! ## One half of a point's rows -/

/-- The two halves of a block's rows side by side, as the first product reads them. -/
def sides (x : FVec Ideal S2048x128 .f32) : FVec Ideal S1024x256 .bf16 :=
  truncf .bf16 (concatenate S1024x256 1 [⟨S1024x128, extractStridedSlice S1024x128 ![0, 0] x slices_S2048x128_o0_0_S1024x128⟩,
    ⟨S1024x128, extractStridedSlice S1024x128 ![1024, 0] x slices_S2048x128_o1024_0_S1024x128⟩] concatenates_S1024x128_S1024x128_S1024x256_d1) bitsLt_bf16_f32
theorem sides_lo (x : FVec Ideal S2048x128 .f32) (r : Fin 1024) (i : Fin 128) :
    sides x (ix2 r (lo 256 rfl i)) = x (ix2 (lo 2048 rfl r) i) :=
  (cols_lo (n := 128) (N := 256) rfl _ _ concatenates_S1024x128_S1024x128_S1024x256_d1 r i).trans (by pointwise [lo])
theorem sides_hi (x : FVec Ideal S2048x128 .f32) (r : Fin 1024) (i : Fin 128) :
    sides x (ix2 r (hi 256 rfl i)) = x (ix2 (hi 2048 rfl r) i) :=
  (cols_hi (n := 128) (N := 256) rfl _ _ concatenates_S1024x128_S1024x128_S1024x256_d1 r i).trans (by pointwise [hi])

/-- A hidden layer: a product, a bias, a sine. -/
def layer1 (x : FVec Ideal S1024x256 .bf16) (w : FVec Ideal S256x128 .bf16) (b : FVec Ideal S1x128 .f32) : FVec Ideal S1024x128 .bf16 :=
  truncf .bf16 (sin (addf (matmul dot_S1024x256_S256x128_S1024x128_1_0_0_1_n_n none x (shapeCast S256x128 w shapeCasts_S256x128_S256x128)
      (constant S1024x128 .f32 0x00000000#32))
    (broadcastTo S1024x128 (shapeCast S1x128 b shapeCasts_S1x128_S1x128) broadcasts_S1x128_S1024x128))) bitsLt_bf16_f32
def layer2 (x : FVec Ideal S1024x128 .bf16) (w : FVec Ideal S128x128 .bf16) (b : FVec Ideal S1x128 .f32) : FVec Ideal S1024x128 .bf16 :=
  truncf .bf16 (sin (addf (matmul dot_S1024x128_S128x128_S1024x128_1_0_0_1_n_n none x (shapeCast S128x128 w shapeCasts_S128x128_S128x128)
      (constant S1024x128 .f32 0x00000000#32))
    (broadcastTo S1024x128 (shapeCast S1x128 b shapeCasts_S1x128_S1x128) broadcasts_S1x128_S1024x128))) bitsLt_bf16_f32

theorem layer1_apply (x : FVec Ideal S1024x256 .bf16) (w : FVec Ideal S256x128 .bf16) (b : FVec Ideal S1x128 .f32) (r : Fin 1024) (k : Fin 128) :
    layer1 x w b (ix2 r k) = Ideal.sin (∑ i : Fin 256, x (ix2 r i) * w (ix2 i k) + b (ix2 0 k)) := by
  unfold layer1
  pointwise
theorem layer2_apply (x : FVec Ideal S1024x128 .bf16) (w : FVec Ideal S128x128 .bf16) (b : FVec Ideal S1x128 .f32) (r : Fin 1024) (k : Fin 128) :
    layer2 x w b (ix2 r k) = Ideal.sin (∑ i : Fin 128, x (ix2 r i) * w (ix2 i k) + b (ix2 0 k)) := by
  unfold layer2
  pointwise

theorem pay3_eq (x0 : Vec Ideal S2048x128 .f32) : k0_pay3 x0 = x0 := shapeCast_self _ _

theorem pay4_eq (x0 : Vec Ideal S2048x128 .f32) (x1 : Vec Ideal S256x128 .bf16) (x2 : Vec Ideal S1x128 .f32) (x3 : Vec Ideal S128x128 .bf16)
    (x4 : Vec Ideal S1x128 .f32) : k0_pay4 x0 x1 x2 x3 x4 = layer2 (layer1 (sides x0) x1 x2) x3 x4 := by
  unfold k0_pay4
  rw [pay3_eq]
  rfl

/-- The third product, for one half of the block. -/
def taps (h : FVec Ideal S1024x128 .bf16) (w : FVec Ideal S1x1x128x1024 .bf16) : FVec Ideal S1024x1024 .f32 :=
  matmul dot_S1024x128_S128x1024_S1024x1024_1_0_0_1_n_n none h (shapeCast S128x1024 w shapeCasts_S1x1x128x1024_S128x1024)
    (constant S1024x1024 .f32 0x00000000#32)
theorem taps_apply (h : FVec Ideal S1024x128 .bf16) (w : FVec Ideal S1x1x128x1024 .bf16) (r : Fin 1024) (q : Fin 1024) :
    taps h w (ix2 r q) = ∑ k : Fin 128, h (ix2 r k) * w (ix4 0 0 k q) := by
  unfold taps
  pointwise

/-- The decay of a half's rows. -/
theorem decay0_apply (x0 : Vec Ideal S2048x128 .f32) (x6 : Vec Ideal S1x512 .f32) (r : Fin 1024) (l : Fin 512) :
    k0_pay9 (k0_pay7 x0) (k0_pay8 x6) (ix2 r l) = Ideal.exp (-(x0 (ix2 (lo 2048 rfl r) 0)) * x6 (ix2 0 l)) := by
  rw [← zero_sub]
  unfold k0_pay9 k0_pay7 k0_pay8
  rw [pay3_eq]
  pointwise [lo]
theorem decay1_apply (x0 : Vec Ideal S2048x128 .f32) (x6 : Vec Ideal S1x512 .f32) (r : Fin 1024) (l : Fin 512) :
    k0_pay17 (k0_pay3 x0) x6 (ix2 r l) = Ideal.exp (-(x0 (ix2 (hi 2048 rfl r) 0)) * x6 (ix2 0 l)) := by
  rw [← zero_sub, pay3_eq]
  unfold k0_pay17
  pointwise [hi]

/-- Where the middle tap lies, in either half of a point's rows. -/
theorem mask0_apply (n : Nat) (r : Fin 1024) : k0_pay10 (BitVec.ofNat 32 n) (ix2 r 0) = IntOp.cmpi .ne (BitVec.ofNat 32 n * 2048#32 + 0#32 + BitVec.ofNat 32 r.val) 8192#32 := by
  unfold k0_pay10
  pointwise
  rfl
theorem mask1_apply (n : Nat) (r : Fin 1024) : k0_pay18 (BitVec.ofNat 32 n) (ix2 r 0) = IntOp.cmpi .ne (BitVec.ofNat 32 n * 2048#32 + 1024#32 + BitVec.ofNat 32 r.val) 8192#32 := by
  unfold k0_pay18
  pointwise
  rfl

theorem word_eq (n b r : Nat) (hn : n < 8) (hb : b ≤ 1024) (hr : r < 1024) :
    (BitVec.ofNat 32 n * 2048#32 + BitVec.ofNat 32 b + BitVec.ofNat 32 r = 8192#32) ↔ n * 2048 + (b + r) = 8192 := by
  rw [← BitVec.toNat_inj]
  simp only [BitVec.toNat_add, BitVec.toNat_mul, BitVec.toNat_ofNat]
  omega

/-- A masked product reads a tap or the zero. -/
theorem pay11_apply (a : BitVec 32) (M : FVec Ideal S1024x1024 .f32) (u v : FVec Ideal S1024x512 .f32) (r : Fin 1024) (l : Fin 512) :
    k0_pay11 a M u v (ix2 r l) = Scalar.select (k0_pay10 a (ix2 r 0)) (M (ix2 r (lo 1024 rfl l)) * k0_pay9 u v (ix2 r l)) 0 := by
  unfold k0_pay11
  generalize k0_pay10 a = K
  generalize k0_pay9 u v = D
  pointwise [lo]
theorem pay13_apply (a : BitVec 32) (M : FVec Ideal S1024x1024 .f32) (u v : FVec Ideal S1024x512 .f32) (r : Fin 1024) (l : Fin 512) :
    k0_pay13 a M u v (ix2 r l) = Scalar.select (k0_pay10 a (ix2 r 0)) (M (ix2 r (hi 1024 rfl l)) * k0_pay9 u v (ix2 r l)) 0 := by
  unfold k0_pay13
  generalize k0_pay10 a = K
  generalize k0_pay9 u v = D
  pointwise [hi]

end Half

section Arrays

/-! ## A block of entries set into a table -/

section Place
open Idealize.ShloMosaic.Routing
variable {R C A B w : Nat} {α : Type}

/-- Where an entry of the set block lands, when nothing of the block's axes is inserted. -/
theorem window_both {si : Shape} (d : ScatterDims ⟨2, ![R, C]⟩ si ⟨2, ![A, B]⟩) (hu : d.updateWindowDims = [0, 1])
    (hi : d.insertedWindowDims = []) (a : Fin A) (b : Fin B) : d.window (ix2 a b) 0 = a.val ∧ d.window (ix2 a b) 1 = b.val := by
  have hk : d.sKept = [0, 1] := by
    show (Shape.kept ⟨2, ![R, C]⟩ d.insertedWindowDims) = _
    rw [hi]
    rfl
  obtain ⟨uw, iw, sd, iv, wf⟩ := d
  dsimp only at hu hi
  subst hu hi
  exact ⟨rfl, rfl⟩

/-- Where an entry of the set block lands, from where the block starts. -/
theorem lands {si : Shape} (d : ScatterDims ⟨2, ![R, C]⟩ si ⟨2, ![A, B]⟩) (hu : d.updateWindowDims = [0, 1])
    (hi : d.insertedWindowDims = []) (idx : IVec si w) (p q : Nat) (hp : ∀ j, d.start j idx 0 = p) (hq : ∀ j, d.start j idx 1 = q)
    (a : Fin A) (b : Fin B) (r : Fin R) (c : Fin C) :
    d.resultIdx? (ix2 a b) idx = some (ix2 r c) ↔ p + a.val = r.val ∧ q + b.val = c.val :=
  (resultIdx?_ix2 (R := R) (C := C) d (ix2 a b) idx r c).trans (by
    rw [hp, hq, (window_both d hu hi a b).1, (window_both d hu hi a b).2]
    omega)

/-- A block set at a start: an entry inside the block is the block's, -/
theorem place_inside {si : Shape} (d : ScatterDims ⟨2, ![R, C]⟩ si ⟨2, ![A, B]⟩) (hu : d.updateWindowDims = [0, 1])
    (hi : d.insertedWindowDims = []) (x : (⟨2, ![R, C]⟩ : Shape).Idx → α) (idx : IVec si w) (u : (⟨2, ![A, B]⟩ : Shape).Idx → α) (p q : Nat)
    (hp : ∀ j, d.start j idx 0 = p) (hq : ∀ j, d.start j idx 1 = q) (r : Fin R) (c : Fin C) (a : Fin A) (b : Fin B)
    (hr : r.val = p + a.val) (hc : c.val = q + b.val) : Host.scatter d (fun _ y => y) x idx u (ix2 r c) = u (ix2 a b) := by
  refine scatter_set_hit d x idx u _ _ (fun k hk => ?_) (ix2 a b) ((lands d hu hi idx p q hp hq a b r c).2 ⟨hr.symm, hc.symm⟩)
  obtain ⟨a', b', rfl⟩ : ∃ (a' : Fin A) (b' : Fin B), k = ix2 a' b' := ⟨k 0, k 1, eq_ix2 k⟩
  have h := (lands d hu hi idx p q hp hq a' b' r c).1 hk
  rw [show a' = a from Fin.ext (by omega), show b' = b from Fin.ext (by omega)]
/-- and one outside it keeps the table's. -/
theorem place_outside {si : Shape} (d : ScatterDims ⟨2, ![R, C]⟩ si ⟨2, ![A, B]⟩) (hu : d.updateWindowDims = [0, 1])
    (hi : d.insertedWindowDims = []) (x : (⟨2, ![R, C]⟩ : Shape).Idx → α) (idx : IVec si w) (u : (⟨2, ![A, B]⟩ : Shape).Idx → α) (p q : Nat)
    (hp : ∀ j, d.start j idx 0 = p) (hq : ∀ j, d.start j idx 1 = q) (r : Fin R) (c : Fin C)
    (ho : ¬((p ≤ r.val ∧ r.val < p + A) ∧ q ≤ c.val ∧ c.val < q + B)) : Host.scatter d (fun _ y => y) x idx u (ix2 r c) = x (ix2 r c) := by
  refine scatter_set_miss d x idx u _ fun k hk => ?_
  obtain ⟨a', b', rfl⟩ : ∃ (a' : Fin A) (b' : Fin B), k = ix2 a' b' := ⟨k 0, k 1, eq_ix2 k⟩
  have h := (lands d hu hi idx p q hp hq a' b' r c).1 hk
  omega

/-- The start of a block at one index word, on the rows. -/
theorem start_rows (d : ScatterDims ⟨2, ![R, C]⟩ ⟨1, ![1]⟩ ⟨2, ![A, B]⟩) (hs : d.scatterDimsToOperandDims = [0])
    (idx : IVec ⟨1, ![1]⟩ w) (j : (⟨2, ![A, B]⟩ : Shape).Idx) : d.start j idx 0 = (idx (ix1 0)).toInt ∧ d.start j idx 1 = 0 := by
  have hm : (0 : Fin 2) ∈ d.scatterDimsToOperandDims := by rw [hs]; exact List.mem_singleton.2 rfl
  constructor
  · unfold ScatterDims.start
    rw [dif_pos hm]
    refine congrArg (fun z => (idx z).toInt) (funext fun b => ?_)
    match b with
    | ⟨0, _⟩ => exact Subsingleton.elim (α := Fin 1) _ _
  · unfold ScatterDims.start
    rw [dif_neg fun h => by rw [hs] at h; exact absurd (List.mem_singleton.1 h) (by decide : (1 : Fin 2) ≠ 0)]
/-- The start of a block at two index words. -/
theorem start_both (d : ScatterDims ⟨2, ![R, C]⟩ ⟨1, ![2]⟩ ⟨2, ![A, B]⟩) (hs : d.scatterDimsToOperandDims = [0, 1]) (hv : d.indexVectorDim = 0)
    (idx : IVec ⟨1, ![2]⟩ w) (j : (⟨2, ![A, B]⟩ : Shape).Idx) (q : Fin 2) : d.start j idx q = (idx (ix1 q)).toInt :=
  start_pair (R := R) (C := C) d hs hv idx j q
end Place

/-! ## The weights as the kernel lays them out -/

variable (m : (ℓ : Loc nD τ sig) → Buf (Elt Ideal) ℓ) (ρ : Dev nD → PrngReg)

/-- The kernel's argument arrays. -/
abbrev a0 (c : Dev nD) : FVec Ideal S16384x33 .f32 := m ((c : Thread nD τ).loc main_arg0)
abbrev a1 (c : Dev nD) : FVec Ideal S1x512 .f32 := m ((c : Thread nD τ).loc main_arg1)
abbrev a2 (c : Dev nD) : FVec Ideal S1x33x64 .f32 := m ((c : Thread nD τ).loc main_arg2)
abbrev a3 (c : Dev nD) : FVec Ideal S1x64 .f32 := m ((c : Thread nD τ).loc main_arg3)
abbrev a4 (c : Dev nD) : FVec Ideal S1x64x64 .f32 := m ((c : Thread nD τ).loc main_arg4)
abbrev a5 (c : Dev nD) : FVec Ideal S1x64 .f32 := m ((c : Thread nD τ).loc main_arg5)
abbrev a6 (c : Dev nD) : FVec Ideal S1x64x2048 .f32 := m ((c : Thread nD τ).loc main_arg6)

theorem zero_word : (FloatOps.sitofp .f32 0#32 : Ideal .f32) = (0 : EReal) := by
  show (((0#32 : BitVec 32).toInt : ℝ) : EReal) = 0
  norm_num
/-- The features with zeros beside them. -/
def wide (z : FVec Ideal S16384x33 .f32) : FVec Ideal S16384x128 .f32 :=
  pad S16384x128 ![0, 0] ![0, 95] ![0, 0] z (sitofp .f32 (constantI S_ 32 0#32) : FVec Ideal S_ .f32) pads_S16384x33_S16384x128_000_0950 h_S_
theorem wide_apply (z : FVec Ideal S16384x33 .f32) (r : Fin 16384) (i : Fin 128) :
    wide z (ix2 r i) = if h : i.val < 33 then z (ix2 r ⟨i.val, h⟩) else 0 := by
  unfold wide
  pointwise
  rw [show (FloatOps.sitofp .f32 0#32 : Ideal .f32) = 0 from zero_word]

/-- The first layer's weights with zero rows under them. -/
def tall (w : FVec Ideal S1x33x64 .f32) : FVec Ideal S128x64 .f32 :=
  Host.scatter scatter_S128x64_S1_S33x64_01_n_0_0 (fun _ b => b) (broadcastInDim S128x64 ![] bcast_S_S128x64 (constant S_ .f32 0x00000000#32))
    (broadcastInDim S1 ![] bcast_S_S1 (constantI S_ 32 0#32)) (shapeCast S33x64 w shapeCasts_S1x33x64_S33x64)

def at2 (p q : BitVec 32) : IVec S2 32 := concatenate S2 0 [⟨S1, broadcastInDim S1 ![] bcast_S_S1 (constantI S_ 32 p)⟩,
  ⟨S1, broadcastInDim S1 ![] bcast_S_S1 (constantI S_ 32 q)⟩] concatenates_S1_S1_S2_d0
theorem at2_apply (p q : BitVec 32) : at2 p q (ix1 0) = p ∧ at2 p q (ix1 1) = q := ⟨rfl, rfl⟩

theorem tall_start (j : S33x64.Idx) : scatter_S128x64_S1_S33x64_01_n_0_0.start j (broadcastInDim S1 ![] bcast_S_S1 (constantI S_ 32 0#32)) 0 = (0 : Nat)
    ∧ scatter_S128x64_S1_S33x64_01_n_0_0.start j (broadcastInDim S1 ![] bcast_S_S1 (constantI S_ 32 0#32)) 1 = (0 : Nat) :=
  start_rows scatter_S128x64_S1_S33x64_01_n_0_0 rfl (broadcastInDim S1 ![] bcast_S_S1 (constantI S_ 32 0#32)) j
theorem tall_top (w : FVec Ideal S1x33x64 .f32) (i : Fin 128) (k : Fin 64) (h : i.val < 33) : tall w (ix2 i k) = w (ix3 0 ⟨i.val, h⟩ k) :=
  (place_inside scatter_S128x64_S1_S33x64_01_n_0_0 rfl rfl _ _ _ 0 0 (fun j => (tall_start j).1) (fun j => (tall_start j).2) i k ⟨i.val, h⟩ k
    (Nat.zero_add _).symm (Nat.zero_add _).symm).trans (by pointwise)
theorem tall_below (w : FVec Ideal S1x33x64 .f32) (i : Fin 128) (k : Fin 64) (h : ¬i.val < 33) : tall w (ix2 i k) = 0 :=
  (place_outside scatter_S128x64_S1_S33x64_01_n_0_0 rfl rfl _ _ _ 0 0 (fun j => (tall_start j).1) (fun j => (tall_start j).2) i k (by omega)).trans (by pointwise)

/-- Two copies of it on the diagonal. -/
def diag1 (w : FVec Ideal S1x33x64 .f32) : FVec Ideal S256x128 .f32 :=
  Host.scatter scatter_S256x128_S2_S128x64_01_n_01_0 (fun _ b => b)
    (Host.scatter scatter_S256x128_S2_S128x64_01_n_01_0 (fun _ b => b) (broadcastInDim S256x128 ![] bcast_S_S256x128 (constant S_ .f32 0x00000000#32)) (at2 0#32 0#32) (tall w))
    (at2 128#32 64#32) (tall w)
/-- Where the two copies start. -/
theorem start_first (j : S128x64.Idx) (q : Fin 2) : scatter_S256x128_S2_S128x64_01_n_01_0.start j (at2 0#32 0#32) q = (0 : Nat) := by
  rw [start_both _ rfl rfl]
  match q with
  | ⟨0, _⟩ => exact congrArg BitVec.toInt (at2_apply 0#32 0#32).1
  | ⟨1, _⟩ => exact congrArg BitVec.toInt (at2_apply 0#32 0#32).2
theorem start_second (j : S128x64.Idx) : scatter_S256x128_S2_S128x64_01_n_01_0.start j (at2 128#32 64#32) 0 = (128 : Nat)
    ∧ scatter_S256x128_S2_S128x64_01_n_01_0.start j (at2 128#32 64#32) 1 = (64 : Nat) := by
  rw [start_both _ rfl rfl, start_both _ rfl rfl]
  exact ⟨congrArg BitVec.toInt (at2_apply 128#32 64#32).1, congrArg BitVec.toInt (at2_apply 128#32 64#32).2⟩

section Copies
variable (w : FVec Ideal S1x33x64 .f32) (i : Fin 128) (k : Fin 64)
theorem diag1_ll : diag1 w (ix2 (lo 256 rfl i) (lo 128 rfl k)) = tall w (ix2 i k) :=
  (place_outside _ rfl rfl _ _ _ 128 64 (fun j => (start_second j).1) (fun j => (start_second j).2) _ _ (by
    show ¬((128 ≤ i.val ∧ i.val < 128 + 128) ∧ 64 ≤ k.val ∧ k.val < 64 + 64); omega)).trans
    (place_inside _ rfl rfl _ _ _ 0 0 (fun j => start_first j 0) (fun j => start_first j 1) _ _ i k (Nat.zero_add _).symm (Nat.zero_add _).symm)
theorem diag1_hh : diag1 w (ix2 (hi 256 rfl i) (hi 128 rfl k)) = tall w (ix2 i k) :=
  place_inside _ rfl rfl _ _ _ 128 64 (fun j => (start_second j).1) (fun j => (start_second j).2) _ _ i k rfl rfl
theorem diag1_lh : diag1 w (ix2 (lo 256 rfl i) (hi 128 rfl k)) = 0 :=
  (place_outside _ rfl rfl _ _ _ 128 64 (fun j => (start_second j).1) (fun j => (start_second j).2) _ _ (by
    show ¬((128 ≤ i.val ∧ i.val < 128 + 128) ∧ 64 ≤ 64 + k.val ∧ 64 + k.val < 64 + 64); omega)).trans
    ((place_outside _ rfl rfl _ _ _ 0 0 (fun j => start_first j 0) (fun j => start_first j 1) _ _ (by
      show ¬((0 ≤ i.val ∧ i.val < 0 + 128) ∧ 0 ≤ 64 + k.val ∧ 64 + k.val < 0 + 64); omega)).trans (by pointwise))
theorem diag1_hl : diag1 w (ix2 (hi 256 rfl i) (lo 128 rfl k)) = 0 :=
  (place_outside _ rfl rfl _ _ _ 128 64 (fun j => (start_second j).1) (fun j => (start_second j).2) _ _ (by
    show ¬((128 ≤ 128 + i.val ∧ 128 + i.val < 128 + 128) ∧ 64 ≤ k.val ∧ k.val < 64 + 64); omega)).trans
    ((place_outside _ rfl rfl _ _ _ 0 0 (fun j => start_first j 0) (fun j => start_first j 1) _ _ (by
      show ¬((0 ≤ 128 + i.val ∧ 128 + i.val < 0 + 128) ∧ 0 ≤ k.val ∧ k.val < 0 + 64); omega)).trans (by pointwise))
end Copies
theorem V_w1 (c : Dev nD) : V m c main_v19 = (truncf .bf16 (diag1 (a2 m c)) bitsLt_bf16_f32 : FVec Ideal S256x128 .bf16) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl
theorem V_z (c : Dev nD) : V m c main_v0 = wide (a0 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The second layer's weights, twice on the diagonal. -/
def diag2 (w : FVec Ideal S1x64x64 .f32) : FVec Ideal S128x128 .f32 :=
  concatenate S128x128 0 [⟨S64x128, concatenate S64x128 1 [⟨S64x64, shapeCast S64x64 w shapeCasts_S1x64x64_S64x64⟩,
      ⟨S64x64, broadcastInDim S64x64 ![] bcast_S_S64x64 (constant (F := Ideal) S_ .f32 0x00000000#32)⟩] concatenates_S64x64_S64x64_S64x128_d1⟩,
    ⟨S64x128, concatenate S64x128 1 [⟨S64x64, broadcastInDim S64x64 ![] bcast_S_S64x64 (constant (F := Ideal) S_ .f32 0x00000000#32)⟩,
      ⟨S64x64, shapeCast S64x64 w shapeCasts_S1x64x64_S64x64⟩] concatenates_S64x64_S64x64_S64x128_d1⟩] concatenates_S64x128_S64x128_S128x128_d0
section Copies2
variable (w : FVec Ideal S1x64x64 .f32) (i k : Fin 64)
theorem diag2_ll : diag2 w (ix2 (lo 128 rfl i) (lo 128 rfl k)) = w (ix3 0 i k) :=
  (rows_lo rfl _ _ _ i _).trans ((cols_lo rfl _ _ _ i k).trans (by pointwise))
theorem diag2_lh : diag2 w (ix2 (lo 128 rfl i) (hi 128 rfl k)) = 0 :=
  (rows_lo rfl _ _ _ i _).trans ((cols_hi rfl _ _ _ i k).trans (by pointwise))
theorem diag2_hl : diag2 w (ix2 (hi 128 rfl i) (lo 128 rfl k)) = 0 :=
  (rows_hi rfl _ _ _ i _).trans ((cols_lo rfl _ _ _ i k).trans (by pointwise))
theorem diag2_hh : diag2 w (ix2 (hi 128 rfl i) (hi 128 rfl k)) = w (ix3 0 i k) :=
  (rows_hi rfl _ _ _ i _).trans ((cols_hi rfl _ _ _ i k).trans (by pointwise))
end Copies2
theorem V_w2 (c : Dev nD) : V m c main_v21 = diag2 (a4 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- A bias, twice side by side. -/
def twice (b : FVec Ideal S1x64 .f32) : FVec Ideal S1x128 .f32 :=
  broadcastInDim S1x128 ![1] bcast_S128_S1x128_1 (shapeCast S128 (broadcastInDim S2x64 ![0, 1] bcast_S1x64_S2x64_0_1
    (shapeCast S1x64 (shapeCast S64 b shapeCasts_S1x64_S64) shapeCasts_S64_S1x64)) shapeCasts_S2x64_S128)
theorem twice_lo (b : FVec Ideal S1x64 .f32) (k : Fin 64) : twice b (ix2 0 (lo 128 rfl k)) = b (ix2 0 k) := by
  unfold twice
  pointwise [lo]
  try exact congrArg (fun q => b (ix2 0 q)) (Fin.ext (Nat.mod_eq_of_lt k.isLt))
theorem twice_hi (b : FVec Ideal S1x64 .f32) (k : Fin 64) : twice b (ix2 0 (hi 128 rfl k)) = b (ix2 0 k) := by
  unfold twice
  pointwise [hi]
  try exact congrArg (fun q => b (ix2 0 q)) (Fin.ext (Nat.mod_eq_of_lt k.isLt))
theorem V_b1 (c : Dev nD) : V m c main_v35 = twice (a3 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl
theorem V_b2 (c : Dev nD) : V m c main_v39 = twice (a5 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

/-- The last weights: a direction's columns, both orders side by side, -/
def dirs (w : FVec Ideal S1x64x2048 .f32) : FVec Ideal S2x64x1024 .f32 :=
  shapeCast S2x64x1024 (transpose S2x64x2x512 [2, 0, 1, 3] (shapeCast S64x2x2x512 (shapeCast S64x2048 w shapeCasts_S1x64x2048_S64x2048)
    shapeCasts_S64x2048_S64x2x2x512) transposes_S64x2x2x512_S2x64x2x512_2_0_1_3) shapeCasts_S2x64x2x512_S2x64x1024
/-- The place of an order, a direction and a channel among the last layer's columns. -/
def place (d : Fin 2) (o : Fin 2) (l : Fin 512) : Fin 2048 := ⟨(o.val * 2 + d.val) * 512 + l.val, by omega⟩
/-- The place of an order and a channel among a direction's columns. -/
def both (o : Fin 2) (l : Fin 512) : Fin 1024 := ⟨o.val * 512 + l.val, by omega⟩
theorem dirs_apply (w : FVec Ideal S1x64x2048 .f32) (d o : Fin 2) (k : Fin 64) (l : Fin 512) :
    dirs w (ix3 d k (both o l)) = w (ix3 0 k (place d o l)) := by
  unfold dirs
  refine (shapeCast_apply _ _ (ix3 d k (both o l)) (ix4 d k o l) ?_).trans ?_
  · rewrite [Shape.rowMajor_val_three, Shape.rowMajor_val_four]
    show ((d.val * 64 + k.val) * 2 + o.val) * 512 + l.val = (d.val * 64 + k.val) * 1024 + (o.val * 512 + l.val)
    omega
  generalize hs : shapeCast S64x2048 w shapeCasts_S1x64x2048_S64x2048 = W
  have hw : ∀ q : Fin 2048, W (ix2 k q) = w (ix3 0 k q) := fun q => by
    rw [← hs]
    pointwise
  refine Eq.trans ?_ ((shapeCast_apply W shapeCasts_S64x2048_S64x2x2x512 (ix4 k o d l) (ix2 k (place d o l)) ?_).trans (hw _))
  · generalize shapeCast S64x2x2x512 W shapeCasts_S64x2048_S64x2x2x512 = U
    pointwise
  · rewrite [Shape.rowMajor_val_two, Shape.rowMajor_val_four]
    show k.val * 2048 + ((o.val * 2 + d.val) * 512 + l.val) = ((k.val * 2 + o.val) * 2 + d.val) * 512 + l.val
    omega
def none3 : FVec Ideal S2x64x1024 .f32 := broadcastInDim S2x64x1024 ![] bcast_S_S2x64x1024 (constant (F := Ideal) S_ .f32 0x00000000#32)
/-- over zero rows for one half, under them for the other. -/
def halfs (w : FVec Ideal S1x64x2048 .f32) : FVec Ideal S2x2x128x1024 .f32 :=
  concatenate S2x2x128x1024 1 [
    ⟨S2x1x128x1024, broadcastInDim S2x1x128x1024 ![0, 2, 3] bcast_S2x128x1024_S2x1x128x1024_0_2_3
      (concatenate S2x128x1024 1 [⟨S2x64x1024, dirs w⟩, ⟨S2x64x1024, none3⟩] concatenates_S2x64x1024_S2x64x1024_S2x128x1024_d1)⟩,
    ⟨S2x1x128x1024, broadcastInDim S2x1x128x1024 ![0, 2, 3] bcast_S2x128x1024_S2x1x128x1024_0_2_3
      (concatenate S2x128x1024 1 [⟨S2x64x1024, none3⟩, ⟨S2x64x1024, dirs w⟩] concatenates_S2x64x1024_S2x64x1024_S2x128x1024_d1)⟩]
    concatenates_S2x1x128x1024_S2x1x128x1024_S2x2x128x1024_d1
theorem none3_apply (d : Fin 2) (k : Fin 64) (q : Fin 1024) : none3 (ix3 d k q) = 0 := by
  unfold none3
  pointwise
section Copies3
variable (w : FVec Ideal S1x64x2048 .f32) (d : Fin 2) (k : Fin 64) (q : Fin 1024)
theorem halfs_first (x y : FVec Ideal S2x128x1024 .f32) (p : Fin 128) : (concatenate S2x2x128x1024 1 [
    ⟨S2x1x128x1024, broadcastInDim S2x1x128x1024 ![0, 2, 3] bcast_S2x128x1024_S2x1x128x1024_0_2_3 x⟩,
    ⟨S2x1x128x1024, broadcastInDim S2x1x128x1024 ![0, 2, 3] bcast_S2x128x1024_S2x1x128x1024_0_2_3 y⟩]
    concatenates_S2x1x128x1024_S2x1x128x1024_S2x2x128x1024_d1 : FVec Ideal S2x2x128x1024 .f32) (ix4 d 0 p q) = x (ix3 d p q) := by
  pointwise
theorem halfs_second (x y : FVec Ideal S2x128x1024 .f32) (p : Fin 128) : (concatenate S2x2x128x1024 1 [
    ⟨S2x1x128x1024, broadcastInDim S2x1x128x1024 ![0, 2, 3] bcast_S2x128x1024_S2x1x128x1024_0_2_3 x⟩,
    ⟨S2x1x128x1024, broadcastInDim S2x1x128x1024 ![0, 2, 3] bcast_S2x128x1024_S2x1x128x1024_0_2_3 y⟩]
    concatenates_S2x1x128x1024_S2x1x128x1024_S2x2x128x1024_d1 : FVec Ideal S2x2x128x1024 .f32) (ix4 d 1 p q) = y (ix3 d p q) := by
  pointwise
theorem halfs_0l : halfs w (ix4 d 0 (lo 128 rfl k) q) = dirs w (ix3 d k q) := (halfs_first d q _ _ _).trans (rows3_lo rfl _ _ _ d k q)
theorem halfs_0h : halfs w (ix4 d 0 (hi 128 rfl k) q) = 0 := (halfs_first d q _ _ _).trans ((rows3_hi rfl _ _ _ d k q).trans (none3_apply d k q))
theorem halfs_1l : halfs w (ix4 d 1 (lo 128 rfl k) q) = 0 := (halfs_second d q _ _ _).trans ((rows3_lo rfl _ _ _ d k q).trans (none3_apply d k q))
theorem halfs_1h : halfs w (ix4 d 1 (hi 128 rfl k) q) = dirs w (ix3 d k q) := (halfs_second d q _ _ _).trans (rows3_hi rfl _ _ _ d k q)
end Copies3
theorem V_w3 (c : Dev nD) : V m c main_v31 = halfs (a6 m c) := by
  show StableHlo.after (List.flatten [hostOps0, hostOps0_1, hostOps0_2, hostOps0_3, hostOps0_4]) _ _ = _
  simp only [hostOps0, hostOps0_1, hostOps0_2, hostOps0_3, hostOps0_4, List.flatten_cons, List.flatten_nil, List.append_nil, List.cons_append, List.nil_append]
  after_results
  rfl

end Arrays

section Values

/-- A magnitude. -/
def mag (x : EReal) : EReal := max x (-x)

/-- A masked product reads a tap or the zero, in the second half as well. -/
theorem pay19_apply (a : BitVec 32) (v1 : FVec Ideal S2048x128 .f32) (h : FVec Ideal S1024x128 .bf16) (w : Vec Ideal S1x1x128x1024 .bf16) (v : Vec Ideal S1x512 .f32)
    (r : Fin 1024) (l : Fin 512) :
    k0_pay19 a v1 h w v (ix2 r l) = Scalar.select (k0_pay18 a (ix2 r 0)) (taps h w (ix2 r (lo 1024 rfl l)) * k0_pay17 v1 v (ix2 r l)) 0 := by
  unfold k0_pay19
  generalize k0_pay18 a = K
  generalize k0_pay17 v1 v = D
  rw [show k0_pay16 h w = taps h w from rfl]
  generalize taps h w = M
  pointwise [lo]
theorem pay22_apply (a : BitVec 32) (v1 : FVec Ideal S2048x128 .f32) (h : FVec Ideal S1024x128 .bf16) (w : Vec Ideal S1x1x128x1024 .bf16) (v : Vec Ideal S1x512 .f32)
    (r : Fin 1024) (l : Fin 512) :
    k0_pay22 a v1 h w v (ix2 r l) = Scalar.select (k0_pay18 a (ix2 r 0)) (taps h w (ix2 r (hi 1024 rfl l)) * k0_pay17 v1 v (ix2 r l)) 0 := by
  unfold k0_pay22
  generalize k0_pay18 a = K
  generalize k0_pay17 v1 v = D
  rw [show k0_pay16 h w = taps h w from rfl]
  generalize taps h w = M
  pointwise [hi]

/-- A half's taps as they are stored. -/
def stored (p : FVec Ideal S1024x512 .f32) : FVec Ideal S1x1024x512 .bf16 :=
  shapeCast S1x1024x512 (truncf .bf16 p bitsLt_bf16_f32) shapeCasts_S1024x512_S1x1024x512
theorem stored_apply (p : FVec Ideal S1024x512 .f32) (r : Fin 1024) (l : Fin 512) : stored p (ix3 0 r l) = p (ix2 r l) := by
  unfold stored
  pointwise

/-- A half's sums of sizes, added to what is there. -/
def added (p q : FVec Ideal S1024x512 .f32) (acc : FVec Ideal S2x512 .f32) : FVec Ideal S2x512 .f32 :=
  addf (shapeCast S2x512 acc shapeCasts_S2x512_S2x512) (concatenate S2x512 0
    [⟨S1x512, shapeCast S1x512 (multiReduction .add [0] S512 (absf p) 0x00000000#32 reduces_S1024x512_S512 (.inl rfl) rfl) shapeCasts_S512_S1x512⟩,
     ⟨S1x512, shapeCast S1x512 (multiReduction .add [0] S512 (absf q) 0x00000000#32 reduces_S1024x512_S512 (.inl rfl) rfl) shapeCasts_S512_S1x512⟩]
    concatenates_S1x512_S1x512_S2x512_d0)
theorem added_0 (p q : FVec Ideal S1024x512 .f32) (acc : FVec Ideal S2x512 .f32) (l : Fin 512) :
    added p q acc (ix2 0 l) = acc (ix2 0 l) + ∑ r : Fin 1024, mag (p (ix2 r l)) := by
  unfold added mag
  pointwise
  rfl
theorem added_1 (p q : FVec Ideal S1024x512 .f32) (acc : FVec Ideal S2x512 .f32) (l : Fin 512) :
    added p q acc (ix2 1 l) = acc (ix2 1 l) + ∑ r : Fin 1024, mag (q (ix2 r l)) := by
  unfold added mag
  pointwise
  rfl

/-! ## The stage, an entry at a time -/

variable (m : (ℓ : Loc nD τ sig) → Buf (Elt Ideal) ℓ) (ρ : Dev nD → PrngReg) (c : Dev nD)

/-- The first hidden layer, -/
def hid1 (r : Fin 16384) (k : Fin 64) : EReal := Ideal.sin (∑ i : Fin 33, a0 m c (ix2 r i) * a2 m c (ix3 0 i k) + a3 m c (ix2 0 k))
/-- the second, -/
def hid2 (r : Fin 16384) (k : Fin 64) : EReal := Ideal.sin (∑ j : Fin 64, hid1 m c r j * a4 m c (ix3 0 j k) + a5 m c (ix2 0 k))
/-- and the last layer at a direction, an order and a channel. -/
def tap (d : Fin 2) (r : Fin 16384) (o : Fin 2) (l : Fin 512) : EReal := ∑ k : Fin 64, hid2 m c r k * a6 m c (ix3 0 k (place d o l))
/-- The decay. -/
def decay (r : Fin 16384) (l : Fin 512) : EReal := Ideal.exp (-(a0 m c (ix2 r 0)) * a1 m c (ix2 0 l))
/-- The direction of a row. -/
def dirOf (r : Fin 16384) : Fin 2 := ⟨r.val / 8192, by omega⟩
/-- A tap as the stage returns it: the middle one is zero. -/
def ko (o : Fin 2) (r : Fin 16384) (l : Fin 512) : EReal := if r.val = 8192 then 0 else tap m c (dirOf r) r o l * decay m c r l

/-- The row that a point has at `p`, and the direction of the point. -/
def rowAt (n : Fin 8) (p : Fin 2048) : Fin 16384 := ⟨n.val * 2048 + p.val, by omega⟩
def side (n : Fin 8) : Fin 2 := ⟨n.val / 4, by omega⟩
theorem dirOf_rowAt (n : Fin 8) (p : Fin 2048) : dirOf (rowAt n p) = side n := Fin.ext (by show (n.val * 2048 + p.val) / 8192 = n.val / 4; omega)

theorem both_0 (l : Fin 512) : both 0 l = lo 1024 rfl l := Fin.ext (by show 0 * 512 + l.val = l.val; omega)
theorem both_1 (l : Fin 512) : both 1 l = hi 1024 rfl l := Fin.ext (by show 1 * 512 + l.val = 512 + l.val; omega)

/-- Features with zeros beside them against weights with zeros under them. -/
theorem sum_wide (r : Fin 16384) (k : Fin 64) : ∑ i : Fin 128, wide (a0 m c) (ix2 r i) * tall (a2 m c) (ix2 i k)
    = ∑ i : Fin 33, a0 m c (ix2 r i) * a2 m c (ix3 0 i k) := by
  refine (Fin.sum_univ_add (a := 33) (b := 95) _).trans ?_
  have e : ∀ i : Fin 33, wide (a0 m c) (ix2 r (Fin.castAdd 95 i)) * tall (a2 m c) (ix2 (Fin.castAdd 95 i) k) = a0 m c (ix2 r i) * a2 m c (ix3 0 i k) := fun i => by
    rw [wide_apply, dif_pos (show (Fin.castAdd 95 i).val < 33 from i.isLt), tall_top _ _ _ (show (Fin.castAdd 95 i).val < 33 from i.isLt)]
    rfl
  have z : ∀ i : Fin 95, wide (a0 m c) (ix2 r (Fin.natAdd 33 i)) * tall (a2 m c) (ix2 (Fin.natAdd 33 i) k) = 0 := fun i => by
    rw [tall_below _ _ _ (show ¬(33 + i.val) < 33 by omega), mul_zero]
  refine (congr (congrArg _ (Finset.sum_congr rfl fun i _ => e i)) (Finset.sum_congr rfl fun i _ => z i)).trans ?_
  rw [Finset.sum_const_zero, add_zero]

/-- What a point's input blocks hold. -/
structure Blocks (n : Fin 8) (x0 : Vec Ideal S2048x128 .f32) (x1 : Vec Ideal S256x128 .bf16) (x2 : Vec Ideal S1x128 .f32) (x3 : Vec Ideal S128x128 .bf16)
    (x4 : Vec Ideal S1x128 .f32) (x5 : Vec Ideal S1x2x128x1024 .bf16) (x6 : Vec Ideal S1x512 .f32) : Prop where
  e0 : ∀ (p : Fin 2048) (i : Fin 128), x0 (ix2 p i) = wide (a0 m c) (ix2 (rowAt n p) i)
  e1 : ∀ (i : Fin 256) (o : Fin 128), x1 (ix2 i o) = diag1 (a2 m c) (ix2 i o)
  e2 : ∀ o : Fin 128, x2 (ix2 0 o) = twice (a3 m c) (ix2 0 o)
  e3 : ∀ i o : Fin 128, x3 (ix2 i o) = diag2 (a4 m c) (ix2 i o)
  e4 : ∀ o : Fin 128, x4 (ix2 0 o) = twice (a5 m c) (ix2 0 o)
  e5 : ∀ (s : Fin 2) (k : Fin 128) (q : Fin 1024), x5 (ix4 0 s k q) = halfs (a6 m c) (ix4 (side n) s k q)
  e6 : ∀ l : Fin 512, x6 (ix2 0 l) = a1 m c (ix2 0 l)

section Body
variable {n : Fin 8} {x0 : Vec Ideal S2048x128 .f32} {x1 : Vec Ideal S256x128 .bf16} {x2 : Vec Ideal S1x128 .f32} {x3 : Vec Ideal S128x128 .bf16}
  {x4 : Vec Ideal S1x128 .f32} {x5 : Vec Ideal S1x2x128x1024 .bf16} {x6 : Vec Ideal S1x512 .f32} (B : Blocks m c n x0 x1 x2 x3 x4 x5 x6)
include B

theorem layer1_lo (r : Fin 1024) (k : Fin 64) : layer1 (sides x0) x1 x2 (ix2 r (lo 128 rfl k)) = hid1 m c (rowAt n (lo 2048 rfl r)) k := by
  rw [layer1_apply, sum_halves (n := 128) (N := 256) rfl]
  simp only [sides_lo, sides_hi, B.e0, B.e1, B.e2, diag1_ll, diag1_hl, twice_lo, mul_zero, Finset.sum_const_zero, add_zero, sum_wide]
  rfl
theorem layer1_hi (r : Fin 1024) (k : Fin 64) : layer1 (sides x0) x1 x2 (ix2 r (hi 128 rfl k)) = hid1 m c (rowAt n (hi 2048 rfl r)) k := by
  rw [layer1_apply, sum_halves (n := 128) (N := 256) rfl]
  simp only [sides_lo, sides_hi, B.e0, B.e1, B.e2, diag1_lh, diag1_hh, twice_hi, mul_zero, Finset.sum_const_zero, zero_add, sum_wide]
  rfl
theorem layer2_lo (r : Fin 1024) (k : Fin 64) : layer2 (layer1 (sides x0) x1 x2) x3 x4 (ix2 r (lo 128 rfl k)) = hid2 m c (rowAt n (lo 2048 rfl r)) k := by
  rw [layer2_apply, sum_halves (n := 64) (N := 128) rfl]
  simp only [layer1_lo m c B, B.e3, B.e4, diag2_ll, diag2_hl, twice_lo, mul_zero, Finset.sum_const_zero, add_zero]
  rfl
theorem layer2_hi (r : Fin 1024) (k : Fin 64) : layer2 (layer1 (sides x0) x1 x2) x3 x4 (ix2 r (hi 128 rfl k)) = hid2 m c (rowAt n (hi 2048 rfl r)) k := by
  rw [layer2_apply, sum_halves (n := 64) (N := 128) rfl]
  simp only [layer1_hi m c B, B.e3, B.e4, diag2_lh, diag2_hh, twice_hi, mul_zero, Finset.sum_const_zero, zero_add]
  rfl

/-- The part of the last weights that a half reads. -/
theorem ld_0 (k : Fin 128) (q : Fin 1024) : View.ld x5 (Rect.unit ![0, 0, 0, 0] S1x1x128x1024.size inb_S1x2x128x1024_S1x1x128x1024_0_0_0_0) (ix4 0 0 k q) = halfs (a6 m c) (ix4 (side n) 0 k q) := by
  refine Eq.trans (congrArg x5 (funext fun a => Fin.ext ?_)) (B.e5 0 k q)
  match a with
  | ⟨0, _⟩ => rfl
  | ⟨1, _⟩ => rfl
  | ⟨2, _⟩ => show 0 + 1 * k.val = k.val; omega
  | ⟨3, _⟩ => show 0 + 1 * q.val = q.val; omega
theorem ld_1 (k : Fin 128) (q : Fin 1024) : View.ld x5 (Rect.unit ![0, 1, 0, 0] S1x1x128x1024.size inb_S1x2x128x1024_S1x1x128x1024_0_1_0_0) (ix4 0 0 k q) = halfs (a6 m c) (ix4 (side n) 1 k q) := by
  refine Eq.trans (congrArg x5 (funext fun a => Fin.ext ?_)) (B.e5 1 k q)
  match a with
  | ⟨0, _⟩ => rfl
  | ⟨1, _⟩ => rfl
  | ⟨2, _⟩ => show 0 + 1 * k.val = k.val; omega
  | ⟨3, _⟩ => show 0 + 1 * q.val = q.val; omega

theorem taps_0 (r : Fin 1024) (o : Fin 2) (l : Fin 512) :
    taps (layer2 (layer1 (sides x0) x1 x2) x3 x4) (View.ld x5 (Rect.unit ![0, 0, 0, 0] S1x1x128x1024.size inb_S1x2x128x1024_S1x1x128x1024_0_0_0_0)) (ix2 r (both o l))
      = tap m c (side n) (rowAt n (lo 2048 rfl r)) o l := by
  rw [taps_apply, sum_halves (n := 64) (N := 128) rfl]
  simp only [layer2_lo m c B, ld_0 m c B, halfs_0l, halfs_0h, dirs_apply, mul_zero, Finset.sum_const_zero, add_zero]
  rfl
theorem taps_1 (r : Fin 1024) (o : Fin 2) (l : Fin 512) :
    taps (layer2 (layer1 (sides x0) x1 x2) x3 x4) (View.ld x5 (Rect.unit ![0, 1, 0, 0] S1x1x128x1024.size inb_S1x2x128x1024_S1x1x128x1024_0_1_0_0)) (ix2 r (both o l))
      = tap m c (side n) (rowAt n (hi 2048 rfl r)) o l := by
  rw [taps_apply, sum_halves (n := 64) (N := 128) rfl]
  simp only [layer2_hi m c B, ld_1 m c B, halfs_1l, halfs_1h, dirs_apply, mul_zero, Finset.sum_const_zero, zero_add]
  rfl

theorem col_zero (p : Fin 2048) : x0 (ix2 p 0) = a0 m c (ix2 (rowAt n p) 0) := by
  rw [B.e0, wide_apply, dif_pos (show (0 : Fin 128).val < 33 by decide)]
  rfl
end Body

/-- The masked product at a row is the stage's tap. -/
theorem masked (n : Fin 8) (p : Fin 2048) (o : Fin 2) (l : Fin 512) (w : BitVec 32) (hw : w = 8192#32 ↔ n.val * 2048 + p.val = 8192) :
    Scalar.select (IntOp.cmpi .ne w 8192#32) (tap m c (side n) (rowAt n p) o l * decay m c (rowAt n p) l) 0 = ko m c o (rowAt n p) l := by
  unfold ko
  rw [dirOf_rowAt]
  by_cases h : n.val * 2048 + p.val = 8192
  · rw [if_pos (show (rowAt n p).val = 8192 from h), hw.2 h]
    rfl
  · rw [if_neg (show ¬(rowAt n p).val = 8192 from h)]
    have e : (w != 8192#32) = true := bne_iff_ne.2 fun h' => h (hw.1 h')
    have e' : IntOp.cmpi .ne w 8192#32 = 1#1 := by
      show BitVec.ofBool (w != 8192#32) = 1#1
      rw [e]
      rfl
    rw [e']
    rfl

section Body
variable {n : Fin 8} {x0 : Vec Ideal S2048x128 .f32} {x1 : Vec Ideal S256x128 .bf16} {x2 : Vec Ideal S1x128 .f32} {x3 : Vec Ideal S128x128 .bf16}
  {x4 : Vec Ideal S1x128 .f32} {x5 : Vec Ideal S1x2x128x1024 .bf16} {x6 : Vec Ideal S1x512 .f32} (B : Blocks m c n x0 x1 x2 x3 x4 x5 x6)
include B

theorem val11 (r : Fin 1024) (l : Fin 512) :
    k0_pay11 (BitVec.ofNat 32 n.val) (k0_pay6 x0 x1 x2 x3 x4 (View.ld x5 (Rect.unit ![0, 0, 0, 0] S1x1x128x1024.size inb_S1x2x128x1024_S1x1x128x1024_0_0_0_0)))
      (k0_pay7 x0) (k0_pay8 x6) (ix2 r l) = ko m c 0 (rowAt n (lo 2048 rfl r)) l := by
  rw [show k0_pay6 x0 x1 x2 x3 x4 = taps (k0_pay4 x0 x1 x2 x3 x4) from rfl, pay4_eq, pay11_apply, decay0_apply, mask0_apply, ← both_0, taps_0 m c B, col_zero m c B, B.e6]
  exact masked m c n _ 0 l _ (word_eq n.val 0 r.val n.isLt (by omega) r.isLt |>.trans (by show _ ↔ n.val * 2048 + r.val = 8192; omega))
theorem val13 (r : Fin 1024) (l : Fin 512) :
    k0_pay13 (BitVec.ofNat 32 n.val) (k0_pay6 x0 x1 x2 x3 x4 (View.ld x5 (Rect.unit ![0, 0, 0, 0] S1x1x128x1024.size inb_S1x2x128x1024_S1x1x128x1024_0_0_0_0)))
      (k0_pay7 x0) (k0_pay8 x6) (ix2 r l) = ko m c 1 (rowAt n (lo 2048 rfl r)) l := by
  rw [show k0_pay6 x0 x1 x2 x3 x4 = taps (k0_pay4 x0 x1 x2 x3 x4) from rfl, pay4_eq, pay13_apply, decay0_apply, mask0_apply, ← both_1, taps_0 m c B, col_zero m c B, B.e6]
  exact masked m c n _ 1 l _ (word_eq n.val 0 r.val n.isLt (by omega) r.isLt |>.trans (by show _ ↔ n.val * 2048 + r.val = 8192; omega))
theorem val19 (r : Fin 1024) (l : Fin 512) :
    k0_pay19 (BitVec.ofNat 32 n.val) (k0_pay3 x0) (k0_pay4 x0 x1 x2 x3 x4)
      (View.ld x5 (Rect.unit ![0, 1, 0, 0] S1x1x128x1024.size inb_S1x2x128x1024_S1x1x128x1024_0_1_0_0)) x6 (ix2 r l) = ko m c 0 (rowAt n (hi 2048 rfl r)) l := by
  rw [pay4_eq, pay19_apply, decay1_apply, mask1_apply, ← both_0, taps_1 m c B, col_zero m c B, B.e6]
  exact masked m c n _ 0 l _ (word_eq n.val 1024 r.val n.isLt (by omega) r.isLt)
theorem val22 (r : Fin 1024) (l : Fin 512) :
    k0_pay22 (BitVec.ofNat 32 n.val) (k0_pay3 x0) (k0_pay4 x0 x1 x2 x3 x4)
      (View.ld x5 (Rect.unit ![0, 1, 0, 0] S1x1x128x1024.size inb_S1x2x128x1024_S1x1x128x1024_0_1_0_0)) x6 (ix2 r l) = ko m c 1 (rowAt n (hi 2048 rfl r)) l := by
  rw [pay4_eq, pay22_apply, decay1_apply, mask1_apply, ← both_1, taps_1 m c B, col_zero m c B, B.e6]
  exact masked m c n _ 1 l _ (word_eq n.val 1024 r.val n.isLt (by omega) r.isLt)
end Body

end Values

section Points

variable (m : (ℓ : Loc nD τ sig) → Buf (Elt Ideal) ℓ) (ρ : Dev nD → PrngReg) (c : Dev nD)

/-! ## What the body leaves in the two results' blocks -/

theorem hz2 : (![0, 0] : Fin 2 → Nat) = fun _ => 0 := funext fun a => by fin_cases a <;> rfl

/-- What a point leaves of the taps, at an index of its block. -/
def blockVal (n : Fin 8) (y : S2x2048x512.Idx) : EReal := ko m c (y 0) (rowAt n (y 1)) (y 2)

section Stores
variable (n : Fin 8) (o : Fin 2) (p : FVec Ideal S1024x512 .f32) (z : S1x1024x512.Idx)
/-- A half's taps belong where they are stored. -/
theorem piece_lo (ho : ∀ a, (![o.val, 0, 0] : Fin 3 → Nat) a + S1x1024x512.size a ≤ S2x2048x512.size a)
    (hp : ∀ (r : Fin 1024) (l : Fin 512), p (ix2 r l) = ko m c o (rowAt n (lo 2048 rfl r)) l) :
    stored p z = blockVal m c n ((Rect.unit (s := S2x2048x512) ![o.val, 0, 0] S1x1024x512.size ho).emb z) := by
  obtain ⟨a, r, l, rfl⟩ : ∃ (a : Fin 1) (r : Fin 1024) (l : Fin 512), z = ix3 a r l := ⟨z 0, z 1, z 2, eq_ix3 z⟩
  obtain rfl : a = 0 := Subsingleton.elim _ _
  refine (stored_apply p r l).trans ((hp r l).trans (congr (congr (congrArg (ko m c) (Fin.ext ?_)) (congrArg (rowAt n) (Fin.ext ?_))) (Fin.ext ?_)))
  · show o.val = o.val + 1 * 0; omega
  · show r.val = 0 + 1 * r.val; omega
  · show l.val = 0 + 1 * l.val; omega
theorem piece_hi (ho : ∀ a, (![o.val, 1024, 0] : Fin 3 → Nat) a + S1x1024x512.size a ≤ S2x2048x512.size a)
    (hp : ∀ (r : Fin 1024) (l : Fin 512), p (ix2 r l) = ko m c o (rowAt n (hi 2048 rfl r)) l) :
    stored p z = blockVal m c n ((Rect.unit (s := S2x2048x512) ![o.val, 1024, 0] S1x1024x512.size ho).emb z) := by
  obtain ⟨a, r, l, rfl⟩ : ∃ (a : Fin 1) (r : Fin 1024) (l : Fin 512), z = ix3 a r l := ⟨z 0, z 1, z 2, eq_ix3 z⟩
  obtain rfl : a = 0 := Subsingleton.elim _ _
  refine (stored_apply p r l).trans ((hp r l).trans (congr (congr (congrArg (ko m c) (Fin.ext ?_)) (congrArg (rowAt n) (Fin.ext ?_))) (Fin.ext ?_)))
  · show o.val = o.val + 1 * 0; omega
  · show 1024 + r.val = 1024 + 1 * r.val; omega
  · show l.val = 0 + 1 * l.val; omega
end Stores

/-- A read-back of what the last whole store left is that store's value. -/
theorem read_back {S : Shape} {κ : Kind} {sp : Space} {e : EltTy} (v : View sig κ sp S e) {off : Fin S.rank → Nat} (h : off = fun _ => 0)
    (inb : ∀ a, off a + S.size a ≤ S.size a) (w : Vec Ideal S e) (L : List (View.Piece (Elt Ideal) S e)) :
    v.readCov ((⟨Rect.unit off S.size inb, w⟩ : View.Piece (Elt Ideal) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The sums' block before the first point. -/
theorem reset_apply (j : S2x512.Idx) : k0_pay5 (F := Ideal) j = 0 := by
  unfold k0_pay5
  pointwise

section Cases
variable (i : grid0.Coords)
  (b1 : Memref sig .tc .vmem S2048x128 .f32) (h1 : b1.IsWhole) (b2 : Memref sig .tc .vmem S256x128 .bf16) (h2 : b2.IsWhole)
  (b3 : Memref sig .tc .vmem S1x128 .f32) (h3 : b3.IsWhole) (b4 : Memref sig .tc .vmem S128x128 .bf16) (h4 : b4.IsWhole)
  (b5 : Memref sig .tc .vmem S1x128 .f32) (h5 : b5.IsWhole) (b6 : Memref sig .tc .vmem S1x2x128x1024 .bf16) (h6 : b6.IsWhole)
  (b7 : Memref sig .tc .vmem S1x512 .f32) (h7 : b7.IsWhole) (b8 : Memref sig .tc .vmem S2x2048x512 .bf16) (h8 : b8.IsWhole)
  (b9 : Memref sig .tc .vmem S2x512 .f32) (h9 : b9.IsWhole)
  {n : Fin 8} (hn : (i 0).val = n.val) {x0 : Vec Ideal S2048x128 .f32} {x1 : Vec Ideal S256x128 .bf16} {x2 : Vec Ideal S1x128 .f32} {x3 : Vec Ideal S128x128 .bf16}
  {x4 : Vec Ideal S1x128 .f32} {x5 : Vec Ideal S1x2x128x1024 .bf16} {x6 : Vec Ideal S1x512 .f32} (B : Blocks m c n x0 x1 x2 x3 x4 x5 x6)
  (xo : Vec Ideal S2x512 .f32)
include hn B

theorem step_apply (o : Fin 2) (l : Fin 512) :
    k0_pay2 (k0_pay21 (BitVec.ofNat 32 (i 0).val) (k0_pay3 x0) (k0_pay4 x0 x1 x2 x3 x4)
        (View.ld x5 (Rect.unit ![0, 1, 0, 0] S1x1x128x1024.size inb_S1x2x128x1024_S1x1x128x1024_0_1_0_0)) x6)
      (k0_pay22 (BitVec.ofNat 32 (i 0).val) (k0_pay3 x0) (k0_pay4 x0 x1 x2 x3 x4)
        (View.ld x5 (Rect.unit ![0, 1, 0, 0] S1x1x128x1024.size inb_S1x2x128x1024_S1x1x128x1024_0_1_0_0)) x6)
      (k0_pay15 (BitVec.ofNat 32 (i 0).val) (k0_pay6 x0 x1 x2 x3 x4 (View.ld x5 (Rect.unit ![0, 0, 0, 0] S1x1x128x1024.size inb_S1x2x128x1024_S1x1x128x1024_0_0_0_0)))
        (k0_pay7 x0) (k0_pay8 x6) xo) (ix2 o l) = xo (ix2 o l) + ∑ p : Fin 2048, mag (ko m c o (rowAt n p) l) := by
  rw [hn, sum_halves (n := 1024) (N := 2048) rfl, ← add_assoc]
  obtain rfl | rfl : o = 0 ∨ o = 1 := by omega
  · refine (added_0 _ _ _ l).trans ((congrArg (· + _) (added_0 _ _ _ l)).trans ?_)
    simp only [val11 m c B, val19 m c B]
  · refine (added_1 _ _ _ l).trans ((congrArg (· + _) (added_1 _ _ _ l)).trans ?_)
    simp only [val13 m c B, val22 m c B]

theorem outA8 (hc : cond0_0 i) (o : Fin 2) (l : Fin 512) : out0_A_8 c i b1 h1 b2 h2 b3 h3 b4 h4 b5 h5 b6 h6 b7 h7 b8 h8 b9 h9 hc x0 x1 x2 x3 x4 x5 x6 (ix2 o l)
    = ∑ p : Fin 2048, mag (ko m c o (rowAt n p) l) := by
  unfold out0_A_8
  rw [View.read_writes_eq_canon _ _ _ (cover0_A_8 c i b1 h1 b2 h2 b3 h3 b4 h4 b5 h5 b6 h6 b7 h7 b8 h8 b9 h9 hc x0 x1 x2 x3 x4 x5 x6)]
  unfold kernelRun0_A
  dsimp only
  sl_unfold_words
  rw [View.canon_cons_unit_zero (S := S2x512) hz2]
  simp only [View.readAt_eq_ld, h1.read_unread, h2.read_unread, h3.read_unread, h4.read_unread, h5.read_unread, h6.read_unread, h7.read_unread,
    View.ld_unit_zero (S := S2048x128) hz2, View.ld_unit_zero (S := S256x128) hz2, View.ld_unit_zero (S := S1x128) hz2, View.ld_unit_zero (S := S128x128) hz2, View.ld_unit_zero (S := S1x512) hz2]
  rw [read_back (S := S2x512) _ hz2, read_back (S := S2x512) _ hz2]
  refine (step_apply m c i hn B (k0_pay5 (F := Ideal)) o l).trans ?_
  rw [reset_apply, zero_add]
theorem outB8 (hc : ¬cond0_0 i) (o : Fin 2) (l : Fin 512) : out0_B_8 c i b1 h1 b2 h2 b3 h3 b4 h4 b5 h5 b6 h6 b7 h7 b8 h8 b9 h9 hc x0 x1 x2 x3 x4 x5 x6 xo (ix2 o l)
    = xo (ix2 o l) + ∑ p : Fin 2048, mag (ko m c o (rowAt n p) l) := by
  unfold out0_B_8
  rw [View.read_writes_eq_canon _ _ _ (cover0_B_8 c i b1 h1 b2 h2 b3 h3 b4 h4 b5 h5 b6 h6 b7 h7 b8 h8 b9 h9 hc x0 x1 x2 x3 x4 x5 x6 xo)]
  unfold kernelRun0_B
  dsimp only
  sl_unfold_words
  rw [View.canon_cons_unit_zero (S := S2x512) hz2]
  simp only [View.readCov_unit_zero (S := S2x512) _ hz2, View.readAt_eq_ld, h1.read_unread, h2.read_unread, h3.read_unread, h4.read_unread, h5.read_unread, h6.read_unread, h7.read_unread, h9.read_unread,
    View.ld_unit_zero (S := S2048x128) hz2, View.ld_unit_zero (S := S256x128) hz2, View.ld_unit_zero (S := S1x128) hz2, View.ld_unit_zero (S := S128x128) hz2, View.ld_unit_zero (S := S1x512) hz2,
    View.ld_unit_zero (S := S2x512) hz2]
  exact step_apply m c i hn B xo o l
theorem outA7 (hc : cond0_0 i) (y : S2x2048x512.Idx) : out0_A_7 c i b1 h1 b2 h2 b3 h3 b4 h4 b5 h5 b6 h6 b7 h7 b8 h8 b9 h9 hc x0 x1 x2 x3 x4 x5 x6 y = blockVal m c n y := by
  unfold out0_A_7
  rw [View.read_writes_eq_canon _ _ _ (cover0_A_7 c i b1 h1 b2 h2 b3 h3 b4 h4 b5 h5 b6 h6 b7 h7 b8 h8 b9 h9 hc x0 x1 x2 x3 x4 x5 x6)]
  refine View.canon_apply_of_pieces (Val := Elt Ideal) (blockVal m c n) _ ?_ y (cover0_A_7 c i b1 h1 b2 h2 b3 h3 b4 h4 b5 h5 b6 h6 b7 h7 b8 h8 b9 h9 hc x0 x1 x2 x3 x4 x5 x6 y)
  unfold kernelRun0_A
  dsimp only
  sl_unfold_words
  simp only [View.readAt_eq_ld, h1.read_unread, h2.read_unread, h3.read_unread, h4.read_unread, h5.read_unread, h6.read_unread, h7.read_unread,
    View.ld_unit_zero (S := S2048x128) hz2, View.ld_unit_zero (S := S256x128) hz2, View.ld_unit_zero (S := S1x128) hz2, View.ld_unit_zero (S := S128x128) hz2, View.ld_unit_zero (S := S1x512) hz2]
  rw [hn]
  intro p hp z
  simp only [List.mem_cons, List.not_mem_nil, or_false] at hp
  rcases hp with rfl | rfl | rfl | rfl
  · exact piece_hi m c n 1 _ z inb_S2x2048x512_S1x1024x512_1_1024_0 (val22 m c B)
  · exact piece_hi m c n 0 _ z inb_S2x2048x512_S1x1024x512_0_1024_0 (val19 m c B)
  · exact piece_lo m c n 1 _ z inb_S2x2048x512_S1x1024x512_1_0_0 (val13 m c B)
  · exact piece_lo m c n 0 _ z inb_S2x2048x512_S1x1024x512_0_0_0 (val11 m c B)
theorem outB7 (hc : ¬cond0_0 i) (y : S2x2048x512.Idx) : out0_B_7 c i b1 h1 b2 h2 b3 h3 b4 h4 b5 h5 b6 h6 b7 h7 b8 h8 b9 h9 hc x0 x1 x2 x3 x4 x5 x6 xo y = blockVal m c n y := by
  unfold out0_B_7
  rw [View.read_writes_eq_canon _ _ _ (cover0_B_7 c i b1 h1 b2 h2 b3 h3 b4 h4 b5 h5 b6 h6 b7 h7 b8 h8 b9 h9 hc x0 x1 x2 x3 x4 x5 x6 xo)]
  refine View.canon_apply_of_pieces (Val := Elt Ideal) (blockVal m c n) _ ?_ y (cover0_B_7 c i b1 h1 b2 h2 b3 h3 b4 h4 b5 h5 b6 h6 b7 h7 b8 h8 b9 h9 hc x0 x1 x2 x3 x4 x5 x6 xo y)
  unfold kernelRun0_B
  dsimp only
  sl_unfold_words
  simp only [View.readAt_eq_ld, h1.read_unread, h2.read_unread, h3.read_unread, h4.read_unread, h5.read_unread, h6.read_unread, h7.read_unread,
    View.ld_unit_zero (S := S2048x128) hz2, View.ld_unit_zero (S := S256x128) hz2, View.ld_unit_zero (S := S1x128) hz2, View.ld_unit_zero (S := S128x128) hz2, View.ld_unit_zero (S := S1x512) hz2]
  rw [hn]
  intro p hp z
  simp only [List.mem_cons, List.not_mem_nil, or_false] at hp
  rcases hp with rfl | rfl | rfl | rfl
  · exact piece_hi m c n 1 _ z inb_S2x2048x512_S1x1024x512_1_1024_0 (val22 m c B)
  · exact piece_hi m c n 0 _ z inb_S2x2048x512_S1x1024x512_0_1024_0 (val19 m c B)
  · exact piece_lo m c n 1 _ z inb_S2x2048x512_S1x1024x512_1_0_0 (val13 m c B)
  · exact piece_lo m c n 0 _ z inb_S2x2048x512_S1x1024x512_0_0_0 (val11 m c B)
end Cases

/-! ## The blocks that a point reads -/

/-- Where each window's block lies at each point (decided over the points). -/
theorem idx_facts : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val / 4 ∧ win0_5.index t 1 = 0 ∧ win0_5.index t 2 = 0 ∧ win0_5.index t 3 = 0)
    ∧ (win0_6.index t 0 = 0 ∧ win0_6.index t 1 = 0)
    ∧ (win0_7.index t 0 = 0 ∧ win0_7.index t 1 = t.val ∧ win0_7.index t 2 = 0)
    ∧ (win0_8.index t 0 = 0 ∧ win0_8.index t 1 = 0)
    ∧ (grid0.coords t 0).val = t.val := by
  decide +kernel

/-- A point's number. -/
def num (t : Fin cfg0.N) : Fin 8 := ⟨t.val, lt_of_lt_of_eq t.isLt N_0⟩

theorem iblk0_apply (t : Fin cfg0.N) (p : Fin 2048) (i : Fin 128) : iblk m c 0 t (ix2 p i) = wide (a0 m c) (ix2 (rowAt (num t) p) i) := by
  show V m c main_v0 (((cfg0.win 0).blk t).view.emb (ix2 p i)) = _
  refine (congrFun (V_z m c) _).trans (congrArg (wide (a0 m c)) (funext fun a => Fin.ext ?_))
  have f := (idx_facts t).1
  match a with
  | ⟨0, _⟩ => show win0_0.index t 0 * 2048 + 1 * p.val = t.val * 2048 + p.val; rw [f.1]; omega
  | ⟨1, _⟩ => show win0_0.index t 1 * 128 + 1 * i.val = i.val; rw [f.2]; omega
/-- The storage format's cast leaves a number as it is. -/
theorem cast_apply (u : FVec Ideal S256x128 .f32) (j : S256x128.Idx) : (truncf .bf16 u bitsLt_bf16_f32 : FVec Ideal S256x128 .bf16) j = u j := rfl
theorem iblk1_apply (t : Fin cfg0.N) (i : Fin 256) (o : Fin 128) : iblk m c 1 t (ix2 i o) = diag1 (a2 m c) (ix2 i o) := by
  show V m c main_v19 (((cfg0.win 1).blk t).view.emb (ix2 i o)) = _
  refine (congrFun (V_w1 m c) _).trans ((cast_apply (diag1 (a2 m c)) _).trans (congrArg (diag1 (a2 m c)) (funext fun a => Fin.ext ?_)))
  have f := (idx_facts t).2.1
  match a with
  | ⟨0, _⟩ => show win0_1.index t 0 * 256 + 1 * i.val = i.val; rw [f.1]; omega
  | ⟨1, _⟩ => show win0_1.index t 1 * 128 + 1 * o.val = o.val; rw [f.2]; omega
theorem iblk2_apply (t : Fin cfg0.N) (o : Fin 128) : iblk m c 2 t (ix2 0 o) = twice (a3 m c) (ix2 0 o) := by
  show V m c main_v35 (((cfg0.win 2).blk t).view.emb (ix2 0 o)) = _
  refine (congrFun (V_b1 m c) _).trans (congrArg (twice (a3 m c)) (funext fun a => Fin.ext ?_))
  have f := (idx_facts t).2.2.1
  match a with
  | ⟨0, _⟩ => show win0_2.index t 0 * 1 + 1 * 0 = 0; rw [f.1]
  | ⟨1, _⟩ => show win0_2.index t 1 * 128 + 1 * o.val = o.val; rw [f.2]; omega
theorem iblk3_apply (t : Fin cfg0.N) (i o : Fin 128) : iblk m c 3 t (ix2 i o) = diag2 (a4 m c) (ix2 i o) := by
  show V m c main_v21 (((cfg0.win 3).blk t).view.emb (ix2 i o)) = _
  refine (congrFun (V_w2 m c) _).trans (congrArg (diag2 (a4 m c)) (funext fun a => Fin.ext ?_))
  have f := (idx_facts t).2.2.2.1
  match a with
  | ⟨0, _⟩ => show win0_3.index t 0 * 128 + 1 * i.val = i.val; rw [f.1]; omega
  | ⟨1, _⟩ => show win0_3.index t 1 * 128 + 1 * o.val = o.val; rw [f.2]; omega
theorem iblk4_apply (t : Fin cfg0.N) (o : Fin 128) : iblk m c 4 t (ix2 0 o) = twice (a5 m c) (ix2 0 o) := by
  show V m c main_v39 (((cfg0.win 4).blk t).view.emb (ix2 0 o)) = _
  refine (congrFun (V_b2 m c) _).trans (congrArg (twice (a5 m c)) (funext fun a => Fin.ext ?_))
  have f := (idx_facts t).2.2.2.2.1
  match a with
  | ⟨0, _⟩ => show win0_4.index t 0 * 1 + 1 * 0 = 0; rw [f.1]
  | ⟨1, _⟩ => show win0_4.index t 1 * 128 + 1 * o.val = o.val; rw [f.2]; omega
theorem iblk5_apply (t : Fin cfg0.N) (s : Fin 2) (k : Fin 128) (q : Fin 1024) : iblk m c 5 t (ix4 0 s k q) = halfs (a6 m c) (ix4 (side (num t)) s k q) := by
  show V m c main_v31 (((cfg0.win 5).blk t).view.emb (ix4 0 s k q)) = _
  refine (congrFun (V_w3 m c) _).trans (congrArg (halfs (a6 m c)) (funext fun a => Fin.ext ?_))
  have f := (idx_facts t).2.2.2.2.2.1
  match a with
  | ⟨0, _⟩ => show win0_5.index t 0 * 1 + 1 * 0 = t.val / 4; rw [f.1]; omega
  | ⟨1, _⟩ => show win0_5.index t 1 * 2 + 1 * s.val = s.val; rw [f.2.1]; omega
  | ⟨2, _⟩ => show win0_5.index t 2 * 128 + 1 * k.val = k.val; rw [f.2.2.1]; omega
  | ⟨3, _⟩ => show win0_5.index t 3 * 1024 + 1 * q.val = q.val; rw [f.2.2.2]; omega
theorem iblk6_apply (t : Fin cfg0.N) (l : Fin 512) : iblk m c 6 t (ix2 0 l) = a1 m c (ix2 0 l) := by
  show V m c main_arg1 (((cfg0.win 6).blk t).view.emb (ix2 0 l)) = _
  refine (congrFun (V_main_arg1 m c) _).trans (congrArg (a1 m c) (funext fun a => Fin.ext ?_))
  have f := (idx_facts t).2.2.2.2.2.2.1
  match a with
  | ⟨0, _⟩ => show win0_6.index t 0 * 1 + 1 * 0 = 0; rw [f.1]
  | ⟨1, _⟩ => show win0_6.index t 1 * 512 + 1 * l.val = l.val; rw [f.2]; omega

theorem blocks (t : Fin cfg0.N) : Blocks m c (num t) (iblk m c 0 t) (iblk m c 1 t) (iblk m c 2 t) (iblk m c 3 t) (iblk m c 4 t) (iblk m c 5 t) (iblk m c 6 t) :=
  ⟨iblk0_apply m c t, iblk1_apply m c t, iblk2_apply m c t, iblk3_apply m c t, iblk4_apply m c t, iblk5_apply m c t, iblk6_apply m c t⟩
theorem coord (t : Fin cfg0.N) : (grid0.coords t 0).val = (num t).val := (idx_facts t).2.2.2.2.2.2.2.2.2

/-! ## The two result arrays -/

/-- The taps. -/
def G7 : Buf (Elt Ideal) ((c : Thread nD τ).loc main_v40_0) := fun i : S2x16384x512.Idx => ko m c (i 0) (i 1) (i 2)
/-- The sums of their sizes. -/
def total (o : Fin 2) (l : Fin 512) : EReal := ∑ r : Fin 16384, mag (ko m c o r l)
def G8 : Buf (Elt Ideal) ((c : Thread nD τ).loc main_v40_1) := fun i : S2x512.Idx => total m c (i 0) (i 1)

theorem left7 (t : Fin cfg0.N) (y : S2x2048x512.Idx) : (outsAt0 m c t.val t.isLt).1 y = blockVal m c (num t) y := by
  by_cases h : t.val % 8 = 0
  · simp only [outsAt0_A m c t h]
    exact outA7 m c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (coord t) (blocks m c t) ((hcond0_0 t).mpr h) y
  · simp only [outsAt0_B m c t h]
    exact outB7 m c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (coord t) (blocks m c t) _ (fun h' => h ((hcond0_0 t).mp h')) y

/-- What a point adds to the sums' block. -/
theorem first8 (t : Fin cfg0.N) (h : t.val % 8 = 0) (o : Fin 2) (l : Fin 512) :
    (outsAt0 m c t.val t.isLt).2 (ix2 o l) = ∑ p : Fin 2048, mag (ko m c o (rowAt (num t) p) l) := by
  simp only [outsAt0_A m c t h]
  exact outA8 m c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (coord t) (blocks m c t) ((hcond0_0 t).mpr h) o l
theorem next8 (t : Fin cfg0.N) (h : ¬t.val % 8 = 0) (o : Fin 2) (l : Fin 512) :
    (outsAt0 m c t.val t.isLt).2 (ix2 o l) = (outsAt0 m c (t.val - 1) (Nat.lt_of_le_of_lt (Nat.sub_le _ _) t.isLt)).2 (ix2 o l)
      + ∑ p : Fin 2048, mag (ko m c o (rowAt (num t) p) l) := by
  simp only [outsAt0_B m c t h]
  exact outB8 m c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (coord t) (blocks m c t) (outsAt0 m c (t.val - 1) (Nat.lt_of_le_of_lt (Nat.sub_le _ _) t.isLt)).2
    (fun h' => h ((hcond0_0 t).mp h')) o l

/-- A row's size, over all numbers. -/
def size (o : Fin 2) (l : Fin 512) (r : ℕ) : EReal := if h : r < 16384 then mag (ko m c o ⟨r, h⟩ l) else 0
theorem size_point (n : Fin 8) (o : Fin 2) (l : Fin 512) :
    ∑ p : Fin 2048, mag (ko m c o (rowAt n p) l) = ∑ p ∈ Finset.range 2048, size m c o l (n.val * 2048 + p) :=
  (Finset.sum_congr rfl fun p _ => (dif_pos (rowAt n p).isLt).symm).trans (Finset.sum_range (fun p => size m c o l (n.val * 2048 + p))).symm

/-- After a point the sums' block holds the sums over the rows so far. -/
theorem left8 (o : Fin 2) (l : Fin 512) : ∀ (n : ℕ) (h : n < cfg0.N), (outsAt0 m c n h).2 (ix2 o l) = ∑ r ∈ Finset.range ((n + 1) * 2048), size m c o l r
  | 0, h => by
    refine (first8 m c ⟨0, h⟩ rfl o l).trans ((size_point m c _ o l).trans ?_)
    refine Finset.sum_congr (by rw [zero_add, one_mul]) fun p _ => ?_
    exact congrArg (size m c o l) (by show 0 * 2048 + p = p; omega)
  | n + 1, h => by
    have hN : cfg0.N = 8 := N_0
    have hB : ¬(⟨n + 1, h⟩ : Fin cfg0.N).val % 8 = 0 := by dsimp only; omega
    refine (next8 m c ⟨n + 1, h⟩ hB o l).trans ?_
    rw [size_point]
    refine (congrArg (· + _) (left8 o l n (Nat.lt_of_succ_lt h))).trans ?_
    rw [show (n + 1 + 1) * 2048 = (n + 1) * 2048 + 2048 by omega, Finset.sum_range_add]
    rfl

theorem size_all (o : Fin 2) (l : Fin 512) : ∑ r ∈ Finset.range ((7 + 1) * 2048), size m c o l r = total m c o l := by
  rw [show (7 + 1) * 2048 = 16384 from by norm_num, Finset.sum_range]
  unfold total
  refine Finset.sum_congr (Eq.refl _) fun r _ => ?_
  unfold size
  exact dif_pos r.isLt

theorem flushed7_eq (t : Fin cfg0.N) : (dats m 0 c).flushed 7 t = ((cfg0.win 7).blk t).view.read (Elt Ideal) (G7 m c) := by
  rw [Value.flushed7]
  funext y
  show (outsAt0 m c t.val t.isLt).1 y = G7 m c (((cfg0.win 7).blk t).view.emb y)
  refine (left7 m c t y).trans ?_
  have f := (idx_facts t).2.2.2.2.2.2.2.1
  refine congr (congr (congrArg (ko m c) (Fin.ext ?_)) (Fin.ext ?_)) (Fin.ext ?_)
  · show (y 0).val = win0_7.index t 0 * 2 + 1 * (y 0).val; rw [f.1]; omega
  · show t.val * 2048 + (y 1).val = win0_7.index t 1 * 2048 + 1 * (y 1).val; rw [f.2.1]; omega
  · show (y 2).val = win0_7.index t 2 * 512 + 1 * (y 2).val; rw [f.2.2]; omega

theorem flushed8_eq (t : Fin cfg0.N) (hf : (cfg0.win 8).flush t = true) :
    (dats m 0 c).flushed 8 t = ((cfg0.win 8).blk t).view.read (Elt Ideal) (G8 m c) := by
  have ht : t.val = 7 := by
    have h := (flush0_8 t).mp hf
    have h' : t.val < 8 := lt_of_lt_of_eq t.isLt N_0
    omega
  rw [Value.flushed8]
  funext y
  rw [View.read_apply]
  refine (rfl : _ = (outsAt0 m c t.val t.isLt).2 y).trans ?_
  have f := (idx_facts t).2.2.2.2.2.2.2.2.1
  have e : ((cfg0.win 8).blk t).view.emb y = y := funext fun a => Fin.ext (match a with
    | ⟨0, _⟩ => by show win0_8.index t 0 * 2 + 1 * (y 0).val = (y 0).val; rw [f.1]; omega
    | ⟨1, _⟩ => by show win0_8.index t 1 * 512 + 1 * (y 1).val = (y 1).val; rw [f.2]; omega)
  rw [e]
  obtain ⟨o, l, rfl⟩ : ∃ (o : Fin 2) (l : Fin 512), y = ix2 o l := ⟨y 0, y 1, eq_ix2 y⟩
  refine (left8 m c o l t.val t.isLt).trans ?_
  rw [ht]
  rw [size_all m c o l]
  exact (cast_eq _ (G8 m c (ix2 o l))).symm

/-- The point whose block of taps holds an index, and the last point. -/
def pointOf (i : S2x16384x512.Idx) : Fin cfg0.N := ⟨(i 1).val / 2048, by
  have h : (i 1).val < 16384 := (i 1).isLt
  have hN : cfg0.N = 8 := N_0
  omega⟩
def lastPoint : Fin cfg0.N := ⟨7, by rw [show cfg0.N = 8 from N_0]; decide⟩

theorem mem7 (i : S2x16384x512.Idx) : i ∈ ((cfg0.win 7).blk (pointOf i)).view.set := by
  show i ∈ ((View.whole main_v40_0).slice (win0_7.rect (pointOf i))).set
  rw [View.set_slice_whole, Rect.mem_set_unit]
  have h0 : (i 0).val < 2 := (i 0).isLt
  have h1 : (i 1).val < 16384 := (i 1).isLt
  have h2 : (i 2).val < 512 := (i 2).isLt
  have f := (idx_facts (pointOf i)).2.2.2.2.2.2.2.1
  have hp : (pointOf i).val = (i 1).val / 2048 := rfl
  intro a
  match a with
  | ⟨0, _⟩ =>
    show win0_7.index (pointOf i) 0 * 2 ≤ (i 0).val ∧ (i 0).val < win0_7.index (pointOf i) 0 * 2 + 2
    rw [f.1]; omega
  | ⟨1, _⟩ =>
    show win0_7.index (pointOf i) 1 * 2048 ≤ (i 1).val ∧ (i 1).val < win0_7.index (pointOf i) 1 * 2048 + 2048
    rw [f.2.1, hp]; omega
  | ⟨2, _⟩ =>
    show win0_7.index (pointOf i) 2 * 512 ≤ (i 2).val ∧ (i 2).val < win0_7.index (pointOf i) 2 * 512 + 512
    rw [f.2.2]; omega
theorem mem8 (i : S2x512.Idx) : i ∈ ((cfg0.win 8).blk lastPoint).view.set := by
  show i ∈ ((View.whole main_v40_1).slice (win0_8.rect lastPoint)).set
  rw [View.set_slice_whole, Rect.mem_set_unit]
  have h0 : (i 0).val < 2 := (i 0).isLt
  have h1 : (i 1).val < 512 := (i 1).isLt
  have f := (idx_facts lastPoint).2.2.2.2.2.2.2.2.1
  intro a
  match a with
  | ⟨0, _⟩ =>
    show win0_8.index lastPoint 0 * 2 ≤ (i 0).val ∧ (i 0).val < win0_8.index lastPoint 0 * 2 + 2
    rw [f.1]; omega
  | ⟨1, _⟩ =>
    show win0_8.index lastPoint 1 * 512 ≤ (i 1).val ∧ (i 1).val < win0_8.index lastPoint 1 * 512 + 512
    rw [f.2]; omega

theorem final7 : (dats m 0 c).arrAt 7 cfg0.N = G7 m c :=
  (dats m 0 c).arrAt_eq_of_cover 7 (G7 m c) (fun t _ => flushed7_eq m c t) fun i => ⟨pointOf i, flush0_7 _, mem7 i⟩
theorem final8 : (dats m 0 c).arrAt 8 cfg0.N = G8 m c :=
  (dats m 0 c).arrAt_eq_of_cover 8 (G8 m c) (flushed8_eq m c) fun i => ⟨lastPoint, (flush0_8 _).mpr rfl, mem8 i⟩

end Points

end Cert.FtapsIdeal.Closed

/-! ## The reference -/

namespace Cert.FtapsRefIdeal.Closed

open Cert.FtapsRefIdeal Cert.FtapsRefIdeal.Gen Cert.FtapsRefIdeal.Read Cert.DftForm Cert.FtapsIdeal.Closed

/-- A row of the second direction. -/
def backRow (p : Fin 8191) : Fin 16384 := ⟨8193 + p.val, by omega⟩
/-- The row between the directions. -/
def midRow : Fin 16384 := ⟨8192, by decide⟩

section Layers

variable (x0 : (⟨S16384x33, .f32⟩ : BufTy).Contents (Elt Ideal)) (x1 : (⟨S1x512, .f32⟩ : BufTy).Contents (Elt Ideal))
  (x2 : (⟨S1x33x64, .f32⟩ : BufTy).Contents (Elt Ideal)) (x3 : (⟨S1x64, .f32⟩ : BufTy).Contents (Elt Ideal))
  (x4 : (⟨S1x64x64, .f32⟩ : BufTy).Contents (Elt Ideal)) (x5 : (⟨S1x64, .f32⟩ : BufTy).Contents (Elt Ideal))
  (x6 : (⟨S1x64x2048, .f32⟩ : BufTy).Contents (Elt Ideal))

/-- The weights and the biases without their leading axis. -/
theorem w1_apply (i : Fin 33) (k : Fin 64) : val_main_v0 (F := Ideal) x2 (ix2 i k) = x2 (ix3 0 i k) := by
  pointwise [val_main_v0]
theorem w2_apply (i k : Fin 64) : val_main_v7 (F := Ideal) x4 (ix2 i k) = x4 (ix3 0 i k) := by
  pointwise [val_main_v7]
theorem w3_apply (i : Fin 64) (k : Fin 2048) : val_main_v14 (F := Ideal) x6 (ix2 i k) = x6 (ix3 0 i k) := by
  pointwise [val_main_v14]
theorem b1_apply (r : Fin 16384) (k : Fin 64) : val_main_v4 (F := Ideal) x3 (ix2 r k) = x3 (ix2 0 k) := by
  pointwise [val_main_v4, val_main_v3, val_main_v2]
theorem b2_apply (r : Fin 16384) (k : Fin 64) : val_main_v11 (F := Ideal) x5 (ix2 r k) = x5 (ix2 0 k) := by
  pointwise [val_main_v11, val_main_v10, val_main_v9]

/-- The two hidden layers and the products of the third. -/
theorem first_apply (r : Fin 16384) (k : Fin 64) : val_main_v6 (F := Ideal) x0 x2 x3 (ix2 r k)
    = Ideal.sin (∑ i : Fin 33, x0 (ix2 r i) * x2 (ix3 0 i k) + x3 (ix2 0 k)) := by
  rw [← b1_apply x3 r k]
  simp only [← w1_apply]
  unfold val_main_v6 val_main_v5 val_main_v1
  generalize val_main_v0 (F := Ideal) x2 = W
  generalize val_main_v4 (F := Ideal) x3 = B
  pointwise
theorem second_apply (r : Fin 16384) (k : Fin 64) : val_main_v13 (F := Ideal) x0 x2 x3 x4 x5 (ix2 r k)
    = Ideal.sin (∑ j : Fin 64, val_main_v6 (F := Ideal) x0 x2 x3 (ix2 r j) * x4 (ix3 0 j k) + x5 (ix2 0 k)) := by
  rw [← b2_apply x5 r k]
  simp only [← w2_apply]
  unfold val_main_v13 val_main_v12 val_main_v8
  generalize val_main_v6 (F := Ideal) x0 x2 x3 = X
  generalize val_main_v7 (F := Ideal) x4 = W
  generalize val_main_v11 (F := Ideal) x5 = B
  pointwise
theorem third_apply (r : Fin 16384) (q : Fin 2048) : val_main_v15 (F := Ideal) x0 x2 x3 x4 x5 x6 (ix2 r q)
    = ∑ k : Fin 64, val_main_v13 (F := Ideal) x0 x2 x3 x4 x5 (ix2 r k) * x6 (ix3 0 k q) := by
  simp only [← w3_apply]
  unfold val_main_v15
  generalize val_main_v13 (F := Ideal) x0 x2 x3 x4 x5 = X
  generalize val_main_v14 (F := Ideal) x6 = W
  pointwise

/-- The products split into filters, directions and channels. -/
theorem split_apply (r : Fin 16384) (o d : Fin 2) (l : Fin 512) :
    val_main_v16 (F := Ideal) x0 x2 x3 x4 x5 x6 (ix4 r o d l) = val_main_v15 (F := Ideal) x0 x2 x3 x4 x5 x6 (ix2 r (place d o l)) := by
  unfold val_main_v16
  generalize val_main_v15 (F := Ideal) x0 x2 x3 x4 x5 x6 = U
  refine shapeCast_apply _ _ _ _ ?_
  rewrite [Shape.rowMajor_val_four, Shape.rowMajor_val_two]
  show r.val * 2048 + ((o.val * 2 + d.val) * 512 + l.val) = ((r.val * 2 + o.val) * 2 + d.val) * 512 + l.val
  omega

/-- The three pieces: the rows of one direction, the zero row, the rows of the other. -/
theorem front_apply (p : Fin 8192) (o : Fin 2) (l : Fin 512) : val_main_v18 (F := Ideal) x0 x2 x3 x4 x5 x6 (ix3 p o l)
    = val_main_v16 (F := Ideal) x0 x2 x3 x4 x5 x6 (ix4 ⟨p.val, by omega⟩ o 0 l) := by
  unfold val_main_v18 val_main_v17
  generalize val_main_v16 (F := Ideal) x0 x2 x3 x4 x5 x6 = U
  pointwise
theorem back_apply (p : Fin 8191) (o : Fin 2) (l : Fin 512) : val_main_v21 (F := Ideal) x0 x2 x3 x4 x5 x6 (ix3 p o l)
    = val_main_v16 (F := Ideal) x0 x2 x3 x4 x5 x6 (ix4 (backRow p) o 1 l) := by
  unfold val_main_v21 val_main_v20
  generalize val_main_v16 (F := Ideal) x0 x2 x3 x4 x5 x6 = U
  pointwise [backRow]
theorem zero_apply (o : Fin 2) (l : Fin 512) : val_main_v19 (F := Ideal) (ix3 0 o l) = (0 : EReal) := by
  pointwise [val_main_v19, val_main_cst]

/-- The decay. -/
theorem decay_apply (r : Fin 16384) (o : Fin 2) (l : Fin 512) : val_main_v31 (F := Ideal) x0 x1 (ix3 r o l)
    = Ideal.exp (-(x0 (ix2 r 0)) * x1 (ix2 0 l)) := by
  pointwise [val_main_v31, val_main_v30, val_main_v29, val_main_v28, val_main_v27, val_main_v26, val_main_v25, val_main_v24, val_main_v23]

/-- The products with the decay, filters first. -/
theorem prod_apply (o : Fin 2) (r : Fin 16384) (l : Fin 512) : val_main_v33 (F := Ideal) x0 x1 x2 x3 x4 x5 x6 (ix3 o r l)
    = val_main_v22 (F := Ideal) x0 x2 x3 x4 x5 x6 (ix3 r o l) * Ideal.exp (-(x0 (ix2 r 0)) * x1 (ix2 0 l)) := by
  rw [← decay_apply x0 x1 r o l]
  unfold val_main_v33 val_main_v32
  generalize val_main_v22 (F := Ideal) x0 x2 x3 x4 x5 x6 = U
  generalize val_main_v31 (F := Ideal) x0 x1 = D
  pointwise

/-- The joined rows. -/
theorem rows_front (p : Fin 8192) (o : Fin 2) (l : Fin 512) : val_main_v22 (F := Ideal) x0 x2 x3 x4 x5 x6 (ix3 ⟨p.val, by omega⟩ o l)
    = val_main_v18 (F := Ideal) x0 x2 x3 x4 x5 x6 (ix3 p o l) := by
  unfold val_main_v22
  generalize val_main_v18 (F := Ideal) x0 x2 x3 x4 x5 x6 = A
  generalize val_main_v19 (F := Ideal) = Z
  generalize val_main_v21 (F := Ideal) x0 x2 x3 x4 x5 x6 = B
  exact concatenate_apply_piece (t := S16384x2x512) 0 [⟨S8192x2x512, A⟩, ⟨S1x2x512, Z⟩, ⟨S8191x2x512, B⟩] concatenates_S8192x2x512_S1x2x512_S8191x2x512_S16384x2x512_d0 (ix3 ⟨p.val, by omega⟩ o l) 0 (by simp only [List.length_cons, List.length_nil]; decide) S8192x2x512 A rfl rfl 0 rfl (ix3 p o l)
    (fun b hb => match b, hb with | ⟨0, _⟩, hb => absurd rfl hb | ⟨1, _⟩, _ => rfl | ⟨2, _⟩, _ => rfl) (Nat.zero_add _)
theorem rows_zero (o : Fin 2) (l : Fin 512) : val_main_v22 (F := Ideal) x0 x2 x3 x4 x5 x6 (ix3 midRow o l)
    = val_main_v19 (F := Ideal) (ix3 0 o l) := by
  unfold val_main_v22
  generalize val_main_v18 (F := Ideal) x0 x2 x3 x4 x5 x6 = A
  generalize val_main_v19 (F := Ideal) = Z
  generalize val_main_v21 (F := Ideal) x0 x2 x3 x4 x5 x6 = B
  exact concatenate_apply_piece (t := S16384x2x512) 0 [⟨S8192x2x512, A⟩, ⟨S1x2x512, Z⟩, ⟨S8191x2x512, B⟩] concatenates_S8192x2x512_S1x2x512_S8191x2x512_S16384x2x512_d0 (ix3 midRow o l) 1 (by simp only [List.length_cons, List.length_nil]; decide) S1x2x512 Z rfl rfl 8192 rfl (ix3 0 o l)
    (fun b hb => match b, hb with | ⟨0, _⟩, hb => absurd rfl hb | ⟨1, _⟩, _ => rfl | ⟨2, _⟩, _ => rfl) rfl
theorem rows_back (p : Fin 8191) (o : Fin 2) (l : Fin 512) : val_main_v22 (F := Ideal) x0 x2 x3 x4 x5 x6 (ix3 (backRow p) o l)
    = val_main_v21 (F := Ideal) x0 x2 x3 x4 x5 x6 (ix3 p o l) := by
  unfold val_main_v22
  generalize val_main_v18 (F := Ideal) x0 x2 x3 x4 x5 x6 = A
  generalize val_main_v19 (F := Ideal) = Z
  generalize val_main_v21 (F := Ideal) x0 x2 x3 x4 x5 x6 = B
  exact concatenate_apply_piece (t := S16384x2x512) 0 [⟨S8192x2x512, A⟩, ⟨S1x2x512, Z⟩, ⟨S8191x2x512, B⟩] concatenates_S8192x2x512_S1x2x512_S8191x2x512_S16384x2x512_d0 (ix3 (backRow p) o l) 2 (by simp only [List.length_cons, List.length_nil]; decide) S8191x2x512 B rfl rfl 8193 rfl (ix3 p o l)
    (fun b hb => match b, hb with | ⟨0, _⟩, hb => absurd rfl hb | ⟨1, _⟩, _ => rfl | ⟨2, _⟩, _ => rfl) rfl

/-- The sums of the sizes. -/
theorem sums_apply (o : Fin 2) (l : Fin 512) : val_main_v36 (F := Ideal) x0 x1 x2 x3 x4 x5 x6 (ix2 o l)
    = ∑ r : Fin 16384, mag (val_main_v33 (F := Ideal) x0 x1 x2 x3 x4 x5 x6 (ix3 o r l)) := by
  unfold val_main_v36 val_main_v35
  generalize val_main_v33 (F := Ideal) x0 x1 x2 x3 x4 x5 x6 = U
  unfold mag
  pointwise [val_main_cst_0]
  exact Finset.sum_congr (Eq.refl _) fun r _ => rfl

/-- The storage format's cast leaves a number as it is. -/
theorem cast_apply (u : FVec Ideal S2x16384x512 .f32) (j : S2x16384x512.Idx) :
    (truncf .bf16 u bitsLt_bf16_f32 : FVec Ideal S2x16384x512 .bf16) j = u j := rfl

end Layers

end Cert.FtapsRefIdeal.Closed

/-! ## The claims -/

namespace Cert.FtapsClaims

open Cert.DftForm Cert.FtapsIdeal.Closed

variable (m : (ℓ : Loc Cert.FtapsIdeal.nD Cert.FtapsIdeal.τ Cert.FtapsIdeal.sig) → Buf (Elt Ideal) ℓ) (c : Dev Cert.FtapsIdeal.nD)

/-- The reference's hidden layers and taps are the kernel's. -/
theorem hid1_eq (r : Fin 16384) (k : Fin 64) : Cert.FtapsRefIdeal.Read.val_main_v6 (F := Ideal) (a0 m c) (a2 m c) (a3 m c) (ix2 r k) = hid1 m c r k :=
  Cert.FtapsRefIdeal.Closed.first_apply _ _ _ r k
theorem hid2_eq (r : Fin 16384) (k : Fin 64) :
    Cert.FtapsRefIdeal.Read.val_main_v13 (F := Ideal) (a0 m c) (a2 m c) (a3 m c) (a4 m c) (a5 m c) (ix2 r k) = hid2 m c r k := by
  refine (Cert.FtapsRefIdeal.Closed.second_apply _ _ _ _ _ r k).trans ?_
  simp only [hid1_eq]
  rfl
theorem tap_eq (r : Fin 16384) (o d : Fin 2) (l : Fin 512) :
    Cert.FtapsRefIdeal.Read.val_main_v16 (F := Ideal) (a0 m c) (a2 m c) (a3 m c) (a4 m c) (a5 m c) (a6 m c) (ix4 r o d l) = tap m c d r o l := by
  refine (Cert.FtapsRefIdeal.Closed.split_apply _ _ _ _ _ _ r o d l).trans ((Cert.FtapsRefIdeal.Closed.third_apply _ _ _ _ _ _ r _).trans ?_)
  simp only [hid2_eq]
  rfl

/-- The reference's products with the decay are the kernel's taps. -/
theorem ko_eq (o : Fin 2) (r : Fin 16384) (l : Fin 512) :
    Cert.FtapsRefIdeal.Read.val_main_v33 (F := Ideal) (a0 m c) (a1 m c) (a2 m c) (a3 m c) (a4 m c) (a5 m c) (a6 m c) (ix3 o r l) = ko m c o r l := by
  refine (Cert.FtapsRefIdeal.Closed.prod_apply _ _ _ _ _ _ _ o r l).trans ?_
  unfold ko
  by_cases h : r.val < 8192
  · rw [if_neg (by omega)]
    refine congrArg (· * _) ?_
    refine (Cert.FtapsRefIdeal.Closed.rows_front _ _ _ _ _ _ ⟨r.val, h⟩ o l).trans ?_
    refine (Cert.FtapsRefIdeal.Closed.front_apply _ _ _ _ _ _ _ o l).trans ((tap_eq m c _ o 0 l).trans ?_)
    exact congrArg (fun d => tap m c d r o l) (Fin.ext (by show 0 = r.val / 8192; omega))
  by_cases h' : r.val = 8192
  · rw [if_pos h']
    obtain rfl : r = Cert.FtapsRefIdeal.Closed.midRow := Fin.ext h'
    rw [Cert.FtapsRefIdeal.Closed.rows_zero, Cert.FtapsRefIdeal.Closed.zero_apply, zero_mul]
  · rw [if_neg h']
    obtain ⟨p, rfl⟩ : ∃ p : Fin 8191, r = Cert.FtapsRefIdeal.Closed.backRow p := ⟨⟨r.val - 8193, by omega⟩, Fin.ext (by show r.val = 8193 + (r.val - 8193); omega)⟩
    refine congrArg (· * _) ?_
    refine (Cert.FtapsRefIdeal.Closed.rows_back _ _ _ _ _ _ p o l).trans ?_
    refine (Cert.FtapsRefIdeal.Closed.back_apply _ _ _ _ _ _ p o l).trans ((tap_eq m c _ o 1 l).trans ?_)
    exact congrArg (fun d => tap m c d _ o l) (Fin.ext (by show 1 = (8193 + p.val) / 8192; omega))

/-- The reference's two results are the kernel's arrays. -/
theorem res7_eq : Cert.FtapsRefIdeal.Read.val_main_v34 (F := Ideal) (a0 m c) (a1 m c) (a2 m c) (a3 m c) (a4 m c) (a5 m c) (a6 m c) = G7 m c := by
  funext i
  obtain ⟨o, r, l, rfl⟩ : ∃ (o : Fin 2) (r : Fin 16384) (l : Fin 512), i = ix3 o r l := ⟨i 0, i 1, i 2, eq_ix3 i⟩
  exact (Cert.FtapsRefIdeal.Closed.cast_apply (Cert.FtapsRefIdeal.Read.val_main_v33 (F := Ideal) (a0 m c) (a1 m c) (a2 m c) (a3 m c) (a4 m c) (a5 m c) (a6 m c)) _).trans (ko_eq m c o r l)
theorem res8_eq : Cert.FtapsRefIdeal.Read.val_main_v36 (F := Ideal) (a0 m c) (a1 m c) (a2 m c) (a3 m c) (a4 m c) (a5 m c) (a6 m c) = G8 m c := by
  funext i
  obtain ⟨o, l, rfl⟩ : ∃ (o : Fin 2) (l : Fin 512), i = ix2 o l := ⟨i 0, i 1, eq_ix2 i⟩
  refine (Cert.FtapsRefIdeal.Closed.sums_apply _ _ _ _ _ _ _ o l).trans ?_
  simp only [ko_eq]
  unfold G8 total
  rfl

/-- The call's kernel and its reference end with the same arrays. -/
theorem algebraic : Cert.algebraic_FtapsIdeal_FtapsRefIdeal := by
  intro m g m' g' _ hag
  refine ⟨fun c => G7 m c, fun c => G8 m c,
    (θ_run Cert.FtapsIdeal.defs _ _).mono (fun r h c => ⟨(h c).1.trans (final7 m c), (h c).2.1.trans (final8 m c), (h c).2.2⟩) (Cert.FtapsIdeal.Value.run_blocks m g),
    (θ_run Cert.FtapsRefIdeal.defs _ _).mono (fun r h c => ⟨(h c).1.trans ?_, (h c).2.1.trans ?_, (h c).2.2⟩) (Cert.FtapsRefIdeal.Value.run m' g')⟩
  · obtain ⟨h0, h1, h2, h3, h4, h5, h6⟩ := hag c
    rw [h0, h1, h2, h3, h4, h5, h6]
    exact (Cert.FtapsRefIdeal.Read.val_main_v34_eq _ _ _ _ _ _ _).trans (res7_eq m c)
  · obtain ⟨h0, h1, h2, h3, h4, h5, h6⟩ := hag c
    rw [h0, h1, h2, h3, h4, h5, h6]
    exact (Cert.FtapsRefIdeal.Read.val_main_v36_eq _ _ _ _ _ _ _).trans (res8_eq m c)

/-- The kernel, its idealization and the reference keep their arguments and end quiescent. -/
theorem frame_p : Cert.quiescent_Ftaps := fun m ρ _ => Cert.Ftaps.Gen.frame m ρ
theorem frame_pi : Cert.quiescent_FtapsIdeal := fun m ρ _ => Cert.FtapsIdeal.Gen.frame m ρ
theorem frame_ri : Cert.quiescent_FtapsRefIdeal := fun m ρ _ =>
  (θ_run Cert.FtapsRefIdeal.defs _ _).mono (fun r h => ⟨fun c => (h c).2.2,
      Idealize.ShloMosaic.sem_eq_zero_of_no_sems (by decide) r.2⟩) (Cert.FtapsRefIdeal.Value.run (F := Ideal) m ρ)

end Cert.FtapsClaims
-- ==== Proof.ShortconvValue.lean ====
/-
  The value of the short convolution over positions: three taps along the positions of each channel, a position past an end reading zero,
  and a bias; computed a stretch of rows at a time, each with its neighbours' edge rows.
-/
module

public import proofs.«01_k».proof.Defs
public import proofs.«01_k».proof.Proof.Gen.Shortconv.Frame
public import proofs.«01_k».proof.Proof.Gen.ShortconvIdeal.Value
public import proofs.«01_k».proof.Proof.Gen.ShortconvRefIdeal.Run
public import proofs.«01_k».proof.Proof.Gen.ShortconvRefIdeal.Read
public import Idealize.ShloMosaic.Lib.KernelVsHost
public import Idealize.ShloMosaic.Lib.Pipeline.Value
public import Idealize.ShloMosaic.Lib.Pointwise
public import Idealize.ShloMosaic.Lib.ValueIdxRank6
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ShortconvIdeal.Closed

open Cert.ShortconvIdeal Cert.ShortconvIdeal.Gen

/-! ## Three taps along a line -/

/-- The entry before a place, zero before the first; -/
def prev (f : Fin 8192 → EReal) (r : Fin 8192) : EReal := if r.val = 0 then 0 else f ⟨r.val - 1, by omega⟩
/-- the entry after it, zero after the last; -/
def next (f : Fin 8192 → EReal) (r : Fin 8192) : EReal := if h : r.val = 8191 then 0 else f ⟨r.val + 1, by omega⟩
/-- and the three taps with the bias. -/
def conv (f : Fin 8192 → EReal) (w0 w1 w2 b : EReal) (r : Fin 8192) : EReal := ((prev f r * w0 + f r * w1) + next f r * w2) + b

/-! ## One stretch of rows -/

/-- The row of a stretch. -/
def rowOf (k : Fin k0_t1_loop.trips) (s : Fin 256) : Fin 8192 := ⟨256 * k.val + s.val, by
  have h : k.val < 32 := Nat.lt_of_lt_of_le k.isLt k0_t1_abs.2.1
  omega⟩

/-- A choice between vectors is a choice between entries. -/
theorem choose_apply {α : Type} {s : Shape} (b : BitVec 1) (u v : s.Idx → α) (i : s.Idx) :
    (Scalar.select b u v) i = Scalar.select b (u i) (v i) := by
  unfold Scalar.select
  split <;> rfl

/-- The rows' numbers. -/
abbrev rows : IVec S256x128 32 := iota .tc S256x128 32 [0] iota_S256x128_d0_w32

/-- Whether a row is a given one. -/
theorem row_is (s : Fin 256) (l : Fin 128) (n : Nat) (hn : n < 256) :
    IntOp.cmpi .eq (rows (ix2 s l)) (BitVec.ofNat 32 n) = BitVec.ofBool (decide (s.val = n)) := by
  have e : rows (ix2 s l) = BitVec.ofNat 32 s.val := by
    show BitVec.ofNat 32 (0 * 256 + s.val) = _
    rw [Nat.zero_mul, Nat.zero_add]
  rw [e]
  show BitVec.ofBool (BitVec.ofNat 32 s.val == BitVec.ofNat 32 n) = _
  refine congrArg BitVec.ofBool ?_
  rw [Bool.eq_iff_iff, beq_iff_eq, decide_eq_true_iff]
  refine ⟨fun h => ?_, fun h => by rw [h]⟩
  have h' := congrArg BitVec.toNat h
  rw [BitVec.toNat_ofNat, BitVec.toNat_ofNat, Nat.mod_eq_of_lt (by omega), Nat.mod_eq_of_lt (by omega)] at h'
  exact h'

/-- Whether a stretch is the first, or the last. -/
theorem first_is : ∀ k : Fin k0_t1_loop.trips, Scalar.cmpi .eq (Scf.iv (0#32) 1#32 k.val) 0#32 = BitVec.ofBool (decide (k.val = 0)) := by
  decide +kernel
theorem last_is : ∀ k : Fin k0_t1_loop.trips, Scalar.cmpi .eq (Scf.iv (0#32) 1#32 k.val) 31#32 = BitVec.ofBool (decide (k.val = 31)) := by
  decide +kernel

theorem choose_of {α : Type} (p : Prop) [Decidable p] (u v : α) : Scalar.select (BitVec.ofBool (decide p)) u v = if p then u else v := by
  by_cases h : p <;> simp only [h, decide_true, decide_false, if_true, if_false] <;> rfl

theorem pay2_apply (v : Vec Ideal S1x256x128 .bf16) (s : Fin 256) (l : Fin 128) : k0_pay2 v (ix2 s l) = v (ix3 0 s l) := by
  pointwise [k0_pay2]

/-- The row before, the neighbour's last for the first row. -/
theorem pay3_apply (k : Fin k0_t1_loop.trips) (v : Vec Ideal S1x256x128 .bf16) (u : Vec Ideal S1x16x128 .bf16) (s : Fin 256) (l : Fin 128) :
    k0_pay3 rows 0#32 1#32 k v u (ix2 s l)
      = if s.val = 0 then (if k.val = 0 then 0 else u (ix3 0 15 l)) else v (ix3 0 ⟨(s.val + 256 - 1) % 256, Nat.mod_lt _ (by decide)⟩ l) := by
  have e : (dynamicRotate 0 1#32 none (k0_pay2 v) rotates_S256x128_d0) (ix2 s l)
      = v (ix3 0 ⟨(s.val + 256 - 1) % 256, Nat.mod_lt _ (by decide)⟩ l) := by
    rw [← pay2_apply v]
    generalize k0_pay2 v = y
    pointwise
  have e' : (extractStridedSlice S1x128 ![15, 0] (extf .f32 (shapeCast S16x128 u shapeCasts_S1x16x128_S16x128 : FVec Ideal S16x128 .bf16) bitsLt_bf16_f32 : FVec Ideal S16x128 .f32) slices_S16x128_o15_0_S1x128) (ix2 0 l) = u (ix3 0 15 l) := by
    pointwise
  have z : (broadcast S1x128 (Scalar.ofBits .f32 0x00000000#32 : Ideal .f32)) (ix2 0 l) = (0 : EReal) := by pointwise
  rw [← choose_of, ← choose_of, ← row_is s l 0 (by decide), ← first_is, ← e, ← e', ← z, ← choose_apply]
  unfold k0_pay3
  generalize dynamicRotate 0 1#32 none (k0_pay2 v) rotates_S256x128_d0 = y
  generalize (Scalar.select _ _ _ : FVec Ideal S1x128 .f32) = q
  pointwise

/-- The row after, the neighbour's first for the last row. -/
theorem pay4_apply (k : Fin k0_t1_loop.trips) (v : Vec Ideal S1x256x128 .bf16) (u : Vec Ideal S1x16x128 .bf16) (s : Fin 256) (l : Fin 128) :
    k0_pay4 rows 0#32 1#32 k v u (ix2 s l)
      = if s.val = 255 then (if k.val = 31 then 0 else u (ix3 0 0 l)) else v (ix3 0 ⟨(s.val + 256 - 255) % 256, Nat.mod_lt _ (by decide)⟩ l) := by
  have e : (dynamicRotate 0 255#32 none (k0_pay2 v) rotates_S256x128_d0) (ix2 s l)
      = v (ix3 0 ⟨(s.val + 256 - 255) % 256, Nat.mod_lt _ (by decide)⟩ l) := by
    rw [← pay2_apply v]
    generalize k0_pay2 v = y
    pointwise
  have e' : (extractStridedSlice S1x128 ![0, 0] (extf .f32 (shapeCast S16x128 u shapeCasts_S1x16x128_S16x128 : FVec Ideal S16x128 .bf16) bitsLt_bf16_f32 : FVec Ideal S16x128 .f32) slices_S16x128_o0_0_S1x128) (ix2 0 l) = u (ix3 0 0 l) := by
    pointwise
  have z : (broadcast S1x128 (Scalar.ofBits .f32 0x00000000#32 : Ideal .f32)) (ix2 0 l) = (0 : EReal) := by pointwise
  rw [← choose_of, ← choose_of, ← row_is s l 255 (by decide), ← last_is, ← e, ← e', ← z, ← choose_apply]
  unfold k0_pay4
  generalize dynamicRotate 0 255#32 none (k0_pay2 v) rotates_S256x128_d0 = y
  generalize (Scalar.select _ _ _ : FVec Ideal S1x128 .f32) = q
  pointwise

/-- The taps and the bias at a row. -/
theorem pay1_apply (w : Vec Ideal S3x128 .f32) (b : Vec Ideal S1x128 .f32) (x p n : FVec Ideal S256x128 .f32) (s : Fin 256) (l : Fin 128) :
    k0_pay1 w b x p n (ix4 0 0 s l)
      = ((p (ix2 s l) * w (ix2 0 l) + x (ix2 s l) * w (ix2 1 l)) + n (ix2 s l) * w (ix2 2 l)) + b (ix2 0 l) := by
  pointwise [k0_pay1]

/-! ## The stretch's loads -/

/-- Where the row before a stretch is loaded from: the stretch's sixteen rows before, its own first ones at the start. -/
theorem off2_eq : ∀ k : Fin k0_t1_loop.trips, k0_off2 k = ![0, 256 * k.val - 16, 0] := by decide +kernel

section Loads
variable (x : Vec Ideal S1x8192x128 .bf16) (k : Fin k0_t1_loop.trips)

/-- A stretch's own rows, and the sixteen before and after it. -/
abbrev own : Vec Ideal S1x256x128 .bf16 := View.ld x (Rect.unit (s := S1x8192x128) (k0_off1 k) S1x256x128.size (k0_off1_inb k))
abbrev before : Vec Ideal S1x16x128 .bf16 := View.ld x (Rect.unit (s := S1x8192x128) (k0_off2 k) S1x16x128.size (k0_off2_inb k))
abbrev after : Vec Ideal S1x16x128 .bf16 := View.ld x (Rect.unit (s := S1x8192x128) (k0_off3 k) S1x16x128.size (k0_off3_inb k))

theorem own_apply (s : Fin 256) (l : Fin 128) : own x k (ix3 0 s l) = x (ix3 0 (rowOf k s) l) :=
  congrArg x (funext fun a => Fin.ext (match a with
  | ⟨0, _⟩ => by show k0_off1 k 0 + 1 * 0 = 0; rw [k0_off1_eq]; rfl
  | ⟨1, _⟩ => by show k0_off1 k 1 + 1 * s.val = 256 * k.val + s.val; rw [k0_off1_eq]; show 256 * k.val + 1 * s.val = _; omega
  | ⟨2, _⟩ => by show k0_off1 k 2 + 1 * l.val = l.val; rw [k0_off1_eq]; show 0 + 1 * l.val = _; omega))
theorem before_apply (h : k.val ≠ 0) (l : Fin 128) : before x k (ix3 0 15 l) = x (ix3 0 ⟨(rowOf k 0).val - 1, by omega⟩ l) :=
  congrArg x (funext fun a => Fin.ext (match a with
  | ⟨0, _⟩ => by show k0_off2 k 0 + 1 * 0 = 0; rw [off2_eq]; rfl
  | ⟨1, _⟩ => by show k0_off2 k 1 + 1 * 15 = 256 * k.val + 0 - 1; rw [off2_eq]; show 256 * k.val - 16 + 1 * 15 = _; omega
  | ⟨2, _⟩ => by show k0_off2 k 2 + 1 * l.val = l.val; rw [off2_eq]; show 0 + 1 * l.val = _; omega))
theorem after_apply (h : k.val < 31) (l : Fin 128) :
    after x k (ix3 0 0 l) = x (ix3 0 ⟨(rowOf k 255).val + 1, by show 256 * k.val + 255 + 1 < 8192; omega⟩ l) :=
  congrArg x (funext fun a => Fin.ext (match a with
  | ⟨0, _⟩ => by show k0_off3 k 0 + 1 * 0 = 0; rw [k0_off3_eq]; rfl
  | ⟨1, _⟩ => by show k0_off3 k 1 + 1 * 0 = 256 * k.val + 255 + 1; rw [k0_off3_eq]; show min (256 * k.val + 256) 8176 + 1 * 0 = _; omega
  | ⟨2, _⟩ => by show k0_off3 k 2 + 1 * l.val = l.val; rw [k0_off3_eq]; show 0 + 1 * l.val = _; omega))

/-- A channel's line. -/
abbrev line (l : Fin 128) : Fin 8192 → EReal := fun r => x (ix3 0 r l)

theorem prev_apply (s : Fin 256) (l : Fin 128) : k0_pay3 rows 0#32 1#32 k (own x k) (before x k) (ix2 s l) = prev (line x l) (rowOf k s) := by
  rw [pay3_apply]
  unfold prev
  by_cases hs : s.val = 0
  · obtain rfl : s = 0 := Fin.ext hs
    rw [if_pos hs]
    by_cases hk : k.val = 0
    · have e : (rowOf k 0).val = 0 := by show 256 * k.val + 0 = 0; omega
      rw [if_pos hk, if_pos e]
    · have e : ¬(rowOf k 0).val = 0 := by show ¬256 * k.val + 0 = 0; omega
      rw [if_neg hk, if_neg e]
      exact before_apply x k hk l
  · have e : ¬(rowOf k s).val = 0 := by show ¬256 * k.val + s.val = 0; omega
    rw [if_neg hs, if_neg e, own_apply]
    refine congrArg (line x l) (Fin.ext ?_)
    show 256 * k.val + (s.val + 256 - 1) % 256 = 256 * k.val + s.val - 1
    omega

theorem next_apply (s : Fin 256) (l : Fin 128) : k0_pay4 rows 0#32 1#32 k (own x k) (after x k) (ix2 s l) = next (line x l) (rowOf k s) := by
  have hk32 : k.val < 32 := Nat.lt_of_lt_of_le k.isLt k0_t1_abs.2.1
  rw [pay4_apply]
  unfold next
  by_cases hs : s.val = 255
  · obtain rfl : s = 255 := Fin.ext hs
    rw [if_pos hs]
    by_cases hk : k.val = 31
    · have e : (rowOf k 255).val = 8191 := by show 256 * k.val + 255 = 8191; omega
      rw [if_pos hk, dif_pos e]
    · have e : ¬(rowOf k 255).val = 8191 := by show ¬256 * k.val + 255 = 8191; omega
      rw [if_neg hk, dif_neg e]
      exact after_apply x k (by omega) l
  · have e : ¬(rowOf k s).val = 8191 := by show ¬256 * k.val + s.val = 8191; omega
    rw [if_neg hs, dif_neg e, own_apply]
    refine congrArg (line x l) (Fin.ext ?_)
    show 256 * k.val + (s.val + 256 - 255) % 256 = 256 * k.val + s.val + 1
    omega

/-- The block at an index. -/
def blockVal (w : Vec Ideal S3x128 .f32) (b : Vec Ideal S1x128 .f32) (y : S1x1x8192x128.Idx) : EReal :=
  conv (line x (y 3)) (w (ix2 0 (y 3))) (w (ix2 1 (y 3))) (w (ix2 2 (y 3))) (b (ix2 0 (y 3))) (y 2)

/-- What a stretch stores. -/
abbrev stretch (w : Vec Ideal S3x128 .f32) (b : Vec Ideal S1x128 .f32) : FVec Ideal S1x1x256x128 .bf16 :=
  k0_pay1 w b (k0_pay2 (own x k)) (k0_pay3 rows 0#32 1#32 k (own x k) (before x k)) (k0_pay4 rows 0#32 1#32 k (own x k) (after x k))
/-- Where it stores it. -/
abbrev ro : Rect S1x1x8192x128 := Rect.unit (s := S1x1x8192x128) (k0_off4 k) S1x1x256x128.size (k0_off4_inb k)

theorem emb_o (s : Fin 256) (l : Fin 128) : (ro k).emb (ix4 0 0 s l) = ix4 0 0 (rowOf k s) l :=
  funext fun a => Fin.ext (match a with
  | ⟨0, _⟩ => by show k0_off4 k 0 + 1 * 0 = 0; rw [k0_off4_eq]; rfl
  | ⟨1, _⟩ => by show k0_off4 k 1 + 1 * 0 = 0; rw [k0_off4_eq]; rfl
  | ⟨2, _⟩ => by show k0_off4 k 2 + 1 * s.val = 256 * k.val + s.val; rw [k0_off4_eq]; show 256 * k.val + 1 * s.val = _; omega
  | ⟨3, _⟩ => by show k0_off4 k 3 + 1 * l.val = l.val; rw [k0_off4_eq]; show 0 + 1 * l.val = _; omega)

theorem stretch_apply (w : Vec Ideal S3x128 .f32) (b : Vec Ideal S1x128 .f32) (z : S1x1x256x128.Idx) :
    stretch x k w b z = blockVal x w b ((ro k).emb z) := by
  obtain ⟨a, a', s, l, rfl⟩ : ∃ (a a' : Fin 1) (s : Fin 256) (l : Fin 128), z = ix4 a a' s l := ⟨z 0, z 1, z 2, z 3, eq_ix4 z⟩
  obtain rfl : a = 0 := Subsingleton.elim _ _
  obtain rfl : a' = 0 := Subsingleton.elim _ _
  rw [emb_o, stretch, pay1_apply, prev_apply, next_apply, pay2_apply, own_apply]
  rfl
end Loads

/-! ## The block after the loop -/

section Loop
variable (c : Dev nD) (i : grid0.Coords) (arg2 : Memref sig .tc .vmem S1x8192x128 .bf16) (harg2 : arg2.IsWhole)
  (arg3 : Memref sig .tc .vmem S3x128 .f32) (harg3 : arg3.IsWhole) (arg4 : Memref sig .tc .vmem S1x128 .f32) (harg4 : arg4.IsWhole)
  (arg5 : Memref sig .tc .vmem S1x1x8192x128 .bf16) (harg5 : arg5.IsWhole)

/-- What the stretches before one stored came from one of them. -/
theorem stores_of (w : Vec Ideal S3x128 .f32) (b : Vec Ideal S1x128 .f32) (v : IVec S256x128 32) (X : BufTy.Contents (Elt Ideal) arg2.view.ty)
    (p : View.Piece (Elt Ideal) S1x1x8192x128 .bf16) : ∀ n : ℕ,
    p ∈ pb_k0_t1 (F := Ideal) Variants.none c none i arg2 harg2 arg3 harg3 arg4 harg4 arg5 harg5 w b v X n →
    ∃ k : Fin k0_t1_loop.trips, p ∈ tripL_k0_t1 (F := Ideal) Variants.none c none i arg2 harg2 arg3 harg3 arg4 harg4 arg5 harg5 w b v X k
  | 0, h => by rw [pb_k0_t1.eq_1] at h; exact absurd h (List.not_mem_nil)
  | n + 1, h => by
    rw [pb_k0_t1.eq_2] at h
    unfold pb_k0_t1Step at h
    split at h
    · next hn =>
      rcases List.mem_append.1 h with h | h
      · exact ⟨⟨n, hn⟩, h⟩
      · exact stores_of w b v X p n h
    · exact stores_of w b v X p n h

/-- One stretch stores its value. -/
theorem store_eq (x : Vec Ideal S1x8192x128 .bf16) (w : Vec Ideal S3x128 .f32) (b : Vec Ideal S1x128 .f32) (k : Fin k0_t1_loop.trips) :
    tripL_k0_t1 (F := Ideal) Variants.none c none i arg2 harg2 arg3 harg3 arg4 harg4 arg5 harg5 w b rows (harg2.unread x) k
      = [⟨ro k, stretch x k w b⟩] := by
  have e : ∀ r : Rect S1x8192x128, View.readAt (Elt Ideal) arg2.view r.toLoadRect (harg2.unread x) = View.ld x r := fun r => by
    rw [View.readAt_eq_ld, harg2.read_unread]
  unfold tripL_k0_t1 trip_k0_t1
  show [(⟨ro k, k0_pay1 w b (trip_k0_t1.sl.r arg2 (harg2.unread x) k) (trip_k0_t1.sl.r_1 arg2 rows (harg2.unread x) k)
    (trip_k0_t1.sl.r_2 arg2 rows (harg2.unread x) k)⟩ : View.Piece (Elt Ideal) S1x1x8192x128 .bf16)] = _
  unfold trip_k0_t1.sl.r trip_k0_t1.sl.r_1 trip_k0_t1.sl.r_2
  simp only [e]

theorem zero2 : (![0, 0] : Fin 2 → Nat) = fun _ => 0 := funext fun a => by fin_cases a <;> rfl

/-- The result's block after the body. -/
theorem out3_apply (x : Vec Ideal S1x8192x128 .bf16) (w : Vec Ideal S3x128 .f32) (b : Vec Ideal S1x128 .f32) (y : S1x1x8192x128.Idx) :
    out0_A_3 (F := Ideal) c i arg2 harg2 arg3 harg3 arg4 harg4 arg5 harg5 x w b y = blockVal x w b y := by
  unfold out0_A_3
  rw [View.read_writes_junk_eq_canon]
  refine View.canon_apply_of_pieces (Val := Elt Ideal) (blockVal x w b) _ ?_ y (cover0_A_3 c i arg2 harg2 arg3 harg3 arg4 harg4 arg5 harg5 x w b y)
  intro p hp z
  unfold kernelRun0_A at hp
  have ew : View.readAt (Elt Ideal) arg3.view (Rect.unit ![0, 0] S3x128.size inb_S3x128_S3x128_0_0).toLoadRect (harg3.unread w) = w := by
    rw [View.readAt_eq_ld, harg3.read_unread, View.ld_unit_zero zero2]
  have eb : View.readAt (Elt Ideal) arg4.view (Rect.unit ![0, 0] S1x128.size inb_S1x128_S1x128_0_0).toLoadRect (harg4.unread b) = b := by
    rw [View.readAt_eq_ld, harg4.read_unread, View.ld_unit_zero zero2]
  dsimp only at hp
  rw [ew, eb] at hp
  obtain ⟨k, hk⟩ := stores_of c i arg2 harg2 arg3 harg3 arg4 harg4 arg5 harg5 w b _ _ p _ hp
  have hk' := hk
  rw [show kernelRun0_A.sl.v4 = rows from rfl, store_eq, List.mem_singleton] at hk'
  subst hk'
  exact stretch_apply x k w b z
end Loop

/-! ## The arrays the region reads, and the blocks of them -/

variable (m : (ℓ : Loc nD τ sig) → Buf (Elt Ideal) ℓ) (ρ : Dev nD → PrngReg)

/-- The kernel's argument arrays. -/
abbrev a0 (c : Dev nD) : FVec Ideal S2x8192x2048 .bf16 := m ((c : Thread nD τ).loc main_arg0)
abbrev a1 (c : Dev nD) : FVec Ideal S1x3x1536 .f32 := m ((c : Thread nD τ).loc main_arg1)
abbrev a2 (c : Dev nD) : FVec Ideal S1x1536 .f32 := m ((c : Thread nD τ).loc main_arg2)

/-- The taps and the bias as the region finds them. -/
theorem V_w (c : Dev nD) (d : Fin 3) (k : Fin 1536) : V m c main_v0 (ix2 d k) = a1 m c (ix3 0 d k) := by
  have e : (V m c main_v0 : S3x1536.Idx → EReal) = shapeCast S3x1536 (a1 m c) shapeCasts_S1x3x1536_S3x1536 := by
    show StableHlo.after hostOps0 _ _ = _
    after_results
    rfl
  refine (congrFun e _).trans ?_
  generalize a1 m c = u
  pointwise
theorem V_b (c : Dev nD) (k : Fin 1536) : V m c main_v2 (ix2 0 k) = a2 m c (ix2 0 k) := by
  have e : (V m c main_v2 : S1x1536.Idx → EReal)
      = broadcastInDim S1x1536 ![1] bcast_S1536_S1x1536_1 (shapeCast S1536 (a2 m c) shapeCasts_S1x1536_S1536) := by
    show StableHlo.after hostOps0 _ _ = _
    after_results
    rfl
  refine (congrFun e _).trans ?_
  generalize a2 m c = u
  pointwise

/-- Where each window's block lies at each point (decided over the points). -/
theorem idx_facts : ∀ t : Fin grid0.N,
    (win0_0.index t 0 = t.val / 12 ∧ win0_0.index t 1 = 0 ∧ win0_0.index t 2 = t.val % 12)
    ∧ (win0_1.index t 0 = 0 ∧ win0_1.index t 1 = t.val % 12)
    ∧ (win0_2.index t 0 = 0 ∧ win0_2.index t 1 = t.val % 12)
    ∧ (win0_3.index t 0 = t.val % 12 / 4 ∧ win0_3.index t 1 = t.val / 12 ∧ win0_3.index t 2 = 0 ∧ win0_3.index t 3 = t.val % 4) := by
  decide +kernel

/-- The batch of a point, -/
def batch (t : Fin cfg0.N) : Fin 2 := ⟨t.val / 12, by
  have h : t.val < 24 := lt_of_lt_of_eq t.isLt N_0; omega⟩
/-- the channel that its block has at a lane, -/
def chanAt (t : Fin cfg0.N) (l : Fin 128) : Fin 1536 := ⟨t.val % 12 * 128 + l.val, by omega⟩
/-- and the column of the projections that holds a channel. -/
def colAt (k : Fin 1536) : Fin 2048 := ⟨k.val, by omega⟩
/-- The channel of one of the three results. -/
def chan (p : Fin 3) (k : Fin 512) : Fin 1536 := ⟨p.val * 512 + k.val, by omega⟩

theorem iblk0_apply (c : Dev nD) (t : Fin cfg0.N) (r : Fin 8192) (l : Fin 128) :
    iblk m c 0 t (ix3 0 r l) = a0 m c (ix3 (batch t) r (colAt (chanAt t l))) := by
  show V m c main_arg0 (((cfg0.win 0).blk t).view.emb (ix3 0 r l)) = _
  refine (congrFun (V_main_arg0 m c) _).trans (congrArg (a0 m c) (funext fun a => Fin.ext ?_))
  have f := (idx_facts t).1
  match a with
  | ⟨0, _⟩ => show win0_0.index t 0 * 1 + 1 * 0 = t.val / 12; rw [f.1]; omega
  | ⟨1, _⟩ => show win0_0.index t 1 * 8192 + 1 * r.val = r.val; rw [f.2.1]; omega
  | ⟨2, _⟩ => show win0_0.index t 2 * 128 + 1 * l.val = t.val % 12 * 128 + l.val; rw [f.2.2]; omega

theorem iblk1_apply (c : Dev nD) (t : Fin cfg0.N) (d : Fin 3) (l : Fin 128) : iblk m c 1 t (ix2 d l) = a1 m c (ix3 0 d (chanAt t l)) := by
  rw [← V_w]
  show V m c main_v0 (((cfg0.win 1).blk t).view.emb (ix2 d l)) = _
  refine congrArg (V m c main_v0) (funext fun a => Fin.ext ?_)
  have f := (idx_facts t).2.1
  match a with
  | ⟨0, _⟩ => show win0_1.index t 0 * 3 + 1 * d.val = d.val; rw [f.1]; omega
  | ⟨1, _⟩ => show win0_1.index t 1 * 128 + 1 * l.val = t.val % 12 * 128 + l.val; rw [f.2]; omega

theorem iblk2_apply (c : Dev nD) (t : Fin cfg0.N) (l : Fin 128) : iblk m c 2 t (ix2 0 l) = a2 m c (ix2 0 (chanAt t l)) := by
  rw [← V_b]
  show V m c main_v2 (((cfg0.win 2).blk t).view.emb (ix2 0 l)) = _
  refine congrArg (V m c main_v2) (funext fun a => Fin.ext ?_)
  have f := (idx_facts t).2.2.1
  match a with
  | ⟨0, _⟩ => show win0_2.index t 0 * 1 + 1 * 0 = 0; rw [f.1]
  | ⟨1, _⟩ => show win0_2.index t 1 * 128 + 1 * l.val = t.val % 12 * 128 + l.val; rw [f.2]; omega

/-! ## The result array -/

/-- The convolution of a batch and a channel, at a position. -/
def full (c : Dev nD) (a : Fin 2) (r : Fin 8192) (k : Fin 1536) : EReal :=
  conv (fun q => a0 m c (ix3 a q (colAt k))) (a1 m c (ix3 0 0 k)) (a1 m c (ix3 0 1 k)) (a1 m c (ix3 0 2 k)) (a2 m c (ix2 0 k)) r

def G3 (c : Dev nD) : Buf (Elt Ideal) ((c : Thread nD τ).loc main_v3) :=
  fun i : S3x2x8192x512.Idx => full m c (i 1) (i 2) (chan (i 0) (i 3))

/-- A point's block is the whole convolution at the point's batch and channels. -/
theorem block_eq (c : Dev nD) (t : Fin cfg0.N) (r : Fin 8192) (l : Fin 128) :
    blockVal (iblk m c 0 t) (iblk m c 1 t) (iblk m c 2 t) (ix4 0 0 r l) = full m c (batch t) r (chanAt t l) := by
  have e : line (iblk m c 0 t) l = fun q => a0 m c (ix3 (batch t) q (colAt (chanAt t l))) := funext fun q => iblk0_apply m c t q l
  show conv (line (iblk m c 0 t) l) (iblk m c 1 t (ix2 0 l)) (iblk m c 1 t (ix2 1 l)) (iblk m c 1 t (ix2 2 l)) (iblk m c 2 t (ix2 0 l)) r = _
  unfold full
  rw [e, iblk1_apply, iblk1_apply, iblk1_apply, iblk2_apply]

theorem flushed3_eq (c : Dev nD) (t : Fin cfg0.N) :
    (dats m 0 c).flushed 3 t = ((cfg0.win 3).blk t).view.read (Elt Ideal) (G3 m c) := by
  rw [Value.flushed3_A]
  funext y
  show out0_A_3 _ _ _ _ _ _ _ _ _ _ _ _ _ y = G3 m c (((cfg0.win 3).blk t).view.emb y)
  refine (out3_apply c _ _ _ _ _ _ _ _ _ _ _ _ y).trans ((block_eq m c t (y 2) (y 3)).trans ?_)
  have h0 : (y 0).val = 0 := Nat.lt_one_iff.1 (y 0).isLt
  have h1 : (y 1).val = 0 := Nat.lt_one_iff.1 (y 1).isLt
  have f := (idx_facts t).2.2.2
  refine congr (congr (congrArg (full m c) (Fin.ext ?_)) (Fin.ext ?_)) (Fin.ext ?_)
  · show t.val / 12 = win0_3.index t 1 * 1 + 1 * (y 1).val; rw [f.2.1, h1]; omega
  · show (y 2).val = win0_3.index t 2 * 8192 + 1 * (y 2).val; rw [f.2.2.1]; omega
  · show t.val % 12 * 128 + (y 3).val = (win0_3.index t 0 * 1 + 1 * (y 0).val) * 512 + (win0_3.index t 3 * 128 + 1 * (y 3).val)
    rw [f.1, f.2.2.2, h0]; omega

/-- The point whose block holds an index. -/
def pointOf (i : S3x2x8192x512.Idx) : Fin cfg0.N := ⟨(i 1).val * 12 + (i 0).val * 4 + (i 3).val / 128, by
  have h0 : (i 0).val < 3 := (i 0).isLt
  have h1 : (i 1).val < 2 := (i 1).isLt
  have h : (i 3).val < 512 := (i 3).isLt
  have hN : cfg0.N = 24 := N_0
  omega⟩

theorem mem3 (i : S3x2x8192x512.Idx) : i ∈ ((cfg0.win 3).blk (pointOf i)).view.set := by
  show i ∈ ((View.whole main_v3).slice (win0_3.rect (pointOf i))).set
  rw [View.set_slice_whole, Rect.mem_set_unit]
  have h0 : (i 0).val < 3 := (i 0).isLt
  have h1 : (i 1).val < 2 := (i 1).isLt
  have h2 : (i 2).val < 8192 := (i 2).isLt
  have h3 : (i 3).val < 512 := (i 3).isLt
  have f := (idx_facts (pointOf i)).2.2.2
  have hp : (pointOf i).val = (i 1).val * 12 + (i 0).val * 4 + (i 3).val / 128 := rfl
  intro a
  match a with
  | ⟨0, _⟩ =>
    show win0_3.index (pointOf i) 0 * 1 ≤ (i 0).val ∧ (i 0).val < win0_3.index (pointOf i) 0 * 1 + 1
    rw [f.1, hp]; omega
  | ⟨1, _⟩ =>
    show win0_3.index (pointOf i) 1 * 1 ≤ (i 1).val ∧ (i 1).val < win0_3.index (pointOf i) 1 * 1 + 1
    rw [f.2.1, hp]; omega
  | ⟨2, _⟩ =>
    show win0_3.index (pointOf i) 2 * 8192 ≤ (i 2).val ∧ (i 2).val < win0_3.index (pointOf i) 2 * 8192 + 8192
    rw [f.2.2.1]; omega
  | ⟨3, _⟩ =>
    show win0_3.index (pointOf i) 3 * 128 ≤ (i 3).val ∧ (i 3).val < win0_3.index (pointOf i) 3 * 128 + 128
    rw [f.2.2.2, hp]; omega

theorem final3 (c : Dev nD) : (dats m 0 c).arrAt 3 cfg0.N = G3 m c :=
  (dats m 0 c).arrAt_eq_of_cover 3 (G3 m c) (fun t _ => flushed3_eq m c t) fun i => ⟨pointOf i, flush0_3 _, mem3 i⟩

end Cert.ShortconvIdeal.Closed

/-! ## The reference -/

namespace Cert.ShortconvRefIdeal.Closed

open Cert.ShortconvRefIdeal Cert.ShortconvRefIdeal.Gen Cert.ShortconvRefIdeal.Read Cert.ShortconvIdeal.Closed

variable (x0 : (⟨S2x8192x2048, .bf16⟩ : BufTy).Contents (Elt Ideal)) (x1 : (⟨S1x3x1536, .f32⟩ : BufTy).Contents (Elt Ideal))
  (x2 : (⟨S1x1536, .f32⟩ : BufTy).Contents (Elt Ideal))

/-- A channel's line of the projections. -/
abbrev lineOf (a : Fin 2) (k : Fin 1536) : Fin 8192 → EReal := fun q => x0 (ix3 a q (colAt k))

theorem proj_apply (a : Fin 2) (r : Fin 8192) (k : Fin 1536) : val_main_v1 (F := Ideal) x0 (ix3 a r k) = lineOf x0 a k r := by
  pointwise [val_main_v1, val_main_v0, colAt, lineOf]

/-- The padding is zero. -/
theorem zero_apply (i : S_.Idx) : val_main_call0_v0 (F := Ideal) i = (0 : EReal) := by
  rw [val_main_call0_v0_apply, val_main_c_apply]
  show ((((0#32 : BitVec 32).toInt : ℤ) : ℝ) : EReal) = 0
  simp

/-- The padded line at a place: inside, -/
theorem pad_in (a : Fin 2) (r : Fin 8192) (k : Fin 1536) : val_main_v4 (F := Ideal) x0 (ix3 a ⟨r.val + 1, by omega⟩ k) = lineOf x0 a k r := by
  rw [← proj_apply]
  unfold val_main_v4
  exact pad_apply_of_inside _ _ _ _ _ _ _ _ (ix3 a r k) (fun b => match b with
    | ⟨0, _⟩ => by show a.val = 0 + a.val * 1; omega
    | ⟨1, _⟩ => by show r.val + 1 = 1 + r.val * 1; omega
    | ⟨2, _⟩ => by show k.val = 0 + k.val * 1; omega)
/-- and past an end. -/
theorem pad_out (a : Fin 2) (r : Fin 8194) (k : Fin 1536) (h : r.val = 0 ∨ r.val = 8193) : val_main_v4 (F := Ideal) x0 (ix3 a r k) = (0 : EReal) := by
  unfold val_main_v4
  refine (pad_apply_of_not_inside _ _ _ _ _ _ _ (ix3 a r k) (1 : Fin 3) ?_).trans (zero_apply _)
  show ¬(1 ≤ r.val ∧ (r.val - 1) % 1 = 0 ∧ (r.val - 1) / 1 < 8192)
  omega

theorem prev_apply (a : Fin 2) (r : Fin 8192) (k : Fin 1536) : val_main_v5 (F := Ideal) x0 (ix3 a r k) = prev (lineOf x0 a k) r := by
  refine (val_main_v5_apply x0 _).trans ?_
  unfold prev
  by_cases h : r.val = 0
  · have e : idx_main_v5 (ix3 a r k) = ix3 a ⟨r.val, by omega⟩ k := funext fun b => Fin.ext (match b with
      | ⟨0, _⟩ => rfl
      | ⟨1, _⟩ => rfl
      | ⟨2, _⟩ => rfl)
    rw [if_pos h, e]
    exact pad_out x0 a _ k (.inl h)
  · rw [if_neg h, ← pad_in]
    exact congrArg (val_main_v4 (F := Ideal) x0) (funext fun b => Fin.ext (match b with
      | ⟨0, _⟩ => rfl
      | ⟨1, _⟩ => by show r.val = r.val - 1 + 1; omega
      | ⟨2, _⟩ => rfl))
theorem here_apply (a : Fin 2) (r : Fin 8192) (k : Fin 1536) : val_main_v11 (F := Ideal) x0 (ix3 a r k) = lineOf x0 a k r := by
  refine (val_main_v11_apply x0 _).trans ?_
  rw [← pad_in]
  exact congrArg (val_main_v4 (F := Ideal) x0) (funext fun b => Fin.ext (match b with
    | ⟨0, _⟩ => rfl
    | ⟨1, _⟩ => by show 1 + r.val = r.val + 1; omega
    | ⟨2, _⟩ => rfl))
theorem next_apply (a : Fin 2) (r : Fin 8192) (k : Fin 1536) : val_main_v18 (F := Ideal) x0 (ix3 a r k) = next (lineOf x0 a k) r := by
  refine (val_main_v18_apply x0 _).trans ?_
  have e : idx_main_v18 (ix3 a r k) = ix3 a ⟨r.val + 2, by omega⟩ k := funext fun b => Fin.ext (match b with
    | ⟨0, _⟩ => rfl
    | ⟨1, _⟩ => by show 2 + r.val = r.val + 2; omega
    | ⟨2, _⟩ => rfl)
  rw [e]
  unfold next
  by_cases h : r.val = 8191
  · rw [dif_pos h]
    exact pad_out x0 a _ k (.inr (by show r.val + 2 = 8193; omega))
  · rw [dif_neg h, ← pad_in]

/-- The taps and the bias, along every line. -/
theorem tap0_apply (a : Fin 2) (r : Fin 8192) (k : Fin 1536) : val_main_v9 (F := Ideal) x1 (ix3 a r k) = x1 (ix3 0 0 k) := by
  pointwise [val_main_v9, val_main_v8, val_main_v7, val_main_v6, val_main_v2]
theorem tap1_apply (a : Fin 2) (r : Fin 8192) (k : Fin 1536) : val_main_v15 (F := Ideal) x1 (ix3 a r k) = x1 (ix3 0 1 k) := by
  pointwise [val_main_v15, val_main_v14, val_main_v13, val_main_v12, val_main_v2]
theorem tap2_apply (a : Fin 2) (r : Fin 8192) (k : Fin 1536) : val_main_v22 (F := Ideal) x1 (ix3 a r k) = x1 (ix3 0 2 k) := by
  pointwise [val_main_v22, val_main_v21, val_main_v20, val_main_v19, val_main_v2]
theorem bias_apply (a : Fin 2) (r : Fin 8192) (k : Fin 1536) : val_main_v26 (F := Ideal) x2 (ix3 a r k) = x2 (ix2 0 k) := by
  pointwise [val_main_v26, val_main_v25, val_main_v3]

theorem conv_apply (a : Fin 2) (r : Fin 8192) (k : Fin 1536) : val_main_v27 (F := Ideal) x0 x1 x2 (ix3 a r k)
    = conv (lineOf x0 a k) (x1 (ix3 0 0 k)) (x1 (ix3 0 1 k)) (x1 (ix3 0 2 k)) (x2 (ix2 0 k)) r := by
  unfold conv
  rw [← prev_apply, ← next_apply, ← here_apply, ← tap0_apply x1 a r, ← tap1_apply x1 a r, ← tap2_apply x1 a r, ← bias_apply x2 a r]
  rfl

/-- The three results are the channels' three parts. -/
theorem part0_apply (a : Fin 2) (r : Fin 8192) (k : Fin 512) :
    val_main_v31 (F := Ideal) x0 x1 x2 (ix4 0 a r k) = val_main_v27 (F := Ideal) x0 x1 x2 (ix3 a r (chan 0 k)) := by
  unfold val_main_v31 val_main_v28
  generalize val_main_v27 (F := Ideal) x0 x1 x2 = u
  pointwise [chan]
theorem part1_apply (a : Fin 2) (r : Fin 8192) (k : Fin 512) :
    val_main_v32 (F := Ideal) x0 x1 x2 (ix4 0 a r k) = val_main_v27 (F := Ideal) x0 x1 x2 (ix3 a r (chan 1 k)) := by
  unfold val_main_v32 val_main_v29
  generalize val_main_v27 (F := Ideal) x0 x1 x2 = u
  pointwise [chan]
theorem part2_apply (a : Fin 2) (r : Fin 8192) (k : Fin 512) :
    val_main_v33 (F := Ideal) x0 x1 x2 (ix4 0 a r k) = val_main_v27 (F := Ideal) x0 x1 x2 (ix3 a r (chan 2 k)) := by
  unfold val_main_v33 val_main_v30
  generalize val_main_v27 (F := Ideal) x0 x1 x2 = u
  pointwise [chan]

section Parts
variable (A B C : FVec Ideal S1x2x8192x512 .f32) (a : Fin 2) (r : Fin 8192) (k : Fin 512)

/-- The parts one after the other. -/
abbrev stack : S3x2x8192x512.Idx → EReal :=
  concatenate S3x2x8192x512 0 [⟨S1x2x8192x512, A⟩, ⟨S1x2x8192x512, B⟩, ⟨S1x2x8192x512, C⟩] concatenates_S1x2x8192x512_S1x2x8192x512_S1x2x8192x512_S3x2x8192x512_d0

theorem stack0 : stack A B C (ix4 0 a r k) = A (ix4 0 a r k) :=
  concatenate_apply_piece (t := S3x2x8192x512) 0 [⟨S1x2x8192x512, A⟩, ⟨S1x2x8192x512, B⟩, ⟨S1x2x8192x512, C⟩] _ (ix4 0 a r k) 0 (by simp only [List.length_cons, List.length_nil]; decide) S1x2x8192x512 A rfl rfl 0 rfl (ix4 0 a r k)
    (fun b hb => match b, hb with | ⟨0, _⟩, hb => absurd rfl hb | ⟨1, _⟩, _ => rfl | ⟨2, _⟩, _ => rfl | ⟨3, _⟩, _ => rfl) rfl
theorem stack1 : stack A B C (ix4 1 a r k) = B (ix4 0 a r k) :=
  concatenate_apply_piece (t := S3x2x8192x512) 0 [⟨S1x2x8192x512, A⟩, ⟨S1x2x8192x512, B⟩, ⟨S1x2x8192x512, C⟩] _ (ix4 1 a r k) 1 (by simp only [List.length_cons, List.length_nil]; decide) S1x2x8192x512 B rfl rfl 1 rfl (ix4 0 a r k)
    (fun b hb => match b, hb with | ⟨0, _⟩, hb => absurd rfl hb | ⟨1, _⟩, _ => rfl | ⟨2, _⟩, _ => rfl | ⟨3, _⟩, _ => rfl) rfl
theorem stack2 : stack A B C (ix4 2 a r k) = C (ix4 0 a r k) :=
  concatenate_apply_piece (t := S3x2x8192x512) 0 [⟨S1x2x8192x512, A⟩, ⟨S1x2x8192x512, B⟩, ⟨S1x2x8192x512, C⟩] _ (ix4 2 a r k) 2 (by simp only [List.length_cons, List.length_nil]; decide) S1x2x8192x512 C rfl rfl 2 rfl (ix4 0 a r k)
    (fun b hb => match b, hb with | ⟨0, _⟩, hb => absurd rfl hb | ⟨1, _⟩, _ => rfl | ⟨2, _⟩, _ => rfl | ⟨3, _⟩, _ => rfl) rfl
end Parts

/-- The reference's result at an index. -/
theorem result_apply (p : Fin 3) (a : Fin 2) (r : Fin 8192) (k : Fin 512) : val_main_v35 (F := Ideal) x0 x1 x2 (ix4 p a r k)
    = val_main_v27 (F := Ideal) x0 x1 x2 (ix3 a r (chan p k)) := by
  show stack (val_main_v31 (F := Ideal) x0 x1 x2) (val_main_v32 (F := Ideal) x0 x1 x2) (val_main_v33 (F := Ideal) x0 x1 x2) (ix4 p a r k) = _
  obtain rfl | rfl | rfl : p = 0 ∨ p = 1 ∨ p = 2 := by omega
  · rw [stack0, part0_apply]
  · rw [stack1, part1_apply]
  · rw [stack2, part2_apply]

end Cert.ShortconvRefIdeal.Closed

/-! ## The claims -/

namespace Cert.ShortconvClaims

open Cert.ShortconvIdeal.Closed

variable (m : (ℓ : Loc Cert.ShortconvIdeal.nD Cert.ShortconvIdeal.τ Cert.ShortconvIdeal.sig) → Buf (Elt Ideal) ℓ) (c : Dev Cert.ShortconvIdeal.nD)

/-- The reference's result is the kernel's array. -/
theorem res_eq : Cert.ShortconvRefIdeal.Read.val_main_v35 (F := Ideal) (a0 m c) (a1 m c) (a2 m c) = G3 m c := by
  funext i
  obtain ⟨p, a, r, k, rfl⟩ : ∃ (p : Fin 3) (a : Fin 2) (r : Fin 8192) (k : Fin 512), i = ix4 p a r k := ⟨i 0, i 1, i 2, i 3, eq_ix4 i⟩
  show _ = full m c a r (chan p k)
  rw [Cert.ShortconvRefIdeal.Closed.result_apply, Cert.ShortconvRefIdeal.Closed.conv_apply]
  rfl

/-- The stage's kernel and its reference end with the same array. -/
theorem algebraic : Cert.algebraic_ShortconvIdeal_ShortconvRefIdeal := by
  intro m g m' g' _ hag
  refine ⟨fun c => G3 m c,
    (θ_run Cert.ShortconvIdeal.defs _ _).mono (fun r h c => ⟨(h c).1.trans (final3 m c), (h c).2⟩) (Cert.ShortconvIdeal.Value.run_blocks m g),
    (θ_run Cert.ShortconvRefIdeal.defs _ _).mono (fun r h c => ⟨(h c).1.trans ?_, (h c).2⟩) (Cert.ShortconvRefIdeal.Value.run m' g')⟩
  obtain ⟨h0, h1, h2⟩ := hag c
  refine (Cert.ShortconvRefIdeal.Read.val_main_v35_eq _ _).trans ?_
  rw [h0, h1, h2]
  exact res_eq m c

/-- The kernel, its idealization and the reference keep their arguments and end quiescent. -/
theorem frame_p : Cert.quiescent_Shortconv := fun m ρ _ => Cert.Shortconv.Gen.frame m ρ
theorem frame_pi : Cert.quiescent_ShortconvIdeal := fun m ρ _ => Cert.ShortconvIdeal.Gen.frame m ρ
theorem frame_ri : Cert.quiescent_ShortconvRefIdeal := fun m ρ _ =>
  (θ_run Cert.ShortconvRefIdeal.defs _ _).mono (fun r h => ⟨fun c => (h c).2,
      Idealize.ShloMosaic.sem_eq_zero_of_no_sems (by decide) r.2⟩) (Cert.ShortconvRefIdeal.Value.run (F := Ideal) m ρ)

end Cert.ShortconvClaims
-- ==== Proof.Spectrum2Value.lean ====
/-
  The value of the product of spectra in the second long convolution: the first one's stage with the second filter's spectrum.
  The stage over any filter is the first convolution's module's; what is stated here is that the filter is the second one.
-/
module

public import proofs.«01_k».proof.Defs
public import proofs.«01_k».proof.Proof.Gen.Spectrum2.Frame
public import proofs.«01_k».proof.Proof.Gen.Spectrum2Ideal.Value
public import proofs.«01_k».proof.Proof.Gen.Spectrum2RefIdeal.Run
public import proofs.«01_k».proof.Proof.Gen.Spectrum2RefIdeal.Read
public import proofs.«01_k».proof.Proof.SpectrumValue

@[expose] public section

set_option maxRecDepth 16384

noncomputable section

open Idealize.ShloMosaic Idealize.ShloMosaic.TcCoe Idealize.SL.Sem
open Idealize.ShloMosaic.Pipeline (Dat)

namespace Cert.Spectrum2Ideal.Closed

open Cert.Spectrum2Ideal Cert.Spectrum2Ideal.Gen Cert.DftForm
open Cert.SpectrumIdeal.Closed (a0 a1 a2 a3 pos G4 pointOf)

/-- The second filter's spectrum, where the first convolution has the first one's. -/
def second (x : S2x128x256x512.Idx → EReal) : S2x128x256x512.Idx → EReal := fun i => x (ix4 1 (i 1) (i 2) (i 3))

variable (m : (ℓ : Loc nD τ sig) → Buf (Elt Ideal) ℓ) (ρ : Dev nD → PrngReg)

/-- Where the filter's block lies at each point (decided over the points): in the second spectrum. -/
theorem idx_facts : ∀ t : Fin grid0.N,
    win0_3.index t 0 = 1 ∧ win0_3.index t 1 = t.val ∧ win0_3.index t 2 = 0 ∧ win0_3.index t 3 = 0 := by
  decide +kernel

theorem iblk3_apply (c : Dev nD) (t : Fin cfg0.N) (s : Fin 16) (o : Fin 256) (k : Fin 512) :
    iblk m c 3 t (ix4 0 s o k) = second (a3 m c) (ix4 0 (pos t s) o k) := by
  show V m c main_arg3 (((cfg0.win 3).blk t).view.emb (ix4 0 s o k)) = a3 m c (ix4 1 (pos t s) o k)
  refine (congrFun (V_main_arg3 m c) _).trans (congrArg (a3 m c) (funext fun a => Fin.ext ?_))
  have f := idx_facts t
  match a with
  | ⟨0, _⟩ => show win0_3.index t 0 * 1 + 1 * 0 = 1; rw [f.1]
  | ⟨1, _⟩ => show win0_3.index t 1 * 16 + 1 * s.val = t.val * 16 + s.val; rw [f.2.1]; omega
  | ⟨2, _⟩ => show win0_3.index t 2 * 256 + 1 * o.val = o.val; rw [f.2.2.1]; omega
  | ⟨3, _⟩ => show win0_3.index t 3 * 512 + 1 * k.val = k.val; rw [f.2.2.2]; omega

theorem flushed4_eq (c : Dev nD) (t : Fin cfg0.N) :
    (dats m 0 c).flushed 4 t = ((cfg0.win 4).blk t).view.read (Elt Ideal) (G4 m (second (a3 m c)) c) := by
  rw [Value.flushed4]
  exact Cert.SpectrumIdeal.Closed.out4_eq m (second (a3 m c)) c t _ (iblk3_apply m c t)

theorem final4 (c : Dev nD) : (dats m 0 c).arrAt 4 cfg0.N = G4 m (second (a3 m c)) c :=
  (dats m 0 c).arrAt_eq_of_cover 4 (G4 m (second (a3 m c)) c) (fun t _ => flushed4_eq m c t)
    fun i => ⟨pointOf i, flush0_4 _, Cert.SpectrumIdeal.Closed.mem4 i⟩

end Cert.Spectrum2Ideal.Closed

/-! ## The reference -/

namespace Cert.Spectrum2RefIdeal.Closed

open Cert.Spectrum2RefIdeal Cert.Spectrum2RefIdeal.Gen Cert.Spectrum2RefIdeal.Read Cert.DftForm
open Cert.Spectrum2Ideal.Closed (second)

variable (x0 : (⟨S2x128x128x512, .bf16⟩ : BufTy).Contents (Elt Ideal)) (x1 x2 : (⟨S128x128x128, .f32⟩ : BufTy).Contents (Elt Ideal))
  (x3 : (⟨S2x128x256x512, .bf16⟩ : BufTy).Contents (Elt Ideal))

/-- The two parts of the filter's spectrum are the second filter's. -/
theorem fre_eq : val_main_v8 (F := Ideal) x3 = Cert.SpectrumRefIdeal.Read.val_main_v8 (F := Ideal) (second x3) := by
  funext i
  obtain ⟨s, o, k, rfl⟩ : ∃ (s : Fin 128) (o : Fin 128) (k : Fin 512), i = ix3 s o k := ⟨i 0, i 1, i 2, eq_ix3 i⟩
  refine Eq.trans (b := x3 (ix4 1 s (lo 256 rfl o) k)) ?_ (Cert.SpectrumRefIdeal.Closed.fre_apply (second x3) s o k).symm
  pointwise [val_main_v8, val_main_v7, val_main_v6, lo]
theorem fim_eq : val_main_v11 (F := Ideal) x3 = Cert.SpectrumRefIdeal.Read.val_main_v11 (F := Ideal) (second x3) := by
  funext i
  obtain ⟨s, o, k, rfl⟩ : ∃ (s : Fin 128) (o : Fin 128) (k : Fin 512), i = ix3 s o k := ⟨i 0, i 1, i 2, eq_ix3 i⟩
  refine Eq.trans (b := x3 (ix4 1 s (hi 256 rfl o) k)) ?_ (Cert.SpectrumRefIdeal.Closed.fim_apply (second x3) s o k).symm
  pointwise [val_main_v11, val_main_v10, val_main_v9, hi]

/-- So are the two parts of the product of the spectra, -/
theorem prod_re_eq : val_main_v21 (F := Ideal) x0 x1 x2 x3 = Cert.SpectrumRefIdeal.Read.val_main_v21 (F := Ideal) x0 x1 x2 (second x3) := by
  unfold val_main_v21 val_main_v20 val_main_v19
  rw [fre_eq, fim_eq]
  rfl
theorem prod_im_eq : val_main_v24 (F := Ideal) x0 x1 x2 x3 = Cert.SpectrumRefIdeal.Read.val_main_v24 (F := Ideal) x0 x1 x2 (second x3) := by
  unfold val_main_v24 val_main_v23 val_main_v22
  rw [fre_eq, fim_eq]
  rfl

/-- the two parts of the stage back, -/
theorem back_re_eq : val_main_v30 (F := Ideal) x0 x1 x2 x3 = Cert.SpectrumRefIdeal.Read.val_main_v30 (F := Ideal) x0 x1 x2 (second x3) := by
  unfold val_main_v30 val_main_v29 val_main_v27
  rw [prod_re_eq, prod_im_eq]
  rfl
theorem back_im_eq : val_main_v33 (F := Ideal) x0 x1 x2 x3 = Cert.SpectrumRefIdeal.Read.val_main_v33 (F := Ideal) x0 x1 x2 (second x3) := by
  unfold val_main_v33 val_main_v32 val_main_v31
  rw [prod_re_eq, prod_im_eq]
  rfl

/-- and the result: the reference is the first convolution's over the second filter. -/
theorem res_second : val_main_v37 (F := Ideal) x0 x1 x2 x3
    = Cert.SpectrumRefIdeal.Read.val_main_v37 (F := Ideal) x0 x1 x2 (second x3) := by
  unfold val_main_v37 val_main_v36 val_main_v35 val_main_v34
  rw [back_re_eq, back_im_eq]
  rfl

end Cert.Spectrum2RefIdeal.Closed

/-! ## The claims -/

namespace Cert.Spectrum2Claims

open Cert.DftForm Cert.Spectrum2Ideal.Closed
open Cert.SpectrumIdeal.Closed (a3 G4)

/-- The stage's kernel and its reference end with the same array. -/
theorem algebraic : Cert.algebraic_Spectrum2Ideal_Spectrum2RefIdeal := by
  intro m g m' g' _ hag
  refine ⟨fun c => G4 m (second (a3 m c)) c,
    (θ_run Cert.Spectrum2Ideal.defs _ _).mono (fun r h c => ⟨(h c).1.trans (final4 m c), (h c).2⟩) (Cert.Spectrum2Ideal.Value.run_blocks m g),
    (θ_run Cert.Spectrum2RefIdeal.defs _ _).mono (fun r h c => ⟨(h c).1.trans ?_, (h c).2⟩) (Cert.Spectrum2RefIdeal.Value.run m' g')⟩
  obtain ⟨h0, h1, h2, h3⟩ := hag c
  refine (Cert.Spectrum2RefIdeal.Read.val_main_v37_eq m' c).trans ?_
  rw [h0, h1, h2, h3]
  exact (Cert.Spectrum2RefIdeal.Closed.res_second _ _ _ _).trans (Cert.SpectrumClaims.res_eq m c (second (a3 m c)))

/-- The kernel, its idealization and the reference keep their arguments and end quiescent. -/
theorem frame_p : Cert.quiescent_Spectrum2 := fun m ρ _ => Cert.Spectrum2.Gen.frame m ρ
theorem frame_pi : Cert.quiescent_Spectrum2Ideal := fun m ρ _ => Cert.Spectrum2Ideal.Gen.frame m ρ
theorem frame_ri : Cert.quiescent_Spectrum2RefIdeal := fun m ρ _ =>
  (θ_run Cert.Spectrum2RefIdeal.defs _ _).mono (fun r h => ⟨fun c => (h c).2,
      Idealize.ShloMosaic.sem_eq_zero_of_no_sems (by decide) r.2⟩) (Cert.Spectrum2RefIdeal.Value.run (F := Ideal) m ρ)

end Cert.Spectrum2Claims
-- ==== Proof.Signal2Value.lean ====
/-
  The value of the outer Fourier stage of the second long convolution: the first one's stage on the first one's result. The stage over
  any signal is the first convolution's module's; what is stated here is which array the signal is.
-/
module

public import proofs.«01_k».proof.Defs
public import proofs.«01_k».proof.Proof.Gen.Signal2.Frame
public import proofs.«01_k».proof.Proof.Gen.Signal2Ideal.Value
public import proofs.«01_k».proof.Proof.Gen.Signal2RefIdeal.Run
public import proofs.«01_k».proof.Proof.Gen.Signal2RefIdeal.Read
public import proofs.«01_k».proof.Proof.SignalValue

@[expose] public section

set_option maxRecDepth 16384

noncomputable section

open Idealize.ShloMosaic Idealize.ShloMosaic.TcCoe Idealize.SL.Sem
open Idealize.ShloMosaic.Pipeline (Dat)

namespace Cert.Signal2Ideal.Closed

open Cert.Signal2Ideal Cert.Signal2Ideal.Gen Cert.DftForm
open Cert.SignalIdeal.Closed (table G2 pos pointOf)

/-- The signal, where the first convolution has the first of its rows. -/
def lift (z : FVec Ideal S128x128x512 .bf16) : FVec Ideal Cert.SignalIdeal.S3x128x128x512 .bf16 := fun i => z (ix3 (i 1) (i 2) (i 3))

variable (m : (ℓ : Loc nD τ sig) → Buf (Elt Ideal) ℓ) (ρ : Dev nD → PrngReg)

/-- The kernel's argument arrays. -/
abbrev a0 (c : Dev nD) : FVec Ideal S128x128x512 .bf16 := m ((c : Thread nD τ).loc main_arg0)
abbrev a1 (c : Dev nD) : FVec Ideal S128x64 .f32 := m ((c : Thread nD τ).loc main_arg1)
abbrev a2 (c : Dev nD) : FVec Ideal S128x64 .f32 := m ((c : Thread nD τ).loc main_arg2)

theorem V_w (c : Dev nD) : V m c main_v5 = table (a1 m c) (a2 m c) := by
  show StableHlo.after hostOps0 _ _ = _
  after_results
  rfl

/-- The signal with an axis of one in front. -/
theorem V_z (c : Dev nD) : V m c main_v4 = broadcastInDim S1x128x128x512 ![1, 2, 3] bcast_S128x128x512_S1x128x128x512_1_2_3 (a0 m c) := by
  show StableHlo.after hostOps0 _ _ = _
  after_results
theorem lead_apply (z : FVec Ideal S128x128x512 .bf16) (i b : Fin 128) (k : Fin 512) :
    broadcastInDim S1x128x128x512 ![1, 2, 3] bcast_S128x128x512_S1x128x128x512_1_2_3 z (ix4 0 i b k) = z (ix3 i b k) := by
  pointwise

/-- Where the signal's block lies at each point (decided over the points). -/
theorem idx_facts : ∀ t : Fin grid0.N,
    win0_1.index t 0 = 0 ∧ win0_1.index t 1 = 0 ∧ win0_1.index t 2 = t.val ∧ win0_1.index t 3 = 0 := by
  decide +kernel
theorem emb1 (t : Fin cfg0.N) (i : Fin 128) (b : Fin 16) (k : Fin 512) : (win0_1.rect t).emb (ix4 0 i b k) = ix4 0 i (pos t b) k := by
  refine funext fun a => Fin.ext ?_
  have f := idx_facts t
  match a with
  | ⟨0, _⟩ => show win0_1.index t 0 * 1 + 1 * 0 = 0; rw [f.1]
  | ⟨1, _⟩ => show win0_1.index t 1 * 128 + 1 * i.val = i.val; rw [f.2.1]; omega
  | ⟨2, _⟩ => show win0_1.index t 2 * 16 + 1 * b.val = t.val * 16 + b.val; rw [f.2.2.1]; omega
  | ⟨3, _⟩ => show win0_1.index t 3 * 512 + 1 * k.val = k.val; rw [f.2.2.2]; omega

theorem iblk0_apply (c : Dev nD) (t : Fin cfg0.N) (o : Fin 256) (i : Fin 128) :
    iblk m c 0 t (ix2 o i) = table (a1 m c) (a2 m c) (ix2 o i) :=
  (congrFun (V_w m c) _).trans (congrArg (table (a1 m c) (a2 m c)) (Cert.SignalIdeal.Closed.emb0 t o i))

theorem iblk1_apply (c : Dev nD) (t : Fin cfg0.N) (i : Fin 128) (b : Fin 16) (k : Fin 512) :
    iblk m c 1 t (ix4 0 i b k) = lift (a0 m c) (ix4 0 i (pos t b) k) :=
  (congrFun (V_z m c) _).trans ((congrArg (broadcastInDim S1x128x128x512 ![1, 2, 3] bcast_S128x128x512_S1x128x128x512_1_2_3 (a0 m c))
    (emb1 t i b k)).trans (lead_apply (a0 m c) i (pos t b) k))

theorem flushed2_eq (c : Dev nD) (t : Fin cfg0.N) :
    (dats m 0 c).flushed 2 t = ((cfg0.win 2).blk t).view.read (Elt Ideal) (G2 (lift (a0 m c)) (a1 m c) (a2 m c)) := by
  rw [Value.flushed2]
  funext y
  exact Cert.SignalIdeal.Closed.out2_eq (lift (a0 m c)) (a1 m c) (a2 m c) t _ _ (iblk0_apply m c t) (iblk1_apply m c t) y

theorem mem2 (i : S1x256x128x512.Idx) : i ∈ ((cfg0.win 2).blk (pointOf i)).view.set := by
  show i ∈ ((View.whole main_v6).slice (win0_2.rect (pointOf i))).set
  rw [View.set_slice_whole]
  exact Cert.SignalIdeal.Closed.mem_rect i

theorem final2 (c : Dev nD) : (dats m 0 c).arrAt 2 cfg0.N = G2 (lift (a0 m c)) (a1 m c) (a2 m c) :=
  (dats m 0 c).arrAt_eq_of_cover 2 (G2 (lift (a0 m c)) (a1 m c) (a2 m c)) (fun t _ => flushed2_eq m c t)
    fun i => ⟨pointOf i, flush0_2 _, mem2 i⟩

end Cert.Signal2Ideal.Closed

/-! ## The reference -/

namespace Cert.Signal2RefIdeal.Closed

open Cert.Signal2RefIdeal Cert.Signal2RefIdeal.Gen Cert.Signal2RefIdeal.Read Cert.DftForm
open Cert.Signal2Ideal.Closed (lift)

variable (x0 : (⟨S128x128x512, .bf16⟩ : BufTy).Contents (Elt Ideal)) (x1 x2 : (⟨S128x64, .f32⟩ : BufTy).Contents (Elt Ideal))

/-- The two parts of the signal are the first convolution's over the lifted signal. -/
theorem re_eq : val_main_v1 (F := Ideal) x0 = Cert.SignalRefIdeal.Read.val_main_v2 (F := Ideal) (lift x0) := by
  funext i
  obtain ⟨o, b, k, rfl⟩ : ∃ (o : Fin 64) (b : Fin 128) (k : Fin 512), i = ix3 o b k := ⟨i 0, i 1, i 2, eq_ix3 i⟩
  refine Eq.trans (b := x0 (ix3 (lo 128 rfl o) b k)) ?_ (Cert.SignalRefIdeal.Closed.re_apply (lift x0) o b k).symm
  pointwise [val_main_v1, val_main_v0, lo]
theorem im_eq : val_main_v3 (F := Ideal) x0 = Cert.SignalRefIdeal.Read.val_main_v5 (F := Ideal) (lift x0) := by
  funext i
  obtain ⟨o, b, k, rfl⟩ : ∃ (o : Fin 64) (b : Fin 128) (k : Fin 512), i = ix3 o b k := ⟨i 0, i 1, i 2, eq_ix3 i⟩
  refine Eq.trans (b := x0 (ix3 (hi 128 rfl o) b k)) ?_ (Cert.SignalRefIdeal.Closed.im_apply (lift x0) o b k).symm
  pointwise [val_main_v3, val_main_v2, hi]

/-- So are the two parts of the transform, -/
theorem sum_re_eq : val_main_v6 (F := Ideal) x0 x1 x2 = Cert.SignalRefIdeal.Read.val_main_v8 (F := Ideal) (lift x0) x1 x2 := by
  unfold val_main_v6 val_main_v5 val_main_v4
  rw [re_eq, im_eq]
  rfl
theorem sum_im_eq : val_main_v10 (F := Ideal) x0 x1 x2 = Cert.SignalRefIdeal.Read.val_main_v12 (F := Ideal) (lift x0) x1 x2 := by
  unfold val_main_v10 val_main_v9 val_main_v8
  rw [re_eq, im_eq]
  rfl

/-- and the result. -/
theorem res_lift : val_main_v13 (F := Ideal) x0 x1 x2 = Cert.SignalRefIdeal.Read.val_main_v15 (F := Ideal) (lift x0) x1 x2 := by
  unfold val_main_v13 val_main_v12 val_main_v11
  rw [sum_re_eq, sum_im_eq]
  rfl

end Cert.Signal2RefIdeal.Closed

/-! ## The claims -/

namespace Cert.Signal2Claims

open Cert.Signal2Ideal.Closed
open Cert.SignalIdeal.Closed (G2)

/-- The stage's kernel and its reference end with the same array. -/
theorem algebraic : Cert.algebraic_Signal2Ideal_Signal2RefIdeal := by
  intro m g m' g' _ hag
  refine ⟨fun c => G2 (lift (a0 m c)) (a1 m c) (a2 m c),
    (θ_run Cert.Signal2Ideal.defs _ _).mono (fun r h c => ⟨(h c).1.trans (final2 m c), (h c).2⟩) (Cert.Signal2Ideal.Value.run_blocks m g),
    (θ_run Cert.Signal2RefIdeal.defs _ _).mono (fun r h c => ⟨(h c).1.trans ?_, (h c).2⟩) (Cert.Signal2RefIdeal.Value.run m' g')⟩
  obtain ⟨h0, h1, h2⟩ := hag c
  rw [h0, h1, h2]
  exact (Cert.Signal2RefIdeal.Read.val_main_v13_eq _ _ _).trans
    ((Cert.Signal2RefIdeal.Closed.res_lift _ _ _).trans (Cert.SignalClaims.res_eq _ _ _))

/-- The kernel, its idealization and the reference keep their arguments and end quiescent. -/
theorem frame_p : Cert.quiescent_Signal2 := fun m ρ _ => Cert.Signal2.Gen.frame m ρ
theorem frame_pi : Cert.quiescent_Signal2Ideal := fun m ρ _ => Cert.Signal2Ideal.Gen.frame m ρ
theorem frame_ri : Cert.quiescent_Signal2RefIdeal := fun m ρ _ =>
  (θ_run Cert.Signal2RefIdeal.defs _ _).mono (fun r h => ⟨fun c => (h c).2,
      Idealize.ShloMosaic.sem_eq_zero_of_no_sems (by decide) r.2⟩) (Cert.Signal2RefIdeal.Value.run (F := Ideal) m ρ)

end Cert.Signal2Claims
-- ==== Proof.Gated2Value.lean ====
/-
  The value of the last stage of the second long convolution: the first one's stage with the first one's result as the signal and the
  third of the projections as the gate. The stage over any of these is the first convolution's module's.
-/
module

public import proofs.«01_k».proof.Defs
public import proofs.«01_k».proof.Proof.Gen.Gated2.Frame
public import proofs.«01_k».proof.Proof.Gen.Gated2Ideal.Value
public import proofs.«01_k».proof.Proof.Gen.Gated2RefIdeal.Run
public import proofs.«01_k».proof.Proof.Gen.Gated2RefIdeal.Read
public import proofs.«01_k».proof.Proof.GatedValue

@[expose] public section

set_option maxRecDepth 16384

noncomputable section

open Idealize.ShloMosaic Idealize.ShloMosaic.TcCoe Idealize.SL.Sem
open Idealize.ShloMosaic.Pipeline (Dat)

namespace Cert.Gated2Ideal.Closed

open Cert.Gated2Ideal Cert.Gated2Ideal.Gen Cert.DftForm
open Cert.GatedIdeal.Closed (table G5 pos pointOf emb0 emb1 emb4)

variable (m : (ℓ : Loc nD τ sig) → Buf (Elt Ideal) ℓ) (ρ : Dev nD → PrngReg)

/-- The kernel's argument arrays. -/
abbrev a0 (c : Dev nD) : FVec Ideal S256x128x512 .bf16 := m ((c : Thread nD τ).loc main_arg0)
abbrev a1 (c : Dev nD) : FVec Ideal S128x128x512 .bf16 := m ((c : Thread nD τ).loc main_arg1)
abbrev a2 (c : Dev nD) : FVec Ideal S3x128x128x512 .bf16 := m ((c : Thread nD τ).loc main_arg2)
abbrev a3 (c : Dev nD) : FVec Ideal S64x128 .f32 := m ((c : Thread nD τ).loc main_arg3)
abbrev a4 (c : Dev nD) : FVec Ideal S64x128 .f32 := m ((c : Thread nD τ).loc main_arg4)
abbrev a5 (c : Dev nD) : FVec Ideal S1x512 .f32 := m ((c : Thread nD τ).loc main_arg5)

theorem V_w (c : Dev nD) : V m c main_v5 = table (a3 m c) (a4 m c) := by
  show StableHlo.after hostOps0 _ _ = _
  after_results
  rfl

/-- The signal with an axis of one in front. -/
theorem V_z (c : Dev nD) : V m c main_v4 = broadcastInDim S1x128x128x512 ![1, 2, 3] bcast_S128x128x512_S1x128x128x512_1_2_3 (a1 m c) := by
  show StableHlo.after hostOps0 _ _ = _
  after_results
theorem lead_apply (z : FVec Ideal S128x128x512 .bf16) (i b : Fin 128) (k : Fin 512) :
    broadcastInDim S1x128x128x512 ![1, 2, 3] bcast_S128x128x512_S1x128x128x512_1_2_3 z (ix4 0 i b k) = z (ix3 i b k) := by
  pointwise

/-- Where the blocks of the signal and of the gate lie at each point (decided over the points): the gate's in the third of the
    projections. -/
theorem idx_facts : ∀ t : Fin grid0.N,
    (win0_2.index t 0 = 0 ∧ win0_2.index t 1 = 0 ∧ win0_2.index t 2 = t.val ∧ win0_2.index t 3 = 0)
    ∧ (win0_3.index t 0 = 2 ∧ win0_3.index t 1 = 0 ∧ win0_3.index t 2 = t.val ∧ win0_3.index t 3 = 0) := by
  decide +kernel
theorem emb2 (t : Fin cfg0.N) (i : Fin 128) (b : Fin 16) (k : Fin 512) : (win0_2.rect t).emb (ix4 0 i b k) = ix4 0 i (pos t b) k := by
  refine funext fun a => Fin.ext ?_
  have f := (idx_facts t).1
  match a with
  | ⟨0, _⟩ => show win0_2.index t 0 * 1 + 1 * 0 = 0; rw [f.1]
  | ⟨1, _⟩ => show win0_2.index t 1 * 128 + 1 * i.val = i.val; rw [f.2.1]; omega
  | ⟨2, _⟩ => show win0_2.index t 2 * 16 + 1 * b.val = t.val * 16 + b.val; rw [f.2.2.1]; omega
  | ⟨3, _⟩ => show win0_2.index t 3 * 512 + 1 * k.val = k.val; rw [f.2.2.2]; omega
theorem emb3 (t : Fin cfg0.N) (i : Fin 128) (b : Fin 16) (k : Fin 512) : (win0_3.rect t).emb (ix4 0 i b k) = ix4 2 i (pos t b) k := by
  refine funext fun a => Fin.ext ?_
  have f := (idx_facts t).2
  match a with
  | ⟨0, _⟩ => show win0_3.index t 0 * 1 + 1 * 0 = 2; rw [f.1]
  | ⟨1, _⟩ => show win0_3.index t 1 * 128 + 1 * i.val = i.val; rw [f.2.1]; omega
  | ⟨2, _⟩ => show win0_3.index t 2 * 16 + 1 * b.val = t.val * 16 + b.val; rw [f.2.2.1]; omega
  | ⟨3, _⟩ => show win0_3.index t 3 * 512 + 1 * k.val = k.val; rw [f.2.2.2]; omega

theorem iblk0_apply (c : Dev nD) (t : Fin cfg0.N) (o : Fin 128) (i : Fin 256) :
    iblk m c 0 t (ix2 o i) = table (a3 m c) (a4 m c) (ix2 o i) :=
  (congrFun (V_w m c) _).trans (congrArg (table (a3 m c) (a4 m c)) (emb0 t o i))
theorem iblk1_apply (c : Dev nD) (t : Fin cfg0.N) (i : Fin 256) (b : Fin 16) (k : Fin 512) :
    iblk m c 1 t (ix3 i b k) = a0 m c (ix3 i (pos t b) k) :=
  (congrFun (V_main_arg0 m c) _).trans (congrArg (a0 m c) (emb1 t i b k))
theorem iblk2_apply (c : Dev nD) (t : Fin cfg0.N) (i : Fin 128) (b : Fin 16) (k : Fin 512) :
    iblk m c 2 t (ix4 0 i b k) = a1 m c (ix3 i (pos t b) k) :=
  (congrFun (V_z m c) _).trans ((congrArg (broadcastInDim S1x128x128x512 ![1, 2, 3] bcast_S128x128x512_S1x128x128x512_1_2_3 (a1 m c))
    (emb2 t i b k)).trans (lead_apply (a1 m c) i (pos t b) k))
theorem iblk3_apply (c : Dev nD) (t : Fin cfg0.N) (i : Fin 128) (b : Fin 16) (k : Fin 512) :
    iblk m c 3 t (ix4 0 i b k) = a2 m c (ix4 2 i (pos t b) k) :=
  (congrFun (V_main_arg2 m c) _).trans (congrArg (a2 m c) (emb3 t i b k))
theorem iblk4_apply (c : Dev nD) (t : Fin cfg0.N) (k : Fin 512) : iblk m c 4 t (ix2 0 k) = a5 m c (ix2 0 k) :=
  (congrFun (V_main_arg5 m c) _).trans (congrArg (a5 m c) (emb4 t k))

/-- The whole stage on the kernel's arguments. -/
def res (c : Dev nD) : FVec Ideal S128x128x512 .bf16 :=
  G5 (a0 m c) (fun o b k => a1 m c (ix3 o b k)) (fun o b k => a2 m c (ix4 2 o b k)) (a3 m c) (a4 m c) (a5 m c)

theorem flushed5_eq (c : Dev nD) (t : Fin cfg0.N) :
    (dats m 0 c).flushed 5 t = ((cfg0.win 5).blk t).view.read (Elt Ideal) (res m c) := by
  rw [Value.flushed5]
  funext y
  exact Cert.GatedIdeal.Closed.out5_eq (a0 m c) (fun o b k => a1 m c (ix3 o b k)) (fun o b k => a2 m c (ix4 2 o b k)) (a3 m c) (a4 m c)
    (a5 m c) t _ _ _ _ _ (iblk0_apply m c t) (iblk1_apply m c t) (iblk2_apply m c t) (iblk3_apply m c t) (iblk4_apply m c t) y

theorem mem5 (i : S128x128x512.Idx) : i ∈ ((cfg0.win 5).blk (pointOf i)).view.set := by
  show i ∈ ((View.whole main_v6).slice (win0_5.rect (pointOf i))).set
  rw [View.set_slice_whole]
  exact Cert.GatedIdeal.Closed.mem_rect i

theorem final5 (c : Dev nD) : (dats m 0 c).arrAt 5 cfg0.N = res m c :=
  (dats m 0 c).arrAt_eq_of_cover 5 (res m c) (fun t _ => flushed5_eq m c t) fun i => ⟨pointOf i, flush0_5 _, mem5 i⟩

end Cert.Gated2Ideal.Closed

/-! ## The reference -/

namespace Cert.Gated2RefIdeal.Closed

open Cert.Gated2RefIdeal Cert.Gated2RefIdeal.Gen Cert.Gated2RefIdeal.Read Cert.DftForm
open Cert.GatedIdeal.Closed (gate)

variable (x0 : (⟨S256x128x512, .bf16⟩ : BufTy).Contents (Elt Ideal)) (x1 : (⟨S128x128x512, .bf16⟩ : BufTy).Contents (Elt Ideal))
  (x2 : (⟨S3x128x128x512, .bf16⟩ : BufTy).Contents (Elt Ideal)) (x3 x4 : (⟨S64x128, .f32⟩ : BufTy).Contents (Elt Ideal))
  (x5 : (⟨S1x512, .f32⟩ : BufTy).Contents (Elt Ideal))

/-- The transform is the first convolution's. -/
theorem dft_same : val_main_v11 (F := Ideal) x0 x3 x4 = Cert.GatedRefIdeal.Read.val_main_v11 (F := Ideal) x0 x3 x4 := rfl

/-- The result at an index, over the transform. -/
theorem res_apply (o : Fin 128) (b : Fin 128) (k : Fin 512) : val_main_v22 (F := Ideal) x0 x1 x2 x3 x4 x5 (ix3 o b k)
    = gate (x2 (ix4 2 o b k)) (val_main_v11 (F := Ideal) x0 x3 x4 (ix3 o b k)) (x1 (ix3 o b k)) (x5 (ix2 0 k)) := by
  unfold gate
  generalize hd : val_main_v11 (F := Ideal) x0 x3 x4 = D
  pointwise [val_main_v22, val_main_v21, val_main_v20, val_main_v19, val_main_v18, val_main_v17,
    val_main_v16, val_main_v15, val_main_v14, val_main_v13, val_main_v12, hd]

end Cert.Gated2RefIdeal.Closed

/-! ## The claims -/

namespace Cert.Gated2Claims

open Cert.DftForm Cert.Gated2Ideal.Closed

variable (m : (ℓ : Loc Cert.Gated2Ideal.nD Cert.Gated2Ideal.τ Cert.Gated2Ideal.sig) → Buf (Elt Ideal) ℓ) (c : Dev Cert.Gated2Ideal.nD)

/-- The reference's result is the kernel's array. -/
theorem res_eq : Cert.Gated2RefIdeal.Read.val_main_v22 (F := Ideal) (a0 m c) (a1 m c) (a2 m c) (a3 m c) (a4 m c) (a5 m c) = res m c := by
  funext i
  obtain ⟨o, b, k, rfl⟩ : ∃ (o : Fin 128) (b : Fin 128) (k : Fin 512), i = ix3 o b k := ⟨i 0, i 1, i 2, eq_ix3 i⟩
  refine (Cert.Gated2RefIdeal.Closed.res_apply _ _ _ _ _ _ o b k).trans ?_
  rw [Cert.Gated2RefIdeal.Closed.dft_same, Cert.GatedClaims.dft_eq (a0 m c) (a3 m c) (a4 m c) o b k]
  rfl

/-- The stage's kernel and its reference end with the same array. -/
theorem algebraic : Cert.algebraic_Gated2Ideal_Gated2RefIdeal := by
  intro m g m' g' _ hag
  refine ⟨fun c => res m c,
    (θ_run Cert.Gated2Ideal.defs _ _).mono (fun r h c => ⟨(h c).1.trans (final5 m c), (h c).2⟩) (Cert.Gated2Ideal.Value.run_blocks m g),
    (θ_run Cert.Gated2RefIdeal.defs _ _).mono (fun r h c => ⟨(h c).1.trans ?_, (h c).2⟩) (Cert.Gated2RefIdeal.Value.run m' g')⟩
  obtain ⟨h0, h1, h2, h3, h4, h5⟩ := hag c
  rw [h0, h1, h2, h3, h4, h5]
  exact (Cert.Gated2RefIdeal.Read.val_main_v22_eq _ _ _ _ _ _).trans (res_eq m c)

/-- The kernel, its idealization and the reference keep their arguments and end quiescent. -/
theorem frame_p : Cert.quiescent_Gated2 := fun m ρ _ => Cert.Gated2.Gen.frame m ρ
theorem frame_pi : Cert.quiescent_Gated2Ideal := fun m ρ _ => Cert.Gated2Ideal.Gen.frame m ρ
theorem frame_ri : Cert.quiescent_Gated2RefIdeal := fun m ρ _ =>
  (θ_run Cert.Gated2RefIdeal.defs _ _).mono (fun r h => ⟨fun c => (h c).2,
      Idealize.ShloMosaic.sem_eq_zero_of_no_sems (by decide) r.2⟩) (Cert.Gated2RefIdeal.Value.run (F := Ideal) m ρ)

end Cert.Gated2Claims
-- ==== Proof.lean ====
/- The certificate's claim, put together from the modules beside it: for each call the frames of the kernel, of its
   idealization and of its reference, and the equality of the two at exact numbers. -/
module

public import proofs.«01_k».proof.Defs
public import proofs.«01_k».proof.Proof.InprojValue
public import proofs.«01_k».proof.Proof.MergeValue
public import proofs.«01_k».proof.Proof.SignalValue
public import proofs.«01_k».proof.Proof.GatedValue
public import proofs.«01_k».proof.Proof.RealdftValue
public import proofs.«01_k».proof.Proof.TapdftValue
public import proofs.«01_k».proof.Proof.TableValue
public import proofs.«01_k».proof.Proof.PosdftValue
public import proofs.«01_k».proof.Proof.FiltspecValue
public import proofs.«01_k».proof.Proof.SpectrumValue
public import proofs.«01_k».proof.Proof.ChandftValue
public import proofs.«01_k».proof.Proof.FtapsValue
public import proofs.«01_k».proof.Proof.ShortconvValue
public import proofs.«01_k».proof.Proof.Spectrum2Value
public import proofs.«01_k».proof.Proof.Signal2Value
public import proofs.«01_k».proof.Proof.Gated2Value
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Inproj.Gen.facts, Cert.InprojIdeal.Gen.facts, Cert.InprojRefIdeal.Gen.facts,
  Cert.Merge.Gen.facts, Cert.MergeIdeal.Gen.facts, Cert.MergeRefIdeal.Gen.facts,
  Cert.Signal.Gen.facts, Cert.SignalIdeal.Gen.facts, Cert.SignalRefIdeal.Gen.facts,
  Cert.Gated.Gen.facts, Cert.GatedIdeal.Gen.facts, Cert.GatedRefIdeal.Gen.facts,
  Cert.Realdft.Gen.facts, Cert.RealdftIdeal.Gen.facts, Cert.RealdftRefIdeal.Gen.facts,
  Cert.Tapdft.Gen.facts, Cert.TapdftIdeal.Gen.facts, Cert.TapdftRefIdeal.Gen.facts,
  Cert.Table.Gen.facts, Cert.TableIdeal.Gen.facts, Cert.TableRefIdeal.Gen.facts,
  Cert.Posdft.Gen.facts, Cert.PosdftIdeal.Gen.facts, Cert.PosdftRefIdeal.Gen.facts,
  Cert.Filtspec.Gen.facts, Cert.FiltspecIdeal.Gen.facts, Cert.FiltspecRefIdeal.Gen.facts,
  Cert.Spectrum.Gen.facts, Cert.SpectrumIdeal.Gen.facts, Cert.SpectrumRefIdeal.Gen.facts,
  Cert.Chandft.Gen.facts, Cert.ChandftIdeal.Gen.facts, Cert.ChandftRefIdeal.Gen.facts,
  Cert.Ftaps.Gen.facts, Cert.FtapsIdeal.Gen.facts, Cert.FtapsRefIdeal.Gen.facts,
  Cert.Shortconv.Gen.facts, Cert.ShortconvIdeal.Gen.facts, Cert.ShortconvRefIdeal.Gen.facts,
  Cert.Spectrum2.Gen.facts, Cert.Spectrum2Ideal.Gen.facts, Cert.Spectrum2RefIdeal.Gen.facts,
  Cert.Signal2.Gen.facts, Cert.Signal2Ideal.Gen.facts, Cert.Signal2RefIdeal.Gen.facts,
  Cert.Gated2.Gen.facts, Cert.Gated2Ideal.Gen.facts, Cert.Gated2RefIdeal.Gen.facts,
  Cert.InprojClaims.frame_p, Cert.InprojClaims.frame_pi, Cert.InprojClaims.frame_ri,
  Cert.MergeClaims.frame_p, Cert.MergeClaims.frame_pi, Cert.MergeClaims.frame_ri,
  Cert.SignalClaims.frame_p, Cert.SignalClaims.frame_pi, Cert.SignalClaims.frame_ri,
  Cert.GatedClaims.frame_p, Cert.GatedClaims.frame_pi, Cert.GatedClaims.frame_ri,
  Cert.RealdftClaims.frame_p, Cert.RealdftClaims.frame_pi, Cert.RealdftClaims.frame_ri,
  Cert.TapdftClaims.frame_p, Cert.TapdftClaims.frame_pi, Cert.TapdftClaims.frame_ri,
  Cert.TableClaims.frame_p, Cert.TableClaims.frame_pi, Cert.TableClaims.frame_ri,
  Cert.PosdftClaims.frame_p, Cert.PosdftClaims.frame_pi, Cert.PosdftClaims.frame_ri,
  Cert.FiltspecClaims.frame_p, Cert.FiltspecClaims.frame_pi, Cert.FiltspecClaims.frame_ri,
  Cert.SpectrumClaims.frame_p, Cert.SpectrumClaims.frame_pi, Cert.SpectrumClaims.frame_ri,
  Cert.ChandftClaims.frame_p, Cert.ChandftClaims.frame_pi, Cert.ChandftClaims.frame_ri,
  Cert.FtapsClaims.frame_p, Cert.FtapsClaims.frame_pi, Cert.FtapsClaims.frame_ri,
  Cert.ShortconvClaims.frame_p, Cert.ShortconvClaims.frame_pi, Cert.ShortconvClaims.frame_ri,
  Cert.Spectrum2Claims.frame_p, Cert.Spectrum2Claims.frame_pi, Cert.Spectrum2Claims.frame_ri,
  Cert.Signal2Claims.frame_p, Cert.Signal2Claims.frame_pi, Cert.Signal2Claims.frame_ri,
  Cert.Gated2Claims.frame_p, Cert.Gated2Claims.frame_pi, Cert.Gated2Claims.frame_ri,
  trivial, Cert.InprojClaims.algebraic,
  trivial, Cert.MergeClaims.algebraic,
  trivial, Cert.SignalClaims.algebraic,
  trivial, Cert.GatedClaims.algebraic,
  trivial, Cert.RealdftClaims.algebraic,
  trivial, Cert.TapdftClaims.algebraic,
  trivial, Cert.TableClaims.algebraic,
  trivial, Cert.PosdftClaims.algebraic,
  trivial, Cert.FiltspecClaims.algebraic,
  trivial, Cert.SpectrumClaims.algebraic,
  trivial, Cert.ChandftClaims.algebraic,
  trivial, Cert.FtapsClaims.algebraic,
  trivial, Cert.ShortconvClaims.algebraic,
  trivial, Cert.Spectrum2Claims.algebraic,
  trivial, Cert.Signal2Claims.algebraic,
  trivial, Cert.Gated2Claims.algebraic⟩

end Cert.Proof

end
